-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arguments_finite [hPre_arguments_finite : Cert.Pre_arguments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arguments_finite [hPre_arguments_finite : Cert.Pre_arguments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))) = (fun _ => 1#1)

def Pre_MidReferenceIdeal (m : (ℓ : Loc Cert.MidReferenceIdeal.nD Cert.MidReferenceIdeal.τ Cert.MidReferenceIdeal.sig) → Buf (Elt Ideal) ℓ) : Prop :=
  True

def Pre_MidReferenceIdeal_mid_finite [hPre_mid_finite : Cert.Pre_mid_finite.Facts] (m : (ℓ : Loc Cert.MidReferenceIdeal.nD Cert.MidReferenceIdeal.τ Cert.MidReferenceIdeal.sig) → Buf (Elt Ideal) ℓ) : Prop :=
  ∀ c : Dev Cert.MidReferenceIdeal.nD,
    (Cert.Pre_mid_finite.fn (F := Ideal) (m ((c.tc : Thread Cert.MidReferenceIdeal.nD Cert.MidReferenceIdeal.τ).loc Cert.MidReferenceIdeal.main_arg0)) (m ((c.tc : Thread Cert.MidReferenceIdeal.nD Cert.MidReferenceIdeal.τ).loc Cert.MidReferenceIdeal.main_arg1)) (m ((c.tc : Thread Cert.MidReferenceIdeal.nD Cert.MidReferenceIdeal.τ).loc Cert.MidReferenceIdeal.main_arg2)) (m ((c.tc : Thread Cert.MidReferenceIdeal.nD Cert.MidReferenceIdeal.τ).loc Cert.MidReferenceIdeal.main_arg3)) (m ((c.tc : Thread Cert.MidReferenceIdeal.nD Cert.MidReferenceIdeal.τ).loc Cert.MidReferenceIdeal.main_arg4)) (m ((c.tc : Thread Cert.MidReferenceIdeal.nD Cert.MidReferenceIdeal.τ).loc Cert.MidReferenceIdeal.main_arg5)) (m ((c.tc : Thread Cert.MidReferenceIdeal.nD Cert.MidReferenceIdeal.τ).loc Cert.MidReferenceIdeal.main_arg6)) (m ((c.tc : Thread Cert.MidReferenceIdeal.nD Cert.MidReferenceIdeal.τ).loc Cert.MidReferenceIdeal.main_arg7)) (m ((c.tc : Thread Cert.MidReferenceIdeal.nD Cert.MidReferenceIdeal.τ).loc Cert.MidReferenceIdeal.main_arg8))) = (fun _ => 1#1)

def Pre_ProjWgrad (m : (ℓ : Loc Cert.ProjWgrad.nD Cert.ProjWgrad.τ Cert.ProjWgrad.sig) → Buf (Elt Bits) ℓ) : Prop :=
  True

def Pre_ProjWgradIdeal (m : (ℓ : Loc Cert.ProjWgradIdeal.nD Cert.ProjWgradIdeal.τ Cert.ProjWgradIdeal.sig) → Buf (Elt Ideal) ℓ) : Prop :=
  True

def Pre_ProjWgradReferenceIdeal (m : (ℓ : Loc Cert.ProjWgradReferenceIdeal.nD Cert.ProjWgradReferenceIdeal.τ Cert.ProjWgradReferenceIdeal.sig) → Buf (Elt Ideal) ℓ) : Prop :=
  True

def Pre_MixWgrad (m : (ℓ : Loc Cert.MixWgrad.nD Cert.MixWgrad.τ Cert.MixWgrad.sig) → Buf (Elt Bits) ℓ) : Prop :=
  True

def Pre_MixWgradIdeal (m : (ℓ : Loc Cert.MixWgradIdeal.nD Cert.MixWgradIdeal.τ Cert.MixWgradIdeal.sig) → Buf (Elt Ideal) ℓ) : Prop :=
  True

def Pre_MixWgradReferenceIdeal (m : (ℓ : Loc Cert.MixWgradReferenceIdeal.nD Cert.MixWgradReferenceIdeal.τ Cert.MixWgradReferenceIdeal.sig) → Buf (Elt Ideal) ℓ) : Prop :=
  True

def Pre_QWgrad (m : (ℓ : Loc Cert.QWgrad.nD Cert.QWgrad.τ Cert.QWgrad.sig) → Buf (Elt Bits) ℓ) : Prop :=
  True

def Pre_QWgradIdeal (m : (ℓ : Loc Cert.QWgradIdeal.nD Cert.QWgradIdeal.τ Cert.QWgradIdeal.sig) → Buf (Elt Ideal) ℓ) : Prop :=
  True

def Pre_QWgradReferenceIdeal (m : (ℓ : Loc Cert.QWgradReferenceIdeal.nD Cert.QWgradReferenceIdeal.τ Cert.QWgradReferenceIdeal.sig) → Buf (Elt Ideal) ℓ) : Prop :=
  True

def Pre_KvWgrad (m : (ℓ : Loc Cert.KvWgrad.nD Cert.KvWgrad.τ Cert.KvWgrad.sig) → Buf (Elt Bits) ℓ) : Prop :=
  True

def Pre_KvWgradIdeal (m : (ℓ : Loc Cert.KvWgradIdeal.nD Cert.KvWgradIdeal.τ Cert.KvWgradIdeal.sig) → Buf (Elt Ideal) ℓ) : Prop :=
  True

def Pre_KvWgradReferenceIdeal (m : (ℓ : Loc Cert.KvWgradReferenceIdeal.nD Cert.KvWgradReferenceIdeal.τ Cert.KvWgradReferenceIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdReferenceIdeal (m : (ℓ : Loc Cert.ProjFwdReferenceIdeal.nD Cert.ProjFwdReferenceIdeal.τ Cert.ProjFwdReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentReferenceIdeal (m : (ℓ : Loc Cert.LatentReferenceIdeal.nD Cert.LatentReferenceIdeal.τ Cert.LatentReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormReferenceIdeal (m : (ℓ : Loc Cert.FirstNormReferenceIdeal.nD Cert.FirstNormReferenceIdeal.τ Cert.FirstNormReferenceIdeal.sig) → Buf (Elt Ideal) ℓ) : Prop :=
  True

def Pre_AdaWgrad (m : (ℓ : Loc Cert.AdaWgrad.nD Cert.AdaWgrad.τ Cert.AdaWgrad.sig) → Buf (Elt Bits) ℓ) : Prop :=
  True

def Pre_AdaWgradIdeal (m : (ℓ : Loc Cert.AdaWgradIdeal.nD Cert.AdaWgradIdeal.τ Cert.AdaWgradIdeal.sig) → Buf (Elt Ideal) ℓ) : Prop :=
  True

def Pre_AdaWgradReferenceIdeal (m : (ℓ : Loc Cert.AdaWgradReferenceIdeal.nD Cert.AdaWgradReferenceIdeal.τ Cert.AdaWgradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_arguments_finite [hKernelIdeal : Cert.KernelIdeal.Facts] [hPre_arguments_finite : Cert.Pre_arguments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arguments_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_arguments_finite [hReferenceIdeal : Cert.ReferenceIdeal.Facts] [hPre_arguments_finite : Cert.Pre_arguments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arguments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_MidReferenceIdeal_pre_mid_finite [hMidReferenceIdeal : Cert.MidReferenceIdeal.Facts] [hPre_mid_finite : Cert.Pre_mid_finite.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal_mid_finite m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8))
      ∧ r.2.sem = fun _ => 0)

def quiescent_ProjWgrad [hProjWgrad : Cert.ProjWgrad.Facts] : Prop :=
  ∀ (m : (ℓ : Loc Cert.ProjWgrad.nD Cert.ProjWgrad.τ Cert.ProjWgrad.sig) → Buf (Elt Bits) ℓ) (g : Dev Cert.ProjWgrad.nD → PrngReg), Pre_ProjWgrad m →
    θ_run (Cert.ProjWgrad.defs (F := Bits)) (onTc (τ := Cert.ProjWgrad.τ) (Cert.ProjWgrad.main (F := Bits))) ⟨m, fun _ => 0, g⟩ (fun r => (∀ c : Dev Cert.ProjWgrad.nD,
      r.2.mem ((c.tc : Thread Cert.ProjWgrad.nD Cert.ProjWgrad.τ).loc Cert.ProjWgrad.main_arg0) = m ((c.tc : Thread Cert.ProjWgrad.nD Cert.ProjWgrad.τ).loc Cert.ProjWgrad.main_arg0)
      ∧ r.2.mem ((c.tc : Thread Cert.ProjWgrad.nD Cert.ProjWgrad.τ).loc Cert.ProjWgrad.main_arg1) = m ((c.tc : Thread Cert.ProjWgrad.nD Cert.ProjWgrad.τ).loc Cert.ProjWgrad.main_arg1)
      ∧ r.2.mem ((c.tc : Thread Cert.ProjWgrad.nD Cert.ProjWgrad.τ).loc Cert.ProjWgrad.main_arg2) = m ((c.tc : Thread Cert.ProjWgrad.nD Cert.ProjWgrad.τ).loc Cert.ProjWgrad.main_arg2)
      ∧ r.2.mem ((c.tc : Thread Cert.ProjWgrad.nD Cert.ProjWgrad.τ).loc Cert.ProjWgrad.main_arg3) = m ((c.tc : Thread Cert.ProjWgrad.nD Cert.ProjWgrad.τ).loc Cert.ProjWgrad.main_arg3)
      ∧ r.2.mem ((c.tc : Thread Cert.ProjWgrad.nD Cert.ProjWgrad.τ).loc Cert.ProjWgrad.main_arg4) = m ((c.tc : Thread Cert.ProjWgrad.nD Cert.ProjWgrad.τ).loc Cert.ProjWgrad.main_arg4))
      ∧ r.2.sem = fun _ => 0)

def quiescent_ProjWgradIdeal [hProjWgradIdeal : Cert.ProjWgradIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg), Pre_ProjWgradIdeal m →
    θ_run (Cert.ProjWgradIdeal.defs (F := Ideal)) (onTc (τ := Cert.ProjWgradIdeal.τ) (Cert.ProjWgradIdeal.main (F := Ideal))) ⟨m, fun _ => 0, g⟩ (fun r => (∀ c : Dev Cert.ProjWgradIdeal.nD,
      r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
      ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
      ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2)
      ∧ r.2.mem ((c.tc : Thread Cert.ProjWgradIdeal.nD Cert.ProjWgradIdeal.τ).loc Cert.ProjWgradIdeal.main_arg3) = m ((c.tc : Thread Cert.ProjWgradIdeal.nD Cert.ProjWgradIdeal.τ).loc Cert.ProjWgradIdeal.main_arg3)
      ∧ r.2.mem ((c.tc : Thread Cert.ProjWgradIdeal.nD Cert.ProjWgradIdeal.τ).loc Cert.ProjWgradIdeal.main_arg4) = m ((c.tc : Thread Cert.ProjWgradIdeal.nD Cert.ProjWgradIdeal.τ).loc Cert.ProjWgradIdeal.main_arg4))
      ∧ r.2.sem = fun _ => 0)

def quiescent_ProjWgradReferenceIdeal [hProjWgradReferenceIdeal : Cert.ProjWgradReferenceIdeal.Facts] : Prop :=
  ∀ (m : (ℓ : Loc Cert.ProjWgradReferenceIdeal.nD Cert.ProjWgradReferenceIdeal.τ Cert.ProjWgradReferenceIdeal.sig) → Buf (Elt Ideal) ℓ) (g : Dev Cert.ProjWgradReferenceIdeal.nD → PrngReg), Pre_ProjWgradReferenceIdeal m →
    θ_run (Cert.ProjWgradReferenceIdeal.defs (F := Ideal)) (onTc (τ := Cert.ProjWgradReferenceIdeal.τ) (Cert.ProjWgradReferenceIdeal.main (F := Ideal))) ⟨m, fun _ => 0, g⟩ (fun r => (∀ c : Dev Cert.ProjWgradReferenceIdeal.nD,
      r.2.mem ((c.tc : Thread Cert.ProjWgradReferenceIdeal.nD Cert.ProjWgradReferenceIdeal.τ).loc Cert.ProjWgradReferenceIdeal.main_arg0) = m ((c.tc : Thread Cert.ProjWgradReferenceIdeal.nD Cert.ProjWgradReferenceIdeal.τ).loc Cert.ProjWgradReferenceIdeal.main_arg0)
      ∧ r.2.mem ((c.tc : Thread Cert.ProjWgradReferenceIdeal.nD Cert.ProjWgradReferenceIdeal.τ).loc Cert.ProjWgradReferenceIdeal.main_arg1) = m ((c.tc : Thread Cert.ProjWgradReferenceIdeal.nD Cert.ProjWgradReferenceIdeal.τ).loc Cert.ProjWgradReferenceIdeal.main_arg1)
      ∧ r.2.mem ((c.tc : Thread Cert.ProjWgradReferenceIdeal.nD Cert.ProjWgradReferenceIdeal.τ).loc Cert.ProjWgradReferenceIdeal.main_arg2) = m ((c.tc : Thread Cert.ProjWgradReferenceIdeal.nD Cert.ProjWgradReferenceIdeal.τ).loc Cert.ProjWgradReferenceIdeal.main_arg2)
      ∧ r.2.mem ((c.tc : Thread Cert.ProjWgradReferenceIdeal.nD Cert.ProjWgradReferenceIdeal.τ).loc Cert.ProjWgradReferenceIdeal.main_arg3) = m ((c.tc : Thread Cert.ProjWgradReferenceIdeal.nD Cert.ProjWgradReferenceIdeal.τ).loc Cert.ProjWgradReferenceIdeal.main_arg3)
      ∧ r.2.mem ((c.tc : Thread Cert.ProjWgradReferenceIdeal.nD Cert.ProjWgradReferenceIdeal.τ).loc Cert.ProjWgradReferenceIdeal.main_arg4) = m ((c.tc : Thread Cert.ProjWgradReferenceIdeal.nD Cert.ProjWgradReferenceIdeal.τ).loc Cert.ProjWgradReferenceIdeal.main_arg4))
      ∧ r.2.sem = fun _ => 0)

def quiescent_MixWgrad [hMixWgrad : Cert.MixWgrad.Facts] : Prop :=
  ∀ (m : (ℓ : Loc Cert.MixWgrad.nD Cert.MixWgrad.τ Cert.MixWgrad.sig) → Buf (Elt Bits) ℓ) (g : Dev Cert.MixWgrad.nD → PrngReg), Pre_MixWgrad m →
    θ_run (Cert.MixWgrad.defs (F := Bits)) (onTc (τ := Cert.MixWgrad.τ) (Cert.MixWgrad.main (F := Bits))) ⟨m, fun _ => 0, g⟩ (fun r => (∀ c : Dev Cert.MixWgrad.nD,
      r.2.mem ((c.tc : Thread Cert.MixWgrad.nD Cert.MixWgrad.τ).loc Cert.MixWgrad.main_arg0) = m ((c.tc : Thread Cert.MixWgrad.nD Cert.MixWgrad.τ).loc Cert.MixWgrad.main_arg0)
      ∧ r.2.mem ((c.tc : Thread Cert.MixWgrad.nD Cert.MixWgrad.τ).loc Cert.MixWgrad.main_arg1) = m ((c.tc : Thread Cert.MixWgrad.nD Cert.MixWgrad.τ).loc Cert.MixWgrad.main_arg1))
      ∧ r.2.sem = fun _ => 0)

def quiescent_MixWgradIdeal [hMixWgradIdeal : Cert.MixWgradIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg), Pre_MixWgradIdeal m →
    θ_run (Cert.MixWgradIdeal.defs (F := Ideal)) (onTc (τ := Cert.MixWgradIdeal.τ) (Cert.MixWgradIdeal.main (F := Ideal))) ⟨m, fun _ => 0, g⟩ (fun r => (∀ c : Dev Cert.MixWgradIdeal.nD,
      r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
      ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1))
      ∧ r.2.sem = fun _ => 0)

def quiescent_MixWgradReferenceIdeal [hMixWgradReferenceIdeal : Cert.MixWgradReferenceIdeal.Facts] : Prop :=
  ∀ (m : (ℓ : Loc Cert.MixWgradReferenceIdeal.nD Cert.MixWgradReferenceIdeal.τ Cert.MixWgradReferenceIdeal.sig) → Buf (Elt Ideal) ℓ) (g : Dev Cert.MixWgradReferenceIdeal.nD → PrngReg), Pre_MixWgradReferenceIdeal m →
    θ_run (Cert.MixWgradReferenceIdeal.defs (F := Ideal)) (onTc (τ := Cert.MixWgradReferenceIdeal.τ) (Cert.MixWgradReferenceIdeal.main (F := Ideal))) ⟨m, fun _ => 0, g⟩ (fun r => (∀ c : Dev Cert.MixWgradReferenceIdeal.nD,
      r.2.mem ((c.tc : Thread Cert.MixWgradReferenceIdeal.nD Cert.MixWgradReferenceIdeal.τ).loc Cert.MixWgradReferenceIdeal.main_arg0) = m ((c.tc : Thread Cert.MixWgradReferenceIdeal.nD Cert.MixWgradReferenceIdeal.τ).loc Cert.MixWgradReferenceIdeal.main_arg0)
      ∧ r.2.mem ((c.tc : Thread Cert.MixWgradReferenceIdeal.nD Cert.MixWgradReferenceIdeal.τ).loc Cert.MixWgradReferenceIdeal.main_arg1) = m ((c.tc : Thread Cert.MixWgradReferenceIdeal.nD Cert.MixWgradReferenceIdeal.τ).loc Cert.MixWgradReferenceIdeal.main_arg1))
      ∧ r.2.sem = fun _ => 0)

def quiescent_QWgrad [hQWgrad : Cert.QWgrad.Facts] : Prop :=
  ∀ (m : (ℓ : Loc Cert.QWgrad.nD Cert.QWgrad.τ Cert.QWgrad.sig) → Buf (Elt Bits) ℓ) (g : Dev Cert.QWgrad.nD → PrngReg), Pre_QWgrad m →
    θ_run (Cert.QWgrad.defs (F := Bits)) (onTc (τ := Cert.QWgrad.τ) (Cert.QWgrad.main (F := Bits))) ⟨m, fun _ => 0, g⟩ (fun r => (∀ c : Dev Cert.QWgrad.nD,
      r.2.mem ((c.tc : Thread Cert.QWgrad.nD Cert.QWgrad.τ).loc Cert.QWgrad.main_arg0) = m ((c.tc : Thread Cert.QWgrad.nD Cert.QWgrad.τ).loc Cert.QWgrad.main_arg0)
      ∧ r.2.mem ((c.tc : Thread Cert.QWgrad.nD Cert.QWgrad.τ).loc Cert.QWgrad.main_arg1) = m ((c.tc : Thread Cert.QWgrad.nD Cert.QWgrad.τ).loc Cert.QWgrad.main_arg1)
      ∧ r.2.mem ((c.tc : Thread Cert.QWgrad.nD Cert.QWgrad.τ).loc Cert.QWgrad.main_arg2) = m ((c.tc : Thread Cert.QWgrad.nD Cert.QWgrad.τ).loc Cert.QWgrad.main_arg2))
      ∧ r.2.sem = fun _ => 0)

def quiescent_QWgradIdeal [hQWgradIdeal : Cert.QWgradIdeal.Facts] : Prop :=
  ∀ (m : (ℓ : Loc Cert.QWgradIdeal.nD Cert.QWgradIdeal.τ Cert.QWgradIdeal.sig) → Buf (Elt Ideal) ℓ) (g : Dev Cert.QWgradIdeal.nD → PrngReg), Pre_QWgradIdeal m →
    θ_run (Cert.QWgradIdeal.defs (F := Ideal)) (onTc (τ := Cert.QWgradIdeal.τ) (Cert.QWgradIdeal.main (F := Ideal))) ⟨m, fun _ => 0, g⟩ (fun r => (∀ c : Dev Cert.QWgradIdeal.nD,
      r.2.mem ((c.tc : Thread Cert.QWgradIdeal.nD Cert.QWgradIdeal.τ).loc Cert.QWgradIdeal.main_arg0) = m ((c.tc : Thread Cert.QWgradIdeal.nD Cert.QWgradIdeal.τ).loc Cert.QWgradIdeal.main_arg0)
      ∧ r.2.mem ((c.tc : Thread Cert.QWgradIdeal.nD Cert.QWgradIdeal.τ).loc Cert.QWgradIdeal.main_arg1) = m ((c.tc : Thread Cert.QWgradIdeal.nD Cert.QWgradIdeal.τ).loc Cert.QWgradIdeal.main_arg1)
      ∧ r.2.mem ((c.tc : Thread Cert.QWgradIdeal.nD Cert.QWgradIdeal.τ).loc Cert.QWgradIdeal.main_arg2) = m ((c.tc : Thread Cert.QWgradIdeal.nD Cert.QWgradIdeal.τ).loc Cert.QWgradIdeal.main_arg2))
      ∧ r.2.sem = fun _ => 0)

def quiescent_QWgradReferenceIdeal [hQWgradReferenceIdeal : Cert.QWgradReferenceIdeal.Facts] : Prop :=
  ∀ (m : (ℓ : Loc Cert.QWgradReferenceIdeal.nD Cert.QWgradReferenceIdeal.τ Cert.QWgradReferenceIdeal.sig) → Buf (Elt Ideal) ℓ) (g : Dev Cert.QWgradReferenceIdeal.nD → PrngReg), Pre_QWgradReferenceIdeal m →
    θ_run (Cert.QWgradReferenceIdeal.defs (F := Ideal)) (onTc (τ := Cert.QWgradReferenceIdeal.τ) (Cert.QWgradReferenceIdeal.main (F := Ideal))) ⟨m, fun _ => 0, g⟩ (fun r => (∀ c : Dev Cert.QWgradReferenceIdeal.nD,
      r.2.mem ((c.tc : Thread Cert.QWgradReferenceIdeal.nD Cert.QWgradReferenceIdeal.τ).loc Cert.QWgradReferenceIdeal.main_arg0) = m ((c.tc : Thread Cert.QWgradReferenceIdeal.nD Cert.QWgradReferenceIdeal.τ).loc Cert.QWgradReferenceIdeal.main_arg0)
      ∧ r.2.mem ((c.tc : Thread Cert.QWgradReferenceIdeal.nD Cert.QWgradReferenceIdeal.τ).loc Cert.QWgradReferenceIdeal.main_arg1) = m ((c.tc : Thread Cert.QWgradReferenceIdeal.nD Cert.QWgradReferenceIdeal.τ).loc Cert.QWgradReferenceIdeal.main_arg1)
      ∧ r.2.mem ((c.tc : Thread Cert.QWgradReferenceIdeal.nD Cert.QWgradReferenceIdeal.τ).loc Cert.QWgradReferenceIdeal.main_arg2) = m ((c.tc : Thread Cert.QWgradReferenceIdeal.nD Cert.QWgradReferenceIdeal.τ).loc Cert.QWgradReferenceIdeal.main_arg2))
      ∧ r.2.sem = fun _ => 0)

def quiescent_KvWgrad [hKvWgrad : Cert.KvWgrad.Facts] : Prop :=
  ∀ (m : (ℓ : Loc Cert.KvWgrad.nD Cert.KvWgrad.τ Cert.KvWgrad.sig) → Buf (Elt Bits) ℓ) (g : Dev Cert.KvWgrad.nD → PrngReg), Pre_KvWgrad m →
    θ_run (Cert.KvWgrad.defs (F := Bits)) (onTc (τ := Cert.KvWgrad.τ) (Cert.KvWgrad.main (F := Bits))) ⟨m, fun _ => 0, g⟩ (fun r => (∀ c : Dev Cert.KvWgrad.nD,
      r.2.mem ((c.tc : Thread Cert.KvWgrad.nD Cert.KvWgrad.τ).loc Cert.KvWgrad.main_arg0) = m ((c.tc : Thread Cert.KvWgrad.nD Cert.KvWgrad.τ).loc Cert.KvWgrad.main_arg0)
      ∧ r.2.mem ((c.tc : Thread Cert.KvWgrad.nD Cert.KvWgrad.τ).loc Cert.KvWgrad.main_arg1) = m ((c.tc : Thread Cert.KvWgrad.nD Cert.KvWgrad.τ).loc Cert.KvWgrad.main_arg1)
      ∧ r.2.mem ((c.tc : Thread Cert.KvWgrad.nD Cert.KvWgrad.τ).loc Cert.KvWgrad.main_arg2) = m ((c.tc : Thread Cert.KvWgrad.nD Cert.KvWgrad.τ).loc Cert.KvWgrad.main_arg2))
      ∧ r.2.sem = fun _ => 0)

def quiescent_KvWgradIdeal [hKvWgradIdeal : Cert.KvWgradIdeal.Facts] : Prop :=
  ∀ (m : (ℓ : Loc Cert.KvWgradIdeal.nD Cert.KvWgradIdeal.τ Cert.KvWgradIdeal.sig) → Buf (Elt Ideal) ℓ) (g : Dev Cert.KvWgradIdeal.nD → PrngReg), Pre_KvWgradIdeal m →
    θ_run (Cert.KvWgradIdeal.defs (F := Ideal)) (onTc (τ := Cert.KvWgradIdeal.τ) (Cert.KvWgradIdeal.main (F := Ideal))) ⟨m, fun _ => 0, g⟩ (fun r => (∀ c : Dev Cert.KvWgradIdeal.nD,
      r.2.mem ((c.tc : Thread Cert.KvWgradIdeal.nD Cert.KvWgradIdeal.τ).loc Cert.KvWgradIdeal.main_arg0) = m ((c.tc : Thread Cert.KvWgradIdeal.nD Cert.KvWgradIdeal.τ).loc Cert.KvWgradIdeal.main_arg0)
      ∧ r.2.mem ((c.tc : Thread Cert.KvWgradIdeal.nD Cert.KvWgradIdeal.τ).loc Cert.KvWgradIdeal.main_arg1) = m ((c.tc : Thread Cert.KvWgradIdeal.nD Cert.KvWgradIdeal.τ).loc Cert.KvWgradIdeal.main_arg1)
      ∧ r.2.mem ((c.tc : Thread Cert.KvWgradIdeal.nD Cert.KvWgradIdeal.τ).loc Cert.KvWgradIdeal.main_arg2) = m ((c.tc : Thread Cert.KvWgradIdeal.nD Cert.KvWgradIdeal.τ).loc Cert.KvWgradIdeal.main_arg2))
      ∧ r.2.sem = fun _ => 0)

def quiescent_KvWgradReferenceIdeal [hKvWgradReferenceIdeal : Cert.KvWgradReferenceIdeal.Facts] : Prop :=
  ∀ (m : (ℓ : Loc Cert.KvWgradReferenceIdeal.nD Cert.KvWgradReferenceIdeal.τ Cert.KvWgradReferenceIdeal.sig) → Buf (Elt Ideal) ℓ) (g : Dev Cert.KvWgradReferenceIdeal.nD → PrngReg), Pre_KvWgradReferenceIdeal m →
    θ_run (Cert.KvWgradReferenceIdeal.defs (F := Ideal)) (onTc (τ := Cert.KvWgradReferenceIdeal.τ) (Cert.KvWgradReferenceIdeal.main (F := Ideal))) ⟨m, fun _ => 0, g⟩ (fun r => (∀ c : Dev Cert.KvWgradReferenceIdeal.nD,
      r.2.mem ((c.tc : Thread Cert.KvWgradReferenceIdeal.nD Cert.KvWgradReferenceIdeal.τ).loc Cert.KvWgradReferenceIdeal.main_arg0) = m ((c.tc : Thread Cert.KvWgradReferenceIdeal.nD Cert.KvWgradReferenceIdeal.τ).loc Cert.KvWgradReferenceIdeal.main_arg0)
      ∧ r.2.mem ((c.tc : Thread Cert.KvWgradReferenceIdeal.nD Cert.KvWgradReferenceIdeal.τ).loc Cert.KvWgradReferenceIdeal.main_arg1) = m ((c.tc : Thread Cert.KvWgradReferenceIdeal.nD Cert.KvWgradReferenceIdeal.τ).loc Cert.KvWgradReferenceIdeal.main_arg1)
      ∧ r.2.mem ((c.tc : Thread Cert.KvWgradReferenceIdeal.nD Cert.KvWgradReferenceIdeal.τ).loc Cert.KvWgradReferenceIdeal.main_arg2) = m ((c.tc : Thread Cert.KvWgradReferenceIdeal.nD Cert.KvWgradReferenceIdeal.τ).loc Cert.KvWgradReferenceIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2)
      ∧ r.2.mem ((c.tc : Thread Cert.MixFwdReferenceIdeal.nD Cert.MixFwdReferenceIdeal.τ).loc Cert.MixFwdReferenceIdeal.main_arg3) = m ((c.tc : Thread Cert.MixFwdReferenceIdeal.nD Cert.MixFwdReferenceIdeal.τ).loc Cert.MixFwdReferenceIdeal.main_arg3)
      ∧ r.2.mem ((c.tc : Thread Cert.MixFwdReferenceIdeal.nD Cert.MixFwdReferenceIdeal.τ).loc Cert.MixFwdReferenceIdeal.main_arg4) = m ((c.tc : Thread Cert.MixFwdReferenceIdeal.nD Cert.MixFwdReferenceIdeal.τ).loc Cert.MixFwdReferenceIdeal.main_arg4)
      ∧ r.2.mem ((c.tc : Thread Cert.MixFwdReferenceIdeal.nD Cert.MixFwdReferenceIdeal.τ).loc Cert.MixFwdReferenceIdeal.main_arg5) = m ((c.tc : Thread Cert.MixFwdReferenceIdeal.nD Cert.MixFwdReferenceIdeal.τ).loc Cert.MixFwdReferenceIdeal.main_arg5)
      ∧ r.2.mem ((c.tc : Thread Cert.MixFwdReferenceIdeal.nD Cert.MixFwdReferenceIdeal.τ).loc Cert.MixFwdReferenceIdeal.main_arg6) = m ((c.tc : Thread Cert.MixFwdReferenceIdeal.nD Cert.MixFwdReferenceIdeal.τ).loc Cert.MixFwdReferenceIdeal.main_arg6))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4)
      ∧ r.2.mem ((c.tc : Thread Cert.ProjFwd.nD Cert.ProjFwd.τ).loc Cert.ProjFwd.main_arg5) = m ((c.tc : Thread Cert.ProjFwd.nD Cert.ProjFwd.τ).loc Cert.ProjFwd.main_arg5)
      ∧ r.2.mem ((c.tc : Thread Cert.ProjFwd.nD Cert.ProjFwd.τ).loc Cert.ProjFwd.main_arg6) = m ((c.tc : Thread Cert.ProjFwd.nD Cert.ProjFwd.τ).loc Cert.ProjFwd.main_arg6)
      ∧ r.2.mem ((c.tc : Thread Cert.ProjFwd.nD Cert.ProjFwd.τ).loc Cert.ProjFwd.main_arg7) = m ((c.tc : Thread Cert.ProjFwd.nD Cert.ProjFwd.τ).loc Cert.ProjFwd.main_arg7)
      ∧ r.2.mem ((c.tc : Thread Cert.ProjFwd.nD Cert.ProjFwd.τ).loc Cert.ProjFwd.main_arg8) = m ((c.tc : Thread Cert.ProjFwd.nD Cert.ProjFwd.τ).loc Cert.ProjFwd.main_arg8)
      ∧ r.2.mem ((c.tc : Thread Cert.ProjFwd.nD Cert.ProjFwd.τ).loc Cert.ProjFwd.main_arg9) = m ((c.tc : Thread Cert.ProjFwd.nD Cert.ProjFwd.τ).loc Cert.ProjFwd.main_arg9)
      ∧ r.2.mem ((c.tc : Thread Cert.ProjFwd.nD Cert.ProjFwd.τ).loc Cert.ProjFwd.main_arg10) = m ((c.tc : Thread Cert.ProjFwd.nD Cert.ProjFwd.τ).loc Cert.ProjFwd.main_arg10))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
      ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
      ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6)
      ∧ r.2.mem ((c.tc : Thread Cert.ProjFwdIdeal.nD Cert.ProjFwdIdeal.τ).loc Cert.ProjFwdIdeal.main_arg7) = m ((c.tc : Thread Cert.ProjFwdIdeal.nD Cert.ProjFwdIdeal.τ).loc Cert.ProjFwdIdeal.main_arg7)
      ∧ r.2.mem ((c.tc : Thread Cert.ProjFwdIdeal.nD Cert.ProjFwdIdeal.τ).loc Cert.ProjFwdIdeal.main_arg8) = m ((c.tc : Thread Cert.ProjFwdIdeal.nD Cert.ProjFwdIdeal.τ).loc Cert.ProjFwdIdeal.main_arg8)
      ∧ r.2.mem ((c.tc : Thread Cert.ProjFwdIdeal.nD Cert.ProjFwdIdeal.τ).loc Cert.ProjFwdIdeal.main_arg9) = m ((c.tc : Thread Cert.ProjFwdIdeal.nD Cert.ProjFwdIdeal.τ).loc Cert.ProjFwdIdeal.main_arg9)
      ∧ r.2.mem ((c.tc : Thread Cert.ProjFwdIdeal.nD Cert.ProjFwdIdeal.τ).loc Cert.ProjFwdIdeal.main_arg10) = m ((c.tc : Thread Cert.ProjFwdIdeal.nD Cert.ProjFwdIdeal.τ).loc Cert.ProjFwdIdeal.main_arg10))
      ∧ r.2.sem = fun _ => 0)

def quiescent_ProjFwdReferenceIdeal [hProjFwdReferenceIdeal : Cert.ProjFwdReferenceIdeal.Facts] : Prop :=
  ∀ (m : (ℓ : Loc Cert.ProjFwdReferenceIdeal.nD Cert.ProjFwdReferenceIdeal.τ Cert.ProjFwdReferenceIdeal.sig) → Buf (Elt Ideal) ℓ) (g : Dev Cert.ProjFwdReferenceIdeal.nD → PrngReg), Pre_ProjFwdReferenceIdeal m →
    θ_run (Cert.ProjFwdReferenceIdeal.defs (F := Ideal)) (onTc (τ := Cert.ProjFwdReferenceIdeal.τ) (Cert.ProjFwdReferenceIdeal.main (F := Ideal))) ⟨m, fun _ => 0, g⟩ (fun r => (∀ c : Dev Cert.ProjFwdReferenceIdeal.nD,
      r.2.mem ((c.tc : Thread Cert.ProjFwdReferenceIdeal.nD Cert.ProjFwdReferenceIdeal.τ).loc Cert.ProjFwdReferenceIdeal.main_arg0) = m ((c.tc : Thread Cert.ProjFwdReferenceIdeal.nD Cert.ProjFwdReferenceIdeal.τ).loc Cert.ProjFwdReferenceIdeal.main_arg0)
      ∧ r.2.mem ((c.tc : Thread Cert.ProjFwdReferenceIdeal.nD Cert.ProjFwdReferenceIdeal.τ).loc Cert.ProjFwdReferenceIdeal.main_arg1) = m ((c.tc : Thread Cert.ProjFwdReferenceIdeal.nD Cert.ProjFwdReferenceIdeal.τ).loc Cert.ProjFwdReferenceIdeal.main_arg1)
      ∧ r.2.mem ((c.tc : Thread Cert.ProjFwdReferenceIdeal.nD Cert.ProjFwdReferenceIdeal.τ).loc Cert.ProjFwdReferenceIdeal.main_arg2) = m ((c.tc : Thread Cert.ProjFwdReferenceIdeal.nD Cert.ProjFwdReferenceIdeal.τ).loc Cert.ProjFwdReferenceIdeal.main_arg2)
      ∧ r.2.mem ((c.tc : Thread Cert.ProjFwdReferenceIdeal.nD Cert.ProjFwdReferenceIdeal.τ).loc Cert.ProjFwdReferenceIdeal.main_arg3) = m ((c.tc : Thread Cert.ProjFwdReferenceIdeal.nD Cert.ProjFwdReferenceIdeal.τ).loc Cert.ProjFwdReferenceIdeal.main_arg3)
      ∧ r.2.mem ((c.tc : Thread Cert.ProjFwdReferenceIdeal.nD Cert.ProjFwdReferenceIdeal.τ).loc Cert.ProjFwdReferenceIdeal.main_arg4) = m ((c.tc : Thread Cert.ProjFwdReferenceIdeal.nD Cert.ProjFwdReferenceIdeal.τ).loc Cert.ProjFwdReferenceIdeal.main_arg4)
      ∧ r.2.mem ((c.tc : Thread Cert.ProjFwdReferenceIdeal.nD Cert.ProjFwdReferenceIdeal.τ).loc Cert.ProjFwdReferenceIdeal.main_arg5) = m ((c.tc : Thread Cert.ProjFwdReferenceIdeal.nD Cert.ProjFwdReferenceIdeal.τ).loc Cert.ProjFwdReferenceIdeal.main_arg5)
      ∧ r.2.mem ((c.tc : Thread Cert.ProjFwdReferenceIdeal.nD Cert.ProjFwdReferenceIdeal.τ).loc Cert.ProjFwdReferenceIdeal.main_arg6) = m ((c.tc : Thread Cert.ProjFwdReferenceIdeal.nD Cert.ProjFwdReferenceIdeal.τ).loc Cert.ProjFwdReferenceIdeal.main_arg6)
      ∧ r.2.mem ((c.tc : Thread Cert.ProjFwdReferenceIdeal.nD Cert.ProjFwdReferenceIdeal.τ).loc Cert.ProjFwdReferenceIdeal.main_arg7) = m ((c.tc : Thread Cert.ProjFwdReferenceIdeal.nD Cert.ProjFwdReferenceIdeal.τ).loc Cert.ProjFwdReferenceIdeal.main_arg7)
      ∧ r.2.mem ((c.tc : Thread Cert.ProjFwdReferenceIdeal.nD Cert.ProjFwdReferenceIdeal.τ).loc Cert.ProjFwdReferenceIdeal.main_arg8) = m ((c.tc : Thread Cert.ProjFwdReferenceIdeal.nD Cert.ProjFwdReferenceIdeal.τ).loc Cert.ProjFwdReferenceIdeal.main_arg8)
      ∧ r.2.mem ((c.tc : Thread Cert.ProjFwdReferenceIdeal.nD Cert.ProjFwdReferenceIdeal.τ).loc Cert.ProjFwdReferenceIdeal.main_arg9) = m ((c.tc : Thread Cert.ProjFwdReferenceIdeal.nD Cert.ProjFwdReferenceIdeal.τ).loc Cert.ProjFwdReferenceIdeal.main_arg9)
      ∧ r.2.mem ((c.tc : Thread Cert.ProjFwdReferenceIdeal.nD Cert.ProjFwdReferenceIdeal.τ).loc Cert.ProjFwdReferenceIdeal.main_arg10) = m ((c.tc : Thread Cert.ProjFwdReferenceIdeal.nD Cert.ProjFwdReferenceIdeal.τ).loc Cert.ProjFwdReferenceIdeal.main_arg10))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5)
      ∧ r.2.mem ((c.tc : Thread Cert.Latent.nD Cert.Latent.τ).loc Cert.Latent.main_arg6) = m ((c.tc : Thread Cert.Latent.nD Cert.Latent.τ).loc Cert.Latent.main_arg6)
      ∧ r.2.mem ((c.tc : Thread Cert.Latent.nD Cert.Latent.τ).loc Cert.Latent.main_arg7) = m ((c.tc : Thread Cert.Latent.nD Cert.Latent.τ).loc Cert.Latent.main_arg7)
      ∧ r.2.mem ((c.tc : Thread Cert.Latent.nD Cert.Latent.τ).loc Cert.Latent.main_arg8) = m ((c.tc : Thread Cert.Latent.nD Cert.Latent.τ).loc Cert.Latent.main_arg8))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
      ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
      ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
      ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5)
      ∧ r.2.mem ((c.tc : Thread Cert.LatentReferenceIdeal.nD Cert.LatentReferenceIdeal.τ).loc Cert.LatentReferenceIdeal.main_arg6) = m ((c.tc : Thread Cert.LatentReferenceIdeal.nD Cert.LatentReferenceIdeal.τ).loc Cert.LatentReferenceIdeal.main_arg6)
      ∧ r.2.mem ((c.tc : Thread Cert.LatentReferenceIdeal.nD Cert.LatentReferenceIdeal.τ).loc Cert.LatentReferenceIdeal.main_arg7) = m ((c.tc : Thread Cert.LatentReferenceIdeal.nD Cert.LatentReferenceIdeal.τ).loc Cert.LatentReferenceIdeal.main_arg7)
      ∧ r.2.mem ((c.tc : Thread Cert.LatentReferenceIdeal.nD Cert.LatentReferenceIdeal.τ).loc Cert.LatentReferenceIdeal.main_arg8) = m ((c.tc : Thread Cert.LatentReferenceIdeal.nD Cert.LatentReferenceIdeal.τ).loc Cert.LatentReferenceIdeal.main_arg8))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2)
      ∧ r.2.mem ((c.tc : Thread Cert.LossHeadReferenceIdeal.nD Cert.LossHeadReferenceIdeal.τ).loc Cert.LossHeadReferenceIdeal.main_arg3) = m ((c.tc : Thread Cert.LossHeadReferenceIdeal.nD Cert.LossHeadReferenceIdeal.τ).loc Cert.LossHeadReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1)
      ∧ r.2.mem ((c.tc : Thread Cert.FirstNorm.nD Cert.FirstNorm.τ).loc Cert.FirstNorm.main_arg2) = m ((c.tc : Thread Cert.FirstNorm.nD Cert.FirstNorm.τ).loc Cert.FirstNorm.main_arg2)
      ∧ r.2.mem ((c.tc : Thread Cert.FirstNorm.nD Cert.FirstNorm.τ).loc Cert.FirstNorm.main_arg3) = m ((c.tc : Thread Cert.FirstNorm.nD Cert.FirstNorm.τ).loc Cert.FirstNorm.main_arg3))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
      ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
      ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1)
      ∧ r.2.mem ((c.tc : Thread Cert.FirstNormReferenceIdeal.nD Cert.FirstNormReferenceIdeal.τ).loc Cert.FirstNormReferenceIdeal.main_arg2) = m ((c.tc : Thread Cert.FirstNormReferenceIdeal.nD Cert.FirstNormReferenceIdeal.τ).loc Cert.FirstNormReferenceIdeal.main_arg2)
      ∧ r.2.mem ((c.tc : Thread Cert.FirstNormReferenceIdeal.nD Cert.FirstNormReferenceIdeal.τ).loc Cert.FirstNormReferenceIdeal.main_arg3) = m ((c.tc : Thread Cert.FirstNormReferenceIdeal.nD Cert.FirstNormReferenceIdeal.τ).loc Cert.FirstNormReferenceIdeal.main_arg3))
      ∧ r.2.sem = fun _ => 0)

def quiescent_AdaWgrad [hAdaWgrad : Cert.AdaWgrad.Facts] : Prop :=
  ∀ (m : (ℓ : Loc Cert.AdaWgrad.nD Cert.AdaWgrad.τ Cert.AdaWgrad.sig) → Buf (Elt Bits) ℓ) (g : Dev Cert.AdaWgrad.nD → PrngReg), Pre_AdaWgrad m →
    θ_run (Cert.AdaWgrad.defs (F := Bits)) (onTc (τ := Cert.AdaWgrad.τ) (Cert.AdaWgrad.main (F := Bits))) ⟨m, fun _ => 0, g⟩ (fun r => (∀ c : Dev Cert.AdaWgrad.nD,
      r.2.mem ((c.tc : Thread Cert.AdaWgrad.nD Cert.AdaWgrad.τ).loc Cert.AdaWgrad.main_arg0) = m ((c.tc : Thread Cert.AdaWgrad.nD Cert.AdaWgrad.τ).loc Cert.AdaWgrad.main_arg0)
      ∧ r.2.mem ((c.tc : Thread Cert.AdaWgrad.nD Cert.AdaWgrad.τ).loc Cert.AdaWgrad.main_arg1) = m ((c.tc : Thread Cert.AdaWgrad.nD Cert.AdaWgrad.τ).loc Cert.AdaWgrad.main_arg1))
      ∧ r.2.sem = fun _ => 0)

def quiescent_AdaWgradIdeal [hAdaWgradIdeal : Cert.AdaWgradIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg), Pre_AdaWgradIdeal m →
    θ_run (Cert.AdaWgradIdeal.defs (F := Ideal)) (onTc (τ := Cert.AdaWgradIdeal.τ) (Cert.AdaWgradIdeal.main (F := Ideal))) ⟨m, fun _ => 0, g⟩ (fun r => (∀ c : Dev Cert.AdaWgradIdeal.nD,
      r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
      ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ r.2.sem = fun _ => 0)

def quiescent_AdaWgradReferenceIdeal [hAdaWgradReferenceIdeal : Cert.AdaWgradReferenceIdeal.Facts] : Prop :=
  ∀ (m : (ℓ : Loc Cert.AdaWgradReferenceIdeal.nD Cert.AdaWgradReferenceIdeal.τ Cert.AdaWgradReferenceIdeal.sig) → Buf (Elt Ideal) ℓ) (g : Dev Cert.AdaWgradReferenceIdeal.nD → PrngReg), Pre_AdaWgradReferenceIdeal m →
    θ_run (Cert.AdaWgradReferenceIdeal.defs (F := Ideal)) (onTc (τ := Cert.AdaWgradReferenceIdeal.τ) (Cert.AdaWgradReferenceIdeal.main (F := Ideal))) ⟨m, fun _ => 0, g⟩ (fun r => (∀ c : Dev Cert.AdaWgradReferenceIdeal.nD,
      r.2.mem ((c.tc : Thread Cert.AdaWgradReferenceIdeal.nD Cert.AdaWgradReferenceIdeal.τ).loc Cert.AdaWgradReferenceIdeal.main_arg0) = m ((c.tc : Thread Cert.AdaWgradReferenceIdeal.nD Cert.AdaWgradReferenceIdeal.τ).loc Cert.AdaWgradReferenceIdeal.main_arg0)
      ∧ r.2.mem ((c.tc : Thread Cert.AdaWgradReferenceIdeal.nD Cert.AdaWgradReferenceIdeal.τ).loc Cert.AdaWgradReferenceIdeal.main_arg1) = m ((c.tc : Thread Cert.AdaWgradReferenceIdeal.nD Cert.AdaWgradReferenceIdeal.τ).loc Cert.AdaWgradReferenceIdeal.main_arg1))
      ∧ r.2.sem = fun _ => 0)

def preserves_Kernel_KernelIdeal : Prop :=
  True

def algebraic_KernelIdeal_ReferenceIdeal_pre_arguments_finite [hKernelIdeal : Cert.KernelIdeal.Facts] [hReferenceIdeal : Cert.ReferenceIdeal.Facts] [hPre_arguments_finite : Cert.Pre_arguments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arguments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v6_2)) (v4 : (c : Dev Cert.KernelIdeal.nD) → Buf (Elt Ideal) ((c.tc : Thread Cert.KernelIdeal.nD Cert.KernelIdeal.τ).loc Cert.KernelIdeal.main_v6_3)) (v5 : (c : Dev Cert.KernelIdeal.nD) → Buf (Elt Ideal) ((c.tc : Thread Cert.KernelIdeal.nD Cert.KernelIdeal.τ).loc Cert.KernelIdeal.main_v6_4)) (v6 : (c : Dev Cert.KernelIdeal.nD) → Buf (Elt Ideal) ((c.tc : Thread Cert.KernelIdeal.nD Cert.KernelIdeal.τ).loc Cert.KernelIdeal.main_v6_5)) (v7 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_v6_3) = v4 c
          ∧ r.2.mem ((c.tc : Thread Cert.KernelIdeal.nD Cert.KernelIdeal.τ).loc Cert.KernelIdeal.main_v6_4) = v5 c
          ∧ r.2.mem ((c.tc : Thread Cert.KernelIdeal.nD Cert.KernelIdeal.τ).loc Cert.KernelIdeal.main_v6_5) = v6 c
          ∧ r.2.mem ((c.tc : Thread Cert.KernelIdeal.nD Cert.KernelIdeal.τ).loc Cert.KernelIdeal.main_v6_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_v81) = v5 c
          ∧ r.2.mem ((c.tc : Thread Cert.ReferenceIdeal.nD Cert.ReferenceIdeal.τ).loc Cert.ReferenceIdeal.main_v82) = v6 c
          ∧ r.2.mem ((c.tc : Thread Cert.ReferenceIdeal.nD Cert.ReferenceIdeal.τ).loc Cert.ReferenceIdeal.main_v83) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Proj_ProjIdeal : Prop :=
  True

def algebraic_ProjIdeal_ProjReferenceIdeal_pre_proj_finite [hProjIdeal : Cert.ProjIdeal.Facts] [hProjReferenceIdeal : Cert.ProjReferenceIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal_proj_finite m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v49) = v0 c
          ∧ r.2.mem ((c.tc : Thread Cert.ProjReferenceIdeal.nD Cert.ProjReferenceIdeal.τ).loc Cert.ProjReferenceIdeal.main_v32) = v1 c
          ∧ r.2.mem ((c.tc : Thread Cert.ProjReferenceIdeal.nD Cert.ProjReferenceIdeal.τ).loc Cert.ProjReferenceIdeal.main_v27) = v2 c
          ∧ r.2.mem ((c.tc : Thread Cert.ProjReferenceIdeal.nD Cert.ProjReferenceIdeal.τ).loc Cert.ProjReferenceIdeal.main_v24) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Mid_MidIdeal : Prop :=
  True

def algebraic_MidIdeal_MidReferenceIdeal_pre_mid_finite [hMidIdeal : Cert.MidIdeal.Facts] [hMidReferenceIdeal : Cert.MidReferenceIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal_mid_finite m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)
      ∧ m' ((c.tc : Thread Cert.MidReferenceIdeal.nD Cert.MidReferenceIdeal.τ).loc Cert.MidReferenceIdeal.main_arg7) = m ((c.tc : Thread Cert.MidIdeal.nD Cert.MidIdeal.τ).loc Cert.MidIdeal.main_arg7)
      ∧ m' ((c.tc : Thread Cert.MidReferenceIdeal.nD Cert.MidReferenceIdeal.τ).loc Cert.MidReferenceIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v5_0)) (v1 : (c : Dev Cert.MidIdeal.nD) → Buf (Elt Ideal) ((c.tc : Thread Cert.MidIdeal.nD Cert.MidIdeal.τ).loc Cert.MidIdeal.main_v5_1)) (v2 : (c : Dev Cert.MidIdeal.nD) → Buf (Elt Ideal) ((c.tc : Thread Cert.MidIdeal.nD Cert.MidIdeal.τ).loc Cert.MidIdeal.main_v5_2)) (v3 : (c : Dev Cert.MidIdeal.nD) → Buf (Elt Ideal) ((c.tc : Thread Cert.MidIdeal.nD Cert.MidIdeal.τ).loc Cert.MidIdeal.main_v5_3)) (v4 : (c : Dev Cert.MidIdeal.nD) → Buf (Elt Ideal) ((c.tc : Thread Cert.MidIdeal.nD Cert.MidIdeal.τ).loc Cert.MidIdeal.main_v5_4)) (v5 : (c : Dev Cert.MidIdeal.nD) → Buf (Elt Ideal) ((c.tc : Thread Cert.MidIdeal.nD Cert.MidIdeal.τ).loc Cert.MidIdeal.main_v5_5)) (v6 : (c : Dev Cert.MidIdeal.nD) → Buf (Elt Ideal) ((c.tc : Thread Cert.MidIdeal.nD Cert.MidIdeal.τ).loc Cert.MidIdeal.main_v5_6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v5_0) = v0 c
          ∧ r.2.mem ((c.tc : Thread Cert.MidIdeal.nD Cert.MidIdeal.τ).loc Cert.MidIdeal.main_v5_1) = v1 c
          ∧ r.2.mem ((c.tc : Thread Cert.MidIdeal.nD Cert.MidIdeal.τ).loc Cert.MidIdeal.main_v5_2) = v2 c
          ∧ r.2.mem ((c.tc : Thread Cert.MidIdeal.nD Cert.MidIdeal.τ).loc Cert.MidIdeal.main_v5_3) = v3 c
          ∧ r.2.mem ((c.tc : Thread Cert.MidIdeal.nD Cert.MidIdeal.τ).loc Cert.MidIdeal.main_v5_4) = v4 c
          ∧ r.2.mem ((c.tc : Thread Cert.MidIdeal.nD Cert.MidIdeal.τ).loc Cert.MidIdeal.main_v5_5) = v5 c
          ∧ r.2.mem ((c.tc : Thread Cert.MidIdeal.nD Cert.MidIdeal.τ).loc Cert.MidIdeal.main_v5_6) = v6 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v52) = v0 c
          ∧ r.2.mem ((c.tc : Thread Cert.MidReferenceIdeal.nD Cert.MidReferenceIdeal.τ).loc Cert.MidReferenceIdeal.main_v60) = v1 c
          ∧ r.2.mem ((c.tc : Thread Cert.MidReferenceIdeal.nD Cert.MidReferenceIdeal.τ).loc Cert.MidReferenceIdeal.main_v59) = v2 c
          ∧ r.2.mem ((c.tc : Thread Cert.MidReferenceIdeal.nD Cert.MidReferenceIdeal.τ).loc Cert.MidReferenceIdeal.main_v35) = v3 c
          ∧ r.2.mem ((c.tc : Thread Cert.MidReferenceIdeal.nD Cert.MidReferenceIdeal.τ).loc Cert.MidReferenceIdeal.main_v30) = v4 c
          ∧ r.2.mem ((c.tc : Thread Cert.MidReferenceIdeal.nD Cert.MidReferenceIdeal.τ).loc Cert.MidReferenceIdeal.main_v27) = v5 c
          ∧ r.2.mem ((c.tc : Thread Cert.MidReferenceIdeal.nD Cert.MidReferenceIdeal.τ).loc Cert.MidReferenceIdeal.main_v58) = v6 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6)
          ∧ r.2.mem ((c.tc : Thread Cert.MidReferenceIdeal.nD Cert.MidReferenceIdeal.τ).loc Cert.MidReferenceIdeal.main_arg7) = m' ((c.tc : Thread Cert.MidReferenceIdeal.nD Cert.MidReferenceIdeal.τ).loc Cert.MidReferenceIdeal.main_arg7)
          ∧ r.2.mem ((c.tc : Thread Cert.MidReferenceIdeal.nD Cert.MidReferenceIdeal.τ).loc Cert.MidReferenceIdeal.main_arg8) = m' ((c.tc : Thread Cert.MidReferenceIdeal.nD Cert.MidReferenceIdeal.τ).loc Cert.MidReferenceIdeal.main_arg8))

def preserves_ProjWgrad_ProjWgradIdeal : Prop :=
  True

def algebraic_ProjWgradIdeal_ProjWgradReferenceIdeal [hProjWgradIdeal : Cert.ProjWgradIdeal.Facts] [hProjWgradReferenceIdeal : Cert.ProjWgradReferenceIdeal.Facts] : Prop :=
  ∀ (m : (ℓ : Loc Cert.ProjWgradIdeal.nD Cert.ProjWgradIdeal.τ Cert.ProjWgradIdeal.sig) → Buf (Elt Ideal) ℓ) (g : Dev Cert.ProjWgradIdeal.nD → PrngReg)
    (m' : (ℓ : Loc Cert.ProjWgradReferenceIdeal.nD Cert.ProjWgradReferenceIdeal.τ Cert.ProjWgradReferenceIdeal.sig) → Buf (Elt Ideal) ℓ) (g' : Dev Cert.ProjWgradReferenceIdeal.nD → PrngReg), Pre_ProjWgradIdeal m →
    (∀ c : Dev Cert.ProjWgradIdeal.nD,
      m' ((c.tc : Thread Cert.ProjWgradReferenceIdeal.nD Cert.ProjWgradReferenceIdeal.τ).loc Cert.ProjWgradReferenceIdeal.main_arg0) = m ((c.tc : Thread Cert.ProjWgradIdeal.nD Cert.ProjWgradIdeal.τ).loc Cert.ProjWgradIdeal.main_arg0)
      ∧ m' ((c.tc : Thread Cert.ProjWgradReferenceIdeal.nD Cert.ProjWgradReferenceIdeal.τ).loc Cert.ProjWgradReferenceIdeal.main_arg1) = m ((c.tc : Thread Cert.ProjWgradIdeal.nD Cert.ProjWgradIdeal.τ).loc Cert.ProjWgradIdeal.main_arg1)
      ∧ m' ((c.tc : Thread Cert.ProjWgradReferenceIdeal.nD Cert.ProjWgradReferenceIdeal.τ).loc Cert.ProjWgradReferenceIdeal.main_arg2) = m ((c.tc : Thread Cert.ProjWgradIdeal.nD Cert.ProjWgradIdeal.τ).loc Cert.ProjWgradIdeal.main_arg2)
      ∧ m' ((c.tc : Thread Cert.ProjWgradReferenceIdeal.nD Cert.ProjWgradReferenceIdeal.τ).loc Cert.ProjWgradReferenceIdeal.main_arg3) = m ((c.tc : Thread Cert.ProjWgradIdeal.nD Cert.ProjWgradIdeal.τ).loc Cert.ProjWgradIdeal.main_arg3)
      ∧ m' ((c.tc : Thread Cert.ProjWgradReferenceIdeal.nD Cert.ProjWgradReferenceIdeal.τ).loc Cert.ProjWgradReferenceIdeal.main_arg4) = m ((c.tc : Thread Cert.ProjWgradIdeal.nD Cert.ProjWgradIdeal.τ).loc Cert.ProjWgradIdeal.main_arg4)) →
    ∃ (v0 : (c : Dev Cert.ProjWgradIdeal.nD) → Buf (Elt Ideal) ((c.tc : Thread Cert.ProjWgradIdeal.nD Cert.ProjWgradIdeal.τ).loc Cert.ProjWgradIdeal.main_v20)),
      θ_run (Cert.ProjWgradIdeal.defs (F := Ideal)) (onTc (τ := Cert.ProjWgradIdeal.τ) (Cert.ProjWgradIdeal.main (F := Ideal))) ⟨m, fun _ => 0, g⟩ (fun r => ∀ c : Dev Cert.ProjWgradIdeal.nD,
          r.2.mem ((c.tc : Thread Cert.ProjWgradIdeal.nD Cert.ProjWgradIdeal.τ).loc Cert.ProjWgradIdeal.main_v20) = v0 c
          ∧ r.2.mem ((c.tc : Thread Cert.ProjWgradIdeal.nD Cert.ProjWgradIdeal.τ).loc Cert.ProjWgradIdeal.main_arg0) = m ((c.tc : Thread Cert.ProjWgradIdeal.nD Cert.ProjWgradIdeal.τ).loc Cert.ProjWgradIdeal.main_arg0)
          ∧ r.2.mem ((c.tc : Thread Cert.ProjWgradIdeal.nD Cert.ProjWgradIdeal.τ).loc Cert.ProjWgradIdeal.main_arg1) = m ((c.tc : Thread Cert.ProjWgradIdeal.nD Cert.ProjWgradIdeal.τ).loc Cert.ProjWgradIdeal.main_arg1)
          ∧ r.2.mem ((c.tc : Thread Cert.ProjWgradIdeal.nD Cert.ProjWgradIdeal.τ).loc Cert.ProjWgradIdeal.main_arg2) = m ((c.tc : Thread Cert.ProjWgradIdeal.nD Cert.ProjWgradIdeal.τ).loc Cert.ProjWgradIdeal.main_arg2)
          ∧ r.2.mem ((c.tc : Thread Cert.ProjWgradIdeal.nD Cert.ProjWgradIdeal.τ).loc Cert.ProjWgradIdeal.main_arg3) = m ((c.tc : Thread Cert.ProjWgradIdeal.nD Cert.ProjWgradIdeal.τ).loc Cert.ProjWgradIdeal.main_arg3)
          ∧ r.2.mem ((c.tc : Thread Cert.ProjWgradIdeal.nD Cert.ProjWgradIdeal.τ).loc Cert.ProjWgradIdeal.main_arg4) = m ((c.tc : Thread Cert.ProjWgradIdeal.nD Cert.ProjWgradIdeal.τ).loc Cert.ProjWgradIdeal.main_arg4))
      ∧ θ_run (Cert.ProjWgradReferenceIdeal.defs (F := Ideal)) (onTc (τ := Cert.ProjWgradReferenceIdeal.τ) (Cert.ProjWgradReferenceIdeal.main (F := Ideal))) ⟨m', fun _ => 0, g'⟩ (fun r => ∀ c : Dev Cert.ProjWgradReferenceIdeal.nD,
          r.2.mem ((c.tc : Thread Cert.ProjWgradReferenceIdeal.nD Cert.ProjWgradReferenceIdeal.τ).loc Cert.ProjWgradReferenceIdeal.main_v23) = v0 c
          ∧ r.2.mem ((c.tc : Thread Cert.ProjWgradReferenceIdeal.nD Cert.ProjWgradReferenceIdeal.τ).loc Cert.ProjWgradReferenceIdeal.main_arg0) = m' ((c.tc : Thread Cert.ProjWgradReferenceIdeal.nD Cert.ProjWgradReferenceIdeal.τ).loc Cert.ProjWgradReferenceIdeal.main_arg0)
          ∧ r.2.mem ((c.tc : Thread Cert.ProjWgradReferenceIdeal.nD Cert.ProjWgradReferenceIdeal.τ).loc Cert.ProjWgradReferenceIdeal.main_arg1) = m' ((c.tc : Thread Cert.ProjWgradReferenceIdeal.nD Cert.ProjWgradReferenceIdeal.τ).loc Cert.ProjWgradReferenceIdeal.main_arg1)
          ∧ r.2.mem ((c.tc : Thread Cert.ProjWgradReferenceIdeal.nD Cert.ProjWgradReferenceIdeal.τ).loc Cert.ProjWgradReferenceIdeal.main_arg2) = m' ((c.tc : Thread Cert.ProjWgradReferenceIdeal.nD Cert.ProjWgradReferenceIdeal.τ).loc Cert.ProjWgradReferenceIdeal.main_arg2)
          ∧ r.2.mem ((c.tc : Thread Cert.ProjWgradReferenceIdeal.nD Cert.ProjWgradReferenceIdeal.τ).loc Cert.ProjWgradReferenceIdeal.main_arg3) = m' ((c.tc : Thread Cert.ProjWgradReferenceIdeal.nD Cert.ProjWgradReferenceIdeal.τ).loc Cert.ProjWgradReferenceIdeal.main_arg3)
          ∧ r.2.mem ((c.tc : Thread Cert.ProjWgradReferenceIdeal.nD Cert.ProjWgradReferenceIdeal.τ).loc Cert.ProjWgradReferenceIdeal.main_arg4) = m' ((c.tc : Thread Cert.ProjWgradReferenceIdeal.nD Cert.ProjWgradReferenceIdeal.τ).loc Cert.ProjWgradReferenceIdeal.main_arg4))

def preserves_MixWgrad_MixWgradIdeal : Prop :=
  True

def algebraic_MixWgradIdeal_MixWgradReferenceIdeal [hMixWgradIdeal : Cert.MixWgradIdeal.Facts] [hMixWgradReferenceIdeal : Cert.MixWgradReferenceIdeal.Facts] : Prop :=
  ∀ (m : (ℓ : Loc Cert.MixWgradIdeal.nD Cert.MixWgradIdeal.τ Cert.MixWgradIdeal.sig) → Buf (Elt Ideal) ℓ) (g : Dev Cert.MixWgradIdeal.nD → PrngReg)
    (m' : (ℓ : Loc Cert.MixWgradReferenceIdeal.nD Cert.MixWgradReferenceIdeal.τ Cert.MixWgradReferenceIdeal.sig) → Buf (Elt Ideal) ℓ) (g' : Dev Cert.MixWgradReferenceIdeal.nD → PrngReg), Pre_MixWgradIdeal m →
    (∀ c : Dev Cert.MixWgradIdeal.nD,
      m' ((c.tc : Thread Cert.MixWgradReferenceIdeal.nD Cert.MixWgradReferenceIdeal.τ).loc Cert.MixWgradReferenceIdeal.main_arg0) = m ((c.tc : Thread Cert.MixWgradIdeal.nD Cert.MixWgradIdeal.τ).loc Cert.MixWgradIdeal.main_arg0)
      ∧ m' ((c.tc : Thread Cert.MixWgradReferenceIdeal.nD Cert.MixWgradReferenceIdeal.τ).loc Cert.MixWgradReferenceIdeal.main_arg1) = m ((c.tc : Thread Cert.MixWgradIdeal.nD Cert.MixWgradIdeal.τ).loc Cert.MixWgradIdeal.main_arg1)) →
    ∃ (v0 : (c : Dev Cert.MixWgradIdeal.nD) → Buf (Elt Ideal) ((c.tc : Thread Cert.MixWgradIdeal.nD Cert.MixWgradIdeal.τ).loc Cert.MixWgradIdeal.main_v1)),
      θ_run (Cert.MixWgradIdeal.defs (F := Ideal)) (onTc (τ := Cert.MixWgradIdeal.τ) (Cert.MixWgradIdeal.main (F := Ideal))) ⟨m, fun _ => 0, g⟩ (fun r => ∀ c : Dev Cert.MixWgradIdeal.nD,
          r.2.mem ((c.tc : Thread Cert.MixWgradIdeal.nD Cert.MixWgradIdeal.τ).loc Cert.MixWgradIdeal.main_v1) = v0 c
          ∧ r.2.mem ((c.tc : Thread Cert.MixWgradIdeal.nD Cert.MixWgradIdeal.τ).loc Cert.MixWgradIdeal.main_arg0) = m ((c.tc : Thread Cert.MixWgradIdeal.nD Cert.MixWgradIdeal.τ).loc Cert.MixWgradIdeal.main_arg0)
          ∧ r.2.mem ((c.tc : Thread Cert.MixWgradIdeal.nD Cert.MixWgradIdeal.τ).loc Cert.MixWgradIdeal.main_arg1) = m ((c.tc : Thread Cert.MixWgradIdeal.nD Cert.MixWgradIdeal.τ).loc Cert.MixWgradIdeal.main_arg1))
      ∧ θ_run (Cert.MixWgradReferenceIdeal.defs (F := Ideal)) (onTc (τ := Cert.MixWgradReferenceIdeal.τ) (Cert.MixWgradReferenceIdeal.main (F := Ideal))) ⟨m', fun _ => 0, g'⟩ (fun r => ∀ c : Dev Cert.MixWgradReferenceIdeal.nD,
          r.2.mem ((c.tc : Thread Cert.MixWgradReferenceIdeal.nD Cert.MixWgradReferenceIdeal.τ).loc Cert.MixWgradReferenceIdeal.main_v4) = v0 c
          ∧ r.2.mem ((c.tc : Thread Cert.MixWgradReferenceIdeal.nD Cert.MixWgradReferenceIdeal.τ).loc Cert.MixWgradReferenceIdeal.main_arg0) = m' ((c.tc : Thread Cert.MixWgradReferenceIdeal.nD Cert.MixWgradReferenceIdeal.τ).loc Cert.MixWgradReferenceIdeal.main_arg0)
          ∧ r.2.mem ((c.tc : Thread Cert.MixWgradReferenceIdeal.nD Cert.MixWgradReferenceIdeal.τ).loc Cert.MixWgradReferenceIdeal.main_arg1) = m' ((c.tc : Thread Cert.MixWgradReferenceIdeal.nD Cert.MixWgradReferenceIdeal.τ).loc Cert.MixWgradReferenceIdeal.main_arg1))

def preserves_QWgrad_QWgradIdeal : Prop :=
  True

def algebraic_QWgradIdeal_QWgradReferenceIdeal [hQWgradIdeal : Cert.QWgradIdeal.Facts] [hQWgradReferenceIdeal : Cert.QWgradReferenceIdeal.Facts] : Prop :=
  ∀ (m : (ℓ : Loc Cert.QWgradIdeal.nD Cert.QWgradIdeal.τ Cert.QWgradIdeal.sig) → Buf (Elt Ideal) ℓ) (g : Dev Cert.QWgradIdeal.nD → PrngReg)
    (m' : (ℓ : Loc Cert.QWgradReferenceIdeal.nD Cert.QWgradReferenceIdeal.τ Cert.QWgradReferenceIdeal.sig) → Buf (Elt Ideal) ℓ) (g' : Dev Cert.QWgradReferenceIdeal.nD → PrngReg), Pre_QWgradIdeal m →
    (∀ c : Dev Cert.QWgradIdeal.nD,
      m' ((c.tc : Thread Cert.QWgradReferenceIdeal.nD Cert.QWgradReferenceIdeal.τ).loc Cert.QWgradReferenceIdeal.main_arg0) = m ((c.tc : Thread Cert.QWgradIdeal.nD Cert.QWgradIdeal.τ).loc Cert.QWgradIdeal.main_arg0)
      ∧ m' ((c.tc : Thread Cert.QWgradReferenceIdeal.nD Cert.QWgradReferenceIdeal.τ).loc Cert.QWgradReferenceIdeal.main_arg1) = m ((c.tc : Thread Cert.QWgradIdeal.nD Cert.QWgradIdeal.τ).loc Cert.QWgradIdeal.main_arg1)
      ∧ m' ((c.tc : Thread Cert.QWgradReferenceIdeal.nD Cert.QWgradReferenceIdeal.τ).loc Cert.QWgradReferenceIdeal.main_arg2) = m ((c.tc : Thread Cert.QWgradIdeal.nD Cert.QWgradIdeal.τ).loc Cert.QWgradIdeal.main_arg2)) →
    ∃ (v0 : (c : Dev Cert.QWgradIdeal.nD) → Buf (Elt Ideal) ((c.tc : Thread Cert.QWgradIdeal.nD Cert.QWgradIdeal.τ).loc Cert.QWgradIdeal.main_v14)),
      θ_run (Cert.QWgradIdeal.defs (F := Ideal)) (onTc (τ := Cert.QWgradIdeal.τ) (Cert.QWgradIdeal.main (F := Ideal))) ⟨m, fun _ => 0, g⟩ (fun r => ∀ c : Dev Cert.QWgradIdeal.nD,
          r.2.mem ((c.tc : Thread Cert.QWgradIdeal.nD Cert.QWgradIdeal.τ).loc Cert.QWgradIdeal.main_v14) = v0 c
          ∧ r.2.mem ((c.tc : Thread Cert.QWgradIdeal.nD Cert.QWgradIdeal.τ).loc Cert.QWgradIdeal.main_arg0) = m ((c.tc : Thread Cert.QWgradIdeal.nD Cert.QWgradIdeal.τ).loc Cert.QWgradIdeal.main_arg0)
          ∧ r.2.mem ((c.tc : Thread Cert.QWgradIdeal.nD Cert.QWgradIdeal.τ).loc Cert.QWgradIdeal.main_arg1) = m ((c.tc : Thread Cert.QWgradIdeal.nD Cert.QWgradIdeal.τ).loc Cert.QWgradIdeal.main_arg1)
          ∧ r.2.mem ((c.tc : Thread Cert.QWgradIdeal.nD Cert.QWgradIdeal.τ).loc Cert.QWgradIdeal.main_arg2) = m ((c.tc : Thread Cert.QWgradIdeal.nD Cert.QWgradIdeal.τ).loc Cert.QWgradIdeal.main_arg2))
      ∧ θ_run (Cert.QWgradReferenceIdeal.defs (F := Ideal)) (onTc (τ := Cert.QWgradReferenceIdeal.τ) (Cert.QWgradReferenceIdeal.main (F := Ideal))) ⟨m', fun _ => 0, g'⟩ (fun r => ∀ c : Dev Cert.QWgradReferenceIdeal.nD,
          r.2.mem ((c.tc : Thread Cert.QWgradReferenceIdeal.nD Cert.QWgradReferenceIdeal.τ).loc Cert.QWgradReferenceIdeal.main_v17) = v0 c
          ∧ r.2.mem ((c.tc : Thread Cert.QWgradReferenceIdeal.nD Cert.QWgradReferenceIdeal.τ).loc Cert.QWgradReferenceIdeal.main_arg0) = m' ((c.tc : Thread Cert.QWgradReferenceIdeal.nD Cert.QWgradReferenceIdeal.τ).loc Cert.QWgradReferenceIdeal.main_arg0)
          ∧ r.2.mem ((c.tc : Thread Cert.QWgradReferenceIdeal.nD Cert.QWgradReferenceIdeal.τ).loc Cert.QWgradReferenceIdeal.main_arg1) = m' ((c.tc : Thread Cert.QWgradReferenceIdeal.nD Cert.QWgradReferenceIdeal.τ).loc Cert.QWgradReferenceIdeal.main_arg1)
          ∧ r.2.mem ((c.tc : Thread Cert.QWgradReferenceIdeal.nD Cert.QWgradReferenceIdeal.τ).loc Cert.QWgradReferenceIdeal.main_arg2) = m' ((c.tc : Thread Cert.QWgradReferenceIdeal.nD Cert.QWgradReferenceIdeal.τ).loc Cert.QWgradReferenceIdeal.main_arg2))

def preserves_KvWgrad_KvWgradIdeal : Prop :=
  True

def algebraic_KvWgradIdeal_KvWgradReferenceIdeal [hKvWgradIdeal : Cert.KvWgradIdeal.Facts] [hKvWgradReferenceIdeal : Cert.KvWgradReferenceIdeal.Facts] : Prop :=
  ∀ (m : (ℓ : Loc Cert.KvWgradIdeal.nD Cert.KvWgradIdeal.τ Cert.KvWgradIdeal.sig) → Buf (Elt Ideal) ℓ) (g : Dev Cert.KvWgradIdeal.nD → PrngReg)
    (m' : (ℓ : Loc Cert.KvWgradReferenceIdeal.nD Cert.KvWgradReferenceIdeal.τ Cert.KvWgradReferenceIdeal.sig) → Buf (Elt Ideal) ℓ) (g' : Dev Cert.KvWgradReferenceIdeal.nD → PrngReg), Pre_KvWgradIdeal m →
    (∀ c : Dev Cert.KvWgradIdeal.nD,
      m' ((c.tc : Thread Cert.KvWgradReferenceIdeal.nD Cert.KvWgradReferenceIdeal.τ).loc Cert.KvWgradReferenceIdeal.main_arg0) = m ((c.tc : Thread Cert.KvWgradIdeal.nD Cert.KvWgradIdeal.τ).loc Cert.KvWgradIdeal.main_arg0)
      ∧ m' ((c.tc : Thread Cert.KvWgradReferenceIdeal.nD Cert.KvWgradReferenceIdeal.τ).loc Cert.KvWgradReferenceIdeal.main_arg1) = m ((c.tc : Thread Cert.KvWgradIdeal.nD Cert.KvWgradIdeal.τ).loc Cert.KvWgradIdeal.main_arg1)
      ∧ m' ((c.tc : Thread Cert.KvWgradReferenceIdeal.nD Cert.KvWgradReferenceIdeal.τ).loc Cert.KvWgradReferenceIdeal.main_arg2) = m ((c.tc : Thread Cert.KvWgradIdeal.nD Cert.KvWgradIdeal.τ).loc Cert.KvWgradIdeal.main_arg2)) →
    ∃ (v0 : (c : Dev Cert.KvWgradIdeal.nD) → Buf (Elt Ideal) ((c.tc : Thread Cert.KvWgradIdeal.nD Cert.KvWgradIdeal.τ).loc Cert.KvWgradIdeal.main_v14)),
      θ_run (Cert.KvWgradIdeal.defs (F := Ideal)) (onTc (τ := Cert.KvWgradIdeal.τ) (Cert.KvWgradIdeal.main (F := Ideal))) ⟨m, fun _ => 0, g⟩ (fun r => ∀ c : Dev Cert.KvWgradIdeal.nD,
          r.2.mem ((c.tc : Thread Cert.KvWgradIdeal.nD Cert.KvWgradIdeal.τ).loc Cert.KvWgradIdeal.main_v14) = v0 c
          ∧ r.2.mem ((c.tc : Thread Cert.KvWgradIdeal.nD Cert.KvWgradIdeal.τ).loc Cert.KvWgradIdeal.main_arg0) = m ((c.tc : Thread Cert.KvWgradIdeal.nD Cert.KvWgradIdeal.τ).loc Cert.KvWgradIdeal.main_arg0)
          ∧ r.2.mem ((c.tc : Thread Cert.KvWgradIdeal.nD Cert.KvWgradIdeal.τ).loc Cert.KvWgradIdeal.main_arg1) = m ((c.tc : Thread Cert.KvWgradIdeal.nD Cert.KvWgradIdeal.τ).loc Cert.KvWgradIdeal.main_arg1)
          ∧ r.2.mem ((c.tc : Thread Cert.KvWgradIdeal.nD Cert.KvWgradIdeal.τ).loc Cert.KvWgradIdeal.main_arg2) = m ((c.tc : Thread Cert.KvWgradIdeal.nD Cert.KvWgradIdeal.τ).loc Cert.KvWgradIdeal.main_arg2))
      ∧ θ_run (Cert.KvWgradReferenceIdeal.defs (F := Ideal)) (onTc (τ := Cert.KvWgradReferenceIdeal.τ) (Cert.KvWgradReferenceIdeal.main (F := Ideal))) ⟨m', fun _ => 0, g'⟩ (fun r => ∀ c : Dev Cert.KvWgradReferenceIdeal.nD,
          r.2.mem ((c.tc : Thread Cert.KvWgradReferenceIdeal.nD Cert.KvWgradReferenceIdeal.τ).loc Cert.KvWgradReferenceIdeal.main_v16) = v0 c
          ∧ r.2.mem ((c.tc : Thread Cert.KvWgradReferenceIdeal.nD Cert.KvWgradReferenceIdeal.τ).loc Cert.KvWgradReferenceIdeal.main_arg0) = m' ((c.tc : Thread Cert.KvWgradReferenceIdeal.nD Cert.KvWgradReferenceIdeal.τ).loc Cert.KvWgradReferenceIdeal.main_arg0)
          ∧ r.2.mem ((c.tc : Thread Cert.KvWgradReferenceIdeal.nD Cert.KvWgradReferenceIdeal.τ).loc Cert.KvWgradReferenceIdeal.main_arg1) = m' ((c.tc : Thread Cert.KvWgradReferenceIdeal.nD Cert.KvWgradReferenceIdeal.τ).loc Cert.KvWgradReferenceIdeal.main_arg1)
          ∧ r.2.mem ((c.tc : Thread Cert.KvWgradReferenceIdeal.nD Cert.KvWgradReferenceIdeal.τ).loc Cert.KvWgradReferenceIdeal.main_arg2) = m' ((c.tc : Thread Cert.KvWgradReferenceIdeal.nD Cert.KvWgradReferenceIdeal.τ).loc Cert.KvWgradReferenceIdeal.main_arg2))

def preserves_MixFwd_MixFwdIdeal : Prop :=
  True

def algebraic_MixFwdIdeal_MixFwdReferenceIdeal [hMixFwdIdeal : Cert.MixFwdIdeal.Facts] [hMixFwdReferenceIdeal : Cert.MixFwdReferenceIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdIdeal m →
    (∀ c : Dev Cert.MixFwdIdeal.nD,
      m' ((c.tc : Thread Cert.MixFwdReferenceIdeal.nD Cert.MixFwdReferenceIdeal.τ).loc Cert.MixFwdReferenceIdeal.main_arg0) = m ((c.tc : Thread Cert.MixFwdIdeal.nD Cert.MixFwdIdeal.τ).loc Cert.MixFwdIdeal.main_arg0)
      ∧ m' ((c.tc : Thread Cert.MixFwdReferenceIdeal.nD Cert.MixFwdReferenceIdeal.τ).loc Cert.MixFwdReferenceIdeal.main_arg1) = m ((c.tc : Thread Cert.MixFwdIdeal.nD Cert.MixFwdIdeal.τ).loc Cert.MixFwdIdeal.main_arg1)
      ∧ m' ((c.tc : Thread Cert.MixFwdReferenceIdeal.nD Cert.MixFwdReferenceIdeal.τ).loc Cert.MixFwdReferenceIdeal.main_arg2) = m ((c.tc : Thread Cert.MixFwdIdeal.nD Cert.MixFwdIdeal.τ).loc Cert.MixFwdIdeal.main_arg2)
      ∧ m' ((c.tc : Thread Cert.MixFwdReferenceIdeal.nD Cert.MixFwdReferenceIdeal.τ).loc Cert.MixFwdReferenceIdeal.main_arg3) = m ((c.tc : Thread Cert.MixFwdIdeal.nD Cert.MixFwdIdeal.τ).loc Cert.MixFwdIdeal.main_arg3)
      ∧ m' ((c.tc : Thread Cert.MixFwdReferenceIdeal.nD Cert.MixFwdReferenceIdeal.τ).loc Cert.MixFwdReferenceIdeal.main_arg4) = m ((c.tc : Thread Cert.MixFwdIdeal.nD Cert.MixFwdIdeal.τ).loc Cert.MixFwdIdeal.main_arg4)
      ∧ m' ((c.tc : Thread Cert.MixFwdReferenceIdeal.nD Cert.MixFwdReferenceIdeal.τ).loc Cert.MixFwdReferenceIdeal.main_arg5) = m ((c.tc : Thread Cert.MixFwdIdeal.nD Cert.MixFwdIdeal.τ).loc Cert.MixFwdIdeal.main_arg5)
      ∧ m' ((c.tc : Thread Cert.MixFwdReferenceIdeal.nD Cert.MixFwdReferenceIdeal.τ).loc Cert.MixFwdReferenceIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v1_0)) (v1 : (c : Dev Cert.MixFwdIdeal.nD) → Buf (Elt Ideal) ((c.tc : Thread Cert.MixFwdIdeal.nD Cert.MixFwdIdeal.τ).loc Cert.MixFwdIdeal.main_v1_1)) (v2 : (c : Dev Cert.MixFwdIdeal.nD) → Buf (Elt Ideal) ((c.tc : Thread Cert.MixFwdIdeal.nD Cert.MixFwdIdeal.τ).loc Cert.MixFwdIdeal.main_v1_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1_0) = v0 c
          ∧ r.2.mem ((c.tc : Thread Cert.MixFwdIdeal.nD Cert.MixFwdIdeal.τ).loc Cert.MixFwdIdeal.main_v1_1) = v1 c
          ∧ r.2.mem ((c.tc : Thread Cert.MixFwdIdeal.nD Cert.MixFwdIdeal.τ).loc Cert.MixFwdIdeal.main_v1_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v0) = v0 c
          ∧ r.2.mem ((c.tc : Thread Cert.MixFwdReferenceIdeal.nD Cert.MixFwdReferenceIdeal.τ).loc Cert.MixFwdReferenceIdeal.main_v3) = v1 c
          ∧ r.2.mem ((c.tc : Thread Cert.MixFwdReferenceIdeal.nD Cert.MixFwdReferenceIdeal.τ).loc Cert.MixFwdReferenceIdeal.main_v22) = v2 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2)
          ∧ r.2.mem ((c.tc : Thread Cert.MixFwdReferenceIdeal.nD Cert.MixFwdReferenceIdeal.τ).loc Cert.MixFwdReferenceIdeal.main_arg3) = m' ((c.tc : Thread Cert.MixFwdReferenceIdeal.nD Cert.MixFwdReferenceIdeal.τ).loc Cert.MixFwdReferenceIdeal.main_arg3)
          ∧ r.2.mem ((c.tc : Thread Cert.MixFwdReferenceIdeal.nD Cert.MixFwdReferenceIdeal.τ).loc Cert.MixFwdReferenceIdeal.main_arg4) = m' ((c.tc : Thread Cert.MixFwdReferenceIdeal.nD Cert.MixFwdReferenceIdeal.τ).loc Cert.MixFwdReferenceIdeal.main_arg4)
          ∧ r.2.mem ((c.tc : Thread Cert.MixFwdReferenceIdeal.nD Cert.MixFwdReferenceIdeal.τ).loc Cert.MixFwdReferenceIdeal.main_arg5) = m' ((c.tc : Thread Cert.MixFwdReferenceIdeal.nD Cert.MixFwdReferenceIdeal.τ).loc Cert.MixFwdReferenceIdeal.main_arg5)
          ∧ r.2.mem ((c.tc : Thread Cert.MixFwdReferenceIdeal.nD Cert.MixFwdReferenceIdeal.τ).loc Cert.MixFwdReferenceIdeal.main_arg6) = m' ((c.tc : Thread Cert.MixFwdReferenceIdeal.nD Cert.MixFwdReferenceIdeal.τ).loc Cert.MixFwdReferenceIdeal.main_arg6))

def preserves_ProjFwd_ProjFwdIdeal : Prop :=
  True

def algebraic_ProjFwdIdeal_ProjFwdReferenceIdeal [hProjFwdIdeal : Cert.ProjFwdIdeal.Facts] [hProjFwdReferenceIdeal : Cert.ProjFwdReferenceIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdReferenceIdeal.nD Cert.ProjFwdReferenceIdeal.τ Cert.ProjFwdReferenceIdeal.sig) → Buf (Elt Ideal) ℓ) (g' : Dev Cert.ProjFwdReferenceIdeal.nD → PrngReg), Pre_ProjFwdIdeal m →
    (∀ c : Dev Cert.ProjFwdIdeal.nD,
      m' ((c.tc : Thread Cert.ProjFwdReferenceIdeal.nD Cert.ProjFwdReferenceIdeal.τ).loc Cert.ProjFwdReferenceIdeal.main_arg0) = m ((c.tc : Thread Cert.ProjFwdIdeal.nD Cert.ProjFwdIdeal.τ).loc Cert.ProjFwdIdeal.main_arg0)
      ∧ m' ((c.tc : Thread Cert.ProjFwdReferenceIdeal.nD Cert.ProjFwdReferenceIdeal.τ).loc Cert.ProjFwdReferenceIdeal.main_arg1) = m ((c.tc : Thread Cert.ProjFwdIdeal.nD Cert.ProjFwdIdeal.τ).loc Cert.ProjFwdIdeal.main_arg1)
      ∧ m' ((c.tc : Thread Cert.ProjFwdReferenceIdeal.nD Cert.ProjFwdReferenceIdeal.τ).loc Cert.ProjFwdReferenceIdeal.main_arg2) = m ((c.tc : Thread Cert.ProjFwdIdeal.nD Cert.ProjFwdIdeal.τ).loc Cert.ProjFwdIdeal.main_arg2)
      ∧ m' ((c.tc : Thread Cert.ProjFwdReferenceIdeal.nD Cert.ProjFwdReferenceIdeal.τ).loc Cert.ProjFwdReferenceIdeal.main_arg3) = m ((c.tc : Thread Cert.ProjFwdIdeal.nD Cert.ProjFwdIdeal.τ).loc Cert.ProjFwdIdeal.main_arg3)
      ∧ m' ((c.tc : Thread Cert.ProjFwdReferenceIdeal.nD Cert.ProjFwdReferenceIdeal.τ).loc Cert.ProjFwdReferenceIdeal.main_arg4) = m ((c.tc : Thread Cert.ProjFwdIdeal.nD Cert.ProjFwdIdeal.τ).loc Cert.ProjFwdIdeal.main_arg4)
      ∧ m' ((c.tc : Thread Cert.ProjFwdReferenceIdeal.nD Cert.ProjFwdReferenceIdeal.τ).loc Cert.ProjFwdReferenceIdeal.main_arg5) = m ((c.tc : Thread Cert.ProjFwdIdeal.nD Cert.ProjFwdIdeal.τ).loc Cert.ProjFwdIdeal.main_arg5)
      ∧ m' ((c.tc : Thread Cert.ProjFwdReferenceIdeal.nD Cert.ProjFwdReferenceIdeal.τ).loc Cert.ProjFwdReferenceIdeal.main_arg6) = m ((c.tc : Thread Cert.ProjFwdIdeal.nD Cert.ProjFwdIdeal.τ).loc Cert.ProjFwdIdeal.main_arg6)
      ∧ m' ((c.tc : Thread Cert.ProjFwdReferenceIdeal.nD Cert.ProjFwdReferenceIdeal.τ).loc Cert.ProjFwdReferenceIdeal.main_arg7) = m ((c.tc : Thread Cert.ProjFwdIdeal.nD Cert.ProjFwdIdeal.τ).loc Cert.ProjFwdIdeal.main_arg7)
      ∧ m' ((c.tc : Thread Cert.ProjFwdReferenceIdeal.nD Cert.ProjFwdReferenceIdeal.τ).loc Cert.ProjFwdReferenceIdeal.main_arg8) = m ((c.tc : Thread Cert.ProjFwdIdeal.nD Cert.ProjFwdIdeal.τ).loc Cert.ProjFwdIdeal.main_arg8)
      ∧ m' ((c.tc : Thread Cert.ProjFwdReferenceIdeal.nD Cert.ProjFwdReferenceIdeal.τ).loc Cert.ProjFwdReferenceIdeal.main_arg9) = m ((c.tc : Thread Cert.ProjFwdIdeal.nD Cert.ProjFwdIdeal.τ).loc Cert.ProjFwdIdeal.main_arg9)
      ∧ m' ((c.tc : Thread Cert.ProjFwdReferenceIdeal.nD Cert.ProjFwdReferenceIdeal.τ).loc Cert.ProjFwdReferenceIdeal.main_arg10) = m ((c.tc : Thread Cert.ProjFwdIdeal.nD Cert.ProjFwdIdeal.τ).loc Cert.ProjFwdIdeal.main_arg10)) →
    ∃ (v0 : (c : Dev Cert.ProjFwdIdeal.nD) → Buf (Elt Ideal) ((c.tc : Thread Cert.ProjFwdIdeal.nD Cert.ProjFwdIdeal.τ).loc Cert.ProjFwdIdeal.main_v3_0)) (v1 : (c : Dev Cert.ProjFwdIdeal.nD) → Buf (Elt Ideal) ((c.tc : Thread Cert.ProjFwdIdeal.nD Cert.ProjFwdIdeal.τ).loc Cert.ProjFwdIdeal.main_v3_1)) (v2 : (c : Dev Cert.ProjFwdIdeal.nD) → Buf (Elt Ideal) ((c.tc : Thread Cert.ProjFwdIdeal.nD Cert.ProjFwdIdeal.τ).loc Cert.ProjFwdIdeal.main_v3_2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v3_0) = v0 c
          ∧ r.2.mem ((c.tc : Thread Cert.ProjFwdIdeal.nD Cert.ProjFwdIdeal.τ).loc Cert.ProjFwdIdeal.main_v3_1) = v1 c
          ∧ r.2.mem ((c.tc : Thread Cert.ProjFwdIdeal.nD Cert.ProjFwdIdeal.τ).loc Cert.ProjFwdIdeal.main_v3_2) = v2 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
          ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
          ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6)
          ∧ r.2.mem ((c.tc : Thread Cert.ProjFwdIdeal.nD Cert.ProjFwdIdeal.τ).loc Cert.ProjFwdIdeal.main_arg7) = m ((c.tc : Thread Cert.ProjFwdIdeal.nD Cert.ProjFwdIdeal.τ).loc Cert.ProjFwdIdeal.main_arg7)
          ∧ r.2.mem ((c.tc : Thread Cert.ProjFwdIdeal.nD Cert.ProjFwdIdeal.τ).loc Cert.ProjFwdIdeal.main_arg8) = m ((c.tc : Thread Cert.ProjFwdIdeal.nD Cert.ProjFwdIdeal.τ).loc Cert.ProjFwdIdeal.main_arg8)
          ∧ r.2.mem ((c.tc : Thread Cert.ProjFwdIdeal.nD Cert.ProjFwdIdeal.τ).loc Cert.ProjFwdIdeal.main_arg9) = m ((c.tc : Thread Cert.ProjFwdIdeal.nD Cert.ProjFwdIdeal.τ).loc Cert.ProjFwdIdeal.main_arg9)
          ∧ r.2.mem ((c.tc : Thread Cert.ProjFwdIdeal.nD Cert.ProjFwdIdeal.τ).loc Cert.ProjFwdIdeal.main_arg10) = m ((c.tc : Thread Cert.ProjFwdIdeal.nD Cert.ProjFwdIdeal.τ).loc Cert.ProjFwdIdeal.main_arg10))
      ∧ θ_run (Cert.ProjFwdReferenceIdeal.defs (F := Ideal)) (onTc (τ := Cert.ProjFwdReferenceIdeal.τ) (Cert.ProjFwdReferenceIdeal.main (F := Ideal))) ⟨m', fun _ => 0, g'⟩ (fun r => ∀ c : Dev Cert.ProjFwdReferenceIdeal.nD,
          r.2.mem ((c.tc : Thread Cert.ProjFwdReferenceIdeal.nD Cert.ProjFwdReferenceIdeal.τ).loc Cert.ProjFwdReferenceIdeal.main_v0) = v0 c
          ∧ r.2.mem ((c.tc : Thread Cert.ProjFwdReferenceIdeal.nD Cert.ProjFwdReferenceIdeal.τ).loc Cert.ProjFwdReferenceIdeal.main_v15) = v1 c
          ∧ r.2.mem ((c.tc : Thread Cert.ProjFwdReferenceIdeal.nD Cert.ProjFwdReferenceIdeal.τ).loc Cert.ProjFwdReferenceIdeal.main_v28) = v2 c
          ∧ r.2.mem ((c.tc : Thread Cert.ProjFwdReferenceIdeal.nD Cert.ProjFwdReferenceIdeal.τ).loc Cert.ProjFwdReferenceIdeal.main_arg0) = m' ((c.tc : Thread Cert.ProjFwdReferenceIdeal.nD Cert.ProjFwdReferenceIdeal.τ).loc Cert.ProjFwdReferenceIdeal.main_arg0)
          ∧ r.2.mem ((c.tc : Thread Cert.ProjFwdReferenceIdeal.nD Cert.ProjFwdReferenceIdeal.τ).loc Cert.ProjFwdReferenceIdeal.main_arg1) = m' ((c.tc : Thread Cert.ProjFwdReferenceIdeal.nD Cert.ProjFwdReferenceIdeal.τ).loc Cert.ProjFwdReferenceIdeal.main_arg1)
          ∧ r.2.mem ((c.tc : Thread Cert.ProjFwdReferenceIdeal.nD Cert.ProjFwdReferenceIdeal.τ).loc Cert.ProjFwdReferenceIdeal.main_arg2) = m' ((c.tc : Thread Cert.ProjFwdReferenceIdeal.nD Cert.ProjFwdReferenceIdeal.τ).loc Cert.ProjFwdReferenceIdeal.main_arg2)
          ∧ r.2.mem ((c.tc : Thread Cert.ProjFwdReferenceIdeal.nD Cert.ProjFwdReferenceIdeal.τ).loc Cert.ProjFwdReferenceIdeal.main_arg3) = m' ((c.tc : Thread Cert.ProjFwdReferenceIdeal.nD Cert.ProjFwdReferenceIdeal.τ).loc Cert.ProjFwdReferenceIdeal.main_arg3)
          ∧ r.2.mem ((c.tc : Thread Cert.ProjFwdReferenceIdeal.nD Cert.ProjFwdReferenceIdeal.τ).loc Cert.ProjFwdReferenceIdeal.main_arg4) = m' ((c.tc : Thread Cert.ProjFwdReferenceIdeal.nD Cert.ProjFwdReferenceIdeal.τ).loc Cert.ProjFwdReferenceIdeal.main_arg4)
          ∧ r.2.mem ((c.tc : Thread Cert.ProjFwdReferenceIdeal.nD Cert.ProjFwdReferenceIdeal.τ).loc Cert.ProjFwdReferenceIdeal.main_arg5) = m' ((c.tc : Thread Cert.ProjFwdReferenceIdeal.nD Cert.ProjFwdReferenceIdeal.τ).loc Cert.ProjFwdReferenceIdeal.main_arg5)
          ∧ r.2.mem ((c.tc : Thread Cert.ProjFwdReferenceIdeal.nD Cert.ProjFwdReferenceIdeal.τ).loc Cert.ProjFwdReferenceIdeal.main_arg6) = m' ((c.tc : Thread Cert.ProjFwdReferenceIdeal.nD Cert.ProjFwdReferenceIdeal.τ).loc Cert.ProjFwdReferenceIdeal.main_arg6)
          ∧ r.2.mem ((c.tc : Thread Cert.ProjFwdReferenceIdeal.nD Cert.ProjFwdReferenceIdeal.τ).loc Cert.ProjFwdReferenceIdeal.main_arg7) = m' ((c.tc : Thread Cert.ProjFwdReferenceIdeal.nD Cert.ProjFwdReferenceIdeal.τ).loc Cert.ProjFwdReferenceIdeal.main_arg7)
          ∧ r.2.mem ((c.tc : Thread Cert.ProjFwdReferenceIdeal.nD Cert.ProjFwdReferenceIdeal.τ).loc Cert.ProjFwdReferenceIdeal.main_arg8) = m' ((c.tc : Thread Cert.ProjFwdReferenceIdeal.nD Cert.ProjFwdReferenceIdeal.τ).loc Cert.ProjFwdReferenceIdeal.main_arg8)
          ∧ r.2.mem ((c.tc : Thread Cert.ProjFwdReferenceIdeal.nD Cert.ProjFwdReferenceIdeal.τ).loc Cert.ProjFwdReferenceIdeal.main_arg9) = m' ((c.tc : Thread Cert.ProjFwdReferenceIdeal.nD Cert.ProjFwdReferenceIdeal.τ).loc Cert.ProjFwdReferenceIdeal.main_arg9)
          ∧ r.2.mem ((c.tc : Thread Cert.ProjFwdReferenceIdeal.nD Cert.ProjFwdReferenceIdeal.τ).loc Cert.ProjFwdReferenceIdeal.main_arg10) = m' ((c.tc : Thread Cert.ProjFwdReferenceIdeal.nD Cert.ProjFwdReferenceIdeal.τ).loc Cert.ProjFwdReferenceIdeal.main_arg10))

def preserves_Latent_LatentIdeal : Prop :=
  True

def algebraic_LatentIdeal_LatentReferenceIdeal [hLatentIdeal : Cert.LatentIdeal.Facts] [hLatentReferenceIdeal : Cert.LatentReferenceIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)
      ∧ m' ((c.tc : Thread Cert.LatentReferenceIdeal.nD Cert.LatentReferenceIdeal.τ).loc Cert.LatentReferenceIdeal.main_arg6) = m ((c.tc : Thread Cert.LatentIdeal.nD Cert.LatentIdeal.τ).loc Cert.LatentIdeal.main_arg6)
      ∧ m' ((c.tc : Thread Cert.LatentReferenceIdeal.nD Cert.LatentReferenceIdeal.τ).loc Cert.LatentReferenceIdeal.main_arg7) = m ((c.tc : Thread Cert.LatentIdeal.nD Cert.LatentIdeal.τ).loc Cert.LatentIdeal.main_arg7)
      ∧ m' ((c.tc : Thread Cert.LatentReferenceIdeal.nD Cert.LatentReferenceIdeal.τ).loc Cert.LatentReferenceIdeal.main_arg8) = m ((c.tc : Thread Cert.LatentIdeal.nD Cert.LatentIdeal.τ).loc Cert.LatentIdeal.main_arg8)) →
    ∃ (v0 : (c : Dev Cert.LatentIdeal.nD) → Buf (Elt Ideal) ((c.tc : Thread Cert.LatentIdeal.nD Cert.LatentIdeal.τ).loc Cert.LatentIdeal.main_v6_0)) (v1 : (c : Dev Cert.LatentIdeal.nD) → Buf (Elt Ideal) ((c.tc : Thread Cert.LatentIdeal.nD Cert.LatentIdeal.τ).loc Cert.LatentIdeal.main_v6_1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v6_0) = v0 c
          ∧ r.2.mem ((c.tc : Thread Cert.LatentIdeal.nD Cert.LatentIdeal.τ).loc Cert.LatentIdeal.main_v6_1) = v1 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5)
          ∧ r.2.mem ((c.tc : Thread Cert.LatentIdeal.nD Cert.LatentIdeal.τ).loc Cert.LatentIdeal.main_arg6) = m ((c.tc : Thread Cert.LatentIdeal.nD Cert.LatentIdeal.τ).loc Cert.LatentIdeal.main_arg6)
          ∧ r.2.mem ((c.tc : Thread Cert.LatentIdeal.nD Cert.LatentIdeal.τ).loc Cert.LatentIdeal.main_arg7) = m ((c.tc : Thread Cert.LatentIdeal.nD Cert.LatentIdeal.τ).loc Cert.LatentIdeal.main_arg7)
          ∧ r.2.mem ((c.tc : Thread Cert.LatentIdeal.nD Cert.LatentIdeal.τ).loc Cert.LatentIdeal.main_arg8) = m ((c.tc : Thread Cert.LatentIdeal.nD Cert.LatentIdeal.τ).loc Cert.LatentIdeal.main_arg8))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v0) = v0 c
          ∧ r.2.mem ((c.tc : Thread Cert.LatentReferenceIdeal.nD Cert.LatentReferenceIdeal.τ).loc Cert.LatentReferenceIdeal.main_v1) = v1 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5)
          ∧ r.2.mem ((c.tc : Thread Cert.LatentReferenceIdeal.nD Cert.LatentReferenceIdeal.τ).loc Cert.LatentReferenceIdeal.main_arg6) = m' ((c.tc : Thread Cert.LatentReferenceIdeal.nD Cert.LatentReferenceIdeal.τ).loc Cert.LatentReferenceIdeal.main_arg6)
          ∧ r.2.mem ((c.tc : Thread Cert.LatentReferenceIdeal.nD Cert.LatentReferenceIdeal.τ).loc Cert.LatentReferenceIdeal.main_arg7) = m' ((c.tc : Thread Cert.LatentReferenceIdeal.nD Cert.LatentReferenceIdeal.τ).loc Cert.LatentReferenceIdeal.main_arg7)
          ∧ r.2.mem ((c.tc : Thread Cert.LatentReferenceIdeal.nD Cert.LatentReferenceIdeal.τ).loc Cert.LatentReferenceIdeal.main_arg8) = m' ((c.tc : Thread Cert.LatentReferenceIdeal.nD Cert.LatentReferenceIdeal.τ).loc Cert.LatentReferenceIdeal.main_arg8))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)
      ∧ m' ((c.tc : Thread Cert.LossHeadReferenceIdeal.nD Cert.LossHeadReferenceIdeal.τ).loc Cert.LossHeadReferenceIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v17) = v0 c
          ∧ r.2.mem ((c.tc : Thread Cert.LossHeadReferenceIdeal.nD Cert.LossHeadReferenceIdeal.τ).loc Cert.LossHeadReferenceIdeal.main_v23) = v1 c
          ∧ r.2.mem ((c.tc : Thread Cert.LossHeadReferenceIdeal.nD Cert.LossHeadReferenceIdeal.τ).loc Cert.LossHeadReferenceIdeal.main_v24) = v2 c
          ∧ r.2.mem ((c.tc : Thread Cert.LossHeadReferenceIdeal.nD Cert.LossHeadReferenceIdeal.τ).loc Cert.LossHeadReferenceIdeal.main_v22) = v3 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2)
          ∧ r.2.mem ((c.tc : Thread Cert.LossHeadReferenceIdeal.nD Cert.LossHeadReferenceIdeal.τ).loc Cert.LossHeadReferenceIdeal.main_arg3) = m' ((c.tc : Thread Cert.LossHeadReferenceIdeal.nD Cert.LossHeadReferenceIdeal.τ).loc Cert.LossHeadReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v0) = v0 c
          ∧ r.2.mem ((c.tc : Thread Cert.AdamDownReferenceIdeal.nD Cert.AdamDownReferenceIdeal.τ).loc Cert.AdamDownReferenceIdeal.main_v24) = v1 c
          ∧ r.2.mem ((c.tc : Thread Cert.AdamDownReferenceIdeal.nD Cert.AdamDownReferenceIdeal.τ).loc Cert.AdamDownReferenceIdeal.main_v5) = v2 c
          ∧ r.2.mem ((c.tc : Thread Cert.AdamDownReferenceIdeal.nD Cert.AdamDownReferenceIdeal.τ).loc Cert.AdamDownReferenceIdeal.main_v11) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v0) = v0 c
          ∧ r.2.mem ((c.tc : Thread Cert.AdamUpReferenceIdeal.nD Cert.AdamUpReferenceIdeal.τ).loc Cert.AdamUpReferenceIdeal.main_v24) = v1 c
          ∧ r.2.mem ((c.tc : Thread Cert.AdamUpReferenceIdeal.nD Cert.AdamUpReferenceIdeal.τ).loc Cert.AdamUpReferenceIdeal.main_v5) = v2 c
          ∧ r.2.mem ((c.tc : Thread Cert.AdamUpReferenceIdeal.nD Cert.AdamUpReferenceIdeal.τ).loc Cert.AdamUpReferenceIdeal.main_v11) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_FirstNorm_FirstNormIdeal : Prop :=
  True

def algebraic_FirstNormIdeal_FirstNormReferenceIdeal [hFirstNormIdeal : Cert.FirstNormIdeal.Facts] [hFirstNormReferenceIdeal : Cert.FirstNormReferenceIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormIdeal m →
    (∀ c : Dev Cert.FirstNormIdeal.nD,
      m' ((c.tc : Thread Cert.FirstNormReferenceIdeal.nD Cert.FirstNormReferenceIdeal.τ).loc Cert.FirstNormReferenceIdeal.main_arg0) = m ((c.tc : Thread Cert.FirstNormIdeal.nD Cert.FirstNormIdeal.τ).loc Cert.FirstNormIdeal.main_arg0)
      ∧ m' ((c.tc : Thread Cert.FirstNormReferenceIdeal.nD Cert.FirstNormReferenceIdeal.τ).loc Cert.FirstNormReferenceIdeal.main_arg1) = m ((c.tc : Thread Cert.FirstNormIdeal.nD Cert.FirstNormIdeal.τ).loc Cert.FirstNormIdeal.main_arg1)
      ∧ m' ((c.tc : Thread Cert.FirstNormReferenceIdeal.nD Cert.FirstNormReferenceIdeal.τ).loc Cert.FirstNormReferenceIdeal.main_arg2) = m ((c.tc : Thread Cert.FirstNormIdeal.nD Cert.FirstNormIdeal.τ).loc Cert.FirstNormIdeal.main_arg2)
      ∧ m' ((c.tc : Thread Cert.FirstNormReferenceIdeal.nD Cert.FirstNormReferenceIdeal.τ).loc Cert.FirstNormReferenceIdeal.main_arg3) = m ((c.tc : Thread Cert.FirstNormIdeal.nD Cert.FirstNormIdeal.τ).loc Cert.FirstNormIdeal.main_arg3)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
          ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
          ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v18) = v0 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1)
          ∧ r.2.mem ((c.tc : Thread Cert.FirstNormReferenceIdeal.nD Cert.FirstNormReferenceIdeal.τ).loc Cert.FirstNormReferenceIdeal.main_arg2) = m' ((c.tc : Thread Cert.FirstNormReferenceIdeal.nD Cert.FirstNormReferenceIdeal.τ).loc Cert.FirstNormReferenceIdeal.main_arg2)
          ∧ r.2.mem ((c.tc : Thread Cert.FirstNormReferenceIdeal.nD Cert.FirstNormReferenceIdeal.τ).loc Cert.FirstNormReferenceIdeal.main_arg3) = m' ((c.tc : Thread Cert.FirstNormReferenceIdeal.nD Cert.FirstNormReferenceIdeal.τ).loc Cert.FirstNormReferenceIdeal.main_arg3))

def preserves_AdaWgrad_AdaWgradIdeal : Prop :=
  True

def algebraic_AdaWgradIdeal_AdaWgradReferenceIdeal [hAdaWgradIdeal : Cert.AdaWgradIdeal.Facts] [hAdaWgradReferenceIdeal : Cert.AdaWgradReferenceIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg)
    (m' : (ℓ : Loc Cert.AdaWgradReferenceIdeal.nD Cert.AdaWgradReferenceIdeal.τ Cert.AdaWgradReferenceIdeal.sig) → Buf (Elt Ideal) ℓ) (g' : Dev Cert.AdaWgradReferenceIdeal.nD → PrngReg), Pre_AdaWgradIdeal m →
    (∀ c : Dev Cert.AdaWgradIdeal.nD,
      m' ((c.tc : Thread Cert.AdaWgradReferenceIdeal.nD Cert.AdaWgradReferenceIdeal.τ).loc Cert.AdaWgradReferenceIdeal.main_arg0) = m ((c.tc : Thread Cert.AdaWgradIdeal.nD Cert.AdaWgradIdeal.τ).loc Cert.AdaWgradIdeal.main_arg0)
      ∧ m' ((c.tc : Thread Cert.AdaWgradReferenceIdeal.nD Cert.AdaWgradReferenceIdeal.τ).loc Cert.AdaWgradReferenceIdeal.main_arg1) = m ((c.tc : Thread Cert.AdaWgradIdeal.nD Cert.AdaWgradIdeal.τ).loc Cert.AdaWgradIdeal.main_arg1)) →
    ∃ (v0 : (c : Dev Cert.AdaWgradIdeal.nD) → Buf (Elt Ideal) ((c.tc : Thread Cert.AdaWgradIdeal.nD Cert.AdaWgradIdeal.τ).loc Cert.AdaWgradIdeal.main_v2)),
      θ_run (Cert.AdaWgradIdeal.defs (F := Ideal)) (onTc (τ := Cert.AdaWgradIdeal.τ) (Cert.AdaWgradIdeal.main (F := Ideal))) ⟨m, fun _ => 0, g⟩ (fun r => ∀ c : Dev Cert.AdaWgradIdeal.nD,
          r.2.mem ((c.tc : Thread Cert.AdaWgradIdeal.nD Cert.AdaWgradIdeal.τ).loc Cert.AdaWgradIdeal.main_v2) = v0 c
          ∧ r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
          ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ θ_run (Cert.AdaWgradReferenceIdeal.defs (F := Ideal)) (onTc (τ := Cert.AdaWgradReferenceIdeal.τ) (Cert.AdaWgradReferenceIdeal.main (F := Ideal))) ⟨m', fun _ => 0, g'⟩ (fun r => ∀ c : Dev Cert.AdaWgradReferenceIdeal.nD,
          r.2.mem ((c.tc : Thread Cert.AdaWgradReferenceIdeal.nD Cert.AdaWgradReferenceIdeal.τ).loc Cert.AdaWgradReferenceIdeal.main_v4) = v0 c
          ∧ r.2.mem ((c.tc : Thread Cert.AdaWgradReferenceIdeal.nD Cert.AdaWgradReferenceIdeal.τ).loc Cert.AdaWgradReferenceIdeal.main_arg0) = m' ((c.tc : Thread Cert.AdaWgradReferenceIdeal.nD Cert.AdaWgradReferenceIdeal.τ).loc Cert.AdaWgradReferenceIdeal.main_arg0)
          ∧ r.2.mem ((c.tc : Thread Cert.AdaWgradReferenceIdeal.nD Cert.AdaWgradReferenceIdeal.τ).loc Cert.AdaWgradReferenceIdeal.main_arg1) = m' ((c.tc : Thread Cert.AdaWgradReferenceIdeal.nD Cert.AdaWgradReferenceIdeal.τ).loc Cert.AdaWgradReferenceIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMid : Cert.Mid.Facts) (hMidIdeal : Cert.MidIdeal.Facts) (hMidReferenceIdeal : Cert.MidReferenceIdeal.Facts) (hProjWgrad : Cert.ProjWgrad.Facts) (hProjWgradIdeal : Cert.ProjWgradIdeal.Facts) (hProjWgradReferenceIdeal : Cert.ProjWgradReferenceIdeal.Facts) (hMixWgrad : Cert.MixWgrad.Facts) (hMixWgradIdeal : Cert.MixWgradIdeal.Facts) (hMixWgradReferenceIdeal : Cert.MixWgradReferenceIdeal.Facts) (hQWgrad : Cert.QWgrad.Facts) (hQWgradIdeal : Cert.QWgradIdeal.Facts) (hQWgradReferenceIdeal : Cert.QWgradReferenceIdeal.Facts) (hKvWgrad : Cert.KvWgrad.Facts) (hKvWgradIdeal : Cert.KvWgradIdeal.Facts) (hKvWgradReferenceIdeal : Cert.KvWgradReferenceIdeal.Facts) (hMixFwd : Cert.MixFwd.Facts) (hMixFwdIdeal : Cert.MixFwdIdeal.Facts) (hMixFwdReferenceIdeal : Cert.MixFwdReferenceIdeal.Facts) (hProjFwd : Cert.ProjFwd.Facts) (hProjFwdIdeal : Cert.ProjFwdIdeal.Facts) (hProjFwdReferenceIdeal : Cert.ProjFwdReferenceIdeal.Facts) (hLatent : Cert.Latent.Facts) (hLatentIdeal : Cert.LatentIdeal.Facts) (hLatentReferenceIdeal : Cert.LatentReferenceIdeal.Facts) (hLossHead : Cert.LossHead.Facts) (hLossHeadIdeal : Cert.LossHeadIdeal.Facts) (hLossHeadReferenceIdeal : Cert.LossHeadReferenceIdeal.Facts) (hAdamDown : Cert.AdamDown.Facts) (hAdamDownIdeal : Cert.AdamDownIdeal.Facts) (hAdamDownReferenceIdeal : Cert.AdamDownReferenceIdeal.Facts) (hAdamUp : Cert.AdamUp.Facts) (hAdamUpIdeal : Cert.AdamUpIdeal.Facts) (hAdamUpReferenceIdeal : Cert.AdamUpReferenceIdeal.Facts) (hFirstNorm : Cert.FirstNorm.Facts) (hFirstNormIdeal : Cert.FirstNormIdeal.Facts) (hFirstNormReferenceIdeal : Cert.FirstNormReferenceIdeal.Facts) (hAdaWgrad : Cert.AdaWgrad.Facts) (hAdaWgradIdeal : Cert.AdaWgradIdeal.Facts) (hAdaWgradReferenceIdeal : Cert.AdaWgradReferenceIdeal.Facts) (hPre_arguments_finite : Cert.Pre_arguments_finite.Facts) (hPre_proj_finite : Cert.Pre_proj_finite.Facts) (hPre_mid_finite : Cert.Pre_mid_finite.Facts),
    quiescent_Kernel (hKernel := hKernel)
    ∧ quiescent_KernelIdeal (hKernelIdeal := hKernelIdeal)
    ∧ quiescent_KernelIdeal_pre_arguments_finite (hKernelIdeal := hKernelIdeal) (hPre_arguments_finite := hPre_arguments_finite)
    ∧ quiescent_ReferenceIdeal (hReferenceIdeal := hReferenceIdeal)
    ∧ quiescent_ReferenceIdeal_pre_arguments_finite (hReferenceIdeal := hReferenceIdeal) (hPre_arguments_finite := hPre_arguments_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidReferenceIdeal (hMidReferenceIdeal := hMidReferenceIdeal)
    ∧ quiescent_MidReferenceIdeal_pre_mid_finite (hMidReferenceIdeal := hMidReferenceIdeal) (hPre_mid_finite := hPre_mid_finite)
    ∧ quiescent_ProjWgrad (hProjWgrad := hProjWgrad)
    ∧ quiescent_ProjWgradIdeal (hProjWgradIdeal := hProjWgradIdeal)
    ∧ quiescent_ProjWgradReferenceIdeal (hProjWgradReferenceIdeal := hProjWgradReferenceIdeal)
    ∧ quiescent_MixWgrad (hMixWgrad := hMixWgrad)
    ∧ quiescent_MixWgradIdeal (hMixWgradIdeal := hMixWgradIdeal)
    ∧ quiescent_MixWgradReferenceIdeal (hMixWgradReferenceIdeal := hMixWgradReferenceIdeal)
    ∧ quiescent_QWgrad (hQWgrad := hQWgrad)
    ∧ quiescent_QWgradIdeal (hQWgradIdeal := hQWgradIdeal)
    ∧ quiescent_QWgradReferenceIdeal (hQWgradReferenceIdeal := hQWgradReferenceIdeal)
    ∧ quiescent_KvWgrad (hKvWgrad := hKvWgrad)
    ∧ quiescent_KvWgradIdeal (hKvWgradIdeal := hKvWgradIdeal)
    ∧ quiescent_KvWgradReferenceIdeal (hKvWgradReferenceIdeal := hKvWgradReferenceIdeal)
    ∧ quiescent_MixFwd (hMixFwd := hMixFwd)
    ∧ quiescent_MixFwdIdeal (hMixFwdIdeal := hMixFwdIdeal)
    ∧ quiescent_MixFwdReferenceIdeal (hMixFwdReferenceIdeal := hMixFwdReferenceIdeal)
    ∧ quiescent_ProjFwd (hProjFwd := hProjFwd)
    ∧ quiescent_ProjFwdIdeal (hProjFwdIdeal := hProjFwdIdeal)
    ∧ quiescent_ProjFwdReferenceIdeal (hProjFwdReferenceIdeal := hProjFwdReferenceIdeal)
    ∧ quiescent_Latent (hLatent := hLatent)
    ∧ quiescent_LatentIdeal (hLatentIdeal := hLatentIdeal)
    ∧ quiescent_LatentReferenceIdeal (hLatentReferenceIdeal := hLatentReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_FirstNorm (hFirstNorm := hFirstNorm)
    ∧ quiescent_FirstNormIdeal (hFirstNormIdeal := hFirstNormIdeal)
    ∧ quiescent_FirstNormReferenceIdeal (hFirstNormReferenceIdeal := hFirstNormReferenceIdeal)
    ∧ quiescent_AdaWgrad (hAdaWgrad := hAdaWgrad)
    ∧ quiescent_AdaWgradIdeal (hAdaWgradIdeal := hAdaWgradIdeal)
    ∧ quiescent_AdaWgradReferenceIdeal (hAdaWgradReferenceIdeal := hAdaWgradReferenceIdeal)
    ∧ preserves_Kernel_KernelIdeal
    ∧ algebraic_KernelIdeal_ReferenceIdeal_pre_arguments_finite (hKernelIdeal := hKernelIdeal) (hReferenceIdeal := hReferenceIdeal) (hPre_arguments_finite := hPre_arguments_finite)
    ∧ preserves_Proj_ProjIdeal
    ∧ algebraic_ProjIdeal_ProjReferenceIdeal_pre_proj_finite (hProjIdeal := hProjIdeal) (hProjReferenceIdeal := hProjReferenceIdeal) (hPre_proj_finite := hPre_proj_finite)
    ∧ preserves_Mid_MidIdeal
    ∧ algebraic_MidIdeal_MidReferenceIdeal_pre_mid_finite (hMidIdeal := hMidIdeal) (hMidReferenceIdeal := hMidReferenceIdeal) (hPre_mid_finite := hPre_mid_finite)
    ∧ preserves_ProjWgrad_ProjWgradIdeal
    ∧ algebraic_ProjWgradIdeal_ProjWgradReferenceIdeal (hProjWgradIdeal := hProjWgradIdeal) (hProjWgradReferenceIdeal := hProjWgradReferenceIdeal)
    ∧ preserves_MixWgrad_MixWgradIdeal
    ∧ algebraic_MixWgradIdeal_MixWgradReferenceIdeal (hMixWgradIdeal := hMixWgradIdeal) (hMixWgradReferenceIdeal := hMixWgradReferenceIdeal)
    ∧ preserves_QWgrad_QWgradIdeal
    ∧ algebraic_QWgradIdeal_QWgradReferenceIdeal (hQWgradIdeal := hQWgradIdeal) (hQWgradReferenceIdeal := hQWgradReferenceIdeal)
    ∧ preserves_KvWgrad_KvWgradIdeal
    ∧ algebraic_KvWgradIdeal_KvWgradReferenceIdeal (hKvWgradIdeal := hKvWgradIdeal) (hKvWgradReferenceIdeal := hKvWgradReferenceIdeal)
    ∧ preserves_MixFwd_MixFwdIdeal
    ∧ algebraic_MixFwdIdeal_MixFwdReferenceIdeal (hMixFwdIdeal := hMixFwdIdeal) (hMixFwdReferenceIdeal := hMixFwdReferenceIdeal)
    ∧ preserves_ProjFwd_ProjFwdIdeal
    ∧ algebraic_ProjFwdIdeal_ProjFwdReferenceIdeal (hProjFwdIdeal := hProjFwdIdeal) (hProjFwdReferenceIdeal := hProjFwdReferenceIdeal)
    ∧ preserves_Latent_LatentIdeal
    ∧ algebraic_LatentIdeal_LatentReferenceIdeal (hLatentIdeal := hLatentIdeal) (hLatentReferenceIdeal := hLatentReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_FirstNorm_FirstNormIdeal
    ∧ algebraic_FirstNormIdeal_FirstNormReferenceIdeal (hFirstNormIdeal := hFirstNormIdeal) (hFirstNormReferenceIdeal := hFirstNormReferenceIdeal)
    ∧ preserves_AdaWgrad_AdaWgradIdeal
    ∧ algebraic_AdaWgradIdeal_AdaWgradReferenceIdeal (hAdaWgradIdeal := hAdaWgradIdeal) (hAdaWgradReferenceIdeal := hAdaWgradReferenceIdeal)
-- ==== Pre_arguments_finite.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2048x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2048x1024 .f32) (main_arg1 : FVec F S1024x5632 .f32) (main_arg2 : FVec F S3x5632 .f32) (main_arg3 : FVec F S1x5632 .f32) (main_arg4 : FVec F S2816x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S3x5632 .f32 := Host.absf main_arg2
  let main_cst_2 : FVec F S_ .f32 := constant S_ .f32 0x7F800000#32
  let main_v9 : FVec F S3x5632 .f32 := broadcastInDim S3x5632 ![] bcast_S_S3x5632 main_cst_2
  let main_v10 : IVec S3x5632 1 := cmpf .olt main_v8 main_v9
  let main_c_3 : IVec S_ 1 := constantI S_ 1 1#1
  let main_v11 : IVec S_ 1 := (fun x v => Host.reduce IntOp.andi x v reducesTo_S3x5632_S_d0_1 h_S_) main_v10 main_c_3
  let main_v12 : FVec F S1x5632 .f32 := Host.absf main_arg3
  let main_cst_4 : FVec F S_ .f32 := constant S_ .f32 0x7F800000#32
  let main_v13 : FVec F S1x5632 .f32 := broadcastInDim S1x5632 ![] bcast_S_S1x5632 main_cst_4
  let main_v14 : IVec S1x5632 1 := cmpf .olt main_v12 main_v13
  let main_c_5 : IVec S_ 1 := constantI S_ 1 1#1
  let main_v15 : IVec S_ 1 := (fun x v => Host.reduce IntOp.andi x v reducesTo_S1x5632_S_d0_1 h_S_) main_v14 main_c_5
  fn_part1 (F := F) main_arg4 main_arg5 main_v3 main_v7 main_v11 main_v15
-- ==== Pre_mid_finite.lean ====
abbrev S2048x1536 : Shape := ⟨2, ![2048, 1536]⟩
abbrev S2048x1024 : Shape := ⟨2, ![2048, 1024]⟩
abbrev S1536x1024 : Shape := ⟨2, ![1536, 1024]⟩
abbrev S1x1024 : Shape := ⟨2, ![1, 1024]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2048x1024 .f32 := Host.absf main_arg8
  let main_cst_14 : FVec F S_ .f32 := constant S_ .f32 0x7F800000#32
  let main_v33 : FVec F S2048x1024 .f32 := broadcastInDim S2048x1024 ![] bcast_S_S2048x1024 main_cst_14
  let main_v34 : IVec S2048x1024 1 := cmpf .olt main_v32 main_v33
  let main_c_15 : IVec S_ 1 := constantI S_ 1 1#1
  let main_v35 : IVec S_ 1 := (fun x v => Host.reduce IntOp.andi x v reducesTo_S2048x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1x1024 .f32) (main_arg6 : FVec F S1x1024 .f32) (main_arg7 : FVec F S2048x1024 .f32) (main_arg8 : FVec F S2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S2048x1024 .f32 := Host.absf main_arg7
  let main_cst_12 : FVec F S_ .f32 := constant S_ .f32 0x7F800000#32
  let main_v29 : FVec F S2048x1024 .f32 := broadcastInDim S2048x1024 ![] bcast_S_S2048x1024 main_cst_12
  let main_v30 : IVec S2048x1024 1 := cmpf .olt main_v28 main_v29
  let main_c_13 : IVec S_ 1 := constantI S_ 1 1#1
  let main_v31 : IVec S_ 1 := (fun x v => Host.reduce IntOp.andi x v reducesTo_S2048x1024_S_d0_1 h_S_) main_v30 main_c_13
  fn_part2 (F := F) main_arg8 main_v3 main_v7 main_v11 main_v15 main_v19 main_v23 main_v27 main_v31

def fn {F : FTy → Type} [FloatOps F] (main_arg0 : FVec F S2048x1536 .f32) (main_arg1 : FVec F S2048x1024 .f32) (main_arg2 : FVec F S1536x1024 .f32) (main_arg3 : FVec F S1x1024 .f32) (main_arg4 : FVec F S1x1024 .f32) (main_arg5 : FVec F S1x1024 .f32) (main_arg6 : FVec F S1x1024 .f32) (main_arg7 : FVec F S2048x1024 .f32) (main_arg8 : FVec F S2048x1024 .f32) : IVec S_ 1 :=
  let main_v0 : FVec F S2048x1536 .f32 := Host.absf main_arg0
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1536x1024 .f32 := Host.absf main_arg2
  let main_cst_2 : FVec F S_ .f32 := constant S_ .f32 0x7F800000#32
  let main_v9 : FVec F S1536x1024 .f32 := broadcastInDim S1536x1024 ![] bcast_S_S1536x1024 main_cst_2
  let main_v10 : IVec S1536x1024 1 := cmpf .olt main_v8 main_v9
  let main_c_3 : IVec S_ 1 := constantI S_ 1 1#1
  let main_v11 : IVec S_ 1 := (fun x v => Host.reduce IntOp.andi x v reducesTo_S1536x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_v3 main_v7 main_v11 main_v15
-- ==== Pre_proj_finite.lean ====
abbrev S2048x1024 : Shape := ⟨2, ![2048, 1024]⟩
abbrev S1x1024 : Shape := ⟨2, ![1, 1024]⟩
abbrev S1024x2432 : Shape := ⟨2, ![1024, 2432]⟩
abbrev S2048x2432 : Shape := ⟨2, ![2048, 2432]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2432 : S_.BroadcastsInDim S1024x2432 (![] : Fin 0 → Fin S1024x2432.rank)
  reducesTo_S1024x2432_S_d0_1 : S1024x2432.ReducesTo [0, 1] S_
  bcast_S_S2048x2432 : S_.BroadcastsInDim S2048x2432 (![] : Fin 0 → Fin S2048x2432.rank)
  reducesTo_S2048x2432_S_d0_1 : S2048x2432.ReducesTo [0, 1] S_

variable [Facts]

def fn_part1 {F : FTy → Type} [FloatOps F] (main_arg4 : FVec F S1024x2432 .f32) (main_arg5 : FVec F S2048x2432 .f32) (main_arg6 : FVec F S2048x1024 .f32) (main_v3 : IVec S_ 1) (main_v7 : IVec S_ 1) (main_v11 : IVec S_ 1) (main_v15 : IVec S_ 1) : IVec S_ 1 :=
  let main_v16 : FVec F S1024x2432 .f32 := Host.absf main_arg4
  let main_cst_6 : FVec F S_ .f32 := constant S_ .f32 0x7F800000#32
  let main_v17 : FVec F S1024x2432 .f32 := broadcastInDim S1024x2432 ![] bcast_S_S1024x2432 main_cst_6
  let main_v18 : IVec S1024x2432 1 := cmpf .olt main_v16 main_v17
  let main_c_7 : IVec S_ 1 := constantI S_ 1 1#1
  let main_v19 : IVec S_ 1 := (fun x v => Host.reduce IntOp.andi x v reducesTo_S1024x2432_S_d0_1 h_S_) main_v18 main_c_7
  let main_v20 : FVec F S2048x2432 .f32 := Host.absf main_arg5
  let main_cst_8 : FVec F S_ .f32 := constant S_ .f32 0x7F800000#32
  let main_v21 : FVec F S2048x2432 .f32 := broadcastInDim S2048x2432 ![] bcast_S_S2048x2432 main_cst_8
  let main_v22 : IVec S2048x2432 1 := cmpf .olt main_v20 main_v21
  let main_c_9 : IVec S_ 1 := constantI S_ 1 1#1
  let main_v23 : IVec S_ 1 := (fun x v => Host.reduce IntOp.andi x v reducesTo_S2048x2432_S_d0_1 h_S_) main_v22 main_c_9
  let main_v24 : FVec F S2048x1024 .f32 := Host.absf main_arg6
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x1024 .f32) (main_arg1 : FVec F S1x1024 .f32) (main_arg2 : FVec F S1x1024 .f32) (main_arg3 : FVec F S1x1024 .f32) (main_arg4 : FVec F S1024x2432 .f32) (main_arg5 : FVec F S2048x2432 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Kernel.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S5632x1024 : Shape := ⟨2, ![5632, 1024]⟩
abbrev S2048x5632 : Shape := ⟨2, ![2048, 5632]⟩
abbrev S256x1024 : Shape := ⟨2, ![256, 1024]⟩
abbrev S3x256 : Shape := ⟨2, ![3, 256]⟩
abbrev S1x256 : Shape := ⟨2, ![1, 256]⟩
abbrev S2048x512 : Shape := ⟨2, ![2048, 512]⟩
abbrev S3x512 : Shape := ⟨2, ![3, 512]⟩
abbrev S1x512 : Shape := ⟨2, ![1, 512]⟩
abbrev S512x1024 : Shape := ⟨2, ![512, 1024]⟩
abbrev S512x256 : Shape := ⟨2, ![512, 256]⟩
abbrev S512x512 : Shape := ⟨2, ![512, 512]⟩
abbrev S8x512 : Shape := ⟨2, ![8, 512]⟩
abbrev S520x512 : Shape := ⟨2, ![520, 512]⟩
abbrev S65x8x512 : Shape := ⟨3, ![65, 8, 512]⟩
abbrev S64x8x512 : Shape := ⟨3, ![64, 8, 512]⟩
abbrev S2x2816x1024 : Shape := ⟨3, ![2, 2816, 1024]⟩
abbrev S3x2816 : Shape := ⟨2, ![3, 2816]⟩
abbrev S1x2816 : Shape := ⟨2, ![1, 2816]⟩
abbrev S2x256x1024 : Shape := ⟨3, ![2, 256, 1024]⟩
abbrev S2056x512 : Shape := ⟨2, ![2056, 512]⟩
abbrev S2048x256 : Shape := ⟨2, ![2048, 256]⟩
abbrev S256x256 : Shape := ⟨2, ![256, 256]⟩
abbrev S256x512 : Shape := ⟨2, ![256, 512]⟩
abbrev S264x512 : Shape := ⟨2, ![264, 512]⟩
abbrev S33x8x512 : Shape := ⟨3, ![33, 8, 512]⟩
abbrev S32x8x512 : Shape := ⟨3, ![32, 8, 512]⟩
abbrev S512 : Shape := ⟨1, ![512]⟩
abbrev S1x256x1024 : Shape := ⟨3, ![1, 256, 1024]⟩

abbrev nBuf : Space → Nat
  | .hbm => 20
  | .vmem => 52
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S1024x5632, .bf16⟩
  | .hbm, ⟨9, _⟩ => ⟨S5632x1024, .bf16⟩
  | .hbm, ⟨10, _⟩ => ⟨S2816x1024, .bf16⟩
  | .hbm, ⟨11, _⟩ => ⟨S2048x1024, .f32⟩
  | .hbm, ⟨12, _⟩ => ⟨S2048x5632, .f32⟩
  | .hbm, ⟨13, _⟩ => ⟨S2048x1024, .f32⟩
  | .hbm, ⟨14, _⟩ => ⟨S2x2816x1024, .bf16⟩
  | .hbm, ⟨15, _⟩ => ⟨S2816x1024, .bf16⟩
  | .hbm, ⟨16, _⟩ => ⟨S3x2816, .f32⟩
  | .hbm, ⟨17, _⟩ => ⟨S3x2816, .f32⟩
  | .hbm, ⟨18, _⟩ => ⟨S1x2816, .f32⟩
  | .hbm, ⟨19, _⟩ => ⟨S1x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x1024, .bf16⟩
  | .local _ .vmem, ⟨14, _⟩ => ⟨S256x1024, .bf16⟩
  | .local _ .vmem, ⟨15, _⟩ => ⟨S2048x1024, .f32⟩
  | .local _ .vmem, ⟨16, _⟩ => ⟨S2048x512, .f32⟩
  | .local _ .vmem, ⟨17, _⟩ => ⟨S2048x512, .f32⟩
  | .local _ .vmem, ⟨18, _⟩ => ⟨S2048x1024, .bf16⟩
  | .local _ .vmem, ⟨19, _⟩ => ⟨S2048x512, .f32⟩
  | .local _ .vmem, ⟨20, _⟩ => ⟨S2048x512, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S3x256, .f32⟩
  | .local _ .vmem, ⟨26, _⟩ => ⟨S3x256, .f32⟩
  | .local _ .vmem, ⟨27, _⟩ => ⟨S3x256, .f32⟩
  | .local _ .vmem, ⟨28, _⟩ => ⟨S3x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S2048x1024, .bf16⟩
  | .local _ .vmem, ⟨34, _⟩ => ⟨S256x1024, .bf16⟩
  | .local _ .vmem, ⟨35, _⟩ => ⟨S256x1024, .bf16⟩
  | .local _ .vmem, ⟨36, _⟩ => ⟨S2048x1024, .f32⟩
  | .local _ .vmem, ⟨37, _⟩ => ⟨S2x256x1024, .bf16⟩
  | .local _ .vmem, ⟨38, _⟩ => ⟨S2x256x1024, .bf16⟩
  | .local _ .vmem, ⟨39, _⟩ => ⟨S256x1024, .bf16⟩
  | .local _ .vmem, ⟨40, _⟩ => ⟨S256x1024, .bf16⟩
  | .local _ .vmem, ⟨41, _⟩ => ⟨S3x256, .f32⟩
  | .local _ .vmem, ⟨42, _⟩ => ⟨S3x256, .f32⟩
  | .local _ .vmem, ⟨43, _⟩ => ⟨S3x256, .f32⟩
  | .local _ .vmem, ⟨44, _⟩ => ⟨S3x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S2056x512, .f32⟩
  | .local _ .vmem, ⟨50, _⟩ => ⟨S2048x512, .bf16⟩
  | .local _ .vmem, ⟨51, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg11_1 : Ref sig .tc := ⟨.vmem, 38, rfl⟩
abbrev cc1_stg12_0 : Ref sig .tc := ⟨.vmem, 39, rfl⟩
abbrev cc1_stg12_1 : Ref sig .tc := ⟨.vmem, 40, rfl⟩
abbrev cc1_stg13_0 : Ref sig .tc := ⟨.vmem, 41, rfl⟩
abbrev cc1_stg13_1 : Ref sig .tc := ⟨.vmem, 42, rfl⟩
abbrev cc1_stg14_0 : Ref sig .tc := ⟨.vmem, 43, rfl⟩
abbrev cc1_stg14_1 : Ref sig .tc := ⟨.vmem, 44, rfl⟩
abbrev cc1_stg15_0 : Ref sig .tc := ⟨.vmem, 45, rfl⟩
abbrev cc1_stg15_1 : Ref sig .tc := ⟨.vmem, 46, rfl⟩
abbrev cc1_stg16_0 : Ref sig .tc := ⟨.vmem, 47, rfl⟩
abbrev cc1_stg16_1 : Ref sig .tc := ⟨.vmem, 48, rfl⟩
abbrev cc1_scratch0 : Ref sig .tc := ⟨.vmem, 49, rfl⟩
abbrev cc1_scratch1 : Ref sig .tc := ⟨.vmem, 50, rfl⟩
abbrev cc1_scratch2 : Ref sig .tc := ⟨.vmem, 51, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc1_sem0_0 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem9_0 : DmaSem sig := 34
abbrev cc1_sem9_1 : DmaSem sig := 35
abbrev cc1_sem10_0 : DmaSem sig := 36
abbrev cc1_sem11_0 : DmaSem sig := 37
abbrev cc1_sem11_1 : DmaSem sig := 38
abbrev cc1_sem12_0 : DmaSem sig := 39
abbrev cc1_sem12_1 : DmaSem sig := 40
abbrev cc1_sem13_0 : DmaSem sig := 41
abbrev cc1_sem13_1 : DmaSem sig := 42
abbrev cc1_sem14_0 : DmaSem sig := 43
abbrev cc1_sem14_1 : DmaSem sig := 44
abbrev cc1_sem15_0 : DmaSem sig := 45
abbrev cc1_sem15_1 : DmaSem sig := 46
abbrev cc1_sem16_0 : DmaSem sig := 47
abbrev cc1_sem16_1 : DmaSem sig := 48

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2048x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S2048x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2x256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S3x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S3x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S1x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S2048x1024 : Shape := ⟨2, ![2048, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S2048x5632 : Shape := ⟨2, ![2048, 5632]⟩
abbrev S_ : Shape := ⟨0, ![]⟩
abbrev S2x5632 : Shape := ⟨2, ![2, 5632]⟩
abbrev S2050x5632 : Shape := ⟨2, ![2050, 5632]⟩
abbrev S5632 : Shape := ⟨1, ![5632]⟩
abbrev S2048x2816 : Shape := ⟨2, ![2048, 2816]⟩
abbrev S1024x2816 : Shape := ⟨2, ![1024, 2816]⟩
abbrev S5632x1024 : Shape := ⟨2, ![5632, 1024]⟩
abbrev S2x2816x1024 : Shape := ⟨3, ![2, 2816, 1024]⟩
abbrev S3x2816 : Shape := ⟨2, ![3, 2816]⟩
abbrev S1x2816 : Shape := ⟨2, ![1, 2816]⟩

abbrev nBuf : Space → Nat
  | .hbm => 120
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S2048x1024, .f32⟩
  | .hbm, ⟨6, _⟩ => ⟨S2048x5632, .f32⟩
  | .hbm, ⟨7, _⟩ => ⟨S_, .f32⟩
  | .hbm, ⟨8, _⟩ => ⟨S2x5632, .f32⟩
  | .hbm, ⟨9, _⟩ => ⟨S2050x5632, .f32⟩
  | .hbm, ⟨10, _⟩ => ⟨S_, .f32⟩
  | .hbm, ⟨11, _⟩ => ⟨S2x5632, .f32⟩
  | .hbm, ⟨12, _⟩ => ⟨S2048x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x1024, .f32⟩
  | .hbm, ⟨51, _⟩ => ⟨S1024x2816, .f32⟩
  | .hbm, ⟨52, _⟩ => ⟨S2816x1024, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x5632, .f32⟩
  | .hbm, ⟨61, _⟩ => ⟨S2048x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S2048x5632, .f32⟩
  | .hbm, ⟨66, _⟩ => ⟨S2048x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S_, .f32⟩
  | .hbm, ⟨73, _⟩ => ⟨S2050x5632, .f32⟩
  | .hbm, ⟨74, _⟩ => ⟨S2048x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S2048x5632, .f32⟩
  | .hbm, ⟨79, _⟩ => ⟨S2048x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S2050x5632, .f32⟩
  | .hbm, ⟨88, _⟩ => ⟨S2050x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S2048x5632, .f32⟩
  | .hbm, ⟨93, _⟩ => ⟨S_, .f32⟩
  | .hbm, ⟨94, _⟩ => ⟨S5632, .f32⟩
  | .hbm, ⟨95, _⟩ => ⟨S1x5632, .f32⟩
  | .hbm, ⟨96, _⟩ => ⟨S2048x5632, .f32⟩
  | .hbm, ⟨97, _⟩ => ⟨S2048x5632, .f32⟩
  | .hbm, ⟨98, _⟩ => ⟨S_, .f32⟩
  | .hbm, ⟨99, _⟩ => ⟨S5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S_, .f32⟩
  | .hbm, ⟨105, _⟩ => ⟨S2050x5632, .f32⟩
  | .hbm, ⟨106, _⟩ => ⟨S2050x5632, .f32⟩
  | .hbm, ⟨107, _⟩ => ⟨S2x5632, .f32⟩
  | .hbm, ⟨108, _⟩ => ⟨S2048x5632, .f32⟩
  | .hbm, ⟨109, _⟩ => ⟨S5632x1024, .f32⟩
  | .hbm, ⟨110, _⟩ => ⟨S1024x5632, .f32⟩
  | .hbm, ⟨111, _⟩ => ⟨S2048x1024, .f32⟩
  | .hbm, ⟨112, _⟩ => ⟨S5632x1024, .f32⟩
  | .hbm, ⟨113, _⟩ => ⟨S5632x1024, .bf16⟩
  | .hbm, ⟨114, _⟩ => ⟨S2x2816x1024, .bf16⟩
  | .hbm, ⟨115, _⟩ => ⟨S2816x1024, .bf16⟩
  | .hbm, ⟨116, _⟩ => ⟨S3x2816, .f32⟩
  | .hbm, ⟨117, _⟩ => ⟨S3x2816, .f32⟩
  | .hbm, ⟨118, _⟩ => ⟨S1x2816, .f32⟩
  | .hbm, ⟨119, _⟩ => ⟨S1x2816, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v28_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v28_1 : Ref sig .tc := ⟨.hbm, 47, rfl⟩
abbrev main_v28_0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_cst_3 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_v47 : Ref sig .tc := ⟨.hbm, 74, rfl⟩
abbrev main_cst_5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]
-- ==== Proj.lean ====
abbrev S2048x1024 : Shape := ⟨2, ![2048, 1024]⟩
abbrev S1x1024 : Shape := ⟨2, ![1, 1024]⟩
abbrev S1024x2432 : Shape := ⟨2, ![1024, 2432]⟩
abbrev S2048x2432 : Shape := ⟨2, ![2048, 2432]⟩
abbrev S2432x1024 : Shape := ⟨2, ![2432, 1024]⟩
abbrev S256x2432 : Shape := ⟨2, ![256, 2432]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2432, .f32⟩
  | .hbm, ⟨5, _⟩ => ⟨S2048x2432, .f32⟩
  | .hbm, ⟨6, _⟩ => ⟨S2048x1024, .f32⟩
  | .hbm, ⟨7, _⟩ => ⟨S1024x2432, .bf16⟩
  | .hbm, ⟨8, _⟩ => ⟨S2432x1024, .bf16⟩
  | .hbm, ⟨9, _⟩ => ⟨S2048x2432, .bf16⟩
  | .hbm, ⟨10, _⟩ => ⟨S2048x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S256x2432, .bf16⟩
  | .local _ .vmem, ⟨1, _⟩ => ⟨S256x2432, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2432x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_22 : BitVec 32 := 0#32
  let v49 : BitVec 1 := Scalar.cmpi .ne v48 c0_i32_22
  v49

def k0_cond2 (i : grid0.Coords) : BitVec 1 :=
  let arg0 : BitVec 32 := BitVec.ofNat 32 (i 0).val
  let c0_i32_23 : BitVec 32 := 0#32
  let v50 : BitVec 1 := Scalar.cmpi .sgt arg0 c0_i32_23
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2432x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjReferenceIdeal.lean ====
abbrev S2048x1024 : Shape := ⟨2, ![2048, 1024]⟩
abbrev S1x1024 : Shape := ⟨2, ![1, 1024]⟩
abbrev S1024x2432 : Shape := ⟨2, ![1024, 2432]⟩
abbrev S2048x2432 : Shape := ⟨2, ![2048, 2432]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2432, .f32⟩
  | .hbm, ⟨5, _⟩ => ⟨S2048x2432, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x2432, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Mid.lean ====
abbrev S2048x1536 : Shape := ⟨2, ![2048, 1536]⟩
abbrev S2048x1024 : Shape := ⟨2, ![2048, 1024]⟩
abbrev S1536x1024 : Shape := ⟨2, ![1536, 1024]⟩
abbrev S1x1024 : Shape := ⟨2, ![1, 1024]⟩
abbrev S256x1024 : Shape := ⟨2, ![256, 1024]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 21
  | .vmem => 22
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S1536x1024, .bf16⟩
  | .hbm, ⟨14, _⟩ => ⟨S2048x1024, .f32⟩
  | .hbm, ⟨15, _⟩ => ⟨S2048x1024, .bf16⟩
  | .hbm, ⟨16, _⟩ => ⟨S2048x1536, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1536x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1536, .f32⟩
  | .local _ .vmem, ⟨17, _⟩ => ⟨S256x1536, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_31 : BitVec 32 := 0#32
  let v61 : BitVec 1 := Scalar.cmpi .ne v60 c0_i32_31
  v61

def k0_cond2 (i : grid0.Coords) : BitVec 1 :=
  let arg0 : BitVec 32 := BitVec.ofNat 32 (i 0).val
  let c0_i32_32 : BitVec 32 := 0#32
  let v62 : BitVec 1 := Scalar.cmpi .sgt arg0 c0_i32_32
  let v63 : BitVec 32 := Scalar.extui v62
  let c0_i32_33 : BitVec 32 := 0#32
  let v64 : BitVec 1 := Scalar.cmpi .ne v63 c0_i32_33
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MidReferenceIdeal.lean ====
abbrev S2048x1536 : Shape := ⟨2, ![2048, 1536]⟩
abbrev S2048x1024 : Shape := ⟨2, ![2048, 1024]⟩
abbrev S1536x1024 : Shape := ⟨2, ![1536, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S2048x1536, .f32⟩
  | .hbm, ⟨81, _⟩ => ⟨S2048x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== ProjWgrad.lean ====
abbrev S2048x1024 : Shape := ⟨2, ![2048, 1024]⟩
abbrev S1x1024 : Shape := ⟨2, ![1, 1024]⟩
abbrev S2048x2432 : Shape := ⟨2, ![2048, 2432]⟩
abbrev S_ : Shape := ⟨0, ![]⟩
abbrev S2048 : Shape := ⟨1, ![2048]⟩
abbrev S2048x1 : Shape := ⟨2, ![2048, 1]⟩
abbrev S2432x1024 : Shape := ⟨2, ![2432, 1024]⟩
abbrev S2048x512 : Shape := ⟨2, ![2048, 512]⟩
abbrev S2432x512 : Shape := ⟨2, ![2432, 512]⟩

abbrev nBuf : Space → Nat
  | .hbm => 30
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x2432, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S2048x2432, .bf16⟩
  | .hbm, ⟨29, _⟩ => ⟨S2432x1024, .bf16⟩
  | .local _ .vmem, ⟨0, _⟩ => ⟨S2048x2432, .bf16⟩
  | .local _ .vmem, ⟨1, _⟩ => ⟨S2048x512, .bf16⟩
  | .local _ .vmem, ⟨2, _⟩ => ⟨S2048x512, .bf16⟩
  | .local _ .vmem, ⟨3, _⟩ => ⟨S2432x512, .bf16⟩
  | .local _ .vmem, ⟨4, _⟩ => ⟨S2432x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWgradReferenceIdeal.lean ====
abbrev S2048x1024 : Shape := ⟨2, ![2048, 1024]⟩
abbrev S1x1024 : Shape := ⟨2, ![1, 1024]⟩
abbrev S2048x2432 : Shape := ⟨2, ![2048, 2432]⟩
abbrev S_ : Shape := ⟨0, ![]⟩
abbrev S2048 : Shape := ⟨1, ![2048]⟩
abbrev S2048x1 : Shape := ⟨2, ![2048, 1]⟩
abbrev S1024x2432 : Shape := ⟨2, ![1024, 2432]⟩
abbrev S2432x1024 : Shape := ⟨2, ![2432, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x2432, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024x2432, .f32⟩
  | .hbm, ⟨29, _⟩ => ⟨S2048x2432, .f32⟩
  | .hbm, ⟨30, _⟩ => ⟨S2432x1024, .f32⟩
  | .hbm, ⟨31, _⟩ => ⟨S1024x2432, .f32⟩
  | .hbm, ⟨32, _⟩ => ⟨S2432x1024, .f32⟩
  | .hbm, ⟨33, _⟩ => ⟨S2432x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== MixWgrad.lean ====
abbrev S2048x1536 : Shape := ⟨2, ![2048, 1536]⟩
abbrev S2048x1024 : Shape := ⟨2, ![2048, 1024]⟩
abbrev S1536x1024 : Shape := ⟨2, ![1536, 1024]⟩
abbrev S2048x512 : Shape := ⟨2, ![2048, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S2048x1024, .bf16⟩
  | .hbm, ⟨3, _⟩ => ⟨S1536x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixWgradReferenceIdeal.lean ====
abbrev S2048x1536 : Shape := ⟨2, ![2048, 1536]⟩
abbrev S2048x1024 : Shape := ⟨2, ![2048, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S_, .f32⟩
  | .hbm, ⟨3, _⟩ => ⟨S1536x1024, .f32⟩
  | .hbm, ⟨4, _⟩ => ⟨S2048x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QWgrad.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1024x512 : Shape := ⟨2, ![1024, 512]⟩

abbrev nBuf : Space → Nat
  | .hbm => 21
  | .vmem => 3
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x1024, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .bf16⟩
  | .hbm, ⟨19, _⟩ => ⟨S2048x1024, .bf16⟩
  | .hbm, ⟨20, _⟩ => ⟨S1024x512, .bf16⟩
  | .local _ .vmem, ⟨0, _⟩ => ⟨S2048x1024, .bf16⟩
  | .local _ .vmem, ⟨1, _⟩ => ⟨S2048x512, .bf16⟩
  | .local _ .vmem, ⟨2, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QWgradReferenceIdeal.lean ====
abbrev S2048x512 : Shape := ⟨2, ![2048, 512]⟩
abbrev S1x512 : Shape := ⟨2, ![1, 512]⟩
abbrev S2048x1024 : Shape := ⟨2, ![2048, 1024]⟩
abbrev S_ : Shape := ⟨0, ![]⟩
abbrev S512x1024 : Shape := ⟨2, ![512, 1024]⟩
abbrev S2048 : Shape := ⟨1, ![2048]⟩
abbrev S2048x1 : Shape := ⟨2, ![2048, 1]⟩
abbrev S1024x512 : Shape := ⟨2, ![1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1x512, .f32⟩
  | .hbm, ⟨2, _⟩ => ⟨S2048x1024, .f32⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x1024, .f32⟩
  | .hbm, ⟨21, _⟩ => ⟨S1024x512, .f32⟩
  | .hbm, ⟨22, _⟩ => ⟨S512x1024, .f32⟩
  | .hbm, ⟨23, _⟩ => ⟨S1024x512, .f32⟩
  | .hbm, ⟨24, _⟩ => ⟨S1024x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KvWgrad.lean ====
abbrev S2048x256 : Shape := ⟨2, ![2048, 256]⟩
abbrev S1x256 : Shape := ⟨2, ![1, 256]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S256x1024 : Shape := ⟨2, ![256, 1024]⟩

abbrev nBuf : Space → Nat
  | .hbm => 21
  | .vmem => 3
  | .smem => 0
  | _ => 0

abbrev bufTy : (tb : Table) → Fin (tcTables nBuf tb) → BufTy
  | .hbm, ⟨0, _⟩ => ⟨S2048x256, .f32⟩
  | .hbm, ⟨1, _⟩ => ⟨S1x256, .f32⟩
  | .hbm, ⟨2, _⟩ => ⟨S2048x1024, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x256, .f32⟩
  | .hbm, ⟨15, _⟩ => ⟨S2048x256, .f32⟩
  | .hbm, ⟨16, _⟩ => ⟨S2048x256, .f32⟩
  | .hbm, ⟨17, _⟩ => ⟨S2048x256, .f32⟩
  | .hbm, ⟨18, _⟩ => ⟨S2048x256, .bf16⟩
  | .hbm, ⟨19, _⟩ => ⟨S2048x1024, .bf16⟩
  | .hbm, ⟨20, _⟩ => ⟨S256x1024, .bf16⟩
  | .local _ .vmem, ⟨0, _⟩ => ⟨S2048x256, .bf16⟩
  | .local _ .vmem, ⟨1, _⟩ => ⟨S2048x1024, .bf16⟩
  | .local _ .vmem, ⟨2, _⟩ => ⟨S256x1024, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvWgradReferenceIdeal.lean ====
abbrev S2048x256 : Shape := ⟨2, ![2048, 256]⟩
abbrev S1x256 : Shape := ⟨2, ![1, 256]⟩
abbrev S2048x1024 : Shape := ⟨2, ![2048, 1024]⟩
abbrev S_ : Shape := ⟨0, ![]⟩
abbrev S256x1024 : Shape := ⟨2, ![256, 1024]⟩
abbrev S2048 : Shape := ⟨1, ![2048]⟩
abbrev S2048x1 : Shape := ⟨2, ![2048, 1]⟩
abbrev S1024x256 : Shape := ⟨2, ![1024, 256]⟩

abbrev nBuf : Space → Nat
  | .hbm => 24
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S1x256, .f32⟩
  | .hbm, ⟨2, _⟩ => ⟨S2048x1024, .f32⟩
  | .hbm, ⟨3, _⟩ => ⟨S_, .f32⟩
  | .hbm, ⟨4, _⟩ => ⟨S256x1024, .f32⟩
  | .hbm, ⟨5, _⟩ => ⟨S2048x256, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S2048x1024, .f32⟩
  | .hbm, ⟨21, _⟩ => ⟨S1024x256, .f32⟩
  | .hbm, ⟨22, _⟩ => ⟨S256x1024, .f32⟩
  | .hbm, ⟨23, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MixFwd.lean ====
abbrev S2048x1536 : Shape := ⟨2, ![2048, 1536]⟩
abbrev S2048x1024 : Shape := ⟨2, ![2048, 1024]⟩
abbrev S1536x1024 : Shape := ⟨2, ![1536, 1024]⟩
abbrev S1x1024 : Shape := ⟨2, ![1, 1024]⟩
abbrev S256x1536 : Shape := ⟨2, ![256, 1536]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1536x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S1536x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixFwdReferenceIdeal.lean ====
abbrev S2048x1536 : Shape := ⟨2, ![2048, 1536]⟩
abbrev S2048x1024 : Shape := ⟨2, ![2048, 1024]⟩
abbrev S1536x1024 : Shape := ⟨2, ![1536, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1536x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== ProjFwd.lean ====
abbrev S2048x1024 : Shape := ⟨2, ![2048, 1024]⟩
abbrev S2048x128 : Shape := ⟨2, ![2048, 128]⟩
abbrev S1024x2432 : Shape := ⟨2, ![1024, 2432]⟩
abbrev S1x512 : Shape := ⟨2, ![1, 512]⟩
abbrev S1x256 : Shape := ⟨2, ![1, 256]⟩
abbrev S1x128 : Shape := ⟨2, ![1, 128]⟩
abbrev S2432x1024 : Shape := ⟨2, ![2432, 1024]⟩
abbrev S2048x2432 : Shape := ⟨2, ![2048, 2432]⟩
abbrev S2048x512 : Shape := ⟨2, ![2048, 512]⟩
abbrev S2048x256 : Shape := ⟨2, ![2048, 256]⟩
abbrev S256x1024 : Shape := ⟨2, ![256, 1024]⟩
abbrev S256x128 : Shape := ⟨2, ![256, 128]⟩
abbrev S256x2432 : Shape := ⟨2, ![256, 2432]⟩
abbrev S256x512 : Shape := ⟨2, ![256, 512]⟩
abbrev S256x256 : Shape := ⟨2, ![256, 256]⟩
abbrev S128x128 : Shape := ⟨2, ![128, 128]⟩
abbrev S256 : Shape := ⟨1, ![256]⟩
abbrev S256x1 : Shape := ⟨2, ![256, 1]⟩

abbrev nBuf : Space → Nat
  | .hbm => 20
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S1024x2432, .f32⟩
  | .hbm, ⟨6, _⟩ => ⟨S1x512, .f32⟩
  | .hbm, ⟨7, _⟩ => ⟨S1x256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S2048x1024, .bf16⟩
  | .hbm, ⟨12, _⟩ => ⟨S1024x2432, .bf16⟩
  | .hbm, ⟨13, _⟩ => ⟨S2432x1024, .bf16⟩
  | .hbm, ⟨14, _⟩ => ⟨S2048x2432, .f32⟩
  | .hbm, ⟨15, _⟩ => ⟨S2048x512, .bf16⟩
  | .hbm, ⟨16, _⟩ => ⟨S2048x256, .bf16⟩
  | .hbm, ⟨17, _⟩ => ⟨S2048x128, .bf16⟩
  | .hbm, ⟨18, _⟩ => ⟨S2048x512, .f32⟩
  | .hbm, ⟨19, _⟩ => ⟨S2048x512, .f32⟩
  | .local _ .vmem, ⟨0, _⟩ => ⟨S256x1024, .bf16⟩
  | .local _ .vmem, ⟨1, _⟩ => ⟨S256x1024, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2432x1024, .bf16⟩
  | .local _ .vmem, ⟨11, _⟩ => ⟨S1x512, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x2432, .f32⟩
  | .local _ .vmem, ⟨17, _⟩ => ⟨S256x2432, .f32⟩
  | .local _ .vmem, ⟨18, _⟩ => ⟨S256x512, .bf16⟩
  | .local _ .vmem, ⟨19, _⟩ => ⟨S256x512, .bf16⟩
  | .local _ .vmem, ⟨20, _⟩ => ⟨S256x256, .bf16⟩
  | .local _ .vmem, ⟨21, _⟩ => ⟨S256x256, .bf16⟩
  | .local _ .vmem, ⟨22, _⟩ => ⟨S256x128, .bf16⟩
  | .local _ .vmem, ⟨23, _⟩ => ⟨S256x128, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2432x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2432 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjFwdReferenceIdeal.lean ====
abbrev S2048x1024 : Shape := ⟨2, ![2048, 1024]⟩
abbrev S2048x128 : Shape := ⟨2, ![2048, 128]⟩
abbrev S1024x2432 : Shape := ⟨2, ![1024, 2432]⟩
abbrev S1x512 : Shape := ⟨2, ![1, 512]⟩
abbrev S1x256 : Shape := ⟨2, ![1, 256]⟩
abbrev S1x128 : Shape := ⟨2, ![1, 128]⟩
abbrev S2048x2432 : Shape := ⟨2, ![2048, 2432]⟩
abbrev S2048x512 : Shape := ⟨2, ![2048, 512]⟩
abbrev S2048x256 : Shape := ⟨2, ![2048, 256]⟩
abbrev S_ : Shape := ⟨0, ![]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S1024x2432, .f32⟩
  | .hbm, ⟨6, _⟩ => ⟨S1x512, .f32⟩
  | .hbm, ⟨7, _⟩ => ⟨S1x256, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S2048x2432, .f32⟩
  | .hbm, ⟨12, _⟩ => ⟨S2048x512, .f32⟩
  | .hbm, ⟨13, _⟩ => ⟨S2048x256, .f32⟩
  | .hbm, ⟨14, _⟩ => ⟨S2048x512, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .bf16⟩
  | .hbm, ⟨30, _⟩ => ⟨S2048x256, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x256, .f32⟩
  | .hbm, ⟨42, _⟩ => ⟨S2048x256, .f32⟩
  | .hbm, ⟨43, _⟩ => ⟨S2048x256, .f32⟩
  | .hbm, ⟨44, _⟩ => ⟨S2048x256, .f32⟩
  | .hbm, ⟨45, _⟩ => ⟨S2048x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Latent.lean ====
abbrev S2048x512 : Shape := ⟨2, ![2048, 512]⟩
abbrev S2048x256 : Shape := ⟨2, ![2048, 256]⟩
abbrev S2048x128 : Shape := ⟨2, ![2048, 128]⟩
abbrev S512x1024 : Shape := ⟨2, ![512, 1024]⟩
abbrev S256x1024 : Shape := ⟨2, ![256, 1024]⟩
abbrev S1x128 : Shape := ⟨2, ![1, 128]⟩
abbrev S1024x512 : Shape := ⟨2, ![1024, 512]⟩
abbrev S2048x1024 : Shape := ⟨2, ![2048, 1024]⟩
abbrev S256x512 : Shape := ⟨2, ![256, 512]⟩
abbrev S256x256 : Shape := ⟨2, ![256, 256]⟩
abbrev S256x128 : Shape := ⟨2, ![256, 128]⟩
abbrev S128x128 : Shape := ⟨2, ![128, 128]⟩

abbrev nBuf : Space → Nat
  | .hbm => 20
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S512x1024, .f32⟩
  | .hbm, ⟨6, _⟩ => ⟨S256x1024, .f32⟩
  | .hbm, ⟨7, _⟩ => ⟨S1x128, .f32⟩
  | .hbm, ⟨8, _⟩ => ⟨S1x128, .f32⟩
  | .hbm, ⟨9, _⟩ => ⟨S2048x512, .bf16⟩
  | .hbm, ⟨10, _⟩ => ⟨S2048x256, .bf16⟩
  | .hbm, ⟨11, _⟩ => ⟨S2048x128, .bf16⟩
  | .hbm, ⟨12, _⟩ => ⟨S512x1024, .bf16⟩
  | .hbm, ⟨13, _⟩ => ⟨S1024x512, .bf16⟩
  | .hbm, ⟨14, _⟩ => ⟨S256x1024, .bf16⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S2048x1024, .bf16⟩
  | .hbm, ⟨19, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x512, .bf16⟩
  | .local _ .vmem, ⟨11, _⟩ => ⟨S256x1024, .bf16⟩
  | .local _ .vmem, ⟨12, _⟩ => ⟨S1x128, .f32⟩
  | .local _ .vmem, ⟨13, _⟩ => ⟨S1x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== LatentReferenceIdeal.lean ====
abbrev S2048x512 : Shape := ⟨2, ![2048, 512]⟩
abbrev S2048x256 : Shape := ⟨2, ![2048, 256]⟩
abbrev S2048x128 : Shape := ⟨2, ![2048, 128]⟩
abbrev S512x1024 : Shape := ⟨2, ![512, 1024]⟩
abbrev S256x1024 : Shape := ⟨2, ![256, 1024]⟩
abbrev S1x128 : Shape := ⟨2, ![1, 128]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x256, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S512x1024, .f32⟩
  | .hbm, ⟨6, _⟩ => ⟨S256x1024, .f32⟩
  | .hbm, ⟨7, _⟩ => ⟨S1x128, .f32⟩
  | .hbm, ⟨8, _⟩ => ⟨S1x128, .f32⟩
  | .hbm, ⟨9, _⟩ => ⟨S2048x1024, .f32⟩
  | .hbm, ⟨10, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== LossHead.lean ====
abbrev S2048x1024 : Shape := ⟨2, ![2048, 1024]⟩
abbrev S1x1024 : Shape := ⟨2, ![1, 1024]⟩
abbrev S1x1 : Shape := ⟨2, ![1, 1]⟩
abbrev S512x1024 : Shape := ⟨2, ![512, 1024]⟩
abbrev S1024 : Shape := ⟨1, ![1024]⟩
abbrev S1 : Shape := ⟨1, ![1]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1x1, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_15 : BitVec 32 := 0#32
  let v27 : BitVec 1 := Scalar.cmpi .ne v26 c0_i32_15
  v27

def k0_cond2 (i : grid0.Coords) : BitVec 1 :=
  let arg0 : BitVec 32 := BitVec.ofNat 32 (i 0).val
  let c0_i32_16 : BitVec 32 := 0#32
  let v28 : BitVec 1 := Scalar.cmpi .sgt arg0 c0_i32_16
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S1024 : Shape := ⟨1, ![1024]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .bf16⟩
  | .hbm, ⟨37, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamDown.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownReferenceIdeal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S704x1024 : Shape := ⟨2, ![704, 1024]⟩
abbrev S8x704x1024 : Shape := ⟨3, ![8, 704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 9
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S8x704x1024, .f32⟩
  | .hbm, ⟨2, _⟩ => ⟨S704x1024, .f32⟩
  | .hbm, ⟨3, _⟩ => ⟨S704x1024, .f32⟩
  | .hbm, ⟨4, _⟩ => ⟨S8x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpReferenceIdeal.lean ====
abbrev S704x1024 : Shape := ⟨2, ![704, 1024]⟩
abbrev S8x704x1024 : Shape := ⟨3, ![8, 704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FirstNorm.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstNormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdaWgrad.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩

abbrev nBuf : Space → Nat
  | .hbm => 13
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .bf16⟩
  | .hbm, ⟨12, _⟩ => ⟨S1024x768, .f32⟩
  | .local _ .vmem, ⟨0, _⟩ => ⟨S8x1024, .bf16⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaWgradReferenceIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x768, .f32⟩
  | .hbm, ⟨14, _⟩ => ⟨S768x1024, .f32⟩
  | .hbm, ⟨15, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Run.lean ====
/- The run of the two pallas_calls, at any float type: every result array ends at what the last boundary's fold says, the
   arguments end as launched and every semaphore counter is zero. Both frames and the value claim read off it. -/
module

public import proofs.«01_k».proof.Proof.Gen.KernelIdeal.Frame.Record0
public import proofs.«01_k».proof.Proof.Gen.KernelIdeal.Frame.Record1

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program in order: the host's casts and transpose, the forward call, the backward call. -/
abbrev parts : List (Pipeline.Seg (pcfgs (F := F)) adm (pdats m ρ) () defs₀ 𝒱₀ L lv) :=
  [.host (hseg hostOps0 hostOps0_sub hostOps0_fresh (W0 m ρ)), .region (reg0 m ρ), .region (reg1 m ρ)]

theorem main_parts (c : Dev nD) : main (F := F) c = Pipeline.Seg.run (parts m ρ) := (main_chain c).trans (by chain_rfl)

/-- No semaphore outlives a region. -/
theorem all_scoped : ∀ sm : SemLoc sig, sm.isScoped .tc = true := by decide

set_option backward.isDefEq.respectTransparency.types false in
/-- The whole run: results at the last boundary, arguments as launched, counters at zero. -/
theorem run_sem : θ_run defs (onTc (τ := τ) (main (F := F))) ⟨m, fun _ => 0, ρ⟩ (fun r => (∀ c : Dev nD,
      r.2.mem ((c.tc : Thread nD τ).loc main_v5_0) = W3 m ρ c (Proc.devRef .tc main_v5_0)
      ∧ r.2.mem ((c.tc : Thread nD τ).loc main_v6_0) = W3 m ρ c (Proc.devRef .tc main_v6_0)
      ∧ r.2.mem ((c.tc : Thread nD τ).loc main_v6_1) = W3 m ρ c (Proc.devRef .tc main_v6_1)
      ∧ r.2.mem ((c.tc : Thread nD τ).loc main_v6_2) = W3 m ρ c (Proc.devRef .tc main_v6_2)
      ∧ r.2.mem ((c.tc : Thread nD τ).loc main_v6_3) = W3 m ρ c (Proc.devRef .tc main_v6_3)
      ∧ r.2.mem ((c.tc : Thread nD τ).loc main_v6_4) = W3 m ρ c (Proc.devRef .tc main_v6_4)
      ∧ r.2.mem ((c.tc : Thread nD τ).loc main_v6_5) = W3 m ρ c (Proc.devRef .tc main_v6_5)
      ∧ r.2.mem ((c.tc : Thread nD τ).loc main_v6_6) = W3 m ρ c (Proc.devRef .tc main_v6_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c => ⟨h c _ (mem_uc main_v5_0 (by decide)),
       h c _ (mem_uc main_v6_0 (by decide)),
       h c _ (mem_uc main_v6_1 (by decide)),
       h c _ (mem_uc main_v6_2 (by decide)),
       h c _ (mem_uc main_v6_3 (by decide)),
       h c _ (mem_uc main_v6_4 (by decide)),
       h c _ (mem_uc main_v6_5 (by decide)),
       h c _ (mem_uc main_v6_6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩),
      funext fun g => hz g (.inr (all_scoped g.2))⟩)

/-- The run without the counters. -/
theorem run : θ_run defs (onTc (τ := τ) (main (F := F))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v6_0) = W3 m ρ c (Proc.devRef .tc main_v6_0)
      ∧ r.2.mem ((c.tc : Thread nD τ).loc main_v6_1) = W3 m ρ c (Proc.devRef .tc main_v6_1)
      ∧ r.2.mem ((c.tc : Thread nD τ).loc main_v6_2) = W3 m ρ c (Proc.devRef .tc main_v6_2)
      ∧ r.2.mem ((c.tc : Thread nD τ).loc main_v6_3) = W3 m ρ c (Proc.devRef .tc main_v6_3)
      ∧ r.2.mem ((c.tc : Thread nD τ).loc main_v6_4) = W3 m ρ c (Proc.devRef .tc main_v6_4)
      ∧ r.2.mem ((c.tc : Thread nD τ).loc main_v6_5) = W3 m ρ c (Proc.devRef .tc main_v6_5)
      ∧ r.2.mem ((c.tc : Thread nD τ).loc main_v6_6) = W3 m ρ c (Proc.devRef .tc main_v6_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (run_sem m ρ)

end Cert.KernelIdeal.Own

end
-- ==== Proof.Spec.lean ====
/- What the gated feed-forward layer with a causal depthwise convolution computes, forward and backward, column by
   column on the extended reals: the closed forms both programs are proved equal to. -/
module

public import Idealize.ShloMosaic.Lib.Pointwise

@[expose] public section

set_option maxRecDepth 16384

noncomputable section

open Idealize.ShloMosaic

namespace Cert.Ffn

/-- A column over the sequence. -/
abbrev Col := Fin 2048 → EReal

/-- The column `n` positions earlier, zero before the start. -/
def earlier (n : ℕ) (x : Col) : Col := fun s => if h : n ≤ (s : ℕ) then x ⟨s - n, by omega⟩ else 0

/-- The column `n` positions later, zero past the end. -/
def later (n : ℕ) (x : Col) : Col := fun s => if h : (s : ℕ) + n < 2048 then x ⟨s + n, h⟩ else 0

/-- The causal convolution of one column: three taps and a bias. -/
def conv (w0 w1 w2 b : EReal) (x : Col) : Col := fun s => w2 * x s + w1 * earlier 1 x s + w0 * earlier 2 x s + b

/-- The convolution's gradient with respect to its input column. -/
def convBack (w0 w1 w2 : EReal) (x : Col) : Col := fun s => w2 * x s + w1 * later 1 x s + w0 * later 2 x s

/-- The logistic function. -/
def sig (g : EReal) : EReal := Ideal.div 1 (1 + Ideal.exp (-g))

/-- The gated activation. -/
def act (g v : EReal) : EReal := g * sig g * v

/-- The gradient with respect to the gate, as the kernel has it: the derivative of `g * sig g` factored. -/
def dGate (da g v : EReal) : EReal := da * v * (sig g * (1 + g * (1 - sig g)))

/-- The gradient with respect to the value. -/
def dVal (da g : EReal) : EReal := da * (g * sig g)

section Layer

variable (H : Fin 2048 → Fin 1024 → EReal) (WU : Fin 1024 → Fin 5632 → EReal) (WC : Fin 3 → Fin 5632 → EReal)
  (BC : Fin 5632 → EReal) (WD : Fin 2816 → Fin 1024 → EReal) (CT : Fin 2048 → Fin 1024 → EReal)

/-- Channel `c`'s gate column among the 5632 columns of the projection. -/
abbrev gcol (c : Fin 2816) : Fin 5632 := ⟨c, by omega⟩
/-- Channel `c`'s value column. -/
abbrev vcol (c : Fin 2816) : Fin 5632 := ⟨2816 + c, by omega⟩

/-- The up projection's column `e`. -/
def up (e : Fin 5632) : Col := fun s => ∑ k, H s k * WU k e
/-- The column after the convolution. -/
def pre (e : Fin 5632) : Col := conv (WC 0 e) (WC 1 e) (WC 2 e) (BC e) (up H WU e)
/-- Channel `c`'s gated activation. -/
def actC (c : Fin 2816) : Col := fun s => act (pre H WU WC BC (gcol c) s) (pre H WU WC BC (vcol c) s)
/-- The layer's output. -/
def down (s : Fin 2048) (d : Fin 1024) : EReal := ∑ c, actC H WU WC BC c s * WD c d
/-- The cotangent of channel `c`'s activation. -/
def dAct (c : Fin 2816) : Col := fun s => ∑ d, CT s d * WD c d
/-- The cotangent of the gate column before the gate. -/
def duG (c : Fin 2816) : Col := fun s => dGate (dAct WD CT c s) (pre H WU WC BC (gcol c) s) (pre H WU WC BC (vcol c) s)
/-- The cotangent of the value column. -/
def duV (c : Fin 2816) : Col := fun s => dVal (dAct WD CT c s) (pre H WU WC BC (gcol c) s)
/-- The cotangent of the up projection's gate column. -/
def dupG (c : Fin 2816) : Col :=
  convBack (WC 0 (gcol c)) (WC 1 (gcol c)) (WC 2 (gcol c)) (duG H WU WC BC WD CT c)
/-- The cotangent of the up projection's value column. -/
def dupV (c : Fin 2816) : Col :=
  convBack (WC 0 (vcol c)) (WC 1 (vcol c)) (WC 2 (vcol c)) (duV H WU WC BC WD CT c)
/-- The gradient of the layer's input. -/
def dH (s : Fin 2048) (d : Fin 1024) : EReal :=
  ∑ c, (dupG H WU WC BC WD CT c s * WU d (gcol c) + dupV H WU WC BC WD CT c s * WU d (vcol c))
/-- The gradient of the up weight's gate and value halves, transposed. -/
def dWUg (c : Fin 2816) (d : Fin 1024) : EReal := ∑ s, dupG H WU WC BC WD CT c s * H s d
def dWUv (c : Fin 2816) (d : Fin 1024) : EReal := ∑ s, dupV H WU WC BC WD CT c s * H s d
/-- The gradient of the down weight. -/
def dWD (c : Fin 2816) (d : Fin 1024) : EReal := ∑ s, actC H WU WC BC c s * CT s d
/-- The gradient of the convolution's taps, gate and value halves: tap `k` reads `2 - k` positions earlier. -/
def dWCg (k : Fin 3) (c : Fin 2816) : EReal := ∑ s, duG H WU WC BC WD CT c s * earlier (2 - k) (up H WU (gcol c)) s
def dWCv (k : Fin 3) (c : Fin 2816) : EReal := ∑ s, duV H WU WC BC WD CT c s * earlier (2 - k) (up H WU (vcol c)) s
/-- The gradient of the convolution's bias, gate and value halves. -/
def dBg (c : Fin 2816) : EReal := ∑ s, duG H WU WC BC WD CT c s
def dBv (c : Fin 2816) : EReal := ∑ s, duV H WU WC BC WD CT c s

end Layer

/-! ## Where the arguments are finite, the factored derivative is the product rule's -/

/-- An extended real that is a real. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩
theorem Fin'.mul {x y : EReal} : Fin' x → Fin' y → Fin' (x * y) := by
  rintro ⟨a, rfl⟩ ⟨b, rfl⟩; exact ⟨a * b, (EReal.coe_mul a b).symm⟩
theorem Fin'.zero : Fin' 0 := ⟨0, EReal.coe_zero.symm⟩
theorem Fin'.sum {ι : Type} (s : Finset ι) {f : ι → EReal} (h : ∀ i, Fin' (f i)) : Fin' (∑ i ∈ s, f i) := by
  classical
  induction s using Finset.induction_on with
  | empty => rw [Finset.sum_empty]; exact Fin'.zero
  | insert a s ha ih => rw [Finset.sum_insert ha]; exact (h a).add ih

theorem Fin'.earlier (n : ℕ) {x : Col} (h : ∀ s, Fin' (x s)) (s : Fin 2048) : Fin' (earlier n x s) := by
  unfold Ffn.earlier; split
  · exact h _
  · exact Fin'.zero

theorem Fin'.conv {w0 w1 w2 b : EReal} {x : Col} (h0 : Fin' w0) (h1 : Fin' w1) (h2 : Fin' w2) (hb : Fin' b) (h : ∀ s, Fin' (x s))
    (s : Fin 2048) : Fin' (conv w0 w1 w2 b x s) :=
  (((h2.mul (h s)).add (h1.mul (Fin'.earlier 1 h s))).add (h0.mul (Fin'.earlier 2 h s))).add hb

theorem sig_coe (r : ℝ) : sig (r : EReal) = (((1 + Real.exp (-r))⁻¹ : ℝ) : EReal) := Ideal.logistic_coe ..

/-- The product rule for `g * sig g`, against its factored form, at finite operands. -/
theorem dGate_eq {da g v : EReal} (hda : Fin' da) (hg : Fin' g) (hv : Fin' v) :
    dGate da g v = da * v * sig g + da * v * g * (sig g * (1 - sig g)) := by
  obtain ⟨a, rfl⟩ := hda; obtain ⟨b, rfl⟩ := hg; obtain ⟨c, rfl⟩ := hv
  rw [dGate, sig_coe]
  generalize (1 + Real.exp (-b))⁻¹ = σ
  rw [← EReal.coe_one]
  simp only [← EReal.coe_mul, ← EReal.coe_add, ← EReal.coe_sub]
  congr 1; ring

end Cert.Ffn

end
-- ==== Proof.KFwd.lean ====
/- The forward body's values: the convolution and gate of one chunk of rows, whichever payload spells it. -/
module

public import proofs.«01_k».proof.Proof.Gen.KernelIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Ffn

/-! ## Rows of a buffer with all its columns -/

theorem rows_inb {R n m o : ℕ} (inb : ∀ a, (![o, 0] : Fin 2 → ℕ) a + (![n, m] : Fin 2 → ℕ) a ≤ (⟨2, ![R, m]⟩ : Shape).size a) : o + n ≤ R := inb 0

theorem emb_rows {R n m o : ℕ} (inb : ∀ a, (![o, 0] : Fin 2 → ℕ) a + (![n, m] : Fin 2 → ℕ) a ≤ (⟨2, ![R, m]⟩ : Shape).size a)
    (i : Fin n) (j : Fin m) :
    (Rect.unit (s := ⟨2, ![R, m]⟩) ![o, 0] ![n, m] inb).emb (ix2 i j) = ix2 ⟨o + i, by have := rows_inb inb; omega⟩ j := by
  funext a
  match a with
  | 0 => exact Fin.ext (by simp [Rect.emb_apply])
  | 1 => exact Fin.ext (by simp [Rect.emb_apply])

/-- `n` rows of a buffer from row `o` on, as a load reads them. -/
abbrev rowsOf {e : EltTy} {R m : ℕ} (n o : ℕ) (inb : ∀ a, (![o, 0] : Fin 2 → ℕ) a + (![n, m] : Fin 2 → ℕ) a ≤ (⟨2, ![R, m]⟩ : Shape).size a)
    (X : Vec Ideal ⟨2, ![R, m]⟩ e) : Vec Ideal ⟨2, ![n, m]⟩ e :=
  View.ld (Val := Elt Ideal) (e' := e) X (Rect.unit (s := ⟨2, ![R, m]⟩) ![o, 0] ![n, m] inb)

theorem ld_rows {e : EltTy} {R n m o : ℕ} (inb : ∀ a, (![o, 0] : Fin 2 → ℕ) a + (![n, m] : Fin 2 → ℕ) a ≤ (⟨2, ![R, m]⟩ : Shape).size a)
    (X : Vec Ideal ⟨2, ![R, m]⟩ e) (i : Fin n) (j : Fin m) :
    rowsOf (e := e) (R := R) (m := m) n o inb X (ix2 i j) = X (ix2 ⟨o + i, by have := rows_inb inb; omega⟩ j) :=
  congrArg X (emb_rows inb i j)

/-- Where a row of a slab of `n` rows from row `o` on sits. -/
abbrev rowAt {R m : ℕ} (n o : ℕ) (inb : ∀ a, (![o, 0] : Fin 2 → ℕ) a + (![n, m] : Fin 2 → ℕ) a ≤ (⟨2, ![R, m]⟩ : Shape).size a)
    (y : (⟨2, ![n, m]⟩ : Shape).Idx) : (⟨2, ![R, m]⟩ : Shape).Idx :=
  (Rect.unit (s := ⟨2, ![R, m]⟩) ![o, 0] ![n, m] inb).emb y

theorem exists_ix2 {n m : ℕ} (y : (⟨2, ![n, m]⟩ : Shape).Idx) : ∃ (i : Fin n) (j : Fin m), y = ix2 i j := ⟨y 0, y 1, eq_ix2 y⟩

/-! ## A rotation within groups of eight rows, selected: the rows a few positions earlier -/

theorem slt_small : ∀ n k : Fin 8, IntOp.cmpi .slt (BitVec.ofNat 32 n) (BitVec.ofNat 32 k) = (if (n : ℕ) < k then 1#1 else 0#1) := by decide

theorem sel_lt {α : Type} (n k : ℕ) (hn : n < 8) (hk : k < 8) (a b : α) :
    Scalar.select (IntOp.cmpi .slt (BitVec.ofNat 32 n) (BitVec.ofNat 32 k)) a b = if n < k then a else b := by
  rw [slt_small ⟨n, hn⟩ ⟨k, hk⟩]
  by_cases h : n < k <;> simp [h, Scalar.select]

theorem shift1 (v : FVec Ideal S520x512 .f32) (i : Fin 512) (j : Fin 512) : k0_pay20 v (ix2 i j) = v (ix2 ⟨i + 7, by omega⟩ j) := by
  pointwise [k0_pay20]
  rw [sel_lt _ 1 (by omega) (by omega)]
  split <;> · congr 2; exact Fin.ext (by dsimp only; omega)

theorem shift2 (v : FVec Ideal S520x512 .f32) (i : Fin 512) (j : Fin 512) : k0_pay21 v (ix2 i j) = v (ix2 ⟨i + 6, by omega⟩ j) := by
  pointwise [k0_pay21]
  rw [sel_lt _ 2 (by omega) (by omega)]
  split <;> · congr 2; exact Fin.ext (by dsimp only; omega)

/-! ## One chunk -/

/-- The convolved columns of a tile: tap and bias columns `w`, `b`, the projection's columns `U`. -/
def preB (w : FVec Ideal S3x512 .f32) (b : FVec Ideal S1x512 .f32) (U : FVec Ideal S2048x512 .f32) (j : Fin 512) : Col :=
  conv (w (ix2 0 j)) (w (ix2 1 j)) (w (ix2 2 j)) (b (ix2 0 j)) (fun s => U (ix2 s j))

/-- The gated activation of a tile's channel. -/
def actB (w : FVec Ideal S3x512 .f32) (b : FVec Ideal S1x512 .f32) (U : FVec Ideal S2048x512 .f32) (x : Fin 256) : Col := fun s =>
  act (preB w b U ⟨x, by omega⟩ s) (preB w b U ⟨256 + x, by omega⟩ s)

/-- One chunk's rows of the output block, from the rows of the projection and the rows one and two earlier. -/
theorem chunk (w : FVec Ideal S3x512 .f32) (b : FVec Ideal S1x512 .f32) (U : FVec Ideal S2048x512 .f32) (u u1 u2 : FVec Ideal S512x512 .f32)
    (acc : FVec Ideal S512x1024 .f32) (wd : FVec Ideal S256x1024 .bf16) (i : Fin 512) (d : Fin 1024) (s : Fin 2048)
    (hu : ∀ j, u (ix2 i j) = U (ix2 s j)) (h1 : ∀ j, u1 (ix2 i j) = earlier 1 (fun s => U (ix2 s j)) s)
    (h2 : ∀ j, u2 (ix2 i j) = earlier 2 (fun s => U (ix2 s j)) s) :
    k0_pay23 w b u u1 u2 (k0_pay22 w) acc wd (ix2 i d) = acc (ix2 i d) + ∑ x : Fin 256, actB w b U x s * wd (ix2 x d) := by
  pointwise [k0_pay23, k0_pay22]
  simp only [hu, h1, h2, zero_sub]
  rfl

/-- Zero rows, then a chunk: what the first chunk's shifted rows are taken from. -/
def firstRows (u : FVec Ideal S512x512 .f32) : FVec Ideal S520x512 .f32 :=
  concatenate S520x512 0 [⟨S8x512, broadcast S8x512 (Scalar.ofBits (F := Ideal) .f32 0x00000000#32)⟩, ⟨S512x512, shapeCast S512x512 u shapeCasts_S512x512_S512x512⟩] concatenates_S8x512_S512x512_S520x512_d0

theorem firstRows_apply (u : FVec Ideal S512x512 .f32) (i : Fin 520) (j : Fin 512) :
    firstRows u (ix2 i j) = if h : (i : ℕ) < 8 then 0 else u (ix2 ⟨i - 8, by omega⟩ j) := by
  by_cases h : (i : ℕ) < 8
  · pointwise [firstRows]
  · pointwise [firstRows]

theorem chunk_0 (w : FVec Ideal S3x512 .f32) (b : FVec Ideal S1x512 .f32) (u : FVec Ideal S512x512 .f32) (acc : FVec Ideal S512x1024 .f32)
    (wd : FVec Ideal S256x1024 .bf16) :
    k0_pay11 (k0_pay7 w b u u u) (k0_pay8 w b u u u) (k0_pay9 w b u u u) acc wd
      = k0_pay23 w b u (k0_pay20 (firstRows u)) (k0_pay21 (firstRows u)) (k0_pay22 w) acc wd := by
  simp only [k0_pay11, k0_pay7, k0_pay8, k0_pay9, k0_pay23, k0_pay20, k0_pay21, k0_pay22, shapeCast_self, firstRows]

theorem chunk_1 (w : FVec Ideal S3x512 .f32) (b : FVec Ideal S1x512 .f32) (u : FVec Ideal S512x512 .f32) (v : FVec Ideal S520x512 .f32)
    (acc : FVec Ideal S512x1024 .f32) (wd : FVec Ideal S256x1024 .bf16) :
    k0_pay18 (k0_pay14 w b (k0_pay12 u) (k0_pay13 v) (iota .tc S64x8x512 32 [1] iota_S64x8x512_d1_w32) 1#32 v) acc wd
      = k0_pay23 w b u (k0_pay20 v) (k0_pay21 v) (k0_pay22 w) acc wd := by
  simp only [k0_pay18, k0_pay14, k0_pay12, k0_pay13, k0_pay23, k0_pay20, k0_pay21, k0_pay22, shapeCast_self]

theorem chunk_3 (w : FVec Ideal S3x512 .f32) (b : FVec Ideal S1x512 .f32) (u : FVec Ideal S512x512 .f32) (v : FVec Ideal S520x512 .f32)
    (acc : FVec Ideal S512x1024 .f32) (wd : FVec Ideal S256x1024 .bf16) :
    k0_pay1 (k0_pay26 acc) (k0_pay27 w b (k0_pay24 u) (k0_pay25 v) v wd)
      = k0_pay23 w b u (k0_pay20 v) (k0_pay21 v) (k0_pay22 w) acc wd := by
  simp only [k0_pay1, k0_pay24, k0_pay25, k0_pay26, k0_pay27, k0_pay23, k0_pay20, k0_pay21, k0_pay22, shapeCast_self]

/-! ## The projection's block -/

/-- A tile's columns of the projection: 256 gate columns, then 256 value columns. -/
def upB (h : FVec Ideal S2048x1024 .bf16) (wg wv : FVec Ideal S256x1024 .bf16) : FVec Ideal S2048x512 .f32 := fun y =>
  if hj : (y 1 : ℕ) < 256 then ∑ k : Fin 1024, h (ix2 (y 0) k) * wg (ix2 ⟨y 1, hj⟩ k)
  else ∑ k : Fin 1024, h (ix2 (y 0) k) * wv (ix2 ⟨y 1 - 256, by have := (y 1).isLt; change (y 1 : ℕ) < 512 at this; omega⟩ k)

theorem upRows (x : FVec Ideal S512x1024 .bf16) (wg wv : FVec Ideal S256x1024 .bf16) (h : FVec Ideal S2048x1024 .bf16) (i : Fin 512) (j : Fin 512)
    (s : Fin 2048) (hx : ∀ k, x (ix2 i k) = h (ix2 s k)) : k0_pay10 x wg wv (ix2 i j) = upB h wg wv (ix2 s j) := by
  by_cases hj : (j : ℕ) < 256
  · pointwise [k0_pay10, upB]
    simp only [hx, dif_pos hj]
  · pointwise [k0_pay10, upB]
    simp only [hx, dif_neg hj]

theorem upRows_0 (x : FVec Ideal S512x1024 .bf16) (wg wv : FVec Ideal S256x1024 .bf16) : k0_pay5 x wg wv = k0_pay10 (F := Ideal) x wg wv := rfl
theorem upRows_1 (x : FVec Ideal S512x1024 .bf16) (wg wv : FVec Ideal S256x1024 .bf16) : k0_pay6 x wg wv = k0_pay10 (F := Ideal) x wg wv := rfl
theorem upRows_3 (x : FVec Ideal S512x1024 .bf16) (wg wv : FVec Ideal S256x1024 .bf16) :
    k0_pay17 (k0_pay15 x) (k0_pay16 x wg) wv = k0_pay10 (F := Ideal) x wg wv := rfl

end Cert.KernelIdeal.Own

end
-- ==== Proof.Rows.lean ====
/- Stores of whole slabs along one axis, read back: where every stored slab is a piece of one function and the slabs reach
   over the rows a load takes, the load reads that function. -/
module

public import Idealize.ShloMosaic.Lib.Pipeline.ValueKit
public import Idealize.ShloMosaic.Lib.Pipeline.ReadBack

@[expose] public section

namespace Cert.Slabs

open Idealize.ShloMosaic Idealize.ShloMosaic.View

variable {sig : RefSig} {κ : Kind} {sp : Space} {s : Shape} {e : EltTy} {Val : EltTy → Type}

/-- The piece is a slab along axis `a`: consecutive coordinates there, everything on the other axes. -/
def isSlab (a : Fin s.rank) (p : Piece Val s e) : Bool :=
  decide (∀ b : Fin s.rank, p.1.stride b = 1 ∧ (b ≠ a → p.1.off b = 0 ∧ p.1.size b = s.size b))

/-- Walking down from `hi`, slab by slab, the list's slabs reach `lo`. -/
def reaches (a : Fin s.rank) (L : List (Piece Val s e)) : ℕ → ℕ → ℕ → Bool
  | 0, lo, hi => decide (hi ≤ lo)
  | f + 1, lo, hi => decide (hi ≤ lo) ||
      L.any fun p => decide (p.1.off a < hi) && decide (hi ≤ p.1.off a + p.1.size a) && isSlab a p && reaches a L f lo (p.1.off a)

theorem mem_of_reaches (a : Fin s.rank) (L : List (Piece Val s e)) :
    ∀ (f lo hi : ℕ), reaches a L f lo hi = true → ∀ y : s.Idx, lo ≤ (y a : ℕ) → (y a : ℕ) < hi → ∃ p ∈ L, y ∈ p.1.set
  | 0, lo, hi, h, y, h1, h2 => by
    simp only [reaches, decide_eq_true_eq] at h; omega
  | f + 1, lo, hi, h, y, h1, h2 => by
    simp only [reaches, Bool.or_eq_true, decide_eq_true_eq, List.any_eq_true, Bool.and_eq_true] at h
    rcases h with h | ⟨p, hp, ⟨⟨h3, h4⟩, h5⟩, h6⟩
    · omega
    · by_cases hy : (y a : ℕ) < p.1.off a
      · exact mem_of_reaches a L f lo _ h6 y h1 hy
      · refine ⟨p, hp, ?_⟩
        simp only [isSlab, decide_eq_true_eq] at h5
        simp only [LoadRect.mem_set]
        intro b
        by_cases hb : b = a
        · subst hb; exact ⟨y b - p.1.off b, by omega, by rw [(h5 b).1]; omega⟩
        · have := (h5 b).2 hb
          have hlt := (y b).isLt
          exact ⟨y b, by rw [this.2]; exact hlt, by rw [(h5 b).1, this.1]; omega⟩

/-- A load of rows the slabs reach over reads the function the slabs are pieces of. -/
theorem readCov_eq_ld [∀ e, Nonempty (Val e)] (v : View sig κ sp s e) (a : Fin s.rank) (G : s.Idx → Val e) (L : List (Piece Val s e)) (r : Rect s)
    (h : PiecesOf G L) (f : ℕ) (hc : reaches a L f (r.off a) (r.off a + r.size a) = true) (h1 : r.stride a = 1) :
    v.readCov L r.toLoadRect = View.ld G r := by
  rw [readCov_eq_canon']
  funext j
  have hj := (j a).isLt
  have hv : ((r.toLoadRect.idx j a : ℕ)) = r.off a + r.stride a * (j a : ℕ) := rfl
  obtain ⟨p, hp, hy⟩ := mem_of_reaches a L f _ _ hc (r.toLoadRect.idx j) (by rw [hv, h1]; omega)
    (by rw [hv, h1]; have : (j a : ℕ) < r.size a := hj; omega)
  have := canon_append_of_piecesOf G [] L h (r.toLoadRect.idx j) ⟨p, hp, hy⟩
  rw [List.append_nil] at this
  exact this

/-- A buffer the slabs fill holds the function they are pieces of. -/
theorem canon_eq [∀ e, Nonempty (Val e)] (a : Fin s.rank) (G : s.Idx → Val e) (L : List (Piece Val s e)) (h : PiecesOf G L) (f : ℕ)
    (hc : reaches a L f 0 (s.size a) = true) (y : s.Idx) : View.canon L y = G y := by
  obtain ⟨p, hp, hy⟩ := mem_of_reaches a L f _ _ hc y (Nat.zero_le _) (y a).isLt
  have := canon_append_of_piecesOf G [] L h y ⟨p, hp, hy⟩
  rwa [List.append_nil] at this

/-- The same with earlier stores under the slabs (a fill of the whole buffer). -/
theorem canon_append_eq [∀ e, Nonempty (Val e)] (a : Fin s.rank) (G : s.Idx → Val e) (L L' : List (Piece Val s e)) (h : PiecesOf G L) (f : ℕ)
    (hc : reaches a L f 0 (s.size a) = true) (y : s.Idx) : View.canon (L ++ L') y = G y := by
  obtain ⟨p, hp, hy⟩ := mem_of_reaches a L f _ _ hc y (Nat.zero_le _) (y a).isLt
  exact canon_append_of_piecesOf G L' L h y ⟨p, hp, hy⟩

end Cert.Slabs

end
-- ==== Proof.KSlabs.lean ====
/- The forward body's stored slabs and the loads that read them back. -/
module

public import proofs.«01_k».proof.Proof.KFwd
public import proofs.«01_k».proof.Proof.Rows

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Ffn Cert.Slabs

/-- The projection's rows `o`, …, as one chunk computes them. -/
theorem upPiece {o : ℕ} (inb inb') (x0 : FVec Ideal S2048x1024 .bf16) (x1 x2 : FVec Ideal S256x1024 .bf16) (y : S512x512.Idx) :
    k0_pay10 (F := Ideal) (rowsOf (e := .bf16) (R := 2048) (m := 1024) 512 o inb x0) x1 x2 y
      = upB x0 x1 x2 ((Rect.unit (s := S2048x512) ![o, 0] ![512, 512] inb').emb y) := by
  obtain ⟨i, j, rfl⟩ := exists_ix2 y
  refine Eq.trans ?_ (congrArg (upB x0 x1 x2) (emb_rows inb' i j)).symm
  exact upRows _ _ _ _ _ _ _ fun k => ld_rows (e := .bf16) inb x0 _ _

theorem upInb {o : ℕ} (inb : ∀ a, (![o, 0] : Fin 2 → ℕ) a + (![512, 1024] : Fin 2 → ℕ) a ≤ S2048x1024.size a) (a : Fin 2) :
    (![o, 0] : Fin 2 → ℕ) a + (![512, 512] : Fin 2 → ℕ) a ≤ S2048x512.size a := by
  match a with
  | 0 => exact inb 0
  | 1 => exact (by decide : 0 + 512 ≤ 512)

theorem up_ld {o : ℕ} (inb) (x0 : FVec Ideal S2048x1024 .bf16) (x1 x2 : FVec Ideal S256x1024 .bf16) :
    k0_pay10 (F := Ideal) (rowsOf (e := .bf16) (R := 2048) (m := 1024) 512 o inb x0) x1 x2
      = (rowsOf (e := .f32) (R := 2048) (m := 512) 512 o (upInb inb) (upB x0 x1 x2)) :=
  funext fun y => upPiece inb (upInb inb) x0 x1 x2 y

section Loads

variable {sg : RefSig} {κ : Kind} {sp : Space} (v : View sg κ sp S2048x512 .f32) (U : FVec Ideal S2048x512 .f32)

/-- A stored slab of the projection. -/
abbrev slab (o : ℕ) (inb : ∀ a, (![o, 0] : Fin 2 → ℕ) a + (![512, 512] : Fin 2 → ℕ) a ≤ S2048x512.size a) : View.Piece (Elt Ideal) S2048x512 .f32 :=
  ⟨Rect.unit (s := S2048x512) ![o, 0] ![512, 512] inb, (rowsOf (e := .f32) (R := 2048) (m := 512) 512 o inb U)⟩

theorem load_504 (i0 i1 i2) : v.readCov (Val := Elt Ideal) [slab U 512 i1, slab U 0 i0] (Rect.unit (s := S2048x512) ![504, 0] ![520, 512] i2).toLoadRect
    = (rowsOf (e := .f32) (R := 2048) (m := 512) 520 504 i2 U) :=
  readCov_eq_ld (Val := Elt Ideal) (e := .f32) v (0 : Fin 2) U _ _ (by exact ⟨fun _ => rfl, fun _ => rfl, trivial⟩) 8 (by sl_kernel_rfl) rfl

theorem load_1016 (i0 i1 i2 i3) : v.readCov (Val := Elt Ideal) [slab U 1024 i2, slab U 512 i1, slab U 0 i0] (Rect.unit (s := S2048x512) ![1016, 0] ![520, 512] i3).toLoadRect
    = (rowsOf (e := .f32) (R := 2048) (m := 512) 520 1016 i3 U) :=
  readCov_eq_ld (Val := Elt Ideal) (e := .f32) v (0 : Fin 2) U _ _ (by exact ⟨fun _ => rfl, fun _ => rfl, fun _ => rfl, trivial⟩) 8 (by sl_kernel_rfl) rfl

theorem load_1528 (i0 i1 i2 i3 i4) : v.readCov (Val := Elt Ideal) [slab U 1536 i3, slab U 1024 i2, slab U 512 i1, slab U 0 i0] (Rect.unit (s := S2048x512) ![1528, 0] ![520, 512] i4).toLoadRect
    = (rowsOf (e := .f32) (R := 2048) (m := 512) 520 1528 i4 U) :=
  readCov_eq_ld (Val := Elt Ideal) (e := .f32) v (0 : Fin 2) U _ _ (by exact ⟨fun _ => rfl, fun _ => rfl, fun _ => rfl, fun _ => rfl, trivial⟩) 8 (by sl_kernel_rfl) rfl

end Loads

theorem shift1_ld {o : ℕ} (inb) (U : FVec Ideal S2048x512 .f32) (i j : Fin 512) (s : Fin 2048) (hs : (s : ℕ) = o + 8 + i) :
    k0_pay20 (rowsOf (e := .f32) (R := 2048) (m := 512) 520 o inb U) (ix2 i j)
      = earlier 1 (fun s => U (ix2 s j)) s := by
  rw [shift1, ld_rows (e := .f32), earlier, dif_pos (by omega)]
  congr 2; exact Fin.ext (by dsimp only; omega)

theorem shift2_ld {o : ℕ} (inb) (U : FVec Ideal S2048x512 .f32) (i j : Fin 512) (s : Fin 2048) (hs : (s : ℕ) = o + 8 + i) :
    k0_pay21 (rowsOf (e := .f32) (R := 2048) (m := 512) 520 o inb U) (ix2 i j)
      = earlier 2 (fun s => U (ix2 s j)) s := by
  rw [shift2, ld_rows (e := .f32), earlier, dif_pos (by omega)]
  congr 2; exact Fin.ext (by dsimp only; omega)

theorem shift1_first (inb) (U : FVec Ideal S2048x512 .f32) (i j : Fin 512) (s : Fin 2048) (hs : (s : ℕ) = i) :
    k0_pay20 (F := Ideal) (firstRows (rowsOf (e := .f32) (R := 2048) (m := 512) 512 0 inb U)) (ix2 i j)
      = earlier 1 (fun s => U (ix2 s j)) s := by
  rw [shift1, firstRows_apply, earlier]
  by_cases h : 1 ≤ (i : ℕ)
  · rw [dif_neg (by dsimp only; omega), dif_pos (by omega)]
    refine (ld_rows (e := .f32) inb U _ _).trans ?_
    congr 2; exact Fin.ext (by dsimp only; omega)
  · rw [dif_pos (by dsimp only; omega), dif_neg (by omega)]

theorem shift2_first (inb) (U : FVec Ideal S2048x512 .f32) (i j : Fin 512) (s : Fin 2048) (hs : (s : ℕ) = i) :
    k0_pay21 (F := Ideal) (firstRows (rowsOf (e := .f32) (R := 2048) (m := 512) 512 0 inb U)) (ix2 i j)
      = earlier 2 (fun s => U (ix2 s j)) s := by
  rw [shift2, firstRows_apply, earlier]
  by_cases h : 2 ≤ (i : ℕ)
  · rw [dif_neg (by dsimp only; omega), dif_pos (by omega)]
    refine (ld_rows (e := .f32) inb U _ _).trans ?_
    congr 2; exact Fin.ext (by dsimp only; omega)
  · rw [dif_pos (by dsimp only; omega), dif_neg (by omega)]

/-- The output block after one tile: what it held, plus the tile's products. -/
def dnB (acc : FVec Ideal S2048x1024 .f32) (w : FVec Ideal S3x512 .f32) (b : FVec Ideal S1x512 .f32) (U : FVec Ideal S2048x512 .f32)
    (wd : FVec Ideal S256x1024 .bf16) : FVec Ideal S2048x1024 .f32 := fun y =>
  acc y + ∑ x : Fin 256, actB w b U x (y 0) * wd (ix2 x (y 1))

theorem fill_zero : (k0_pay2 : FVec Ideal S2048x1024 .f32) = fun _ => (0 : EReal) := by
  funext y
  obtain ⟨i, j, rfl⟩ := exists_ix2 y
  pointwise [k0_pay2]

theorem load_fill {sg : RefSig} {κ : Kind} {sp : Space} (v : View sg κ sp S2048x1024 .f32) (n o : ℕ) (inb i2) :
    v.readCov (Val := Elt Ideal) [⟨Rect.unit (s := S2048x1024) ![0, 0] ![2048, 1024] inb, k0_pay2 (F := Ideal)⟩]
        (Rect.unit (s := S2048x1024) ![o, 0] ![n, 1024] i2).toLoadRect
      = rowsOf (e := .f32) (R := 2048) (m := 1024) n o i2 (fun _ => (0 : EReal)) :=
  (View.readCov_fill (Val := Elt Ideal) v inb (k0_pay2 (F := Ideal)) [] _ (by decide)).trans (by rw [fill_zero])

/-- A middle chunk's piece of the output block. -/
theorem dnPiece {o r : ℕ} (hr : r = o + 8) (inb inb' inb'' inb3) (acc : FVec Ideal S2048x1024 .f32) (w : FVec Ideal S3x512 .f32) (b : FVec Ideal S1x512 .f32)
    (U : FVec Ideal S2048x512 .f32) (wd : FVec Ideal S256x1024 .bf16) (y : S512x1024.Idx) :
    k0_pay23 (F := Ideal) w b (rowsOf (e := .f32) (R := 2048) (m := 512) 512 r inb U)
        (k0_pay20 (rowsOf (e := .f32) (R := 2048) (m := 512) 520 o inb' U))
        (k0_pay21 (rowsOf (e := .f32) (R := 2048) (m := 512) 520 o inb' U)) (k0_pay22 w)
        (rowsOf (e := .f32) (R := 2048) (m := 1024) 512 r inb'' acc) wd y
      = dnB acc w b U wd (rowAt (R := 2048) (m := 1024) 512 r inb3 y) := by
  subst hr
  obtain ⟨i, j, rfl⟩ := exists_ix2 y
  refine Eq.trans ?_ (congrArg (dnB acc w b U wd) (emb_rows inb3 i j)).symm
  rw [chunk w b U _ _ _ _ _ _ _ ⟨o + 8 + i, by have := rows_inb inb; omega⟩ (fun j => ld_rows (e := .f32) inb U _ _) (fun j => shift1_ld inb' U _ _ _ rfl) (fun j => shift2_ld inb' U _ _ _ rfl), ld_rows (e := .f32)]
  rfl

/-- The first chunk's piece of the output block. -/
theorem dnPiece_first (inb inb'' inb3) (acc : FVec Ideal S2048x1024 .f32) (w : FVec Ideal S3x512 .f32) (b : FVec Ideal S1x512 .f32)
    (U : FVec Ideal S2048x512 .f32) (wd : FVec Ideal S256x1024 .bf16) (y : S512x1024.Idx) :
    k0_pay23 (F := Ideal) w b (rowsOf (e := .f32) (R := 2048) (m := 512) 512 0 inb U)
        (k0_pay20 (F := Ideal) (firstRows (rowsOf (e := .f32) (R := 2048) (m := 512) 512 0 inb U)))
        (k0_pay21 (F := Ideal) (firstRows (rowsOf (e := .f32) (R := 2048) (m := 512) 512 0 inb U))) (k0_pay22 w)
        (rowsOf (e := .f32) (R := 2048) (m := 1024) 512 0 inb'' acc) wd y
      = dnB acc w b U wd (rowAt (R := 2048) (m := 1024) 512 0 inb3 y) := by
  obtain ⟨i, j, rfl⟩ := exists_ix2 y
  refine Eq.trans ?_ (congrArg (dnB acc w b U wd) (emb_rows inb3 i j)).symm
  rw [chunk w b U _ _ _ _ _ _ _ ⟨0 + i, by omega⟩ (fun j => ld_rows (e := .f32) inb U _ _) (fun j => shift1_first inb U _ _ _ (Nat.zero_add _)) (fun j => shift2_first inb U _ _ _ (Nat.zero_add _)), ld_rows (e := .f32)]
  rfl

end Cert.KernelIdeal.Own

end
-- ==== Proof.KOut0.lean ====
/- What the forward region's outputs hold after each grid point. -/
module

public import proofs.«01_k».proof.Proof.Gen.KernelIdeal.Frame.Region0
public import proofs.«01_k».proof.Proof.KSlabs

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Ffn Cert.Slabs

variable (V : (c : Dev nD) → (b : Ref sig .tc) → Buf (Elt Ideal) ((c : Thread nD τ).loc b))

theorem out9_A (c : Dev nD) (t : Fin cfg0.N) (h : t.val % 11 = 0) (y) :
    (outsAt0 V c t.val t.isLt).2 y = upB (iblk0 V c 0 t) (iblk0 V c 1 t) (iblk0 V c 2 t) y := by
  rw [outsAt0_A V c t h]
  generalize iblk0 V c 0 t = x0
  generalize iblk0 V c 1 t = x1
  generalize iblk0 V c 2 t = x2
  generalize iblk0 V c 3 t = x3
  generalize iblk0 V c 4 t = x4
  generalize iblk0 V c 5 t = x5
  generalize iblk0 V c 6 t = x6
  generalize iblk0 V c 7 t = x7
  frame_open
  frame_out
  simp only [upRows_0, upRows_1, upRows_3, up_ld]
  refine canon_eq (Val := Elt Ideal) (e := .f32) (s := S2048x512) (0 : Fin 2) (upB x0 x1 x2) _ ?_ 8 (by sl_kernel_rfl) y
  exact ⟨fun _ => rfl, fun _ => rfl, fun _ => rfl, fun _ => rfl, trivial⟩

theorem out8_A (c : Dev nD) (t : Fin cfg0.N) (h : t.val % 11 = 0) (y) :
    (outsAt0 V c t.val t.isLt).1 y
      = dnB (fun _ => (0 : EReal)) (k0_pay3 (iblk0 V c 3 t) (iblk0 V c 4 t)) (k0_pay4 (iblk0 V c 5 t) (iblk0 V c 6 t))
          (upB (iblk0 V c 0 t) (iblk0 V c 1 t) (iblk0 V c 2 t)) (iblk0 V c 7 t) y := by
  rw [outsAt0_A V c t h]
  generalize iblk0 V c 0 t = x0
  generalize iblk0 V c 1 t = x1
  generalize iblk0 V c 2 t = x2
  generalize iblk0 V c 3 t = x3
  generalize iblk0 V c 4 t = x4
  generalize iblk0 V c 5 t = x5
  generalize iblk0 V c 6 t = x6
  generalize iblk0 V c 7 t = x7
  frame_open
  simp (disch := decide) only [↓ View.readCov_skip, ↓ View.readCov_cons_toLoadRect]
  frame_out
  simp only [upRows_0, upRows_1, upRows_3, up_ld, load_504, load_1016, load_1528, load_fill, chunk_0, chunk_3, k0_pay19, shapeCast_self]
  rw [chunk_1]
  refine canon_append_eq (Val := Elt Ideal) (e := .f32) (s := S2048x1024) (0 : Fin 2) (dnB (fun _ => (0 : EReal)) (k0_pay3 x3 x4) (k0_pay4 x5 x6) (upB x0 x1 x2) x7) [_, _, _, _] [_] ?_ 8 (by sl_kernel_rfl) y
  exact ⟨dnPiece (o := 1528) rfl (by decide) (by decide) (by decide) (by decide) (fun _ => (0 : EReal)) _ _ _ _, dnPiece (o := 1016) rfl (by decide) (by decide) (by decide) (by decide) (fun _ => (0 : EReal)) _ _ _ _, dnPiece (o := 504) rfl (by decide) (by decide) (by decide) (by decide) (fun _ => (0 : EReal)) _ _ _ _, dnPiece_first (by decide) (by decide) (by decide) (fun _ => (0 : EReal)) _ _ _ _, trivial⟩

theorem out9_B (c : Dev nD) (t : Fin cfg0.N) (h : ¬ t.val % 11 = 0) (y) :
    (outsAt0 V c t.val t.isLt).2 y = upB (iblk0 V c 0 t) (iblk0 V c 1 t) (iblk0 V c 2 t) y := by
  rw [outsAt0_B V c t h]
  generalize iblk0 V c 0 t = x0
  generalize iblk0 V c 1 t = x1
  generalize iblk0 V c 2 t = x2
  generalize iblk0 V c 3 t = x3
  generalize iblk0 V c 4 t = x4
  generalize iblk0 V c 5 t = x5
  generalize iblk0 V c 6 t = x6
  generalize iblk0 V c 7 t = x7
  frame_open
  frame_out
  simp only [upRows_0, upRows_1, upRows_3, up_ld]
  refine canon_eq (Val := Elt Ideal) (e := .f32) (s := S2048x512) (0 : Fin 2) (upB x0 x1 x2) _ ?_ 8 (by sl_kernel_rfl) y
  exact ⟨fun _ => rfl, fun _ => rfl, fun _ => rfl, fun _ => rfl, trivial⟩

theorem out8_B (c : Dev nD) (t : Fin cfg0.N) (h : ¬ t.val % 11 = 0) (y) :
    (outsAt0 V c t.val t.isLt).1 y
      = dnB (outsAt0 V c (t.val - 1) (by omega)).1 (k0_pay3 (iblk0 V c 3 t) (iblk0 V c 4 t)) (k0_pay4 (iblk0 V c 5 t) (iblk0 V c 6 t))
          (upB (iblk0 V c 0 t) (iblk0 V c 1 t) (iblk0 V c 2 t)) (iblk0 V c 7 t) y := by
  rw [outsAt0_B V c t h]
  generalize iblk0 V c 0 t = x0
  generalize iblk0 V c 1 t = x1
  generalize iblk0 V c 2 t = x2
  generalize iblk0 V c 3 t = x3
  generalize iblk0 V c 4 t = x4
  generalize iblk0 V c 5 t = x5
  generalize iblk0 V c 6 t = x6
  generalize iblk0 V c 7 t = x7
  generalize (outsAt0 V c (t.val-1) _).1 = x8
  frame_open
  simp (disch := decide) only [↓ View.readCov_skip, ↓ View.readCov_cons_toLoadRect]
  frame_out
  simp only [upRows_0, upRows_1, upRows_3, up_ld, load_504, load_1016, load_1528, chunk_0, chunk_3, k0_pay19, shapeCast_self]
  rw [chunk_1]
  refine canon_eq (Val := Elt Ideal) (e := .f32) (s := S2048x1024) (0 : Fin 2) (dnB x8 (k0_pay3 x3 x4) (k0_pay4 x5 x6) (upB x0 x1 x2) x7) _ ?_ 8 (by sl_kernel_rfl) y
  exact ⟨dnPiece (o := 1528) rfl (by decide) (by decide) (by decide) (by decide) x8 _ _ _ _, dnPiece (o := 1016) rfl (by decide) (by decide) (by decide) (by decide) x8 _ _ _ _, dnPiece (o := 504) rfl (by decide) (by decide) (by decide) (by decide) x8 _ _ _ _, dnPiece_first (by decide) (by decide) (by decide) x8 _ _ _ _, trivial⟩

end Cert.KernelIdeal.Own

end
-- ==== Proof.KArr0.lean ====
/- The forward region's arrays at its exit: the layer's output, and the projection in tiles of columns. -/
module

public import proofs.«01_k».proof.Proof.KOut0
public import Idealize.ShloMosaic.Lib.Pipeline.ReadBack

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Ffn Cert.Slabs

variable (V : (c : Dev nD) → (b : Ref sig .tc) → Buf (Elt Ideal) ((c : Thread nD τ).loc b))

/-! ## The operands, and where a tile's columns lie -/

/-- The layer's input. -/
def HA (c : Dev nD) (s : Fin 2048) (k : Fin 1024) : EReal := V c main_v0 (ix2 s k)
/-- The up weight. -/
def WUA (c : Dev nD) (k : Fin 1024) (e : Fin 5632) : EReal := V c main_v3 (ix2 e k)
/-- The convolution's taps. -/
def WCA (c : Dev nD) (r : Fin 3) (e : Fin 5632) : EReal := V c main_arg2 (ix2 r e)
/-- The convolution's bias. -/
def BCA (c : Dev nD) (e : Fin 5632) : EReal := V c main_arg3 (ix2 0 e)
/-- The down weight. -/
def WDA (c : Dev nD) (x : Fin 2816) (d : Fin 1024) : EReal := V c main_v4 (ix2 x d)

/-- Tile `t`'s channel `x`. -/
def chan (t : Fin 11) (x : Fin 256) : Fin 2816 := ⟨256 * t + x, by omega⟩

/-- Tile `t`'s column `j` among the projection's: its gate columns, then its value columns. -/
def ecol (t : Fin 11) (j : Fin 512) : Fin 5632 :=
  if (j : ℕ) < 256 then ⟨256 * t + j, by omega⟩ else ⟨2816 + (256 * t + (j - 256)), by omega⟩

theorem ecol_gate (t : Fin 11) (x : Fin 256) (h : (x : ℕ) < 512) : ecol t ⟨x, h⟩ = gcol (chan t x) := by
  unfold ecol; exact if_pos x.isLt

theorem ecol_val (t : Fin 11) (x : Fin 256) (h : 256 + (x : ℕ) < 512) : ecol t ⟨256 + x, h⟩ = vcol (chan t x) := by
  unfold ecol
  exact (if_neg (by dsimp only; omega)).trans (Fin.ext (by simp [chan]))

theorem ecol_lt (t : Fin 11) (j : Fin 512) (h : (j : ℕ) < 256) : ecol t j = ⟨256 * t + j, by omega⟩ := by
  unfold ecol; exact if_pos h

theorem ecol_ge (t : Fin 11) (j : Fin 512) (h : ¬ (j : ℕ) < 256) : ecol t j = ⟨2816 + (256 * t + (j - 256)), by omega⟩ := by
  unfold ecol; exact if_neg h

/-- A grid point's tile. -/
def tile0 (t : Fin cfg0.N) : Fin 11 := ⟨t.val, t.isLt.trans_eq N_0⟩

theorem idx0 : ∀ t : Fin cfg0.N, win0_0.index t = ![0, 0] ∧ win0_1.index t = ![t.val, 0] ∧ win0_2.index t = ![t.val + 11, 0]
    ∧ win0_3.index t = ![0, t.val] ∧ win0_4.index t = ![0, t.val + 11] ∧ win0_5.index t = ![0, t.val] ∧ win0_6.index t = ![0, t.val + 11]
    ∧ win0_7.index t = ![t.val, 0] ∧ win0_8.index t = ![0, 0] ∧ win0_9.index t = ![0, t.val] :=
  (by decide +kernel : ∀ t : Fin grid0.N, _)

theorem lt0 (t : Fin cfg0.N) : t.val < 11 := t.isLt.trans_eq N_0

theorem blk0_0 (c : Dev nD) (t : Fin cfg0.N) (s : Fin 2048) (k : Fin 1024) : iblk0 V c 0 t (ix2 s k) = V c main_v0 (ix2 s k) := by
  blk_ext [iblk0, idx0 t]
theorem blk0_1 (c : Dev nD) (t : Fin cfg0.N) (x : Fin 256) (k : Fin 1024) :
    iblk0 V c 1 t (ix2 x k) = V c main_v3 (ix2 ⟨256 * t.val + x, by have := lt0 t; omega⟩ k) := by
  blk_ext [iblk0, idx0 t]
theorem blk0_2 (c : Dev nD) (t : Fin cfg0.N) (x : Fin 256) (k : Fin 1024) :
    iblk0 V c 2 t (ix2 x k) = V c main_v3 (ix2 ⟨2816 + (256 * t.val + x), by have := lt0 t; omega⟩ k) := by
  blk_ext [iblk0, idx0 t]
theorem blk0_3 (c : Dev nD) (t : Fin cfg0.N) (r : Fin 3) (x : Fin 256) :
    iblk0 V c 3 t (ix2 r x) = V c main_arg2 (ix2 r ⟨256 * t.val + x, by have := lt0 t; omega⟩) := by
  blk_ext [iblk0, idx0 t]
theorem blk0_4 (c : Dev nD) (t : Fin cfg0.N) (r : Fin 3) (x : Fin 256) :
    iblk0 V c 4 t (ix2 r x) = V c main_arg2 (ix2 r ⟨2816 + (256 * t.val + x), by have := lt0 t; omega⟩) := by
  blk_ext [iblk0, idx0 t]
theorem blk0_5 (c : Dev nD) (t : Fin cfg0.N) (x : Fin 256) :
    iblk0 V c 5 t (ix2 0 x) = V c main_arg3 (ix2 0 ⟨256 * t.val + x, by have := lt0 t; omega⟩) := by
  blk_ext [iblk0, idx0 t]
theorem blk0_6 (c : Dev nD) (t : Fin cfg0.N) (x : Fin 256) :
    iblk0 V c 6 t (ix2 0 x) = V c main_arg3 (ix2 0 ⟨2816 + (256 * t.val + x), by have := lt0 t; omega⟩) := by
  blk_ext [iblk0, idx0 t]
theorem blk0_7 (c : Dev nD) (t : Fin cfg0.N) (x : Fin 256) (d : Fin 1024) :
    iblk0 V c 7 t (ix2 x d) = V c main_v4 (ix2 ⟨256 * t.val + x, by have := lt0 t; omega⟩ d) := by
  blk_ext [iblk0, idx0 t]

/-- The tile's taps are the whole taps' at its columns. -/
theorem taps0 (c : Dev nD) (t : Fin cfg0.N) (r : Fin 3) (j : Fin 512) :
    k0_pay3 (iblk0 V c 3 t) (iblk0 V c 4 t) (ix2 r j) = WCA V c r (ecol (tile0 t) j) := by
  by_cases h : (j : ℕ) < 256
  · rw [ecol_lt _ _ h]
    refine Eq.trans ?_ (blk0_3 V c t r ⟨j, h⟩)
    generalize iblk0 V c 3 t = x3
    generalize iblk0 V c 4 t = x4
    pointwise [k0_pay3]
    exact dif_pos h
  · rw [ecol_ge _ _ h]
    refine Eq.trans ?_ (blk0_4 V c t r ⟨j - 256, by omega⟩)
    generalize iblk0 V c 3 t = x3
    generalize iblk0 V c 4 t = x4
    pointwise [k0_pay3]
    exact dif_neg h

theorem bias0 (c : Dev nD) (t : Fin cfg0.N) (j : Fin 512) :
    k0_pay4 (iblk0 V c 5 t) (iblk0 V c 6 t) (ix2 0 j) = BCA V c (ecol (tile0 t) j) := by
  by_cases h : (j : ℕ) < 256
  · rw [ecol_lt _ _ h]
    refine Eq.trans ?_ (blk0_5 V c t ⟨j, h⟩)
    generalize iblk0 V c 5 t = x3
    generalize iblk0 V c 6 t = x4
    pointwise [k0_pay4]
    exact dif_pos h
  · rw [ecol_ge _ _ h]
    refine Eq.trans ?_ (blk0_6 V c t ⟨j - 256, by omega⟩)
    generalize iblk0 V c 5 t = x3
    generalize iblk0 V c 6 t = x4
    pointwise [k0_pay4]
    exact dif_neg h

theorem upB_lt (h : FVec Ideal S2048x1024 .bf16) (wg wv : FVec Ideal S256x1024 .bf16) (s : Fin 2048) (j : Fin 512) (hj : (j : ℕ) < 256) :
    upB h wg wv (ix2 s j) = ∑ k : Fin 1024, h (ix2 s k) * wg (ix2 ⟨j, hj⟩ k) := by
  unfold upB; exact dif_pos hj

theorem upB_ge (h : FVec Ideal S2048x1024 .bf16) (wg wv : FVec Ideal S256x1024 .bf16) (s : Fin 2048) (j : Fin 512) (hj : ¬ (j : ℕ) < 256) :
    upB h wg wv (ix2 s j) = ∑ k : Fin 1024, h (ix2 s k) * wv (ix2 ⟨j - 256, by omega⟩ k) := by
  unfold upB; exact dif_neg hj

/-- The tile's block of the projection. -/
theorem proj0 (c : Dev nD) (t : Fin cfg0.N) (s : Fin 2048) (j : Fin 512) :
    upB (iblk0 V c 0 t) (iblk0 V c 1 t) (iblk0 V c 2 t) (ix2 s j) = up (HA V c) (WUA V c) (ecol (tile0 t) j) s := by
  by_cases h : (j : ℕ) < 256
  · rw [ecol_lt _ _ h]
    refine (upB_lt _ _ _ _ _ h).trans (Finset.sum_congr rfl fun k _ => ?_)
    rw [blk0_0 V c t s k, blk0_1 V c t ⟨j, h⟩ k]
    rfl
  · rw [ecol_ge _ _ h]
    refine (upB_ge _ _ _ _ _ h).trans (Finset.sum_congr rfl fun k _ => ?_)
    rw [blk0_0 V c t s k, blk0_2 V c t ⟨j - 256, by omega⟩ k]
    rfl

theorem pre0 (c : Dev nD) (t : Fin cfg0.N) (j : Fin 512) :
    preB (k0_pay3 (iblk0 V c 3 t) (iblk0 V c 4 t)) (k0_pay4 (iblk0 V c 5 t) (iblk0 V c 6 t))
        (upB (iblk0 V c 0 t) (iblk0 V c 1 t) (iblk0 V c 2 t)) j
      = pre (HA V c) (WUA V c) (WCA V c) (BCA V c) (ecol (tile0 t) j) := by
  unfold preB pre
  rw [taps0, taps0, taps0, bias0, funext fun s => proj0 V c t s j]

theorem act0 (c : Dev nD) (t : Fin cfg0.N) (x : Fin 256) (s : Fin 2048) :
    actB (k0_pay3 (iblk0 V c 3 t) (iblk0 V c 4 t)) (k0_pay4 (iblk0 V c 5 t) (iblk0 V c 6 t))
        (upB (iblk0 V c 0 t) (iblk0 V c 1 t) (iblk0 V c 2 t)) x s
      = actC (HA V c) (WUA V c) (WCA V c) (BCA V c) (chan (tile0 t) x) s := by
  unfold actB actC
  rw [pre0, pre0, ecol_gate, ecol_val]

/-- The projection, tile by tile: tile `t`'s 512 columns stand at `512 * t` on. -/
def upT (c : Dev nD) : FVec Ideal S2048x5632 .f32 := fun i =>
  up (HA V c) (WUA V c) (ecol ⟨(i 1 : ℕ) / 512, by have := (i 1).isLt; change (i 1 : ℕ) < 5632 at this; omega⟩
    ⟨(i 1 : ℕ) % 512, Nat.mod_lt _ (by decide)⟩) (i 0)

theorem upT_at (c : Dev nD) (t : Fin 11) (s : Fin 2048) (j : Fin 512) (i : S2048x5632.Idx) (h0 : (i 0 : ℕ) = s) (h1 : (i 1 : ℕ) = t * 512 + j) :
    upT V c i = up (HA V c) (WUA V c) (ecol t j) s := by
  unfold upT
  congr 2
  · exact Fin.ext (by dsimp only; omega)
  · exact Fin.ext (by dsimp only; omega)
  · exact Fin.ext h0

theorem arr0_9 (c : Dev nD) : (dat0 V c).arrAt 9 cfg0.N = upT V c := by
  refine (dat0 V c).arrAt_eq_of_covers 9 _ (by decide +kernel) fun t _ y => ?_
  blk_simp
  rw [after0_9]
  obtain ⟨s, j, rfl⟩ := exists_ix2 (n := 2048) (m := 512) y
  trans up (HA V c) (WUA V c) (ecol (tile0 t) j) s
  · refine Eq.trans ?_ (proj0 V c t s j)
    by_cases h : t.val % 11 = 0
    · exact out9_A V c t h _
    · exact out9_B V c t h _
  · refine (upT_at V c (tile0 t) s j _ ?_ ?_).symm
    · blk_simp [idx0 t]
    · blk_simp [idx0 t]
      rfl

/-- The layer's output. -/
def dnA (c : Dev nD) : FVec Ideal S2048x1024 .f32 := fun i =>
  down (HA V c) (WUA V c) (WCA V c) (BCA V c) (WDA V c) (i 0) (i 1)

theorem arr0_8 (c : Dev nD) : (dat0 V c).arrAt 8 cfg0.N = dnA V c := by
  refine (dat0 V c).arrAt_eq_of_after_last 8 t0_10 (by decide +kernel) _ fun j => ?_
  blk_simp
  rw [after0_8, Pipeline.eq_sum_fin_of_reset_step_apply_last (fun n h => (outsAt0 V c n h).1) 11 (fun _ => (0 : EReal)) (fun t j => ∑ x : Fin 256, actB (k0_pay3 (iblk0 V c 3 t) (iblk0 V c 4 t)) (k0_pay4 (iblk0 V c 5 t) (iblk0 V c 6 t))
        (upB (iblk0 V c 0 t) (iblk0 V c 1 t) (iblk0 V c 2 t)) x (j 0) * (iblk0 V c 7 t (ix2 x (j 1)) : EReal))
    (fun t h j => out8_A V c t h j) (fun t h j => out8_B V c t h j) (le_of_eq N_0) t0_10 rfl j, zero_add]
  refine Fin.sum_mul_add_congr fun t x hl => ?_
  have e : (⟨t.val * 256 + x, hl⟩ : Fin 2816) = chan (tile0 t) x := Fin.ext (by simp only [chan, tile0]; omega)
  rw [e]
  exact congrArg₂ (· * ·) (act0 V c t x (j 0)) (blk0_7 V c t x (j 1))

end Cert.KernelIdeal.Own

end
-- ==== Proof.KBwd.lean ====
/- The backward body's values: one chunk of 256 rows, whichever payload spells it. -/
module

public import proofs.«01_k».proof.Proof.KFwd

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Ffn

/-! ## One chunk's values, written once -/

/-- The rows one position earlier, of rows loaded with the eight before them: a rotation within groups of eight, selected. -/
def back1 (v : FVec Ideal S264x512 .f32) : FVec Ideal S256x512 .f32 :=
  let q : FVec Ideal S33x8x512 .f32 := dynamicRotate 1 1#32 none (shapeCast S33x8x512 v shapeCasts_S264x512_S33x8x512) rotates_S33x8x512_d1
  shapeCast S256x512 (select (cmpi .slt (iota .tc S32x8x512 32 [1] iota_S32x8x512_d1_w32) (broadcast S32x8x512 1#32))
    (extractStridedSlice S32x8x512 ![0, 0, 0] q slices_S33x8x512_o0_0_0_S32x8x512)
    (extractStridedSlice S32x8x512 ![1, 0, 0] q slices_S33x8x512_o1_0_0_S32x8x512)) shapeCasts_S32x8x512_S256x512

/-- The rows two positions earlier. -/
def back2 (v : FVec Ideal S264x512 .f32) : FVec Ideal S256x512 .f32 :=
  let q : FVec Ideal S33x8x512 .f32 := dynamicRotate 1 2#32 none (shapeCast S33x8x512 v shapeCasts_S264x512_S33x8x512) rotates_S33x8x512_d1
  shapeCast S256x512 (select (cmpi .slt (iota .tc S32x8x512 32 [1] iota_S32x8x512_d1_w32) (broadcast S32x8x512 2#32))
    (extractStridedSlice S32x8x512 ![0, 0, 0] q slices_S33x8x512_o0_0_0_S32x8x512)
    (extractStridedSlice S32x8x512 ![1, 0, 0] q slices_S33x8x512_o1_0_0_S32x8x512)) shapeCasts_S32x8x512_S256x512

/-- The rows one position later, of rows loaded with the eight after them. -/
def ahead1 (v : FVec Ideal S264x512 .f32) : FVec Ideal S256x512 .f32 :=
  let q : FVec Ideal S33x8x512 .f32 := dynamicRotate 1 7#32 none (shapeCast S33x8x512 v shapeCasts_S264x512_S33x8x512) rotates_S33x8x512_d1
  shapeCast S256x512 (select (cmpi .slt (iota .tc S32x8x512 32 [1] iota_S32x8x512_d1_w32) (broadcast S32x8x512 7#32))
    (extractStridedSlice S32x8x512 ![0, 0, 0] q slices_S33x8x512_o0_0_0_S32x8x512)
    (extractStridedSlice S32x8x512 ![1, 0, 0] q slices_S33x8x512_o1_0_0_S32x8x512)) shapeCasts_S32x8x512_S256x512

/-- The rows two positions later. -/
def ahead2 (v : FVec Ideal S264x512 .f32) : FVec Ideal S256x512 .f32 :=
  let q : FVec Ideal S33x8x512 .f32 := dynamicRotate 1 6#32 none (shapeCast S33x8x512 v shapeCasts_S264x512_S33x8x512) rotates_S33x8x512_d1
  shapeCast S256x512 (select (cmpi .slt (iota .tc S32x8x512 32 [1] iota_S32x8x512_d1_w32) (broadcast S32x8x512 6#32))
    (extractStridedSlice S32x8x512 ![0, 0, 0] q slices_S33x8x512_o0_0_0_S32x8x512)
    (extractStridedSlice S32x8x512 ![1, 0, 0] q slices_S33x8x512_o1_0_0_S32x8x512)) shapeCasts_S32x8x512_S256x512

/-- Zero rows, then the first chunk: what its shifted rows are taken from. -/
def zeroRows (u : FVec Ideal S256x512 .f32) : FVec Ideal S264x512 .f32 :=
  concatenate S264x512 0 [⟨S8x512, broadcast S8x512 (Scalar.ofBits (F := Ideal) .f32 0x00000000#32)⟩, ⟨S256x512, u⟩] concatenates_S8x512_S256x512_S264x512_d0

/-- The convolved rows, from the rows and the rows one and two earlier. -/
def preC (w : FVec Ideal S3x512 .f32) (b : FVec Ideal S1x512 .f32) (u u1 u2 : FVec Ideal S256x512 .f32) : FVec Ideal S256x512 .f32 :=
  addf (addf (addf (mulf (broadcastTo S256x512 (extractStridedSlice S1x512 ![2, 0] w slices_S3x512_o2_0_S1x512) broadcasts_S1x512_S256x512) u)
    (mulf (broadcastTo S256x512 (extractStridedSlice S1x512 ![1, 0] w slices_S3x512_o1_0_S1x512) broadcasts_S1x512_S256x512) u1))
    (mulf (broadcastTo S256x512 (extractStridedSlice S1x512 ![0, 0] w slices_S3x512_o0_0_S1x512) broadcasts_S1x512_S256x512) u2))
    (broadcastTo S256x512 b broadcasts_S1x512_S256x512)

/-- The gate columns of a chunk. -/
def gateC (p : FVec Ideal S256x512 .f32) : FVec Ideal S256x256 .f32 := extractStridedSlice S256x256 ![0, 0] p slices_S256x512_o0_0_S256x256
/-- The value columns of a chunk. -/
def valC (p : FVec Ideal S256x512 .f32) : FVec Ideal S256x256 .f32 := extractStridedSlice S256x256 ![0, 256] p slices_S256x512_o0_256_S256x256
/-- Ones. -/
def onesC : FVec Ideal S256x256 .f32 := broadcast S256x256 (Scalar.ofBits (F := Ideal) .f32 0x3F800000#32)
/-- The logistic function of a chunk's gate columns. -/
def sigC (g : FVec Ideal S256x256 .f32) : FVec Ideal S256x256 .f32 :=
  divf onesC (addf onesC (exp (subf (broadcast S256x256 (Scalar.ofBits (F := Ideal) .f32 0x00000000#32)) g)))
/-- The cotangent of a chunk's activation. -/
def daC (dd wd : FVec Ideal S256x1024 .bf16) : FVec Ideal S256x256 .f32 :=
  matmul dot_S256x1024_S256x1024_S256x256_1_1_0_0_n_n none dd wd (constant S256x256 .f32 0x00000000#32)
/-- The cotangent of a chunk's convolved rows. -/
def duC (d : FVec Ideal S256x256 .f32) (p : FVec Ideal S256x512 .f32) : FVec Ideal S256x512 .f32 :=
  concatenate S256x512 1 [⟨S256x256, mulf (mulf d (valC p)) (mulf (sigC (gateC p)) (addf onesC (mulf (gateC p) (subf onesC (sigC (gateC p))))))⟩,
    ⟨S256x256, mulf d (mulf (gateC p) (sigC (gateC p)))⟩] concatenates_S256x256_S256x256_S256x512_d1
/-- A chunk's activation. -/
def acC (p : FVec Ideal S256x512 .f32) : FVec Ideal S256x256 .bf16 :=
  truncf .bf16 (mulf (mulf (gateC p) (sigC (gateC p))) (valC p)) bitsLt_bf16_f32
/-- The sum of a chunk's rows. -/
def sumC (x : FVec Ideal S256x512 .f32) : FVec Ideal S1x512 .f32 :=
  shapeCast S1x512 (multiReduction .add [0] S512 x 0x00000000#32 reduces_S256x512_S512 (.inl rfl) rfl) shapeCasts_S512_S1x512
/-- A chunk's share of the taps' gradient. -/
def dwC (du u u1 u2 : FVec Ideal S256x512 .f32) : FVec Ideal S3x512 .f32 :=
  concatenate S3x512 0 [⟨S1x512, sumC (mulf du u2)⟩, ⟨S1x512, sumC (mulf du u1)⟩, ⟨S1x512, sumC (mulf du u)⟩] concatenates_S1x512_S1x512_S1x512_S3x512_d0
/-- Where the running sums start. -/
def zeroW : FVec Ideal S3x512 .f32 := broadcast S3x512 (Scalar.ofBits (F := Ideal) .f32 0x00000000#32)
/-- Where the bias's running sum starts. -/
def zeroB : FVec Ideal S1x512 .f32 := broadcast S1x512 (Scalar.ofBits (F := Ideal) .f32 0x00000000#32)
/-- The cotangent of a chunk of the up projection, from the convolved rows' cotangent with the eight rows after the chunk. -/
def dupC (w : FVec Ideal S3x512 .f32) (v : FVec Ideal S264x512 .f32) : FVec Ideal S256x512 .bf16 :=
  truncf .bf16 (addf (addf (mulf (broadcastTo S256x512 (extractStridedSlice S1x512 ![2, 0] w slices_S3x512_o2_0_S1x512) broadcasts_S1x512_S256x512)
      (extractStridedSlice S256x512 ![0, 0] v slices_S264x512_o0_0_S256x512))
    (mulf (broadcastTo S256x512 (extractStridedSlice S1x512 ![1, 0] w slices_S3x512_o1_0_S1x512) broadcasts_S1x512_S256x512) (ahead1 v)))
    (mulf (broadcastTo S256x512 (extractStridedSlice S1x512 ![0, 0] w slices_S3x512_o0_0_S1x512) broadcasts_S1x512_S256x512) (ahead2 v))) bitsLt_bf16_f32
/-- A chunk of the input's gradient after a tile: what it held, plus the tile's products. -/
def dhC (wp : FVec Ideal S512x1024 .bf16) (dup : FVec Ideal S256x512 .bf16) (acc : FVec Ideal S256x1024 .f32) : FVec Ideal S256x1024 .f32 :=
  addf acc (matmul dot_S256x512_S512x1024_S256x1024_1_0_0_1_n_n none dup wp (constant S256x1024 .f32 0x00000000#32))

/-! ## Each chunk's payloads, in those terms -/

theorem cast_u (u : FVec Ideal S256x512 .f32) : shapeCast S256x512 u shapeCasts_S256x512_S256x512 = u := shapeCast_self ..
theorem cast_x (u : FVec Ideal S264x512 .f32) : shapeCast S264x512 u shapeCasts_S264x512_S264x512 = u := shapeCast_self ..

theorem da_0 (dd : FVec Ideal S256x1024 .bf16) (wd : FVec Ideal S256x1024 .bf16) :
    (k1_pay12 dd wd)
      = daC dd wd := by
  simp only [k1_pay12, back1, back2, ahead1, ahead2, zeroRows, preC, gateC, valC, onesC, sigC, daC, duC, acC, sumC, dwC, zeroW, zeroB, dupC, dhC, shapeCast_self] <;> (try rw [cast_u]) <;> (try rw [cast_x])

theorem du_0 (w : FVec Ideal S3x512 .f32) (b : FVec Ideal S1x512 .f32) (d : FVec Ideal S256x256 .f32) (u : FVec Ideal S256x512 .f32) :
    (k1_pay23 d (k1_pay18 w b u u u) (k1_pay19 w b u u u) (k1_pay20 w b u u u))
      = duC d (preC w b u (back1 (zeroRows u)) (back2 (zeroRows u))) := by
  simp only [k1_pay14, k1_pay15, k1_pay16, k1_pay17, k1_pay18, k1_pay19, k1_pay20, k1_pay21, k1_pay22, k1_pay23, back1, back2, ahead1, ahead2, zeroRows, preC, gateC, valC, onesC, sigC, daC, duC, acC, sumC, dwC, zeroW, zeroB, dupC, dhC, shapeCast_self] <;> (try rw [cast_u]) <;> (try rw [cast_x])

theorem ac_0 (w : FVec Ideal S3x512 .f32) (b : FVec Ideal S1x512 .f32) (u : FVec Ideal S256x512 .f32) :
    (k1_pay24 (k1_pay18 w b u u u) (k1_pay19 w b u u u) (k1_pay20 w b u u u))
      = acC (preC w b u (back1 (zeroRows u)) (back2 (zeroRows u))) := by
  simp only [k1_pay14, k1_pay15, k1_pay16, k1_pay17, k1_pay18, k1_pay19, k1_pay20, k1_pay21, k1_pay24, back1, back2, ahead1, ahead2, zeroRows, preC, gateC, valC, onesC, sigC, daC, duC, acC, sumC, dwC, zeroW, zeroB, dupC, dhC, shapeCast_self] <;> (try rw [cast_u]) <;> (try rw [cast_x])

theorem dw_0 (w : FVec Ideal S3x512 .f32) (b : FVec Ideal S1x512 .f32) (d : FVec Ideal S256x256 .f32) (u : FVec Ideal S256x512 .f32) :
    (k1_pay25 d (k1_pay14 u) (k1_pay15 u) (k1_pay16 u) (k1_pay18 w b u u u) (k1_pay19 w b u u u) (k1_pay20 w b u u u))
      = addf zeroW (dwC (duC d (preC w b u (back1 (zeroRows u)) (back2 (zeroRows u)))) u (back1 (zeroRows u)) (back2 (zeroRows u))) := by
  simp only [k1_pay14, k1_pay15, k1_pay16, k1_pay17, k1_pay18, k1_pay19, k1_pay20, k1_pay21, k1_pay22, k1_pay25, back1, back2, ahead1, ahead2, zeroRows, preC, gateC, valC, onesC, sigC, daC, duC, acC, sumC, dwC, zeroW, zeroB, dupC, dhC, shapeCast_self] <;> (try rw [cast_u]) <;> (try rw [cast_x])

theorem db_0 (w : FVec Ideal S3x512 .f32) (b : FVec Ideal S1x512 .f32) (d : FVec Ideal S256x256 .f32) (u : FVec Ideal S256x512 .f32) :
    (k1_pay26 d (k1_pay18 w b u u u) (k1_pay19 w b u u u) (k1_pay20 w b u u u))
      = addf zeroB (sumC (duC d (preC w b u (back1 (zeroRows u)) (back2 (zeroRows u))))) := by
  simp only [k1_pay14, k1_pay15, k1_pay16, k1_pay17, k1_pay18, k1_pay19, k1_pay20, k1_pay21, k1_pay22, k1_pay26, back1, back2, ahead1, ahead2, zeroRows, preC, gateC, valC, onesC, sigC, daC, duC, acC, sumC, dwC, zeroW, zeroB, dupC, dhC, shapeCast_self] <;> (try rw [cast_u]) <;> (try rw [cast_x])

theorem dup_0 (w : FVec Ideal S3x512 .f32) (x : FVec Ideal S264x512 .f32) (q : IVec S32x8x512 32) (hq : q = iota .tc S32x8x512 32 [1] iota_S32x8x512_d1_w32) :
    (k1_pay47 w x (k1_pay42 w x) (k1_pay43 w) (k1_pay44 x) q k1_pay45)
      = dupC w x := by
  subst hq
  simp only [k1_pay42, k1_pay43, k1_pay44, k1_pay45, k1_pay46, k1_pay47, back1, back2, ahead1, ahead2, zeroRows, preC, gateC, valC, onesC, sigC, daC, duC, acC, sumC, dwC, zeroW, zeroB, dupC, dhC, shapeCast_self] <;> (try rw [cast_u]) <;> (try rw [cast_x])

theorem dh_0 (w : FVec Ideal S3x512 .f32) (wp : FVec Ideal S512x1024 .bf16) (x : FVec Ideal S264x512 .f32) (acc : FVec Ideal S256x1024 .f32) (q : IVec S32x8x512 32) (hq : q = iota .tc S32x8x512 32 [1] iota_S32x8x512_d1_w32) :
    (k1_pay48 w wp x (k1_pay42 w x) (k1_pay43 w) (k1_pay44 x) q k1_pay45 acc)
      = dhC wp (dupC w x) acc := by
  subst hq
  simp only [k1_pay42, k1_pay43, k1_pay44, k1_pay45, k1_pay46, k1_pay48, back1, back2, ahead1, ahead2, zeroRows, preC, gateC, valC, onesC, sigC, daC, duC, acC, sumC, dwC, zeroW, zeroB, dupC, dhC, shapeCast_self] <;> (try rw [cast_u]) <;> (try rw [cast_x])

theorem da_1 (dd : FVec Ideal S256x1024 .bf16) (wd : FVec Ideal S256x1024 .bf16) :
    (k1_pay13 dd wd)
      = daC dd wd := by
  simp only [k1_pay13, back1, back2, ahead1, ahead2, zeroRows, preC, gateC, valC, onesC, sigC, daC, duC, acC, sumC, dwC, zeroW, zeroB, dupC, dhC, shapeCast_self] <;> (try rw [cast_u]) <;> (try rw [cast_x])

theorem du_1 (w : FVec Ideal S3x512 .f32) (b : FVec Ideal S1x512 .f32) (d : FVec Ideal S256x256 .f32) (u : FVec Ideal S256x512 .f32) (x : FVec Ideal S264x512 .f32) :
    (k1_pay38 d (k1_pay33 w b u x x) (k1_pay34 w b u x x) (k1_pay35 w b u x x) (Scalar.ofBits (F := Ideal) .f32 0x3F800000#32))
      = duC d (preC w b u (back1 x) (back2 x)) := by
  simp only [k1_pay29, k1_pay30, k1_pay31, k1_pay32, k1_pay33, k1_pay34, k1_pay35, k1_pay36, k1_pay37, k1_pay38, back1, back2, ahead1, ahead2, zeroRows, preC, gateC, valC, onesC, sigC, daC, duC, acC, sumC, dwC, zeroW, zeroB, dupC, dhC, shapeCast_self] <;> (try rw [cast_u]) <;> (try rw [cast_x])

theorem ac_1 (w : FVec Ideal S3x512 .f32) (b : FVec Ideal S1x512 .f32) (u : FVec Ideal S256x512 .f32) (x : FVec Ideal S264x512 .f32) :
    (k1_pay39 (k1_pay33 w b u x x) (k1_pay34 w b u x x) (k1_pay35 w b u x x) (Scalar.ofBits (F := Ideal) .f32 0x3F800000#32))
      = acC (preC w b u (back1 x) (back2 x)) := by
  simp only [k1_pay29, k1_pay30, k1_pay31, k1_pay32, k1_pay33, k1_pay34, k1_pay35, k1_pay36, k1_pay39, back1, back2, ahead1, ahead2, zeroRows, preC, gateC, valC, onesC, sigC, daC, duC, acC, sumC, dwC, zeroW, zeroB, dupC, dhC, shapeCast_self] <;> (try rw [cast_u]) <;> (try rw [cast_x])

theorem dw_1 (w : FVec Ideal S3x512 .f32) (b : FVec Ideal S1x512 .f32) (d : FVec Ideal S256x256 .f32) (u : FVec Ideal S256x512 .f32) (x : FVec Ideal S264x512 .f32) :
    (k1_pay40 d (k1_pay29 u) (k1_pay30 x) (k1_pay31 x) (k1_pay33 w b u x x) (k1_pay34 w b u x x) (k1_pay35 w b u x x) (Scalar.ofBits (F := Ideal) .f32 0x3F800000#32))
      = dwC (duC d (preC w b u (back1 x) (back2 x))) u (back1 x) (back2 x) := by
  simp only [k1_pay29, k1_pay30, k1_pay31, k1_pay32, k1_pay33, k1_pay34, k1_pay35, k1_pay36, k1_pay37, k1_pay40, back1, back2, ahead1, ahead2, zeroRows, preC, gateC, valC, onesC, sigC, daC, duC, acC, sumC, dwC, zeroW, zeroB, dupC, dhC, shapeCast_self] <;> (try rw [cast_u]) <;> (try rw [cast_x])

theorem db_1 (w : FVec Ideal S3x512 .f32) (b : FVec Ideal S1x512 .f32) (d : FVec Ideal S256x256 .f32) (u : FVec Ideal S256x512 .f32) (x : FVec Ideal S264x512 .f32) :
    (k1_pay41 d (k1_pay33 w b u x x) (k1_pay34 w b u x x) (k1_pay35 w b u x x) (Scalar.ofBits (F := Ideal) .f32 0x3F800000#32))
      = sumC (duC d (preC w b u (back1 x) (back2 x))) := by
  simp only [k1_pay29, k1_pay30, k1_pay31, k1_pay32, k1_pay33, k1_pay34, k1_pay35, k1_pay36, k1_pay37, k1_pay41, back1, back2, ahead1, ahead2, zeroRows, preC, gateC, valC, onesC, sigC, daC, duC, acC, sumC, dwC, zeroW, zeroB, dupC, dhC, shapeCast_self] <;> (try rw [cast_u]) <;> (try rw [cast_x])

theorem dup_1 (w : FVec Ideal S3x512 .f32) (x : FVec Ideal S264x512 .f32) :
    (k1_pay70 (k1_pay66 w x) (k1_pay67 w) (k1_pay68 x))
      = dupC w x := by
  simp only [k1_pay66, k1_pay67, k1_pay68, k1_pay69, k1_pay70, back1, back2, ahead1, ahead2, zeroRows, preC, gateC, valC, onesC, sigC, daC, duC, acC, sumC, dwC, zeroW, zeroB, dupC, dhC, shapeCast_self] <;> (try rw [cast_u]) <;> (try rw [cast_x])

theorem dh_1 (w : FVec Ideal S3x512 .f32) (wp : FVec Ideal S512x1024 .bf16) (x : FVec Ideal S264x512 .f32) (acc : FVec Ideal S256x1024 .f32) :
    (k1_pay71 wp (k1_pay66 w x) (k1_pay67 w) (k1_pay68 x) acc)
      = dhC wp (dupC w x) acc := by
  simp only [k1_pay66, k1_pay67, k1_pay68, k1_pay69, k1_pay71, back1, back2, ahead1, ahead2, zeroRows, preC, gateC, valC, onesC, sigC, daC, duC, acC, sumC, dwC, zeroW, zeroB, dupC, dhC, shapeCast_self] <;> (try rw [cast_u]) <;> (try rw [cast_x])

theorem da_2 (dd : FVec Ideal S256x1024 .bf16) (wd : FVec Ideal S256x1024 .bf16) :
    (k1_pay28 (k1_pay27 dd) wd)
      = daC dd wd := by
  simp only [k1_pay27, k1_pay28, back1, back2, ahead1, ahead2, zeroRows, preC, gateC, valC, onesC, sigC, daC, duC, acC, sumC, dwC, zeroW, zeroB, dupC, dhC, shapeCast_self] <;> (try rw [cast_u]) <;> (try rw [cast_x])

theorem du_2 (w : FVec Ideal S3x512 .f32) (b : FVec Ideal S1x512 .f32) (d : FVec Ideal S256x256 .f32) (u : FVec Ideal S256x512 .f32) (x : FVec Ideal S264x512 .f32) :
    (k1_pay62 d (k1_pay56 w b (k1_pay52 u) x x) (k1_pay58 w b (k1_pay52 u) x x) (k1_pay59 w b d (k1_pay52 u) x x) (k1_pay60 w b (k1_pay52 u) x x))
      = duC d (preC w b u (back1 x) (back2 x)) := by
  simp only [k1_pay52, k1_pay53, k1_pay54, k1_pay55, k1_pay56, k1_pay57, k1_pay58, k1_pay59, k1_pay60, k1_pay61, k1_pay62, back1, back2, ahead1, ahead2, zeroRows, preC, gateC, valC, onesC, sigC, daC, duC, acC, sumC, dwC, zeroW, zeroB, dupC, dhC, shapeCast_self] <;> (try rw [cast_u]) <;> (try rw [cast_x])

theorem ac_2 (w : FVec Ideal S3x512 .f32) (b : FVec Ideal S1x512 .f32) (u : FVec Ideal S256x512 .f32) (x : FVec Ideal S264x512 .f32) :
    (k1_pay63 (k1_pay56 w b (k1_pay52 u) x x) (k1_pay57 w b (k1_pay52 u) x x) (k1_pay58 w b (k1_pay52 u) x x))
      = acC (preC w b u (back1 x) (back2 x)) := by
  simp only [k1_pay52, k1_pay53, k1_pay54, k1_pay55, k1_pay56, k1_pay57, k1_pay58, k1_pay63, back1, back2, ahead1, ahead2, zeroRows, preC, gateC, valC, onesC, sigC, daC, duC, acC, sumC, dwC, zeroW, zeroB, dupC, dhC, shapeCast_self] <;> (try rw [cast_u]) <;> (try rw [cast_x])

theorem dw_2 (w : FVec Ideal S3x512 .f32) (b : FVec Ideal S1x512 .f32) (d : FVec Ideal S256x256 .f32) (u : FVec Ideal S256x512 .f32) (x : FVec Ideal S264x512 .f32) :
    (k1_pay64 d (k1_pay52 u) (k1_pay53 x) (k1_pay54 x) (k1_pay56 w b (k1_pay52 u) x x) (k1_pay58 w b (k1_pay52 u) x x) (k1_pay59 w b d (k1_pay52 u) x x) (k1_pay60 w b (k1_pay52 u) x x))
      = dwC (duC d (preC w b u (back1 x) (back2 x))) u (back1 x) (back2 x) := by
  simp only [k1_pay52, k1_pay53, k1_pay54, k1_pay55, k1_pay56, k1_pay57, k1_pay58, k1_pay59, k1_pay60, k1_pay61, k1_pay64, back1, back2, ahead1, ahead2, zeroRows, preC, gateC, valC, onesC, sigC, daC, duC, acC, sumC, dwC, zeroW, zeroB, dupC, dhC, shapeCast_self] <;> (try rw [cast_u]) <;> (try rw [cast_x])

theorem db_2 (w : FVec Ideal S3x512 .f32) (b : FVec Ideal S1x512 .f32) (d : FVec Ideal S256x256 .f32) (u : FVec Ideal S256x512 .f32) (x : FVec Ideal S264x512 .f32) :
    (k1_pay65 d (k1_pay56 w b (k1_pay52 u) x x) (k1_pay58 w b (k1_pay52 u) x x) (k1_pay59 w b d (k1_pay52 u) x x) (k1_pay60 w b (k1_pay52 u) x x))
      = sumC (duC d (preC w b u (back1 x) (back2 x))) := by
  simp only [k1_pay52, k1_pay53, k1_pay54, k1_pay55, k1_pay56, k1_pay57, k1_pay58, k1_pay59, k1_pay60, k1_pay61, k1_pay65, back1, back2, ahead1, ahead2, zeroRows, preC, gateC, valC, onesC, sigC, daC, duC, acC, sumC, dwC, zeroW, zeroB, dupC, dhC, shapeCast_self] <;> (try rw [cast_u]) <;> (try rw [cast_x])

theorem dup_2 (w : FVec Ideal S3x512 .f32) (x : FVec Ideal S264x512 .f32) :
    (k1_pay95 (k1_pay91 w x) (k1_pay92 w) (k1_pay93 x))
      = dupC w x := by
  simp only [k1_pay91, k1_pay92, k1_pay93, k1_pay94, k1_pay95, back1, back2, ahead1, ahead2, zeroRows, preC, gateC, valC, onesC, sigC, daC, duC, acC, sumC, dwC, zeroW, zeroB, dupC, dhC, shapeCast_self] <;> (try rw [cast_u]) <;> (try rw [cast_x])

theorem dh_2 (w : FVec Ideal S3x512 .f32) (wp : FVec Ideal S512x1024 .bf16) (x : FVec Ideal S264x512 .f32) (acc : FVec Ideal S256x1024 .f32) :
    (k1_pay96 wp (k1_pay91 w x) (k1_pay92 w) (k1_pay93 x) acc)
      = dhC wp (dupC w x) acc := by
  simp only [k1_pay91, k1_pay92, k1_pay93, k1_pay94, k1_pay96, back1, back2, ahead1, ahead2, zeroRows, preC, gateC, valC, onesC, sigC, daC, duC, acC, sumC, dwC, zeroW, zeroB, dupC, dhC, shapeCast_self] <;> (try rw [cast_u]) <;> (try rw [cast_x])

theorem da_3 (dd : FVec Ideal S256x1024 .bf16) (wd : FVec Ideal S256x1024 .bf16) :
    (k1_pay51 dd wd)
      = daC dd wd := by
  simp only [k1_pay51, back1, back2, ahead1, ahead2, zeroRows, preC, gateC, valC, onesC, sigC, daC, duC, acC, sumC, dwC, zeroW, zeroB, dupC, dhC, shapeCast_self] <;> (try rw [cast_u]) <;> (try rw [cast_x])

theorem du_3 (w : FVec Ideal S3x512 .f32) (b : FVec Ideal S1x512 .f32) (d : FVec Ideal S256x256 .f32) (u : FVec Ideal S256x512 .f32) (x : FVec Ideal S264x512 .f32) :
    (k1_pay87 w b d (k1_pay75 u) k1_pay77 (k1_pay78 x) (k1_pay79 x) x)
      = duC d (preC w b u (back1 x) (back2 x)) := by
  simp only [k1_pay75, k1_pay76, k1_pay77, k1_pay78, k1_pay79, k1_pay80, k1_pay81, k1_pay82, k1_pay83, k1_pay84, k1_pay85, k1_pay86, k1_pay87, back1, back2, ahead1, ahead2, zeroRows, preC, gateC, valC, onesC, sigC, daC, duC, acC, sumC, dwC, zeroW, zeroB, dupC, dhC, shapeCast_self] <;> (try rw [cast_u]) <;> (try rw [cast_x])

theorem ac_3 (w : FVec Ideal S3x512 .f32) (b : FVec Ideal S1x512 .f32) (u : FVec Ideal S256x512 .f32) (x : FVec Ideal S264x512 .f32) :
    (k1_pay88 (k1_pay83 w b (k1_pay75 u) k1_pay77 (k1_pay78 x) (k1_pay79 x) x) (k1_pay84 w b (k1_pay75 u) k1_pay77 (k1_pay78 x) (k1_pay79 x) x) (k1_pay85 w b (k1_pay75 u) k1_pay77 (k1_pay78 x) (k1_pay79 x) x))
      = acC (preC w b u (back1 x) (back2 x)) := by
  simp only [k1_pay75, k1_pay76, k1_pay77, k1_pay78, k1_pay79, k1_pay80, k1_pay81, k1_pay82, k1_pay83, k1_pay84, k1_pay85, k1_pay88, back1, back2, ahead1, ahead2, zeroRows, preC, gateC, valC, onesC, sigC, daC, duC, acC, sumC, dwC, zeroW, zeroB, dupC, dhC, shapeCast_self] <;> (try rw [cast_u]) <;> (try rw [cast_x])

theorem dw_3 (w : FVec Ideal S3x512 .f32) (b : FVec Ideal S1x512 .f32) (d : FVec Ideal S256x256 .f32) (u : FVec Ideal S256x512 .f32) (x : FVec Ideal S264x512 .f32) :
    (k1_pay89 (k1_pay75 u) (k1_pay80 k1_pay77 (k1_pay78 x) (k1_pay79 x)) (k1_pay81 x) (k1_pay86 w b d (k1_pay75 u) k1_pay77 (k1_pay78 x) (k1_pay79 x) x))
      = dwC (duC d (preC w b u (back1 x) (back2 x))) u (back1 x) (back2 x) := by
  simp only [k1_pay75, k1_pay76, k1_pay77, k1_pay78, k1_pay79, k1_pay80, k1_pay81, k1_pay82, k1_pay83, k1_pay84, k1_pay85, k1_pay86, k1_pay89, back1, back2, ahead1, ahead2, zeroRows, preC, gateC, valC, onesC, sigC, daC, duC, acC, sumC, dwC, zeroW, zeroB, dupC, dhC, shapeCast_self] <;> (try rw [cast_u]) <;> (try rw [cast_x])

theorem db_3 (w : FVec Ideal S3x512 .f32) (b : FVec Ideal S1x512 .f32) (d : FVec Ideal S256x256 .f32) (u : FVec Ideal S256x512 .f32) (x : FVec Ideal S264x512 .f32) :
    (k1_pay90 (k1_pay86 w b d (k1_pay75 u) k1_pay77 (k1_pay78 x) (k1_pay79 x) x))
      = sumC (duC d (preC w b u (back1 x) (back2 x))) := by
  simp only [k1_pay75, k1_pay76, k1_pay77, k1_pay78, k1_pay79, k1_pay80, k1_pay81, k1_pay82, k1_pay83, k1_pay84, k1_pay85, k1_pay86, k1_pay90, back1, back2, ahead1, ahead2, zeroRows, preC, gateC, valC, onesC, sigC, daC, duC, acC, sumC, dwC, zeroW, zeroB, dupC, dhC, shapeCast_self] <;> (try rw [cast_u]) <;> (try rw [cast_x])

theorem dup_3 (w : FVec Ideal S3x512 .f32) (x : FVec Ideal S264x512 .f32) :
    (k1_pay114 w x)
      = dupC w x := by
  simp only [k1_pay113, k1_pay114, back1, back2, ahead1, ahead2, zeroRows, preC, gateC, valC, onesC, sigC, daC, duC, acC, sumC, dwC, zeroW, zeroB, dupC, dhC, shapeCast_self] <;> (try rw [cast_u]) <;> (try rw [cast_x])

theorem dh_3 (w : FVec Ideal S3x512 .f32) (wp : FVec Ideal S512x1024 .bf16) (x : FVec Ideal S264x512 .f32) (acc : FVec Ideal S256x1024 .f32) :
    (k1_pay115 wp (k1_pay113 w x) acc)
      = dhC wp (dupC w x) acc := by
  simp only [k1_pay113, k1_pay115, back1, back2, ahead1, ahead2, zeroRows, preC, gateC, valC, onesC, sigC, daC, duC, acC, sumC, dwC, zeroW, zeroB, dupC, dhC, shapeCast_self] <;> (try rw [cast_u]) <;> (try rw [cast_x])

theorem da_4 (dd : FVec Ideal S256x1024 .bf16) (wd : FVec Ideal S256x1024 .bf16) :
    (k1_pay74 dd wd)
      = daC dd wd := by
  simp only [k1_pay74, back1, back2, ahead1, ahead2, zeroRows, preC, gateC, valC, onesC, sigC, daC, duC, acC, sumC, dwC, zeroW, zeroB, dupC, dhC, shapeCast_self] <;> (try rw [cast_u]) <;> (try rw [cast_x])

theorem du_4 (w : FVec Ideal S3x512 .f32) (b : FVec Ideal S1x512 .f32) (d : FVec Ideal S256x256 .f32) (u : FVec Ideal S256x512 .f32) (x : FVec Ideal S264x512 .f32) (q : IVec S32x8x512 32) (hq : q = iota .tc S32x8x512 32 [1] iota_S32x8x512_d1_w32) :
    (k1_pay109 w b d (k1_pay100 u) (k1_pay101 x) (k1_pay102 x) q)
      = duC d (preC w b u (back1 x) (back2 x)) := by
  subst hq
  simp only [k1_pay100, k1_pay101, k1_pay102, k1_pay103, k1_pay104, k1_pay105, k1_pay106, k1_pay107, k1_pay108, k1_pay109, back1, back2, ahead1, ahead2, zeroRows, preC, gateC, valC, onesC, sigC, daC, duC, acC, sumC, dwC, zeroW, zeroB, dupC, dhC, shapeCast_self] <;> (try rw [cast_u]) <;> (try rw [cast_x])

theorem ac_4 (w : FVec Ideal S3x512 .f32) (b : FVec Ideal S1x512 .f32) (u : FVec Ideal S256x512 .f32) (x : FVec Ideal S264x512 .f32) (q : IVec S32x8x512 32) (hq : q = iota .tc S32x8x512 32 [1] iota_S32x8x512_d1_w32) :
    (k1_pay110 w b (k1_pay100 u) (k1_pay101 x) (k1_pay102 x) q)
      = acC (preC w b u (back1 x) (back2 x)) := by
  subst hq
  simp only [k1_pay100, k1_pay101, k1_pay102, k1_pay103, k1_pay104, k1_pay105, k1_pay106, k1_pay107, k1_pay110, back1, back2, ahead1, ahead2, zeroRows, preC, gateC, valC, onesC, sigC, daC, duC, acC, sumC, dwC, zeroW, zeroB, dupC, dhC, shapeCast_self] <;> (try rw [cast_u]) <;> (try rw [cast_x])

theorem dw_4 (w : FVec Ideal S3x512 .f32) (b : FVec Ideal S1x512 .f32) (d : FVec Ideal S256x256 .f32) (u : FVec Ideal S256x512 .f32) (x : FVec Ideal S264x512 .f32) (q : IVec S32x8x512 32) (hq : q = iota .tc S32x8x512 32 [1] iota_S32x8x512_d1_w32) :
    (k1_pay111 (k1_pay100 u) (k1_pay101 x) (k1_pay103 (k1_pay102 x) q) (k1_pay108 w b d (k1_pay100 u) (k1_pay101 x) (k1_pay102 x) q))
      = dwC (duC d (preC w b u (back1 x) (back2 x))) u (back1 x) (back2 x) := by
  subst hq
  simp only [k1_pay100, k1_pay101, k1_pay102, k1_pay103, k1_pay104, k1_pay105, k1_pay106, k1_pay107, k1_pay108, k1_pay111, back1, back2, ahead1, ahead2, zeroRows, preC, gateC, valC, onesC, sigC, daC, duC, acC, sumC, dwC, zeroW, zeroB, dupC, dhC, shapeCast_self] <;> (try rw [cast_u]) <;> (try rw [cast_x])

theorem db_4 (w : FVec Ideal S3x512 .f32) (b : FVec Ideal S1x512 .f32) (d : FVec Ideal S256x256 .f32) (u : FVec Ideal S256x512 .f32) (x : FVec Ideal S264x512 .f32) (q : IVec S32x8x512 32) (hq : q = iota .tc S32x8x512 32 [1] iota_S32x8x512_d1_w32) :
    (k1_pay112 (k1_pay108 w b d (k1_pay100 u) (k1_pay101 x) (k1_pay102 x) q))
      = sumC (duC d (preC w b u (back1 x) (back2 x))) := by
  subst hq
  simp only [k1_pay100, k1_pay101, k1_pay102, k1_pay103, k1_pay104, k1_pay105, k1_pay106, k1_pay107, k1_pay108, k1_pay112, back1, back2, ahead1, ahead2, zeroRows, preC, gateC, valC, onesC, sigC, daC, duC, acC, sumC, dwC, zeroW, zeroB, dupC, dhC, shapeCast_self] <;> (try rw [cast_u]) <;> (try rw [cast_x])

theorem dup_4 (w : FVec Ideal S3x512 .f32) (x : FVec Ideal S264x512 .f32) :
    (k1_pay136 w x)
      = dupC w x := by
  simp only [k1_pay135, k1_pay136, back1, back2, ahead1, ahead2, zeroRows, preC, gateC, valC, onesC, sigC, daC, duC, acC, sumC, dwC, zeroW, zeroB, dupC, dhC, shapeCast_self] <;> (try rw [cast_u]) <;> (try rw [cast_x])

theorem dh_4 (w : FVec Ideal S3x512 .f32) (wp : FVec Ideal S512x1024 .bf16) (x : FVec Ideal S264x512 .f32) (acc : FVec Ideal S256x1024 .f32) :
    (k1_pay137 w wp x acc)
      = dhC wp (dupC w x) acc := by
  simp only [k1_pay135, k1_pay137, back1, back2, ahead1, ahead2, zeroRows, preC, gateC, valC, onesC, sigC, daC, duC, acC, sumC, dwC, zeroW, zeroB, dupC, dhC, shapeCast_self] <;> (try rw [cast_u]) <;> (try rw [cast_x])

theorem da_5 (dd : FVec Ideal S256x1024 .bf16) (wd : FVec Ideal S256x1024 .bf16) :
    (k1_pay99 dd wd)
      = daC dd wd := by
  simp only [k1_pay99, back1, back2, ahead1, ahead2, zeroRows, preC, gateC, valC, onesC, sigC, daC, duC, acC, sumC, dwC, zeroW, zeroB, dupC, dhC, shapeCast_self] <;> (try rw [cast_u]) <;> (try rw [cast_x])

theorem du_5 (w : FVec Ideal S3x512 .f32) (b : FVec Ideal S1x512 .f32) (d : FVec Ideal S256x256 .f32) (u : FVec Ideal S256x512 .f32) (x : FVec Ideal S264x512 .f32) :
    (k1_pay128 w b d (k1_pay120 x) (k1_pay121 x) (k1_pay122 w u))
      = duC d (preC w b u (back1 x) (back2 x)) := by
  simp only [k1_pay119, k1_pay120, k1_pay121, k1_pay122, k1_pay123, k1_pay124, k1_pay125, k1_pay126, k1_pay127, k1_pay128, back1, back2, ahead1, ahead2, zeroRows, preC, gateC, valC, onesC, sigC, daC, duC, acC, sumC, dwC, zeroW, zeroB, dupC, dhC, shapeCast_self] <;> (try rw [cast_u]) <;> (try rw [cast_x])

theorem ac_5 (w : FVec Ideal S3x512 .f32) (b : FVec Ideal S1x512 .f32) (u : FVec Ideal S256x512 .f32) (x : FVec Ideal S264x512 .f32) :
    (k1_pay129 w b (k1_pay120 x) (k1_pay121 x) (k1_pay122 w u))
      = acC (preC w b u (back1 x) (back2 x)) := by
  simp only [k1_pay119, k1_pay120, k1_pay121, k1_pay122, k1_pay123, k1_pay124, k1_pay125, k1_pay126, k1_pay129, back1, back2, ahead1, ahead2, zeroRows, preC, gateC, valC, onesC, sigC, daC, duC, acC, sumC, dwC, zeroW, zeroB, dupC, dhC, shapeCast_self] <;> (try rw [cast_u]) <;> (try rw [cast_x])

theorem dw_5 (w : FVec Ideal S3x512 .f32) (b : FVec Ideal S1x512 .f32) (d : FVec Ideal S256x256 .f32) (u : FVec Ideal S256x512 .f32) (x : FVec Ideal S264x512 .f32) :
    (k1_pay133 (k1_pay130 w b d (k1_pay120 x) (k1_pay121 x) (k1_pay122 w u)) (k1_pay131 w b d (k1_pay120 x) (k1_pay121 x) (k1_pay122 w u)) (k1_pay132 w b d (k1_pay119 u) (k1_pay120 x) (k1_pay121 x) (k1_pay122 w u)))
      = dwC (duC d (preC w b u (back1 x) (back2 x))) u (back1 x) (back2 x) := by
  simp only [k1_pay119, k1_pay120, k1_pay121, k1_pay122, k1_pay123, k1_pay124, k1_pay125, k1_pay126, k1_pay127, k1_pay130, k1_pay131, k1_pay132, k1_pay133, back1, back2, ahead1, ahead2, zeroRows, preC, gateC, valC, onesC, sigC, daC, duC, acC, sumC, dwC, zeroW, zeroB, dupC, dhC, shapeCast_self] <;> (try rw [cast_u]) <;> (try rw [cast_x])

theorem db_5 (w : FVec Ideal S3x512 .f32) (b : FVec Ideal S1x512 .f32) (d : FVec Ideal S256x256 .f32) (u : FVec Ideal S256x512 .f32) (x : FVec Ideal S264x512 .f32) :
    (k1_pay134 (k1_pay127 w b d (k1_pay120 x) (k1_pay121 x) (k1_pay122 w u)))
      = sumC (duC d (preC w b u (back1 x) (back2 x))) := by
  simp only [k1_pay119, k1_pay120, k1_pay121, k1_pay122, k1_pay123, k1_pay124, k1_pay125, k1_pay126, k1_pay127, k1_pay134, back1, back2, ahead1, ahead2, zeroRows, preC, gateC, valC, onesC, sigC, daC, duC, acC, sumC, dwC, zeroW, zeroB, dupC, dhC, shapeCast_self] <;> (try rw [cast_u]) <;> (try rw [cast_x])

theorem dup_5 (w : FVec Ideal S3x512 .f32) (x : FVec Ideal S264x512 .f32) :
    (k1_pay155 w x (k1_pay153 w))
      = dupC w x := by
  simp only [k1_pay153, k1_pay154, k1_pay155, back1, back2, ahead1, ahead2, zeroRows, preC, gateC, valC, onesC, sigC, daC, duC, acC, sumC, dwC, zeroW, zeroB, dupC, dhC, shapeCast_self] <;> (try rw [cast_u]) <;> (try rw [cast_x])

theorem dh_5 (w : FVec Ideal S3x512 .f32) (wp : FVec Ideal S512x1024 .bf16) (x : FVec Ideal S264x512 .f32) (acc : FVec Ideal S256x1024 .f32) :
    (k1_pay156 w wp x (k1_pay153 w) acc)
      = dhC wp (dupC w x) acc := by
  simp only [k1_pay153, k1_pay154, k1_pay156, back1, back2, ahead1, ahead2, zeroRows, preC, gateC, valC, onesC, sigC, daC, duC, acC, sumC, dwC, zeroW, zeroB, dupC, dhC, shapeCast_self] <;> (try rw [cast_u]) <;> (try rw [cast_x])

theorem da_6 (dd : FVec Ideal S256x1024 .bf16) (wd : FVec Ideal S256x1024 .bf16) :
    (k1_pay118 dd wd)
      = daC dd wd := by
  simp only [k1_pay118, back1, back2, ahead1, ahead2, zeroRows, preC, gateC, valC, onesC, sigC, daC, duC, acC, sumC, dwC, zeroW, zeroB, dupC, dhC, shapeCast_self] <;> (try rw [cast_u]) <;> (try rw [cast_x])

theorem du_6 (w : FVec Ideal S3x512 .f32) (b : FVec Ideal S1x512 .f32) (d : FVec Ideal S256x256 .f32) (u : FVec Ideal S256x512 .f32) (x : FVec Ideal S264x512 .f32) :
    (k1_pay149 d (k1_pay144 w b u x x))
      = duC d (preC w b u (back1 x) (back2 x)) := by
  simp only [k1_pay141, k1_pay142, k1_pay143, k1_pay144, k1_pay145, k1_pay146, k1_pay147, k1_pay148, k1_pay149, back1, back2, ahead1, ahead2, zeroRows, preC, gateC, valC, onesC, sigC, daC, duC, acC, sumC, dwC, zeroW, zeroB, dupC, dhC, shapeCast_self] <;> (try rw [cast_u]) <;> (try rw [cast_x])

theorem ac_6 (w : FVec Ideal S3x512 .f32) (b : FVec Ideal S1x512 .f32) (u : FVec Ideal S256x512 .f32) (x : FVec Ideal S264x512 .f32) :
    (k1_pay150 (k1_pay144 w b u x x))
      = acC (preC w b u (back1 x) (back2 x)) := by
  simp only [k1_pay141, k1_pay142, k1_pay143, k1_pay144, k1_pay145, k1_pay146, k1_pay147, k1_pay150, back1, back2, ahead1, ahead2, zeroRows, preC, gateC, valC, onesC, sigC, daC, duC, acC, sumC, dwC, zeroW, zeroB, dupC, dhC, shapeCast_self] <;> (try rw [cast_u]) <;> (try rw [cast_x])

theorem dw_6 (w : FVec Ideal S3x512 .f32) (b : FVec Ideal S1x512 .f32) (d : FVec Ideal S256x256 .f32) (u : FVec Ideal S256x512 .f32) (x : FVec Ideal S264x512 .f32) :
    (k1_pay151 d (k1_pay141 u) (k1_pay142 x) (k1_pay143 x) (k1_pay144 w b u x x))
      = dwC (duC d (preC w b u (back1 x) (back2 x))) u (back1 x) (back2 x) := by
  simp only [k1_pay141, k1_pay142, k1_pay143, k1_pay144, k1_pay145, k1_pay146, k1_pay147, k1_pay148, k1_pay151, back1, back2, ahead1, ahead2, zeroRows, preC, gateC, valC, onesC, sigC, daC, duC, acC, sumC, dwC, zeroW, zeroB, dupC, dhC, shapeCast_self] <;> (try rw [cast_u]) <;> (try rw [cast_x])

theorem db_6 (w : FVec Ideal S3x512 .f32) (b : FVec Ideal S1x512 .f32) (d : FVec Ideal S256x256 .f32) (u : FVec Ideal S256x512 .f32) (x : FVec Ideal S264x512 .f32) :
    (k1_pay152 d (k1_pay144 w b u x x))
      = sumC (duC d (preC w b u (back1 x) (back2 x))) := by
  simp only [k1_pay141, k1_pay142, k1_pay143, k1_pay144, k1_pay145, k1_pay146, k1_pay147, k1_pay148, k1_pay152, back1, back2, ahead1, ahead2, zeroRows, preC, gateC, valC, onesC, sigC, daC, duC, acC, sumC, dwC, zeroW, zeroB, dupC, dhC, shapeCast_self] <;> (try rw [cast_u]) <;> (try rw [cast_x])

theorem dup_6 (w : FVec Ideal S3x512 .f32) (x : FVec Ideal S264x512 .f32) :
    (k1_pay177 (k1_pay173 w x) (k1_pay174 w) (k1_pay175 x))
      = dupC w x := by
  simp only [k1_pay173, k1_pay174, k1_pay175, k1_pay176, k1_pay177, back1, back2, ahead1, ahead2, zeroRows, preC, gateC, valC, onesC, sigC, daC, duC, acC, sumC, dwC, zeroW, zeroB, dupC, dhC, shapeCast_self] <;> (try rw [cast_u]) <;> (try rw [cast_x])

theorem dh_6 (w : FVec Ideal S3x512 .f32) (wp : FVec Ideal S512x1024 .bf16) (x : FVec Ideal S264x512 .f32) (acc : FVec Ideal S256x1024 .f32) :
    (k1_pay178 wp (k1_pay173 w x) (k1_pay174 w) (k1_pay175 x) acc)
      = dhC wp (dupC w x) acc := by
  simp only [k1_pay173, k1_pay174, k1_pay175, k1_pay176, k1_pay178, back1, back2, ahead1, ahead2, zeroRows, preC, gateC, valC, onesC, sigC, daC, duC, acC, sumC, dwC, zeroW, zeroB, dupC, dhC, shapeCast_self] <;> (try rw [cast_u]) <;> (try rw [cast_x])

theorem da_7 (dd : FVec Ideal S256x1024 .bf16) (wd : FVec Ideal S256x1024 .bf16) :
    (k1_pay140 dd wd)
      = daC dd wd := by
  simp only [k1_pay140, back1, back2, ahead1, ahead2, zeroRows, preC, gateC, valC, onesC, sigC, daC, duC, acC, sumC, dwC, zeroW, zeroB, dupC, dhC, shapeCast_self] <;> (try rw [cast_u]) <;> (try rw [cast_x])

theorem du_7 (w : FVec Ideal S3x512 .f32) (b : FVec Ideal S1x512 .f32) (d : FVec Ideal S256x256 .f32) (u : FVec Ideal S256x512 .f32) (x : FVec Ideal S264x512 .f32) :
    (k1_pay169 d (k1_pay163 w b (k1_pay159 u) x x) (k1_pay165 w b (k1_pay159 u) x x) (k1_pay166 w b d (k1_pay159 u) x x) (k1_pay167 w b (k1_pay159 u) x x))
      = duC d (preC w b u (back1 x) (back2 x)) := by
  simp only [k1_pay159, k1_pay160, k1_pay161, k1_pay162, k1_pay163, k1_pay164, k1_pay165, k1_pay166, k1_pay167, k1_pay168, k1_pay169, back1, back2, ahead1, ahead2, zeroRows, preC, gateC, valC, onesC, sigC, daC, duC, acC, sumC, dwC, zeroW, zeroB, dupC, dhC, shapeCast_self] <;> (try rw [cast_u]) <;> (try rw [cast_x])

theorem ac_7 (w : FVec Ideal S3x512 .f32) (b : FVec Ideal S1x512 .f32) (u : FVec Ideal S256x512 .f32) (x : FVec Ideal S264x512 .f32) :
    (k1_pay170 (k1_pay163 w b (k1_pay159 u) x x) (k1_pay164 w b (k1_pay159 u) x x) (k1_pay165 w b (k1_pay159 u) x x))
      = acC (preC w b u (back1 x) (back2 x)) := by
  simp only [k1_pay159, k1_pay160, k1_pay161, k1_pay162, k1_pay163, k1_pay164, k1_pay165, k1_pay170, back1, back2, ahead1, ahead2, zeroRows, preC, gateC, valC, onesC, sigC, daC, duC, acC, sumC, dwC, zeroW, zeroB, dupC, dhC, shapeCast_self] <;> (try rw [cast_u]) <;> (try rw [cast_x])

theorem dw_7 (w : FVec Ideal S3x512 .f32) (b : FVec Ideal S1x512 .f32) (d : FVec Ideal S256x256 .f32) (u : FVec Ideal S256x512 .f32) (x : FVec Ideal S264x512 .f32) :
    (k1_pay171 d (k1_pay159 u) (k1_pay160 x) (k1_pay161 x) (k1_pay163 w b (k1_pay159 u) x x) (k1_pay165 w b (k1_pay159 u) x x) (k1_pay166 w b d (k1_pay159 u) x x) (k1_pay167 w b (k1_pay159 u) x x))
      = dwC (duC d (preC w b u (back1 x) (back2 x))) u (back1 x) (back2 x) := by
  simp only [k1_pay159, k1_pay160, k1_pay161, k1_pay162, k1_pay163, k1_pay164, k1_pay165, k1_pay166, k1_pay167, k1_pay168, k1_pay171, back1, back2, ahead1, ahead2, zeroRows, preC, gateC, valC, onesC, sigC, daC, duC, acC, sumC, dwC, zeroW, zeroB, dupC, dhC, shapeCast_self] <;> (try rw [cast_u]) <;> (try rw [cast_x])

theorem db_7 (w : FVec Ideal S3x512 .f32) (b : FVec Ideal S1x512 .f32) (d : FVec Ideal S256x256 .f32) (u : FVec Ideal S256x512 .f32) (x : FVec Ideal S264x512 .f32) :
    (k1_pay172 d (k1_pay163 w b (k1_pay159 u) x x) (k1_pay165 w b (k1_pay159 u) x x) (k1_pay166 w b d (k1_pay159 u) x x) (k1_pay167 w b (k1_pay159 u) x x))
      = sumC (duC d (preC w b u (back1 x) (back2 x))) := by
  simp only [k1_pay159, k1_pay160, k1_pay161, k1_pay162, k1_pay163, k1_pay164, k1_pay165, k1_pay166, k1_pay167, k1_pay168, k1_pay172, back1, back2, ahead1, ahead2, zeroRows, preC, gateC, valC, onesC, sigC, daC, duC, acC, sumC, dwC, zeroW, zeroB, dupC, dhC, shapeCast_self] <;> (try rw [cast_u]) <;> (try rw [cast_x])

theorem dup_7 (w : FVec Ideal S3x512 .f32) (x : FVec Ideal S264x512 .f32) (q : IVec S32x8x512 32) (hq : q = iota .tc S32x8x512 32 [1] iota_S32x8x512_d1_w32) :
    (k1_pay185 (k1_pay181 w x) (k1_pay182 w) (k1_pay183 x) q)
      = dupC w x := by
  subst hq
  simp only [k1_pay181, k1_pay182, k1_pay183, k1_pay184, k1_pay185, back1, back2, ahead1, ahead2, zeroRows, preC, gateC, valC, onesC, sigC, daC, duC, acC, sumC, dwC, zeroW, zeroB, dupC, dhC, shapeCast_self] <;> (try rw [cast_u]) <;> (try rw [cast_x])

theorem dh_7 (w : FVec Ideal S3x512 .f32) (wp : FVec Ideal S512x1024 .bf16) (x : FVec Ideal S264x512 .f32) (acc : FVec Ideal S256x1024 .f32) (q : IVec S32x8x512 32) (hq : q = iota .tc S32x8x512 32 [1] iota_S32x8x512_d1_w32) :
    (k1_pay186 wp (k1_pay181 w x) (k1_pay182 w) (k1_pay183 x) q acc)
      = dhC wp (dupC w x) acc := by
  subst hq
  simp only [k1_pay181, k1_pay182, k1_pay183, k1_pay184, k1_pay186, back1, back2, ahead1, ahead2, zeroRows, preC, gateC, valC, onesC, sigC, daC, duC, acC, sumC, dwC, zeroW, zeroB, dupC, dhC, shapeCast_self] <;> (try rw [cast_u]) <;> (try rw [cast_x])

theorem sum_49 (p q : FVec Ideal S3x512 .f32) : k1_pay49 p q = addf p q := rfl
theorem sum_72 (p q : FVec Ideal S3x512 .f32) : k1_pay72 p q = addf p q := rfl
theorem sum_97 (p q : FVec Ideal S3x512 .f32) : k1_pay97 p q = addf p q := rfl
theorem sum_116 (p q : FVec Ideal S3x512 .f32) : k1_pay116 p q = addf p q := rfl
theorem sum_138 (p q : FVec Ideal S3x512 .f32) : k1_pay138 p q = addf p q := rfl
theorem sum_157 (p q : FVec Ideal S3x512 .f32) : k1_pay157 p q = addf p q := rfl
theorem sum_179 (p q : FVec Ideal S3x512 .f32) : k1_pay179 p q = addf p q := rfl
theorem sum_50 (p q : FVec Ideal S1x512 .f32) : k1_pay50 p q = addf p q := rfl
theorem sum_73 (p q : FVec Ideal S1x512 .f32) : k1_pay73 p q = addf p q := rfl
theorem sum_98 (p q : FVec Ideal S1x512 .f32) : k1_pay98 p q = addf p q := rfl
theorem sum_117 (p q : FVec Ideal S1x512 .f32) : k1_pay117 p q = addf p q := rfl
theorem sum_139 (p q : FVec Ideal S1x512 .f32) : k1_pay139 p q = addf p q := rfl
theorem sum_158 (p q : FVec Ideal S1x512 .f32) : k1_pay158 p q = addf p q := rfl
theorem sum_180 (p q : FVec Ideal S1x512 .f32) : k1_pay180 p q = addf p q := rfl

end Cert.KernelIdeal.Own

end
-- ==== Proof.KSlabs1.lean ====
/- The backward body's blocks, row by row: what each buffer holds, and that each chunk stores its rows of it. -/
module

public import proofs.«01_k».proof.Proof.KBwd
public import proofs.«01_k».proof.Proof.KSlabs

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Ffn Cert.Slabs

/-! ## Shifted rows -/

theorem back1_apply (v : FVec Ideal S264x512 .f32) (i : Fin 256) (j : Fin 512) : back1 v (ix2 i j) = v (ix2 ⟨i + 7, by omega⟩ j) := by
  pointwise [back1]
  rw [sel_lt _ 1 (by omega) (by omega)]
  split <;> · congr 2; exact Fin.ext (by dsimp only; omega)

theorem back2_apply (v : FVec Ideal S264x512 .f32) (i : Fin 256) (j : Fin 512) : back2 v (ix2 i j) = v (ix2 ⟨i + 6, by omega⟩ j) := by
  pointwise [back2]
  rw [sel_lt _ 2 (by omega) (by omega)]
  split <;> · congr 2; exact Fin.ext (by dsimp only; omega)

theorem ahead1_apply (v : FVec Ideal S264x512 .f32) (i : Fin 256) (j : Fin 512) : ahead1 v (ix2 i j) = v (ix2 ⟨i + 1, by omega⟩ j) := by
  pointwise [ahead1]
  rw [sel_lt _ 7 (by omega) (by omega)]
  split <;> · congr 2; exact Fin.ext (by dsimp only; omega)

theorem ahead2_apply (v : FVec Ideal S264x512 .f32) (i : Fin 256) (j : Fin 512) : ahead2 v (ix2 i j) = v (ix2 ⟨i + 2, by omega⟩ j) := by
  pointwise [ahead2]
  rw [sel_lt _ 6 (by omega) (by omega)]
  split <;> · congr 2; exact Fin.ext (by dsimp only; omega)

theorem zeroRows_apply (u : FVec Ideal S256x512 .f32) (i : Fin 264) (j : Fin 512) :
    zeroRows u (ix2 i j) = if h : (i : ℕ) < 8 then 0 else u (ix2 ⟨i - 8, by omega⟩ j) := by
  by_cases h : (i : ℕ) < 8
  · pointwise [zeroRows]
  · pointwise [zeroRows]

/-! ## What the buffers hold -/

/-- The cotangent of a tile's activation. -/
def daB (dd : FVec Ideal S2048x1024 .bf16) (wd : FVec Ideal S256x1024 .bf16) (x : Fin 256) : Col := fun s => ∑ k : Fin 1024, dd (ix2 s k) * wd (ix2 x k)

section Tile

variable (w : FVec Ideal S3x512 .f32) (b : FVec Ideal S1x512 .f32) (U : FVec Ideal S2048x512 .f32) (D : Fin 256 → Col)

/-- The cotangent of a tile's convolved column: 256 gate columns, then 256 value columns. -/
def duCol (j : Fin 512) : Col := fun s =>
  if hj : (j : ℕ) < 256 then dGate (D ⟨j, hj⟩ s) (preB w b U j s) (preB w b U ⟨256 + j, by omega⟩ s)
  else dVal (D ⟨j - 256, by omega⟩ s) (preB w b U ⟨j - 256, by omega⟩ s)

/-- Those columns, with eight zero rows after them. -/
def duB : FVec Ideal S2056x512 .f32 := fun y => if h : (y 0 : ℕ) < 2048 then duCol w b U D (y 1) ⟨y 0, h⟩ else 0

/-- The activation's block. -/
def acB : FVec Ideal S2048x256 .bf16 := fun y => actB w b U (y 1) (y 0)

/-- The cotangent of a tile's columns of the up projection. -/
def dupB : FVec Ideal S2048x512 .bf16 := fun y =>
  convBack (w (ix2 0 (y 1))) (w (ix2 1 (y 1))) (w (ix2 2 (y 1))) (duCol w b U D (y 1)) (y 0)

/-- The taps' gradient. -/
def dwB : FVec Ideal S3x512 .f32 := fun y => ∑ s, duCol w b U D (y 1) s * earlier (2 - (y 0 : ℕ)) (fun s => U (ix2 s (y 1))) s

/-- The bias's gradient. -/
def dbB : FVec Ideal S1x512 .f32 := fun y => ∑ s, duCol w b U D (y 1) s

theorem duCol_lt (j : Fin 512) (s : Fin 2048) (hj : (j : ℕ) < 256) :
    duCol w b U D j s = dGate (D ⟨j, hj⟩ s) (preB w b U j s) (preB w b U ⟨256 + j, by omega⟩ s) := by
  unfold duCol; exact dif_pos hj

theorem duCol_ge (j : Fin 512) (s : Fin 2048) (hj : ¬ (j : ℕ) < 256) :
    duCol w b U D j s = dVal (D ⟨j - 256, by omega⟩ s) (preB w b U ⟨j - 256, by omega⟩ s) := by
  unfold duCol; exact dif_neg hj

theorem duB_lt (i : Fin 2056) (j : Fin 512) (hi : (i : ℕ) < 2048) : duB w b U D (ix2 i j) = duCol w b U D j ⟨i, hi⟩ := by
  unfold duB; exact dif_pos hi

theorem duB_ge (i : Fin 2056) (j : Fin 512) (hi : ¬ (i : ℕ) < 2048) : duB w b U D (ix2 i j) = 0 := by
  unfold duB; exact dif_neg hi

theorem later_lt (n : ℕ) (x : Col) (s : Fin 2048) (h : (s : ℕ) + n < 2048) : later n x s = x ⟨s + n, h⟩ := by
  unfold later; exact dif_pos h

theorem later_ge (n : ℕ) (x : Col) (s : Fin 2048) (h : ¬ (s : ℕ) + n < 2048) : later n x s = 0 := by
  unfold later; exact dif_neg h

variable {w b U D}

/-! ## One chunk's rows -/

theorem preC_apply {u u1 u2 : FVec Ideal S256x512 .f32} {i : Fin 256} {s : Fin 2048}
    (hu : ∀ j, u (ix2 i j) = U (ix2 s j)) (h1 : ∀ j, u1 (ix2 i j) = earlier 1 (fun s => U (ix2 s j)) s)
    (h2 : ∀ j, u2 (ix2 i j) = earlier 2 (fun s => U (ix2 s j)) s) (j : Fin 512) : preC w b u u1 u2 (ix2 i j) = preB w b U j s := by
  pointwise [preC]
  simp only [hu, h1, h2]
  rfl

theorem duC_apply {d : FVec Ideal S256x256 .f32} {p : FVec Ideal S256x512 .f32} {i : Fin 256} {s : Fin 2048}
    (hd : ∀ x, d (ix2 i x) = D x s) (hp : ∀ j, p (ix2 i j) = preB w b U j s) (j : Fin 512) : duC d p (ix2 i j) = duCol w b U D j s := by
  by_cases hj : (j : ℕ) < 256
  · pointwise [duC, gateC, valC, sigC, onesC]
    simp only [hd, hp, zero_sub]
    exact (dif_pos hj).trans (duCol_lt w b U D j s hj).symm
  · pointwise [duC, gateC, valC, sigC, onesC]
    simp only [hd, hp, zero_sub]
    exact (dif_neg hj).trans (duCol_ge w b U D j s hj).symm

theorem acC_apply {p : FVec Ideal S256x512 .f32} {i : Fin 256} {s : Fin 2048}
    (hp : ∀ j, p (ix2 i j) = preB w b U j s) (x : Fin 256) : acC p (ix2 i x) = actB w b U x s := by
  pointwise [acC, gateC, valC, sigC, onesC]
  simp only [hp, zero_sub]
  rfl

theorem daC_apply {dd : FVec Ideal S2048x1024 .bf16} {wd : FVec Ideal S256x1024 .bf16} {x : FVec Ideal S256x1024 .bf16} {i : Fin 256} {s : Fin 2048}
    (hx : ∀ k, x (ix2 i k) = dd (ix2 s k)) (c : Fin 256) : daC x wd (ix2 i c) = daB dd wd c s := by
  pointwise [daC]
  simp only [hx]
  rfl

theorem sumC_apply (x : FVec Ideal S256x512 .f32) (k : Fin 1) (j : Fin 512) : sumC x (ix2 k j) = ∑ i : Fin 256, x (ix2 i j) := by
  pointwise [sumC]

theorem dwC_apply (du u u1 u2 : FVec Ideal S256x512 .f32) (k : Fin 3) (j : Fin 512) :
    dwC du u u1 u2 (ix2 k j) = ∑ i : Fin 256, du (ix2 i j) * (if (k : ℕ) = 0 then u2 (ix2 i j) else if (k : ℕ) = 1 then u1 (ix2 i j) else u (ix2 i j)) := by
  match k with
  | 0 => pointwise [dwC, sumC]
  | 1 => pointwise [dwC, sumC]
  | 2 => pointwise [dwC, sumC]

end Tile

/-! ## The rows one and two earlier, of a load with the eight rows before it -/

theorem back1_ld {o : ℕ} (inb) (U : FVec Ideal S2048x512 .f32) (i : Fin 256) (j : Fin 512) (s : Fin 2048) (hs : (s : ℕ) = o + 8 + i) :
    back1 (rowsOf (e := .f32) (R := 2048) (m := 512) 264 o inb U) (ix2 i j) = earlier 1 (fun s => U (ix2 s j)) s := by
  rw [back1_apply, ld_rows (e := .f32), earlier, dif_pos (by omega)]
  congr 2; exact Fin.ext (by dsimp only; omega)

theorem back2_ld {o : ℕ} (inb) (U : FVec Ideal S2048x512 .f32) (i : Fin 256) (j : Fin 512) (s : Fin 2048) (hs : (s : ℕ) = o + 8 + i) :
    back2 (rowsOf (e := .f32) (R := 2048) (m := 512) 264 o inb U) (ix2 i j) = earlier 2 (fun s => U (ix2 s j)) s := by
  rw [back2_apply, ld_rows (e := .f32), earlier, dif_pos (by omega)]
  congr 2; exact Fin.ext (by dsimp only; omega)

theorem back1_first (inb) (U : FVec Ideal S2048x512 .f32) (i : Fin 256) (j : Fin 512) (s : Fin 2048) (hs : (s : ℕ) = i) :
    back1 (zeroRows (rowsOf (e := .f32) (R := 2048) (m := 512) 256 0 inb U)) (ix2 i j) = earlier 1 (fun s => U (ix2 s j)) s := by
  rw [back1_apply, zeroRows_apply, earlier]
  by_cases h : 1 ≤ (i : ℕ)
  · rw [dif_neg (by dsimp only; omega), dif_pos (by omega)]
    refine (ld_rows (e := .f32) inb U _ _).trans ?_
    congr 2; exact Fin.ext (by dsimp only; omega)
  · rw [dif_pos (by dsimp only; omega), dif_neg (by omega)]

theorem back2_first (inb) (U : FVec Ideal S2048x512 .f32) (i : Fin 256) (j : Fin 512) (s : Fin 2048) (hs : (s : ℕ) = i) :
    back2 (zeroRows (rowsOf (e := .f32) (R := 2048) (m := 512) 256 0 inb U)) (ix2 i j) = earlier 2 (fun s => U (ix2 s j)) s := by
  rw [back2_apply, zeroRows_apply, earlier]
  by_cases h : 2 ≤ (i : ℕ)
  · rw [dif_neg (by dsimp only; omega), dif_pos (by omega)]
    refine (ld_rows (e := .f32) inb U _ _).trans ?_
    congr 2; exact Fin.ext (by dsimp only; omega)
  · rw [dif_pos (by dsimp only; omega), dif_neg (by omega)]

/-! ## Each chunk's stored rows are its rows of the block -/

section Chunks

variable (w : FVec Ideal S3x512 .f32) (b : FVec Ideal S1x512 .f32) (U : FVec Ideal S2048x512 .f32)
  (dd : FVec Ideal S2048x1024 .bf16) (wd : FVec Ideal S256x1024 .bf16)

/-- The convolved rows of the chunk at row `o + 8`. -/
abbrev preAt (o : ℕ) (i1 : ∀ a, (![o + 8, 0] : Fin 2 → ℕ) a + (![256, 512] : Fin 2 → ℕ) a ≤ S2048x512.size a)
    (i2 : ∀ a, (![o, 0] : Fin 2 → ℕ) a + (![264, 512] : Fin 2 → ℕ) a ≤ S2048x512.size a) : FVec Ideal S256x512 .f32 :=
  preC w b (rowsOf (e := .f32) (R := 2048) (m := 512) 256 (o + 8) i1 U)
    (back1 (rowsOf (e := .f32) (R := 2048) (m := 512) 264 o i2 U)) (back2 (rowsOf (e := .f32) (R := 2048) (m := 512) 264 o i2 U))

/-- The convolved rows of the first chunk. -/
abbrev preAt0 (i1 : ∀ a, (![0, 0] : Fin 2 → ℕ) a + (![256, 512] : Fin 2 → ℕ) a ≤ S2048x512.size a) : FVec Ideal S256x512 .f32 :=
  preC w b (rowsOf (e := .f32) (R := 2048) (m := 512) 256 0 i1 U)
    (back1 (zeroRows (rowsOf (e := .f32) (R := 2048) (m := 512) 256 0 i1 U))) (back2 (zeroRows (rowsOf (e := .f32) (R := 2048) (m := 512) 256 0 i1 U)))

theorem preAt_apply (o : ℕ) (i1 i2) (i : Fin 256) (s : Fin 2048) (hs : (s : ℕ) = o + 8 + i) (j : Fin 512) :
    preAt w b U o i1 i2 (ix2 i j) = preB w b U j s :=
  preC_apply (fun j => (ld_rows (e := .f32) i1 U _ _).trans (by congr 2; exact Fin.ext hs.symm)) (fun j => back1_ld i2 U _ _ _ hs) (fun j => back2_ld i2 U _ _ _ hs) j

theorem preAt0_apply (i1) (i : Fin 256) (s : Fin 2048) (hs : (s : ℕ) = i) (j : Fin 512) :
    preAt0 w b U i1 (ix2 i j) = preB w b U j s :=
  preC_apply (fun j => (ld_rows (e := .f32) i1 U _ _).trans (by congr 2; exact Fin.ext (by dsimp only; omega)))
    (fun j => back1_first i1 U _ _ _ hs) (fun j => back2_first i1 U _ _ _ hs) j

theorem daAt_apply (o : ℕ) (i1) (i : Fin 256) (s : Fin 2048) (hs : (s : ℕ) = o + i) (x : Fin 256) :
    daC (rowsOf (e := .bf16) (R := 2048) (m := 1024) 256 o i1 dd) wd (ix2 i x) = daB dd wd x s :=
  daC_apply (fun k => (ld_rows (e := .bf16) i1 dd _ _).trans (by congr 2; exact Fin.ext hs.symm)) x

theorem du_rows (o : ℕ) (i0 i1 i2 i3) :
    duC (daC (rowsOf (e := .bf16) (R := 2048) (m := 1024) 256 (o + 8) i0 dd) wd) (preAt w b U o i1 i2)
      = rowsOf (e := .f32) (R := 2056) (m := 512) 256 (o + 8) i3 (duB w b U (daB dd wd)) := by
  funext y
  obtain ⟨i, j, rfl⟩ := exists_ix2 y
  have hi : o + 8 + i < 2048 := by have := rows_inb i1; omega
  refine (duC_apply (s := ⟨o + 8 + i, hi⟩) (fun x => daAt_apply dd wd _ i0 i _ rfl x) (fun j => preAt_apply w b U o i1 i2 i _ rfl j) j).trans ?_
  refine Eq.trans ?_ (ld_rows (e := .f32) i3 _ _ _).symm
  exact (duB_lt w b U (daB dd wd) ⟨_, by omega⟩ j hi).symm

theorem du_rows0 (i0 i1 i3) :
    duC (daC (rowsOf (e := .bf16) (R := 2048) (m := 1024) 256 0 i0 dd) wd) (preAt0 w b U i1)
      = rowsOf (e := .f32) (R := 2056) (m := 512) 256 0 i3 (duB w b U (daB dd wd)) := by
  funext y
  obtain ⟨i, j, rfl⟩ := exists_ix2 y
  have hi : 0 + (i : ℕ) < 2048 := by omega
  refine (duC_apply (s := ⟨0 + i, hi⟩) (fun x => daAt_apply dd wd _ i0 i _ rfl x) (fun j => preAt0_apply w b U i1 i _ (Nat.zero_add _) j) j).trans ?_
  refine Eq.trans ?_ (ld_rows (e := .f32) i3 _ _ _).symm
  exact (duB_lt w b U (daB dd wd) ⟨_, by omega⟩ j hi).symm

theorem du_rowsZ (i3) (D : Fin 256 → Col) : k1_pay11 (F := Ideal) = rowsOf (e := .f32) (R := 2056) (m := 512) 8 2048 i3 (duB w b U D) := by
  funext y
  obtain ⟨i, j, rfl⟩ := exists_ix2 y
  refine Eq.trans ?_ (ld_rows (e := .f32) i3 _ _ _).symm
  refine Eq.trans ?_ (duB_ge w b U D _ j (by show ¬ (2048 + (i : ℕ) < 2048); omega)).symm
  pointwise [k1_pay11]

theorem ac_rows (o : ℕ) (i1 i2 i3) :
    acC (preAt w b U o i1 i2) = rowsOf (e := .bf16) (R := 2048) (m := 256) 256 (o + 8) i3 (acB w b U) := by
  funext y
  obtain ⟨i, j, rfl⟩ := exists_ix2 y
  have hi : o + 8 + i < 2048 := by have := rows_inb i1; omega
  refine (acC_apply (s := ⟨o + 8 + i, hi⟩) (fun j => preAt_apply w b U o i1 i2 i _ rfl j) j).trans ?_
  exact (ld_rows (e := .bf16) i3 (acB w b U) i j).symm

theorem ac_rows0 (i1 i3) :
    acC (preAt0 w b U i1) = rowsOf (e := .bf16) (R := 2048) (m := 256) 256 0 i3 (acB w b U) := by
  funext y
  obtain ⟨i, j, rfl⟩ := exists_ix2 y
  have hi : 0 + (i : ℕ) < 2048 := by omega
  refine (acC_apply (s := ⟨0 + i, hi⟩) (fun j => preAt0_apply w b U i1 i _ (Nat.zero_add _) j) j).trans ?_
  exact (ld_rows (e := .bf16) i3 (acB w b U) i j).symm

/-- A later row of the convolved columns' cotangent, out of its buffer with the zero rows. -/
theorem duB_later (D : Fin 256 → Col) (n : ℕ) (hn : n ≤ 2) (s : Fin 2048) (j : Fin 512) (r : Fin 2056) (hr : (r : ℕ) = s + n) :
    duB w b U D (ix2 r j) = later n (duCol w b U D j) s := by
  by_cases h : (s : ℕ) + n < 2048
  · rw [duB_lt w b U D r j (by omega), later_lt _ _ _ h]
    congr 1; exact Fin.ext hr
  · rw [duB_ge w b U D r j (by omega), later_ge _ _ _ h]

theorem dup_rows (D : Fin 256 → Col) (o : ℕ) (ho : o + 264 ≤ 2056) (i1 i3) :
    dupC w (rowsOf (e := .f32) (R := 2056) (m := 512) 264 o i1 (duB w b U D))
      = rowsOf (e := .bf16) (R := 2048) (m := 512) 256 o i3 (dupB w b U D) := by
  funext y
  obtain ⟨i, j, rfl⟩ := exists_ix2 y
  refine Eq.trans ?_ (ld_rows (e := .bf16) i3 _ _ _).symm
  have e1 := (ahead1_apply (rowsOf (e := .f32) (R := 2056) (m := 512) 264 o i1 (duB w b U D)) i j).trans (ld_rows (e := .f32) i1 _ _ _)
  have e2 := (ahead2_apply (rowsOf (e := .f32) (R := 2056) (m := 512) 264 o i1 (duB w b U D)) i j).trans (ld_rows (e := .f32) i1 _ _ _)
  have e0 := ld_rows (e := .f32) i1 (duB w b U D) ⟨i, by omega⟩ j
  rw [duB_later w b U D 1 (by omega) ⟨o + i, by omega⟩ j _ (by dsimp only; omega)] at e1
  rw [duB_later w b U D 2 (by omega) ⟨o + i, by omega⟩ j _ (by dsimp only; omega)] at e2
  rw [duB_later w b U D 0 (by omega) ⟨o + i, by omega⟩ j _ (by dsimp only; omega)] at e0
  generalize rowsOf (e := .f32) (R := 2056) (m := 512) 264 o i1 (duB w b U D) = v at e0 e1 e2 ⊢
  have e0' : later 0 (duCol w b U D j) ⟨o + i, by omega⟩ = duCol w b U D j ⟨o + i, by omega⟩ := later_lt 0 _ _ (by dsimp only; omega)
  rw [e0'] at e0
  pointwise [dupC]
  rw [e0, e1, e2]
  rfl

/-- The input's gradient after a tile. -/
def dhB (acc : FVec Ideal S2048x1024 .f32) (wp : FVec Ideal S512x1024 .bf16) (dup : FVec Ideal S2048x512 .bf16) : FVec Ideal S2048x1024 .f32 := fun y =>
  acc y + ∑ j : Fin 512, dup (ix2 (y 0) j) * wp (ix2 j (y 1))

theorem dh_rows (acc : FVec Ideal S2048x1024 .f32) (wp : FVec Ideal S512x1024 .bf16) (dup : FVec Ideal S2048x512 .bf16) (o : ℕ) (i1 i2 i3) (y) :
    dhC wp (rowsOf (e := .bf16) (R := 2048) (m := 512) 256 o i1 dup) (rowsOf (e := .f32) (R := 2048) (m := 1024) 256 o i2 acc) y
      = dhB acc wp dup (rowAt (R := 2048) (m := 1024) 256 o i3 y) := by
  obtain ⟨i, j, rfl⟩ := exists_ix2 y
  refine Eq.trans ?_ (congrArg (dhB acc wp dup) (emb_rows i3 i j)).symm
  have e0 := fun k => ld_rows (e := .bf16) i1 dup i k
  have e1 := ld_rows (e := .f32) i2 acc i j
  generalize rowsOf (e := .bf16) (R := 2048) (m := 512) 256 o i1 dup = d at e0 ⊢
  generalize rowsOf (e := .f32) (R := 2048) (m := 1024) 256 o i2 acc = a at e1 ⊢
  pointwise [dhC]
  rw [e1]
  simp only [e0]
  rfl

/-! ## The running sums over the chunks -/

theorem sum_chunks (f : Fin 2048 → EReal) : ∑ s, f s = ∑ r : Fin 8, ∑ i : Fin 256, f ⟨r.val * 256 + i.val, by omega⟩ :=
  Fin.sum_univ_tiles 8 256 rfl f

end Chunks

end Cert.KernelIdeal.Own

end
-- ==== Proof.KLoads1.lean ====
/- The backward body's loads of what it stored, and the sums over its chunks. -/
module

public import proofs.«01_k».proof.Proof.KSlabs1

@[expose] public section

set_option maxRecDepth 16384

noncomputable section

namespace Cert.KernelIdeal.Own

open Cert.KernelIdeal Cert.KernelIdeal.Gen
open Idealize.ShloMosaic Idealize.ShloMosaic.TcCoe Idealize.SL.Sem
open Cert.Ffn Cert.Slabs

/-- A stored slab of rows. -/
abbrev slabOf (e : EltTy) (R m n o : ℕ) (X : Vec Ideal ⟨2, ![R, m]⟩ e)
    (inb : ∀ a, (![o, 0] : Fin 2 → ℕ) a + (![n, m] : Fin 2 → ℕ) a ≤ (⟨2, ![R, m]⟩ : Shape).size a) : View.Piece (Elt Ideal) ⟨2, ![R, m]⟩ e :=
  ⟨Rect.unit (s := ⟨2, ![R, m]⟩) ![o, 0] ![n, m] inb, rowsOf (e := e) (R := R) (m := m) n o inb X⟩

section Chunks

variable (w : FVec Ideal S3x512 .f32) (b : FVec Ideal S1x512 .f32) (U : FVec Ideal S2048x512 .f32)
  (dd : FVec Ideal S2048x1024 .bf16) (wd : FVec Ideal S256x1024 .bf16)

theorem du_at_0 (i0 i1) :
    duC (daC (rowsOf (e := .bf16) (R := 2048) (m := 1024) 256 0 i0 dd) wd) (preAt0 w b U i1)
      = rowsOf (e := .f32) (R := 2056) (m := 512) 256 0 (by decide) (duB w b U (daB dd wd)) := du_rows0 w b U dd wd i0 i1 _

theorem ac_at_0 (i1) : acC (preAt0 w b U i1) = rowsOf (e := .bf16) (R := 2048) (m := 256) 256 0 (by decide) (acB w b U) := ac_rows0 w b U i1 _

theorem dup_at_0 (D : Fin 256 → Col) (i1) :
    dupC w (rowsOf (e := .f32) (R := 2056) (m := 512) 264 0 i1 (duB w b U D))
      = rowsOf (e := .bf16) (R := 2048) (m := 512) 256 0 (by decide) (dupB w b U D) := dup_rows w b U D 0 (by decide) i1 _

theorem du_at_1 (i0 i1 i2) :
    duC (daC (rowsOf (e := .bf16) (R := 2048) (m := 1024) 256 256 i0 dd) wd)
        (preC w b (rowsOf (e := .f32) (R := 2048) (m := 512) 256 256 i1 U) (back1 (rowsOf (e := .f32) (R := 2048) (m := 512) 264 248 i2 U))
          (back2 (rowsOf (e := .f32) (R := 2048) (m := 512) 264 248 i2 U)))
      = rowsOf (e := .f32) (R := 2056) (m := 512) 256 256 (by decide) (duB w b U (daB dd wd)) := du_rows w b U dd wd 248 i0 i1 i2 _

theorem ac_at_1 (i1 i2) :
    acC (preC w b (rowsOf (e := .f32) (R := 2048) (m := 512) 256 256 i1 U) (back1 (rowsOf (e := .f32) (R := 2048) (m := 512) 264 248 i2 U))
          (back2 (rowsOf (e := .f32) (R := 2048) (m := 512) 264 248 i2 U)))
      = rowsOf (e := .bf16) (R := 2048) (m := 256) 256 256 (by decide) (acB w b U) := ac_rows w b U 248 i1 i2 _

theorem dup_at_1 (D : Fin 256 → Col) (i1) :
    dupC w (rowsOf (e := .f32) (R := 2056) (m := 512) 264 256 i1 (duB w b U D))
      = rowsOf (e := .bf16) (R := 2048) (m := 512) 256 256 (by decide) (dupB w b U D) := dup_rows w b U D 256 (by decide) i1 _

theorem du_at_2 (i0 i1 i2) :
    duC (daC (rowsOf (e := .bf16) (R := 2048) (m := 1024) 256 512 i0 dd) wd)
        (preC w b (rowsOf (e := .f32) (R := 2048) (m := 512) 256 512 i1 U) (back1 (rowsOf (e := .f32) (R := 2048) (m := 512) 264 504 i2 U))
          (back2 (rowsOf (e := .f32) (R := 2048) (m := 512) 264 504 i2 U)))
      = rowsOf (e := .f32) (R := 2056) (m := 512) 256 512 (by decide) (duB w b U (daB dd wd)) := du_rows w b U dd wd 504 i0 i1 i2 _

theorem ac_at_2 (i1 i2) :
    acC (preC w b (rowsOf (e := .f32) (R := 2048) (m := 512) 256 512 i1 U) (back1 (rowsOf (e := .f32) (R := 2048) (m := 512) 264 504 i2 U))
          (back2 (rowsOf (e := .f32) (R := 2048) (m := 512) 264 504 i2 U)))
      = rowsOf (e := .bf16) (R := 2048) (m := 256) 256 512 (by decide) (acB w b U) := ac_rows w b U 504 i1 i2 _

theorem dup_at_2 (D : Fin 256 → Col) (i1) :
    dupC w (rowsOf (e := .f32) (R := 2056) (m := 512) 264 512 i1 (duB w b U D))
      = rowsOf (e := .bf16) (R := 2048) (m := 512) 256 512 (by decide) (dupB w b U D) := dup_rows w b U D 512 (by decide) i1 _

theorem du_at_3 (i0 i1 i2) :
    duC (daC (rowsOf (e := .bf16) (R := 2048) (m := 1024) 256 768 i0 dd) wd)
        (preC w b (rowsOf (e := .f32) (R := 2048) (m := 512) 256 768 i1 U) (back1 (rowsOf (e := .f32) (R := 2048) (m := 512) 264 760 i2 U))
          (back2 (rowsOf (e := .f32) (R := 2048) (m := 512) 264 760 i2 U)))
      = rowsOf (e := .f32) (R := 2056) (m := 512) 256 768 (by decide) (duB w b U (daB dd wd)) := du_rows w b U dd wd 760 i0 i1 i2 _

theorem ac_at_3 (i1 i2) :
    acC (preC w b (rowsOf (e := .f32) (R := 2048) (m := 512) 256 768 i1 U) (back1 (rowsOf (e := .f32) (R := 2048) (m := 512) 264 760 i2 U))
          (back2 (rowsOf (e := .f32) (R := 2048) (m := 512) 264 760 i2 U)))
      = rowsOf (e := .bf16) (R := 2048) (m := 256) 256 768 (by decide) (acB w b U) := ac_rows w b U 760 i1 i2 _

theorem dup_at_3 (D : Fin 256 → Col) (i1) :
    dupC w (rowsOf (e := .f32) (R := 2056) (m := 512) 264 768 i1 (duB w b U D))
      = rowsOf (e := .bf16) (R := 2048) (m := 512) 256 768 (by decide) (dupB w b U D) := dup_rows w b U D 768 (by decide) i1 _

theorem du_at_4 (i0 i1 i2) :
    duC (daC (rowsOf (e := .bf16) (R := 2048) (m := 1024) 256 1024 i0 dd) wd)
        (preC w b (rowsOf (e := .f32) (R := 2048) (m := 512) 256 1024 i1 U) (back1 (rowsOf (e := .f32) (R := 2048) (m := 512) 264 1016 i2 U))
          (back2 (rowsOf (e := .f32) (R := 2048) (m := 512) 264 1016 i2 U)))
      = rowsOf (e := .f32) (R := 2056) (m := 512) 256 1024 (by decide) (duB w b U (daB dd wd)) := du_rows w b U dd wd 1016 i0 i1 i2 _

theorem ac_at_4 (i1 i2) :
    acC (preC w b (rowsOf (e := .f32) (R := 2048) (m := 512) 256 1024 i1 U) (back1 (rowsOf (e := .f32) (R := 2048) (m := 512) 264 1016 i2 U))
          (back2 (rowsOf (e := .f32) (R := 2048) (m := 512) 264 1016 i2 U)))
      = rowsOf (e := .bf16) (R := 2048) (m := 256) 256 1024 (by decide) (acB w b U) := ac_rows w b U 1016 i1 i2 _

theorem dup_at_4 (D : Fin 256 → Col) (i1) :
    dupC w (rowsOf (e := .f32) (R := 2056) (m := 512) 264 1024 i1 (duB w b U D))
      = rowsOf (e := .bf16) (R := 2048) (m := 512) 256 1024 (by decide) (dupB w b U D) := dup_rows w b U D 1024 (by decide) i1 _

theorem du_at_5 (i0 i1 i2) :
    duC (daC (rowsOf (e := .bf16) (R := 2048) (m := 1024) 256 1280 i0 dd) wd)
        (preC w b (rowsOf (e := .f32) (R := 2048) (m := 512) 256 1280 i1 U) (back1 (rowsOf (e := .f32) (R := 2048) (m := 512) 264 1272 i2 U))
          (back2 (rowsOf (e := .f32) (R := 2048) (m := 512) 264 1272 i2 U)))
      = rowsOf (e := .f32) (R := 2056) (m := 512) 256 1280 (by decide) (duB w b U (daB dd wd)) := du_rows w b U dd wd 1272 i0 i1 i2 _

theorem ac_at_5 (i1 i2) :
    acC (preC w b (rowsOf (e := .f32) (R := 2048) (m := 512) 256 1280 i1 U) (back1 (rowsOf (e := .f32) (R := 2048) (m := 512) 264 1272 i2 U))
          (back2 (rowsOf (e := .f32) (R := 2048) (m := 512) 264 1272 i2 U)))
      = rowsOf (e := .bf16) (R := 2048) (m := 256) 256 1280 (by decide) (acB w b U) := ac_rows w b U 1272 i1 i2 _

theorem dup_at_5 (D : Fin 256 → Col) (i1) :
    dupC w (rowsOf (e := .f32) (R := 2056) (m := 512) 264 1280 i1 (duB w b U D))
      = rowsOf (e := .bf16) (R := 2048) (m := 512) 256 1280 (by decide) (dupB w b U D) := dup_rows w b U D 1280 (by decide) i1 _

theorem du_at_6 (i0 i1 i2) :
    duC (daC (rowsOf (e := .bf16) (R := 2048) (m := 1024) 256 1536 i0 dd) wd)
        (preC w b (rowsOf (e := .f32) (R := 2048) (m := 512) 256 1536 i1 U) (back1 (rowsOf (e := .f32) (R := 2048) (m := 512) 264 1528 i2 U))
          (back2 (rowsOf (e := .f32) (R := 2048) (m := 512) 264 1528 i2 U)))
      = rowsOf (e := .f32) (R := 2056) (m := 512) 256 1536 (by decide) (duB w b U (daB dd wd)) := du_rows w b U dd wd 1528 i0 i1 i2 _

theorem ac_at_6 (i1 i2) :
    acC (preC w b (rowsOf (e := .f32) (R := 2048) (m := 512) 256 1536 i1 U) (back1 (rowsOf (e := .f32) (R := 2048) (m := 512) 264 1528 i2 U))
          (back2 (rowsOf (e := .f32) (R := 2048) (m := 512) 264 1528 i2 U)))
      = rowsOf (e := .bf16) (R := 2048) (m := 256) 256 1536 (by decide) (acB w b U) := ac_rows w b U 1528 i1 i2 _

theorem dup_at_6 (D : Fin 256 → Col) (i1) :
    dupC w (rowsOf (e := .f32) (R := 2056) (m := 512) 264 1536 i1 (duB w b U D))
      = rowsOf (e := .bf16) (R := 2048) (m := 512) 256 1536 (by decide) (dupB w b U D) := dup_rows w b U D 1536 (by decide) i1 _

theorem du_at_7 (i0 i1 i2) :
    duC (daC (rowsOf (e := .bf16) (R := 2048) (m := 1024) 256 1792 i0 dd) wd)
        (preC w b (rowsOf (e := .f32) (R := 2048) (m := 512) 256 1792 i1 U) (back1 (rowsOf (e := .f32) (R := 2048) (m := 512) 264 1784 i2 U))
          (back2 (rowsOf (e := .f32) (R := 2048) (m := 512) 264 1784 i2 U)))
      = rowsOf (e := .f32) (R := 2056) (m := 512) 256 1792 (by decide) (duB w b U (daB dd wd)) := du_rows w b U dd wd 1784 i0 i1 i2 _

theorem ac_at_7 (i1 i2) :
    acC (preC w b (rowsOf (e := .f32) (R := 2048) (m := 512) 256 1792 i1 U) (back1 (rowsOf (e := .f32) (R := 2048) (m := 512) 264 1784 i2 U))
          (back2 (rowsOf (e := .f32) (R := 2048) (m := 512) 264 1784 i2 U)))
      = rowsOf (e := .bf16) (R := 2048) (m := 256) 256 1792 (by decide) (acB w b U) := ac_rows w b U 1784 i1 i2 _

theorem dup_at_7 (D : Fin 256 → Col) (i1) :
    dupC w (rowsOf (e := .f32) (R := 2056) (m := 512) 264 1792 i1 (duB w b U D))
      = rowsOf (e := .bf16) (R := 2048) (m := 512) 256 1792 (by decide) (dupB w b U D) := dup_rows w b U D 1792 (by decide) i1 _

theorem du_at_Z (D : Fin 256 → Col) : k1_pay11 (F := Ideal) = rowsOf (e := .f32) (R := 2056) (m := 512) 8 2048 (by decide) (duB w b U D) := du_rowsZ w b U _ D

end Chunks

section Loads

variable {sg : RefSig} {κ : Kind} {sp : Space}

theorem loadDu_0 (v : View sg κ sp S2056x512 .f32) (X : FVec Ideal S2056x512 .f32) (z a1 a0 i) :
    v.readCov (Val := Elt Ideal) [slabOf .f32 2056 512 256 256 X a1, slabOf .f32 2056 512 256 0 X a0, slabOf .f32 2056 512 8 2048 X z] (Rect.unit (s := S2056x512) ![0, 0] ![264, 512] i).toLoadRect
      = rowsOf (e := .f32) (R := 2056) (m := 512) 264 0 i X :=
  readCov_eq_ld (Val := Elt Ideal) (e := .f32) v (0 : Fin 2) X _ _ (by exact ⟨fun _ => rfl, fun _ => rfl, fun _ => rfl, trivial⟩) 12 (by sl_kernel_rfl) rfl

theorem loadDu_1 (v : View sg κ sp S2056x512 .f32) (X : FVec Ideal S2056x512 .f32) (z a2 a1 a0 i) :
    v.readCov (Val := Elt Ideal) [slabOf .f32 2056 512 256 512 X a2, slabOf .f32 2056 512 256 256 X a1, slabOf .f32 2056 512 256 0 X a0, slabOf .f32 2056 512 8 2048 X z] (Rect.unit (s := S2056x512) ![256, 0] ![264, 512] i).toLoadRect
      = rowsOf (e := .f32) (R := 2056) (m := 512) 264 256 i X :=
  readCov_eq_ld (Val := Elt Ideal) (e := .f32) v (0 : Fin 2) X _ _ (by exact ⟨fun _ => rfl, fun _ => rfl, fun _ => rfl, fun _ => rfl, trivial⟩) 12 (by sl_kernel_rfl) rfl

theorem loadDu_2 (v : View sg κ sp S2056x512 .f32) (X : FVec Ideal S2056x512 .f32) (z a3 a2 a1 a0 i) :
    v.readCov (Val := Elt Ideal) [slabOf .f32 2056 512 256 768 X a3, slabOf .f32 2056 512 256 512 X a2, slabOf .f32 2056 512 256 256 X a1, slabOf .f32 2056 512 256 0 X a0, slabOf .f32 2056 512 8 2048 X z] (Rect.unit (s := S2056x512) ![512, 0] ![264, 512] i).toLoadRect
      = rowsOf (e := .f32) (R := 2056) (m := 512) 264 512 i X :=
  readCov_eq_ld (Val := Elt Ideal) (e := .f32) v (0 : Fin 2) X _ _ (by exact ⟨fun _ => rfl, fun _ => rfl, fun _ => rfl, fun _ => rfl, fun _ => rfl, trivial⟩) 12 (by sl_kernel_rfl) rfl

theorem loadDu_3 (v : View sg κ sp S2056x512 .f32) (X : FVec Ideal S2056x512 .f32) (z a4 a3 a2 a1 a0 i) :
    v.readCov (Val := Elt Ideal) [slabOf .f32 2056 512 256 1024 X a4, slabOf .f32 2056 512 256 768 X a3, slabOf .f32 2056 512 256 512 X a2, slabOf .f32 2056 512 256 256 X a1, slabOf .f32 2056 512 256 0 X a0, slabOf .f32 2056 512 8 2048 X z] (Rect.unit (s := S2056x512) ![768, 0] ![264, 512] i).toLoadRect
      = rowsOf (e := .f32) (R := 2056) (m := 512) 264 768 i X :=
  readCov_eq_ld (Val := Elt Ideal) (e := .f32) v (0 : Fin 2) X _ _ (by exact ⟨fun _ => rfl, fun _ => rfl, fun _ => rfl, fun _ => rfl, fun _ => rfl, fun _ => rfl, trivial⟩) 12 (by sl_kernel_rfl) rfl

theorem loadDu_4 (v : View sg κ sp S2056x512 .f32) (X : FVec Ideal S2056x512 .f32) (z a5 a4 a3 a2 a1 a0 i) :
    v.readCov (Val := Elt Ideal) [slabOf .f32 2056 512 256 1280 X a5, slabOf .f32 2056 512 256 1024 X a4, slabOf .f32 2056 512 256 768 X a3, slabOf .f32 2056 512 256 512 X a2, slabOf .f32 2056 512 256 256 X a1, slabOf .f32 2056 512 256 0 X a0, slabOf .f32 2056 512 8 2048 X z] (Rect.unit (s := S2056x512) ![1024, 0] ![264, 512] i).toLoadRect
      = rowsOf (e := .f32) (R := 2056) (m := 512) 264 1024 i X :=
  readCov_eq_ld (Val := Elt Ideal) (e := .f32) v (0 : Fin 2) X _ _ (by exact ⟨fun _ => rfl, fun _ => rfl, fun _ => rfl, fun _ => rfl, fun _ => rfl, fun _ => rfl, fun _ => rfl, trivial⟩) 12 (by sl_kernel_rfl) rfl

theorem loadDu_5 (v : View sg κ sp S2056x512 .f32) (X : FVec Ideal S2056x512 .f32) (z a6 a5 a4 a3 a2 a1 a0 i) :
    v.readCov (Val := Elt Ideal) [slabOf .f32 2056 512 256 1536 X a6, slabOf .f32 2056 512 256 1280 X a5, slabOf .f32 2056 512 256 1024 X a4, slabOf .f32 2056 512 256 768 X a3, slabOf .f32 2056 512 256 512 X a2, slabOf .f32 2056 512 256 256 X a1, slabOf .f32 2056 512 256 0 X a0, slabOf .f32 2056 512 8 2048 X z] (Rect.unit (s := S2056x512) ![1280, 0] ![264, 512] i).toLoadRect
      = rowsOf (e := .f32) (R := 2056) (m := 512) 264 1280 i X :=
  readCov_eq_ld (Val := Elt Ideal) (e := .f32) v (0 : Fin 2) X _ _ (by exact ⟨fun _ => rfl, fun _ => rfl, fun _ => rfl, fun _ => rfl, fun _ => rfl, fun _ => rfl, fun _ => rfl, fun _ => rfl, trivial⟩) 12 (by sl_kernel_rfl) rfl

theorem loadDu_6 (v : View sg κ sp S2056x512 .f32) (X : FVec Ideal S2056x512 .f32) (z a7 a6 a5 a4 a3 a2 a1 a0 i) :
    v.readCov (Val := Elt Ideal) [slabOf .f32 2056 512 256 1792 X a7, slabOf .f32 2056 512 256 1536 X a6, slabOf .f32 2056 512 256 1280 X a5, slabOf .f32 2056 512 256 1024 X a4, slabOf .f32 2056 512 256 768 X a3, slabOf .f32 2056 512 256 512 X a2, slabOf .f32 2056 512 256 256 X a1, slabOf .f32 2056 512 256 0 X a0, slabOf .f32 2056 512 8 2048 X z] (Rect.unit (s := S2056x512) ![1536, 0] ![264, 512] i).toLoadRect
      = rowsOf (e := .f32) (R := 2056) (m := 512) 264 1536 i X :=
  readCov_eq_ld (Val := Elt Ideal) (e := .f32) v (0 : Fin 2) X _ _ (by exact ⟨fun _ => rfl, fun _ => rfl, fun _ => rfl, fun _ => rfl, fun _ => rfl, fun _ => rfl, fun _ => rfl, fun _ => rfl, fun _ => rfl, trivial⟩) 12 (by sl_kernel_rfl) rfl

theorem loadDu_7 (v : View sg κ sp S2056x512 .f32) (X : FVec Ideal S2056x512 .f32) (z a7 a6 a5 a4 a3 a2 a1 a0 i) :
    v.readCov (Val := Elt Ideal) [slabOf .f32 2056 512 256 1792 X a7, slabOf .f32 2056 512 256 1536 X a6, slabOf .f32 2056 512 256 1280 X a5, slabOf .f32 2056 512 256 1024 X a4, slabOf .f32 2056 512 256 768 X a3, slabOf .f32 2056 512 256 512 X a2, slabOf .f32 2056 512 256 256 X a1, slabOf .f32 2056 512 256 0 X a0, slabOf .f32 2056 512 8 2048 X z] (Rect.unit (s := S2056x512) ![1792, 0] ![264, 512] i).toLoadRect
      = rowsOf (e := .f32) (R := 2056) (m := 512) 264 1792 i X :=
  readCov_eq_ld (Val := Elt Ideal) (e := .f32) v (0 : Fin 2) X _ _ (by exact ⟨fun _ => rfl, fun _ => rfl, fun _ => rfl, fun _ => rfl, fun _ => rfl, fun _ => rfl, fun _ => rfl, fun _ => rfl, fun _ => rfl, trivial⟩) 12 (by sl_kernel_rfl) rfl

theorem loadDup (v : View sg κ sp S2048x512 .bf16) (X : FVec Ideal S2048x512 .bf16) (a7 a6 a5 a4 a3 a2 a1 a0 i) :
    v.readCov (Val := Elt Ideal) [slabOf .bf16 2048 512 256 1792 X a7, slabOf .bf16 2048 512 256 1536 X a6, slabOf .bf16 2048 512 256 1280 X a5, slabOf .bf16 2048 512 256 1024 X a4, slabOf .bf16 2048 512 256 768 X a3, slabOf .bf16 2048 512 256 512 X a2, slabOf .bf16 2048 512 256 256 X a1, slabOf .bf16 2048 512 256 0 X a0] (Rect.unit (s := S2048x512) ![0, 0] ![2048, 512] i).toLoadRect
      = rowsOf (e := .bf16) (R := 2048) (m := 512) 2048 0 i X :=
  readCov_eq_ld (Val := Elt Ideal) (e := .bf16) v (0 : Fin 2) X _ _ (by exact ⟨fun _ => rfl, fun _ => rfl, fun _ => rfl, fun _ => rfl, fun _ => rfl, fun _ => rfl, fun _ => rfl, fun _ => rfl, trivial⟩) 12 (by sl_kernel_rfl) rfl

theorem loadAc (v : View sg κ sp S2048x256 .bf16) (X : FVec Ideal S2048x256 .bf16) (a7 a6 a5 a4 a3 a2 a1 a0 i) :
    v.readCov (Val := Elt Ideal) [slabOf .bf16 2048 256 256 1792 X a7, slabOf .bf16 2048 256 256 1536 X a6, slabOf .bf16 2048 256 256 1280 X a5, slabOf .bf16 2048 256 256 1024 X a4, slabOf .bf16 2048 256 256 768 X a3, slabOf .bf16 2048 256 256 512 X a2, slabOf .bf16 2048 256 256 256 X a1, slabOf .bf16 2048 256 256 0 X a0] (Rect.unit (s := S2048x256) ![0, 0] ![2048, 256] i).toLoadRect
      = rowsOf (e := .bf16) (R := 2048) (m := 256) 2048 0 i X :=
  readCov_eq_ld (Val := Elt Ideal) (e := .bf16) v (0 : Fin 2) X _ _ (by exact ⟨fun _ => rfl, fun _ => rfl, fun _ => rfl, fun _ => rfl, fun _ => rfl, fun _ => rfl, fun _ => rfl, fun _ => rfl, trivial⟩) 12 (by sl_kernel_rfl) rfl

theorem rows_whole {e : EltTy} {R m : ℕ} (i) (X : Vec Ideal ⟨2, ![R, m]⟩ e) : rowsOf (e := e) (R := R) (m := m) R 0 i X = X := by
  funext y
  obtain ⟨p, q, rfl⟩ := exists_ix2 y
  refine (ld_rows (e := e) i X p q).trans (congrArg X ?_)
  congr 1; exact Fin.ext (Nat.zero_add _)

end Loads

section Sums

variable (w : FVec Ideal S3x512 .f32) (b : FVec Ideal S1x512 .f32) (U : FVec Ideal S2048x512 .f32) (D : Fin 256 → Col)

theorem earlier_zero (x : Col) : earlier 0 x = x := by
  funext s; unfold earlier; exact dif_pos (Nat.zero_le _)

/-- One chunk's share of the taps' gradient. -/
theorem dw_share {r : Fin 8} {du u u1 u2 : FVec Ideal S256x512 .f32} (k : Fin 3) (j : Fin 512)
    (hdu : ∀ i : Fin 256, du (ix2 i j) = duCol w b U D j ⟨r.val * 256 + i.val, by omega⟩)
    (hu : ∀ i : Fin 256, u (ix2 i j) = U (ix2 ⟨r.val * 256 + i.val, by omega⟩ j))
    (h1 : ∀ i : Fin 256, u1 (ix2 i j) = earlier 1 (fun s => U (ix2 s j)) ⟨r.val * 256 + i.val, by omega⟩)
    (h2 : ∀ i : Fin 256, u2 (ix2 i j) = earlier 2 (fun s => U (ix2 s j)) ⟨r.val * 256 + i.val, by omega⟩) :
    dwC du u u1 u2 (ix2 k j) = ∑ i : Fin 256, duCol w b U D j ⟨r.val * 256 + i.val, by omega⟩
      * earlier (2 - (k : ℕ)) (fun s => U (ix2 s j)) ⟨r.val * 256 + i.val, by omega⟩ := by
  rw [dwC_apply]
  refine Finset.sum_congr rfl fun i _ => ?_
  rw [hdu i]
  congr 1
  match k with
  | 0 => exact h2 i
  | 1 => exact h1 i
  | 2 => exact (hu i).trans (congrFun (earlier_zero (fun s => U (ix2 s j))) ⟨r.val * 256 + i.val, by omega⟩).symm

theorem db_share {r : Fin 8} {du : FVec Ideal S256x512 .f32} (k : Fin 1) (j : Fin 512)
    (hdu : ∀ i : Fin 256, du (ix2 i j) = duCol w b U D j ⟨r.val * 256 + i.val, by omega⟩) :
    sumC du (ix2 k j) = ∑ i : Fin 256, duCol w b U D j ⟨r.val * 256 + i.val, by omega⟩ := by
  rw [sumC_apply]
  exact Finset.sum_congr rfl fun i _ => hdu i

theorem du_row (o : ℕ) (i3) (j : Fin 512) (i : Fin 256) (s : Fin 2048) (hs : (s : ℕ) = o + i) :
    rowsOf (e := .f32) (R := 2056) (m := 512) 256 o i3 (duB w b U D) (ix2 i j) = duCol w b U D j s := by
  refine (ld_rows (e := .f32) i3 _ i j).trans ?_
  refine (duB_lt w b U D ⟨o + i, by omega⟩ j (by dsimp only; omega)).trans ?_
  congr 1; exact Fin.ext hs.symm

theorem u_row (o : ℕ) (i3) (j : Fin 512) (i : Fin 256) (s : Fin 2048) (hs : (s : ℕ) = o + i) :
    rowsOf (e := .f32) (R := 2048) (m := 512) 256 o i3 U (ix2 i j) = U (ix2 s j) :=
  (ld_rows (e := .f32) i3 U i j).trans (by congr 2; exact Fin.ext hs.symm)

theorem dw_total :
    (addf (addf (addf (addf (addf (addf (addf (addf zeroW
      (dwC (rowsOf (e := .f32) (R := 2056) (m := 512) 256 0 (by decide) (duB w b U D)) (rowsOf (e := .f32) (R := 2048) (m := 512) 256 0 (by decide) U) (back1 (zeroRows (rowsOf (e := .f32) (R := 2048) (m := 512) 256 0 (by decide) U))) (back2 (zeroRows (rowsOf (e := .f32) (R := 2048) (m := 512) 256 0 (by decide) U)))))
      (dwC (rowsOf (e := .f32) (R := 2056) (m := 512) 256 256 (by decide) (duB w b U D)) (rowsOf (e := .f32) (R := 2048) (m := 512) 256 256 (by decide) U) (back1 (rowsOf (e := .f32) (R := 2048) (m := 512) 264 248 (by decide) U)) (back2 (rowsOf (e := .f32) (R := 2048) (m := 512) 264 248 (by decide) U))))
      (dwC (rowsOf (e := .f32) (R := 2056) (m := 512) 256 512 (by decide) (duB w b U D)) (rowsOf (e := .f32) (R := 2048) (m := 512) 256 512 (by decide) U) (back1 (rowsOf (e := .f32) (R := 2048) (m := 512) 264 504 (by decide) U)) (back2 (rowsOf (e := .f32) (R := 2048) (m := 512) 264 504 (by decide) U))))
      (dwC (rowsOf (e := .f32) (R := 2056) (m := 512) 256 768 (by decide) (duB w b U D)) (rowsOf (e := .f32) (R := 2048) (m := 512) 256 768 (by decide) U) (back1 (rowsOf (e := .f32) (R := 2048) (m := 512) 264 760 (by decide) U)) (back2 (rowsOf (e := .f32) (R := 2048) (m := 512) 264 760 (by decide) U))))
      (dwC (rowsOf (e := .f32) (R := 2056) (m := 512) 256 1024 (by decide) (duB w b U D)) (rowsOf (e := .f32) (R := 2048) (m := 512) 256 1024 (by decide) U) (back1 (rowsOf (e := .f32) (R := 2048) (m := 512) 264 1016 (by decide) U)) (back2 (rowsOf (e := .f32) (R := 2048) (m := 512) 264 1016 (by decide) U))))
      (dwC (rowsOf (e := .f32) (R := 2056) (m := 512) 256 1280 (by decide) (duB w b U D)) (rowsOf (e := .f32) (R := 2048) (m := 512) 256 1280 (by decide) U) (back1 (rowsOf (e := .f32) (R := 2048) (m := 512) 264 1272 (by decide) U)) (back2 (rowsOf (e := .f32) (R := 2048) (m := 512) 264 1272 (by decide) U))))
      (dwC (rowsOf (e := .f32) (R := 2056) (m := 512) 256 1536 (by decide) (duB w b U D)) (rowsOf (e := .f32) (R := 2048) (m := 512) 256 1536 (by decide) U) (back1 (rowsOf (e := .f32) (R := 2048) (m := 512) 264 1528 (by decide) U)) (back2 (rowsOf (e := .f32) (R := 2048) (m := 512) 264 1528 (by decide) U))))
      (dwC (rowsOf (e := .f32) (R := 2056) (m := 512) 256 1792 (by decide) (duB w b U D)) (rowsOf (e := .f32) (R := 2048) (m := 512) 256 1792 (by decide) U) (back1 (rowsOf (e := .f32) (R := 2048) (m := 512) 264 1784 (by decide) U)) (back2 (rowsOf (e := .f32) (R := 2048) (m := 512) 264 1784 (by decide) U))))
      = dwB w b U D := by
  funext y
  obtain ⟨k, j, rfl⟩ := exists_ix2 y
  refine Eq.trans ?_ (sum_chunks _).symm
  rw [Fin.sum_univ_eight]
  simp only [addf_apply]
  rw [dw_share w b U D (r := 0) k j (fun i => du_row w b U D 0 (by decide) j i _ (by show 0 * 256 + (i : ℕ) = 0 + i; omega)) (fun i => u_row U 0 (by decide) j i _ (by show 0 * 256 + (i : ℕ) = 0 + i; omega)) (fun i => back1_first (by decide) U i j _ (by show 0 * 256 + (i : ℕ) = i; omega)) (fun i => back2_first (by decide) U i j _ (by show 0 * 256 + (i : ℕ) = i; omega))]
  rw [dw_share w b U D (r := 1) k j (fun i => du_row w b U D 256 (by decide) j i _ (by show 1 * 256 + (i : ℕ) = 256 + i; omega)) (fun i => u_row U 256 (by decide) j i _ (by show 1 * 256 + (i : ℕ) = 256 + i; omega)) (fun i => back1_ld (o := 248) (by decide) U i j _ (by show 1 * 256 + (i : ℕ) = 248 + 8 + i; omega)) (fun i => back2_ld (o := 248) (by decide) U i j _ (by show 1 * 256 + (i : ℕ) = 248 + 8 + i; omega))]
  rw [dw_share w b U D (r := 2) k j (fun i => du_row w b U D 512 (by decide) j i _ (by show 2 * 256 + (i : ℕ) = 512 + i; omega)) (fun i => u_row U 512 (by decide) j i _ (by show 2 * 256 + (i : ℕ) = 512 + i; omega)) (fun i => back1_ld (o := 504) (by decide) U i j _ (by show 2 * 256 + (i : ℕ) = 504 + 8 + i; omega)) (fun i => back2_ld (o := 504) (by decide) U i j _ (by show 2 * 256 + (i : ℕ) = 504 + 8 + i; omega))]
  rw [dw_share w b U D (r := 3) k j (fun i => du_row w b U D 768 (by decide) j i _ (by show 3 * 256 + (i : ℕ) = 768 + i; omega)) (fun i => u_row U 768 (by decide) j i _ (by show 3 * 256 + (i : ℕ) = 768 + i; omega)) (fun i => back1_ld (o := 760) (by decide) U i j _ (by show 3 * 256 + (i : ℕ) = 760 + 8 + i; omega)) (fun i => back2_ld (o := 760) (by decide) U i j _ (by show 3 * 256 + (i : ℕ) = 760 + 8 + i; omega))]
  rw [dw_share w b U D (r := 4) k j (fun i => du_row w b U D 1024 (by decide) j i _ (by show 4 * 256 + (i : ℕ) = 1024 + i; omega)) (fun i => u_row U 1024 (by decide) j i _ (by show 4 * 256 + (i : ℕ) = 1024 + i; omega)) (fun i => back1_ld (o := 1016) (by decide) U i j _ (by show 4 * 256 + (i : ℕ) = 1016 + 8 + i; omega)) (fun i => back2_ld (o := 1016) (by decide) U i j _ (by show 4 * 256 + (i : ℕ) = 1016 + 8 + i; omega))]
  rw [dw_share w b U D (r := 5) k j (fun i => du_row w b U D 1280 (by decide) j i _ (by show 5 * 256 + (i : ℕ) = 1280 + i; omega)) (fun i => u_row U 1280 (by decide) j i _ (by show 5 * 256 + (i : ℕ) = 1280 + i; omega)) (fun i => back1_ld (o := 1272) (by decide) U i j _ (by show 5 * 256 + (i : ℕ) = 1272 + 8 + i; omega)) (fun i => back2_ld (o := 1272) (by decide) U i j _ (by show 5 * 256 + (i : ℕ) = 1272 + 8 + i; omega))]
  rw [dw_share w b U D (r := 6) k j (fun i => du_row w b U D 1536 (by decide) j i _ (by show 6 * 256 + (i : ℕ) = 1536 + i; omega)) (fun i => u_row U 1536 (by decide) j i _ (by show 6 * 256 + (i : ℕ) = 1536 + i; omega)) (fun i => back1_ld (o := 1528) (by decide) U i j _ (by show 6 * 256 + (i : ℕ) = 1528 + 8 + i; omega)) (fun i => back2_ld (o := 1528) (by decide) U i j _ (by show 6 * 256 + (i : ℕ) = 1528 + 8 + i; omega))]
  rw [dw_share w b U D (r := 7) k j (fun i => du_row w b U D 1792 (by decide) j i _ (by show 7 * 256 + (i : ℕ) = 1792 + i; omega)) (fun i => u_row U 1792 (by decide) j i _ (by show 7 * 256 + (i : ℕ) = 1792 + i; omega)) (fun i => back1_ld (o := 1784) (by decide) U i j _ (by show 7 * 256 + (i : ℕ) = 1784 + 8 + i; omega)) (fun i => back2_ld (o := 1784) (by decide) U i j _ (by show 7 * 256 + (i : ℕ) = 1784 + 8 + i; omega))]
  have hz : zeroW (ix2 k j) = 0 := by pointwise [zeroW]
  rw [hz]
  refine (congrArg (fun a : EReal => a + _ + _ + _ + _ + _ + _ + _) (zero_add _)).trans ?_
  rfl

theorem db_total :
    (addf (addf (addf (addf (addf (addf (addf (addf zeroB
      (sumC (rowsOf (e := .f32) (R := 2056) (m := 512) 256 0 (by decide) (duB w b U D))))
      (sumC (rowsOf (e := .f32) (R := 2056) (m := 512) 256 256 (by decide) (duB w b U D))))
      (sumC (rowsOf (e := .f32) (R := 2056) (m := 512) 256 512 (by decide) (duB w b U D))))
      (sumC (rowsOf (e := .f32) (R := 2056) (m := 512) 256 768 (by decide) (duB w b U D))))
      (sumC (rowsOf (e := .f32) (R := 2056) (m := 512) 256 1024 (by decide) (duB w b U D))))
      (sumC (rowsOf (e := .f32) (R := 2056) (m := 512) 256 1280 (by decide) (duB w b U D))))
      (sumC (rowsOf (e := .f32) (R := 2056) (m := 512) 256 1536 (by decide) (duB w b U D))))
      (sumC (rowsOf (e := .f32) (R := 2056) (m := 512) 256 1792 (by decide) (duB w b U D))))
      = dbB w b U D := by
  funext y
  obtain ⟨k, j, rfl⟩ := exists_ix2 y
  refine Eq.trans ?_ (sum_chunks _).symm
  rw [Fin.sum_univ_eight]
  simp only [addf_apply]
  rw [db_share w b U D (r := 0) k j (fun i => du_row w b U D 0 (by decide) j i _ (by show 0 * 256 + (i : ℕ) = 0 + i; omega))]
  rw [db_share w b U D (r := 1) k j (fun i => du_row w b U D 256 (by decide) j i _ (by show 1 * 256 + (i : ℕ) = 256 + i; omega))]
  rw [db_share w b U D (r := 2) k j (fun i => du_row w b U D 512 (by decide) j i _ (by show 2 * 256 + (i : ℕ) = 512 + i; omega))]
  rw [db_share w b U D (r := 3) k j (fun i => du_row w b U D 768 (by decide) j i _ (by show 3 * 256 + (i : ℕ) = 768 + i; omega))]
  rw [db_share w b U D (r := 4) k j (fun i => du_row w b U D 1024 (by decide) j i _ (by show 4 * 256 + (i : ℕ) = 1024 + i; omega))]
  rw [db_share w b U D (r := 5) k j (fun i => du_row w b U D 1280 (by decide) j i _ (by show 5 * 256 + (i : ℕ) = 1280 + i; omega))]
  rw [db_share w b U D (r := 6) k j (fun i => du_row w b U D 1536 (by decide) j i _ (by show 6 * 256 + (i : ℕ) = 1536 + i; omega))]
  rw [db_share w b U D (r := 7) k j (fun i => du_row w b U D 1792 (by decide) j i _ (by show 7 * 256 + (i : ℕ) = 1792 + i; omega))]
  have hz : zeroB (ix2 k j) = 0 := by pointwise [zeroB]
  rw [hz]
  refine (congrArg (fun a : EReal => a + _ + _ + _ + _ + _ + _ + _) (zero_add _)).trans ?_
  rfl

end Sums

end Cert.KernelIdeal.Own

end
-- ==== Proof.KOut1.lean ====
/- What the backward region's outputs hold after each grid point. -/
module

public import proofs.«01_k».proof.Proof.Gen.KernelIdeal.Frame.Region1
public import proofs.«01_k».proof.Proof.KLoads1
public import Idealize.ShloMosaic.Lib.Pipeline.ValueKit.Stack

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Ffn Cert.Slabs

variable (V : (c : Dev nD) → (b : Ref sig .tc) → Buf (Elt Ideal) ((c : Thread nD τ).loc b))

theorem fill_zero1 : (k1_pay7 : FVec Ideal S2048x1024 .f32) = fun _ => (0 : EReal) := by
  funext y
  obtain ⟨i, j, rfl⟩ := exists_ix2 y
  pointwise [k1_pay7]

theorem load_fill1 {sg : RefSig} {κ : Kind} {sp : Space} (v : View sg κ sp S2048x1024 .f32) (n o : ℕ) (inb i2) :
    v.readCov (Val := Elt Ideal) [⟨Rect.unit (s := S2048x1024) ![0, 0] ![2048, 1024] inb, k1_pay7 (F := Ideal)⟩]
        (Rect.unit (s := S2048x1024) ![o, 0] ![n, 1024] i2).toLoadRect
      = rowsOf (e := .f32) (R := 2048) (m := 1024) n o i2 (fun _ => (0 : EReal)) :=
  (View.readCov_fill (Val := Elt Ideal) v inb (k1_pay7 (F := Ideal)) [] _ (by decide)).trans (by rw [fill_zero1])

/-- One half of the up weight's gradient: the gate's columns or the value's. -/
def gupF (dup : FVec Ideal S2048x512 .bf16) (h : FVec Ideal S2048x1024 .bf16) (g : Fin 2) : FVec Ideal S256x1024 .bf16 := fun y =>
  ∑ s : Fin 2048, dup (ix2 s ⟨256 * (g : ℕ) + (y 0 : ℕ), by have := (y 0).isLt; change (y 0 : ℕ) < 256 at this; omega⟩) * h (ix2 s (y 1))

/-- The down weight's gradient. -/
def gdF (ac : FVec Ideal S2048x256 .bf16) (dd : FVec Ideal S2048x1024 .bf16) : FVec Ideal S256x1024 .bf16 := fun y =>
  ∑ s : Fin 2048, ac (ix2 s (y 0)) * dd (ix2 s (y 1))

theorem gup_0 (dup : FVec Ideal S2048x512 .bf16) (h : FVec Ideal S2048x1024 .bf16) :
    k1_pay190 dup h = shapeCast S1x256x1024 (gupF dup h 0) shapeCasts_S256x1024_S1x256x1024 := by
  have e : gupF dup h 0 = truncf (F := Ideal) .bf16 (extractStridedSlice S256x1024 ![0, 0] (k1_pay187 dup h) slices_S512x1024_o0_0_S256x1024) bitsLt_bf16_f32 := by
    funext y
    obtain ⟨i, j, rfl⟩ := exists_ix2 y
    pointwise [k1_pay187, gupF]
  rw [e]
  rfl

theorem gup_1 (dup : FVec Ideal S2048x512 .bf16) (h : FVec Ideal S2048x1024 .bf16) :
    k1_pay1 (k1_pay189 dup h) = shapeCast S1x256x1024 (gupF dup h 1) shapeCasts_S256x1024_S1x256x1024 := by
  have e : gupF dup h 1 = k1_pay189 dup h := by
    funext y
    obtain ⟨i, j, rfl⟩ := exists_ix2 y
    pointwise [k1_pay189, k1_pay187, gupF]
  rw [e]
  rfl

theorem gup_piece_0 (dup : FVec Ideal S2048x512 .bf16) (h : FVec Ideal S2048x1024 .bf16) (x : S1x256x1024.Idx) :
    k1_pay190 dup h x = stackAlong0 (gupF dup h) ((Rect.unit (s := S2x256x1024) ![0, 0, 0] ![1, 256, 1024] inb_S2x256x1024_S1x256x1024_0_0_0).emb x) := by
  rw [gup_0]
  exact stack_piece_emb (G := 2) (d := ![256, 1024]) (gupF dup h) (0 : Fin 2) _ ![0, 0, 0] inb_S2x256x1024_S1x256x1024_0_0_0 rfl (fun a => by fin_cases a <;> rfl) x

theorem gup_piece_1 (dup : FVec Ideal S2048x512 .bf16) (h : FVec Ideal S2048x1024 .bf16) (x : S1x256x1024.Idx) :
    k1_pay1 (k1_pay189 dup h) x = stackAlong0 (gupF dup h) ((Rect.unit (s := S2x256x1024) ![1, 0, 0] ![1, 256, 1024] inb_S2x256x1024_S1x256x1024_1_0_0).emb x) := by
  rw [gup_1]
  exact stack_piece_emb (G := 2) (d := ![256, 1024]) (gupF dup h) (1 : Fin 2) _ ![1, 0, 0] inb_S2x256x1024_S1x256x1024_1_0_0 rfl (fun a => by fin_cases a <;> rfl) x

theorem gd_eq (ac : FVec Ideal S2048x256 .bf16) (dd : FVec Ideal S2048x1024 .bf16) : k1_pay2 (k1_pay188 ac dd) = gdF ac dd := by
  funext y
  obtain ⟨i, j, rfl⟩ := exists_ix2 y
  pointwise [k1_pay2, k1_pay188, gdF]

theorem out10_B (c : Dev nD) (t : Fin cfg1.N) (h : ¬ t.val % 11 = 0) (y) :
    (outsAt1 V c t.val t.isLt).1 y
      = dhB (outsAt1 V c (t.val - 1) (by omega)).1 (k1_pay10 (iblk1 V c 2 t) (iblk1 V c 3 t)) (dupB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  generalize (outsAt1 V c (t.val - 1) _).1 = x10
  frame_open
  simp (disch := decide) only [↓ View.readCov_skip, ↓ View.readCov_cons_toLoadRect]
  frame_out
  simp only [da_0, da_1, da_2, da_3, da_4, da_5, da_6, da_7, du_0, du_1, du_2, du_3, du_4, du_5, du_6, du_7, ac_0, ac_1, ac_2, ac_3, ac_4, ac_5, ac_6, ac_7]
  simp only [du_at_0, du_at_1, du_at_2, du_at_3, du_at_4, du_at_5, du_at_6, du_at_7, du_at_Z (k1_pay8 x4 x5) (k1_pay9 x6 x7) x1 (daB x8 x9)]
  simp only [dup_0, dup_1, dup_2, dup_3, dup_4, dup_5, dup_6, dup_7, dh_0, dh_1, dh_2, dh_3, dh_4, dh_5, dh_6, dh_7]
  simp only [loadDu_0, loadDu_1, loadDu_2, loadDu_3, loadDu_4, loadDu_5, loadDu_6, loadDu_7]
  simp only [dup_at_0, dup_at_1, dup_at_2, dup_at_3, dup_at_4, dup_at_5, dup_at_6, dup_at_7]
  refine canon_eq (Val := Elt Ideal) (e := .f32) (s := S2048x1024) (0 : Fin 2) (dhB x10 (k1_pay10 x2 x3) (dupB (k1_pay8 x4 x5) (k1_pay9 x6 x7) x1 (daB x8 x9))) _ ?_ 12 (by sl_kernel_rfl) y
  exact ⟨dh_rows x10 (k1_pay10 x2 x3) (dupB (k1_pay8 x4 x5) (k1_pay9 x6 x7) x1 (daB x8 x9)) 1792 (by decide) (by decide) (by decide), dh_rows x10 (k1_pay10 x2 x3) (dupB (k1_pay8 x4 x5) (k1_pay9 x6 x7) x1 (daB x8 x9)) 1536 (by decide) (by decide) (by decide), dh_rows x10 (k1_pay10 x2 x3) (dupB (k1_pay8 x4 x5) (k1_pay9 x6 x7) x1 (daB x8 x9)) 1280 (by decide) (by decide) (by decide), dh_rows x10 (k1_pay10 x2 x3) (dupB (k1_pay8 x4 x5) (k1_pay9 x6 x7) x1 (daB x8 x9)) 1024 (by decide) (by decide) (by decide), dh_rows x10 (k1_pay10 x2 x3) (dupB (k1_pay8 x4 x5) (k1_pay9 x6 x7) x1 (daB x8 x9)) 768 (by decide) (by decide) (by decide), dh_rows x10 (k1_pay10 x2 x3) (dupB (k1_pay8 x4 x5) (k1_pay9 x6 x7) x1 (daB x8 x9)) 512 (by decide) (by decide) (by decide), dh_rows x10 (k1_pay10 x2 x3) (dupB (k1_pay8 x4 x5) (k1_pay9 x6 x7) x1 (daB x8 x9)) 256 (by decide) (by decide) (by decide), dh_rows x10 (k1_pay10 x2 x3) (dupB (k1_pay8 x4 x5) (k1_pay9 x6 x7) x1 (daB x8 x9)) 0 (by decide) (by decide) (by decide), trivial⟩

theorem out11_B (c : Dev nD) (t : Fin cfg1.N) (h : ¬ t.val % 11 = 0) (y) :
    (outsAt1 V c t.val t.isLt).2.1 y = stackAlong0 (gupF (dupB (k1_pay8 (iblk1 V c 4 t) (iblk1 V c 5 t)) (k1_pay9 (iblk1 V c 6 t) (iblk1 V c 7 t)) (iblk1 V c 1 t) (daB (iblk1 V c 8 t) (iblk1 V c 9 t))) (iblk1 V c 0 t)) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [da_0, da_1, da_2, da_3, da_4, da_5, da_6, da_7, du_0, du_1, du_2, du_3, du_4, du_5, du_6, du_7, ac_0, ac_1, ac_2, ac_3, ac_4, ac_5, ac_6, ac_7]
  simp only [du_at_0, du_at_1, du_at_2, du_at_3, du_at_4, du_at_5, du_at_6, du_at_7, du_at_Z (k1_pay8 x4 x5) (k1_pay9 x6 x7) x1 (daB x8 x9)]
  simp only [dup_0, dup_1, dup_2, dup_3, dup_4, dup_5, dup_6, dup_7]
  simp only [loadDu_0, loadDu_1, loadDu_2, loadDu_3, loadDu_4, loadDu_5, loadDu_6, loadDu_7]
  simp only [dup_at_0, dup_at_1, dup_at_2, dup_at_3, dup_at_4, dup_at_5, dup_at_6, dup_at_7]
  simp only [loadDup, rows_whole]
  refine canon_eq (Val := Elt Ideal) (e := .bf16) (s := S2x256x1024) (0 : Fin 3) (stackAlong0 (gupF (dupB (k1_pay8 x4 x5) (k1_pay9 x6 x7) x1 (daB x8 x9)) x0)) _ ?_ 4 (by sl_kernel_rfl) y
  exact ⟨gup_piece_1 _ _, gup_piece_0 _ _, trivial⟩

theorem out12_B (c : Dev nD) (t : Fin cfg1.N) (h : ¬ t.val % 11 = 0) (y) :
    (outsAt1 V c t.val t.isLt).2.2.1 y = gdF (acB (k1_pay8 (iblk1 V c 4 t) (iblk1 V c 5 t)) (k1_pay9 (iblk1 V c 6 t) (iblk1 V c 7 t)) (iblk1 V c 1 t)) (iblk1 V c 8 t) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [ac_0, ac_1, ac_2, ac_3, ac_4, ac_5, ac_6, ac_7]
  simp only [ac_at_0, ac_at_1, ac_at_2, ac_at_3, ac_at_4, ac_at_5, ac_at_6, ac_at_7]
  simp only [loadAc, rows_whole, gd_eq]

theorem out13_B (c : Dev nD) (t : Fin cfg1.N) (h : ¬ t.val % 11 = 0) (y) :
    (outsAt1 V c t.val t.isLt).2.2.2.1 y = k1_pay3 (dwB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [dw_0, dw_1, dw_2, dw_3, dw_4, dw_5, dw_6, dw_7, sum_49, sum_72, sum_97, sum_116, sum_138, sum_157, sum_179, da_0, da_1, da_2, da_3, da_4, da_5, da_6, da_7]
  simp only [du_at_0, du_at_1, du_at_2, du_at_3, du_at_4, du_at_5, du_at_6, du_at_7]
  rw [← dw_total (k1_pay8 x4 x5) (k1_pay9 x6 x7) x1 (daB x8 x9)]

theorem out14_B (c : Dev nD) (t : Fin cfg1.N) (h : ¬ t.val % 11 = 0) (y) :
    (outsAt1 V c t.val t.isLt).2.2.2.2.1 y = k1_pay4 (dwB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [dw_0, dw_1, dw_2, dw_3, dw_4, dw_5, dw_6, dw_7, sum_49, sum_72, sum_97, sum_116, sum_138, sum_157, sum_179, da_0, da_1, da_2, da_3, da_4, da_5, da_6, da_7]
  simp only [du_at_0, du_at_1, du_at_2, du_at_3, du_at_4, du_at_5, du_at_6, du_at_7]
  rw [← dw_total (k1_pay8 x4 x5) (k1_pay9 x6 x7) x1 (daB x8 x9)]

theorem out15_B (c : Dev nD) (t : Fin cfg1.N) (h : ¬ t.val % 11 = 0) (y) :
    (outsAt1 V c t.val t.isLt).2.2.2.2.2.1 y = k1_pay5 (dbB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [db_0, db_1, db_2, db_3, db_4, db_5, db_6, db_7, sum_50, sum_73, sum_98, sum_117, sum_139, sum_158, sum_180, da_0, da_1, da_2, da_3, da_4, da_5, da_6, da_7]
  simp only [du_at_0, du_at_1, du_at_2, du_at_3, du_at_4, du_at_5, du_at_6, du_at_7]
  rw [← db_total (k1_pay8 x4 x5) (k1_pay9 x6 x7) x1 (daB x8 x9)]

theorem out16_B (c : Dev nD) (t : Fin cfg1.N) (h : ¬ t.val % 11 = 0) (y) :
    (outsAt1 V c t.val t.isLt).2.2.2.2.2.2 y = k1_pay6 (dbB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_B V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [db_0, db_1, db_2, db_3, db_4, db_5, db_6, db_7, sum_50, sum_73, sum_98, sum_117, sum_139, sum_158, sum_180, da_0, da_1, da_2, da_3, da_4, da_5, da_6, da_7]
  simp only [du_at_0, du_at_1, du_at_2, du_at_3, du_at_4, du_at_5, du_at_6, du_at_7]
  rw [← db_total (k1_pay8 x4 x5) (k1_pay9 x6 x7) x1 (daB x8 x9)]

theorem out10_A (c : Dev nD) (t : Fin cfg1.N) (h : t.val % 11 = 0) (y) :
    (outsAt1 V c t.val t.isLt).1 y
      = dhB (fun _ => (0 : EReal)) (k1_pay10 (iblk1 V c 2 t) (iblk1 V c 3 t)) (dupB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9

  frame_open
  simp (disch := decide) only [↓ View.readCov_skip, ↓ View.readCov_cons_toLoadRect]
  frame_out
  simp only [da_0, da_1, da_2, da_3, da_4, da_5, da_6, da_7, du_0, du_1, du_2, du_3, du_4, du_5, du_6, du_7, ac_0, ac_1, ac_2, ac_3, ac_4, ac_5, ac_6, ac_7]
  simp only [du_at_0, du_at_1, du_at_2, du_at_3, du_at_4, du_at_5, du_at_6, du_at_7, du_at_Z (k1_pay8 x4 x5) (k1_pay9 x6 x7) x1 (daB x8 x9)]
  simp only [dup_0, dup_1, dup_2, dup_3, dup_4, dup_5, dup_6, dup_7, dh_0, dh_1, dh_2, dh_3, dh_4, dh_5, dh_6, dh_7]
  simp only [loadDu_0, loadDu_1, loadDu_2, loadDu_3, loadDu_4, loadDu_5, loadDu_6, loadDu_7]
  simp only [dup_at_0, dup_at_1, dup_at_2, dup_at_3, dup_at_4, dup_at_5, dup_at_6, dup_at_7, load_fill1]
  refine canon_append_eq (Val := Elt Ideal) (e := .f32) (s := S2048x1024) (0 : Fin 2) (dhB (fun _ => (0 : EReal)) (k1_pay10 x2 x3) (dupB (k1_pay8 x4 x5) (k1_pay9 x6 x7) x1 (daB x8 x9))) [_, _, _, _, _, _, _, _] [_] ?_ 12 (by sl_kernel_rfl) y
  exact ⟨dh_rows (fun _ => (0 : EReal)) (k1_pay10 x2 x3) (dupB (k1_pay8 x4 x5) (k1_pay9 x6 x7) x1 (daB x8 x9)) 1792 (by decide) (by decide) (by decide), dh_rows (fun _ => (0 : EReal)) (k1_pay10 x2 x3) (dupB (k1_pay8 x4 x5) (k1_pay9 x6 x7) x1 (daB x8 x9)) 1536 (by decide) (by decide) (by decide), dh_rows (fun _ => (0 : EReal)) (k1_pay10 x2 x3) (dupB (k1_pay8 x4 x5) (k1_pay9 x6 x7) x1 (daB x8 x9)) 1280 (by decide) (by decide) (by decide), dh_rows (fun _ => (0 : EReal)) (k1_pay10 x2 x3) (dupB (k1_pay8 x4 x5) (k1_pay9 x6 x7) x1 (daB x8 x9)) 1024 (by decide) (by decide) (by decide), dh_rows (fun _ => (0 : EReal)) (k1_pay10 x2 x3) (dupB (k1_pay8 x4 x5) (k1_pay9 x6 x7) x1 (daB x8 x9)) 768 (by decide) (by decide) (by decide), dh_rows (fun _ => (0 : EReal)) (k1_pay10 x2 x3) (dupB (k1_pay8 x4 x5) (k1_pay9 x6 x7) x1 (daB x8 x9)) 512 (by decide) (by decide) (by decide), dh_rows (fun _ => (0 : EReal)) (k1_pay10 x2 x3) (dupB (k1_pay8 x4 x5) (k1_pay9 x6 x7) x1 (daB x8 x9)) 256 (by decide) (by decide) (by decide), dh_rows (fun _ => (0 : EReal)) (k1_pay10 x2 x3) (dupB (k1_pay8 x4 x5) (k1_pay9 x6 x7) x1 (daB x8 x9)) 0 (by decide) (by decide) (by decide), trivial⟩

theorem out11_A (c : Dev nD) (t : Fin cfg1.N) (h : t.val % 11 = 0) (y) :
    (outsAt1 V c t.val t.isLt).2.1 y = stackAlong0 (gupF (dupB (k1_pay8 (iblk1 V c 4 t) (iblk1 V c 5 t)) (k1_pay9 (iblk1 V c 6 t) (iblk1 V c 7 t)) (iblk1 V c 1 t) (daB (iblk1 V c 8 t) (iblk1 V c 9 t))) (iblk1 V c 0 t)) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [da_0, da_1, da_2, da_3, da_4, da_5, da_6, da_7, du_0, du_1, du_2, du_3, du_4, du_5, du_6, du_7, ac_0, ac_1, ac_2, ac_3, ac_4, ac_5, ac_6, ac_7]
  simp only [du_at_0, du_at_1, du_at_2, du_at_3, du_at_4, du_at_5, du_at_6, du_at_7, du_at_Z (k1_pay8 x4 x5) (k1_pay9 x6 x7) x1 (daB x8 x9)]
  simp only [dup_0, dup_1, dup_2, dup_3, dup_4, dup_5, dup_6, dup_7]
  simp only [loadDu_0, loadDu_1, loadDu_2, loadDu_3, loadDu_4, loadDu_5, loadDu_6, loadDu_7]
  simp only [dup_at_0, dup_at_1, dup_at_2, dup_at_3, dup_at_4, dup_at_5, dup_at_6, dup_at_7]
  simp only [loadDup, rows_whole]
  refine canon_eq (Val := Elt Ideal) (e := .bf16) (s := S2x256x1024) (0 : Fin 3) (stackAlong0 (gupF (dupB (k1_pay8 x4 x5) (k1_pay9 x6 x7) x1 (daB x8 x9)) x0)) _ ?_ 4 (by sl_kernel_rfl) y
  exact ⟨gup_piece_1 _ _, gup_piece_0 _ _, trivial⟩

theorem out12_A (c : Dev nD) (t : Fin cfg1.N) (h : t.val % 11 = 0) (y) :
    (outsAt1 V c t.val t.isLt).2.2.1 y = gdF (acB (k1_pay8 (iblk1 V c 4 t) (iblk1 V c 5 t)) (k1_pay9 (iblk1 V c 6 t) (iblk1 V c 7 t)) (iblk1 V c 1 t)) (iblk1 V c 8 t) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [ac_0, ac_1, ac_2, ac_3, ac_4, ac_5, ac_6, ac_7]
  simp only [ac_at_0, ac_at_1, ac_at_2, ac_at_3, ac_at_4, ac_at_5, ac_at_6, ac_at_7]
  simp only [loadAc, rows_whole, gd_eq]

theorem out13_A (c : Dev nD) (t : Fin cfg1.N) (h : t.val % 11 = 0) (y) :
    (outsAt1 V c t.val t.isLt).2.2.2.1 y = k1_pay3 (dwB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [dw_0, dw_1, dw_2, dw_3, dw_4, dw_5, dw_6, dw_7, sum_49, sum_72, sum_97, sum_116, sum_138, sum_157, sum_179, da_0, da_1, da_2, da_3, da_4, da_5, da_6, da_7]
  simp only [du_at_0, du_at_1, du_at_2, du_at_3, du_at_4, du_at_5, du_at_6, du_at_7]
  rw [← dw_total (k1_pay8 x4 x5) (k1_pay9 x6 x7) x1 (daB x8 x9)]

theorem out14_A (c : Dev nD) (t : Fin cfg1.N) (h : t.val % 11 = 0) (y) :
    (outsAt1 V c t.val t.isLt).2.2.2.2.1 y = k1_pay4 (dwB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [dw_0, dw_1, dw_2, dw_3, dw_4, dw_5, dw_6, dw_7, sum_49, sum_72, sum_97, sum_116, sum_138, sum_157, sum_179, da_0, da_1, da_2, da_3, da_4, da_5, da_6, da_7]
  simp only [du_at_0, du_at_1, du_at_2, du_at_3, du_at_4, du_at_5, du_at_6, du_at_7]
  rw [← dw_total (k1_pay8 x4 x5) (k1_pay9 x6 x7) x1 (daB x8 x9)]

theorem out15_A (c : Dev nD) (t : Fin cfg1.N) (h : t.val % 11 = 0) (y) :
    (outsAt1 V c t.val t.isLt).2.2.2.2.2.1 y = k1_pay5 (dbB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [db_0, db_1, db_2, db_3, db_4, db_5, db_6, db_7, sum_50, sum_73, sum_98, sum_117, sum_139, sum_158, sum_180, da_0, da_1, da_2, da_3, da_4, da_5, da_6, da_7]
  simp only [du_at_0, du_at_1, du_at_2, du_at_3, du_at_4, du_at_5, du_at_6, du_at_7]
  rw [← db_total (k1_pay8 x4 x5) (k1_pay9 x6 x7) x1 (daB x8 x9)]

theorem out16_A (c : Dev nD) (t : Fin cfg1.N) (h : t.val % 11 = 0) (y) :
    (outsAt1 V c t.val t.isLt).2.2.2.2.2.2 y = k1_pay6 (dbB (k1_pay8 (iblk1 V c 4 t) (iblk1 V c 5 t)) (k1_pay9 (iblk1 V c 6 t) (iblk1 V c 7 t)) (iblk1 V c 1 t) (daB (iblk1 V c 8 t) (iblk1 V c 9 t))) y := by
  rw [outsAt1_A V c t h]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  generalize iblk1 V c 9 t = x9
  frame_open
  frame_out
  simp only [db_0, db_1, db_2, db_3, db_4, db_5, db_6, db_7, sum_50, sum_73, sum_98, sum_117, sum_139, sum_158, sum_180, da_0, da_1, da_2, da_3, da_4, da_5, da_6, da_7]
  simp only [du_at_0, du_at_1, du_at_2, du_at_3, du_at_4, du_at_5, du_at_6, du_at_7]
  rw [← db_total (k1_pay8 x4 x5) (k1_pay9 x6 x7) x1 (daB x8 x9)]

end Cert.KernelIdeal.Own

end
-- ==== Proof.KArr1.lean ====
/- The backward region's arrays at its exit: the gradients of the layer's input, weights, taps and bias. -/
module

public import proofs.«01_k».proof.Proof.KArr0
public import proofs.«01_k».proof.Proof.KOut1
public import Idealize.ShloMosaic.Lib.Pipeline.ReadBack

@[expose] public section

set_option maxRecDepth 16384

noncomputable section

namespace Cert.KernelIdeal.Own

open Cert.KernelIdeal Cert.KernelIdeal.Gen
open Idealize.ShloMosaic Idealize.ShloMosaic.TcCoe Idealize.SL.Sem
open Idealize.ShloMosaic.Pipeline (Dat)
open Cert.Ffn Cert.Slabs

variable (V : (c : Dev nD) → (b : Ref sig .tc) → Buf (Elt Ideal) ((c : Thread nD τ).loc b))

/-- The cotangent of the layer's output. -/
def CTA (c : Dev nD) (s : Fin 2048) (d : Fin 1024) : EReal := V c main_v1 (ix2 s d)

theorem chan_val (t : Fin 11) (x : Fin 256) : (chan t x : ℕ) = t * 256 + x := by simp only [chan]; omega

/-- A grid point's tile. -/
def tile1 (t : Fin cfg1.N) : Fin 11 := ⟨t.val, t.isLt.trans_eq N_1⟩

theorem lt1 (t : Fin cfg1.N) : t.val < 11 := t.isLt.trans_eq N_1

theorem idx1 : ∀ t : Fin cfg1.N, win1_0.index t = ![0, 0] ∧ win1_1.index t = ![0, t.val] ∧ win1_2.index t = ![t.val, 0] ∧ win1_3.index t = ![t.val + 11, 0]
    ∧ win1_4.index t = ![0, t.val] ∧ win1_5.index t = ![0, t.val + 11] ∧ win1_6.index t = ![0, t.val] ∧ win1_7.index t = ![0, t.val + 11]
    ∧ win1_8.index t = ![0, 0] ∧ win1_9.index t = ![t.val, 0] ∧ win1_10.index t = ![0, 0] ∧ win1_11.index t = ![0, t.val, 0]
    ∧ win1_12.index t = ![t.val, 0] ∧ win1_13.index t = ![0, t.val] ∧ win1_14.index t = ![0, t.val] ∧ win1_15.index t = ![0, t.val]
    ∧ win1_16.index t = ![0, t.val] :=
  (by decide +kernel : ∀ t : Fin grid1.N, _)

theorem blk1_0 (c : Dev nD) (t : Fin cfg1.N) (s : Fin 2048) (k : Fin 1024) : iblk1 V c 0 t (ix2 s k) = V c main_v0 (ix2 s k) := by
  blk_ext [iblk1, idx1 t]
theorem blk1_1 (c : Dev nD) (t : Fin cfg1.N) (s : Fin 2048) (j : Fin 512) :
    iblk1 V c 1 t (ix2 s j) = V c main_v5_1 (ix2 s ⟨t.val * 512 + j, by have := lt1 t; omega⟩) := by
  blk_ext [iblk1, idx1 t]
theorem blk1_2 (c : Dev nD) (t : Fin cfg1.N) (x : Fin 256) (k : Fin 1024) :
    iblk1 V c 2 t (ix2 x k) = V c main_v3 (ix2 ⟨256 * t.val + x, by have := lt1 t; omega⟩ k) := by
  blk_ext [iblk1, idx1 t]
theorem blk1_3 (c : Dev nD) (t : Fin cfg1.N) (x : Fin 256) (k : Fin 1024) :
    iblk1 V c 3 t (ix2 x k) = V c main_v3 (ix2 ⟨2816 + (256 * t.val + x), by have := lt1 t; omega⟩ k) := by
  blk_ext [iblk1, idx1 t]
theorem blk1_4 (c : Dev nD) (t : Fin cfg1.N) (r : Fin 3) (x : Fin 256) :
    iblk1 V c 4 t (ix2 r x) = V c main_arg2 (ix2 r ⟨256 * t.val + x, by have := lt1 t; omega⟩) := by
  blk_ext [iblk1, idx1 t]
theorem blk1_5 (c : Dev nD) (t : Fin cfg1.N) (r : Fin 3) (x : Fin 256) :
    iblk1 V c 5 t (ix2 r x) = V c main_arg2 (ix2 r ⟨2816 + (256 * t.val + x), by have := lt1 t; omega⟩) := by
  blk_ext [iblk1, idx1 t]
theorem blk1_6 (c : Dev nD) (t : Fin cfg1.N) (x : Fin 256) :
    iblk1 V c 6 t (ix2 0 x) = V c main_arg3 (ix2 0 ⟨256 * t.val + x, by have := lt1 t; omega⟩) := by
  blk_ext [iblk1, idx1 t]
theorem blk1_7 (c : Dev nD) (t : Fin cfg1.N) (x : Fin 256) :
    iblk1 V c 7 t (ix2 0 x) = V c main_arg3 (ix2 0 ⟨2816 + (256 * t.val + x), by have := lt1 t; omega⟩) := by
  blk_ext [iblk1, idx1 t]
theorem blk1_8 (c : Dev nD) (t : Fin cfg1.N) (s : Fin 2048) (d : Fin 1024) : iblk1 V c 8 t (ix2 s d) = V c main_v1 (ix2 s d) := by
  blk_ext [iblk1, idx1 t]
theorem blk1_9 (c : Dev nD) (t : Fin cfg1.N) (x : Fin 256) (d : Fin 1024) :
    iblk1 V c 9 t (ix2 x d) = V c main_v4 (ix2 ⟨256 * t.val + x, by have := lt1 t; omega⟩ d) := by
  blk_ext [iblk1, idx1 t]

/-! ## A tile's operands -/

/-- The tile's taps. -/
abbrev wT (c : Dev nD) (t : Fin cfg1.N) : FVec Ideal S3x512 .f32 := k1_pay8 (iblk1 V c 4 t) (iblk1 V c 5 t)
/-- The tile's bias. -/
abbrev bT (c : Dev nD) (t : Fin cfg1.N) : FVec Ideal S1x512 .f32 := k1_pay9 (iblk1 V c 6 t) (iblk1 V c 7 t)
/-- The tile's rows of the up weight. -/
abbrev wpT (c : Dev nD) (t : Fin cfg1.N) : FVec Ideal S512x1024 .bf16 := k1_pay10 (iblk1 V c 2 t) (iblk1 V c 3 t)
/-- The tile's cotangents of the activation. -/
abbrev daT (c : Dev nD) (t : Fin cfg1.N) : Fin 256 → Col := daB (iblk1 V c 8 t) (iblk1 V c 9 t)
/-- The tile's cotangents of the projection. -/
abbrev dupT (c : Dev nD) (t : Fin cfg1.N) : FVec Ideal S2048x512 .bf16 := dupB (wT V c t) (bT V c t) (iblk1 V c 1 t) (daT V c t)
/-- The tile's activation. -/
abbrev acT (c : Dev nD) (t : Fin cfg1.N) : FVec Ideal S2048x256 .bf16 := acB (wT V c t) (bT V c t) (iblk1 V c 1 t)

theorem taps1 (c : Dev nD) (t : Fin cfg1.N) (r : Fin 3) (j : Fin 512) :
    wT V c t (ix2 r j) = WCA V c r (ecol (tile1 t) j) := by
  unfold wT
  by_cases h : (j : ℕ) < 256
  · rw [ecol_lt _ _ h]
    refine Eq.trans ?_ (blk1_4 V c t r ⟨j, h⟩)
    generalize iblk1 V c 4 t = x3
    generalize iblk1 V c 5 t = x4
    pointwise [k1_pay8]
    exact dif_pos h
  · rw [ecol_ge _ _ h]
    refine Eq.trans ?_ (blk1_5 V c t r ⟨j - 256, by omega⟩)
    generalize iblk1 V c 4 t = x3
    generalize iblk1 V c 5 t = x4
    pointwise [k1_pay8]
    exact dif_neg h

theorem bias1 (c : Dev nD) (t : Fin cfg1.N) (j : Fin 512) :
    bT V c t (ix2 0 j) = BCA V c (ecol (tile1 t) j) := by
  unfold bT
  by_cases h : (j : ℕ) < 256
  · rw [ecol_lt _ _ h]
    refine Eq.trans ?_ (blk1_6 V c t ⟨j, h⟩)
    generalize iblk1 V c 6 t = x3
    generalize iblk1 V c 7 t = x4
    pointwise [k1_pay9]
    exact dif_pos h
  · rw [ecol_ge _ _ h]
    refine Eq.trans ?_ (blk1_7 V c t ⟨j - 256, by omega⟩)
    generalize iblk1 V c 6 t = x3
    generalize iblk1 V c 7 t = x4
    pointwise [k1_pay9]
    exact dif_neg h

theorem wp1 (c : Dev nD) (t : Fin cfg1.N) (j : Fin 512) (d : Fin 1024) :
    wpT V c t (ix2 j d) = WUA V c d (ecol (tile1 t) j) := by
  unfold wpT
  by_cases h : (j : ℕ) < 256
  · rw [ecol_lt _ _ h]
    refine Eq.trans ?_ (blk1_2 V c t ⟨j, h⟩ d)
    generalize iblk1 V c 2 t = x3
    generalize iblk1 V c 3 t = x4
    pointwise [k1_pay10]
    exact dif_pos h
  · rw [ecol_ge _ _ h]
    refine Eq.trans ?_ (blk1_3 V c t ⟨j - 256, by omega⟩ d)
    generalize iblk1 V c 2 t = x3
    generalize iblk1 V c 3 t = x4
    pointwise [k1_pay10]
    exact dif_neg h

theorem da1 (c : Dev nD) (t : Fin cfg1.N) (x : Fin 256) : daT V c t x = dAct (WDA V c) (CTA V c) (chan (tile1 t) x) := by
  funext s
  unfold daT daB dAct
  refine Finset.sum_congr rfl fun k _ => ?_
  rw [blk1_8 V c t s k, blk1_9 V c t x k]
  rfl

section Tiles

variable (c : Dev nD) (hU : V c main_v5_1 = upT V c)

include hU

theorem proj1 (t : Fin cfg1.N) (s : Fin 2048) (j : Fin 512) :
    iblk1 V c 1 t (ix2 s j) = up (HA V c) (WUA V c) (ecol (tile1 t) j) s := by
  rw [blk1_1, hU]
  exact upT_at V c (tile1 t) s j _ rfl rfl

theorem pre1 (t : Fin cfg1.N) (j : Fin 512) :
    preB (wT V c t) (bT V c t) (iblk1 V c 1 t) j = pre (HA V c) (WUA V c) (WCA V c) (BCA V c) (ecol (tile1 t) j) := by
  unfold preB pre
  rw [taps1, taps1, taps1, bias1, funext fun s => proj1 V c hU t s j]

theorem act1 (t : Fin cfg1.N) (x : Fin 256) (s : Fin 2048) :
    acT V c t (ix2 s x) = actC (HA V c) (WUA V c) (WCA V c) (BCA V c) (chan (tile1 t) x) s := by
  unfold acT acB actC
  change actB _ _ _ x s = _
  unfold actB
  rw [pre1 V c hU, pre1 V c hU, ecol_gate, ecol_val]

theorem du1_gate (t : Fin cfg1.N) (x : Fin 256) (h : (x : ℕ) < 512) :
    duCol (wT V c t) (bT V c t) (iblk1 V c 1 t) (daT V c t) ⟨x, h⟩ = duG (HA V c) (WUA V c) (WCA V c) (BCA V c) (WDA V c) (CTA V c) (chan (tile1 t) x) := by
  funext s
  rw [duCol_lt _ _ _ _ _ _ x.isLt, pre1 V c hU, pre1 V c hU, ecol_gate, ecol_val, da1]
  rfl

theorem du1_val (t : Fin cfg1.N) (x : Fin 256) (h : 256 + (x : ℕ) < 512) :
    duCol (wT V c t) (bT V c t) (iblk1 V c 1 t) (daT V c t) ⟨256 + x, h⟩ = duV (HA V c) (WUA V c) (WCA V c) (BCA V c) (WDA V c) (CTA V c) (chan (tile1 t) x) := by
  funext s
  rw [duCol_ge _ _ _ _ _ _ (by dsimp only; omega), pre1 V c hU]
  have e : ∀ h', (⟨256 + (x : ℕ) - 256, h'⟩ : Fin 256) = x := fun h' => Fin.ext (by dsimp only; omega)
  have e' : ∀ h', (⟨256 + (x : ℕ) - 256, h'⟩ : Fin 512) = ⟨x, by omega⟩ := fun h' => Fin.ext (by dsimp only; omega)
  rw [e, e', ecol_gate, da1]
  rfl

theorem dup1_gate (t : Fin cfg1.N) (x : Fin 256) (h : (x : ℕ) < 512) (s : Fin 2048) :
    dupT V c t (ix2 s ⟨x, h⟩) = dupG (HA V c) (WUA V c) (WCA V c) (BCA V c) (WDA V c) (CTA V c) (chan (tile1 t) x) s := by
  unfold dupT dupB dupG
  change convBack (wT V c t (ix2 0 ⟨x, h⟩)) (wT V c t (ix2 1 ⟨x, h⟩)) (wT V c t (ix2 2 ⟨x, h⟩)) (duCol _ _ _ _ ⟨x, h⟩) s = _
  rw [du1_gate V c hU, taps1, taps1, taps1, ecol_gate]

theorem dup1_val (t : Fin cfg1.N) (x : Fin 256) (h : 256 + (x : ℕ) < 512) (s : Fin 2048) :
    dupT V c t (ix2 s ⟨256 + x, h⟩) = dupV (HA V c) (WUA V c) (WCA V c) (BCA V c) (WDA V c) (CTA V c) (chan (tile1 t) x) s := by
  unfold dupT dupB dupV
  change convBack (wT V c t (ix2 0 ⟨256 + x, h⟩)) (wT V c t (ix2 1 ⟨256 + x, h⟩)) (wT V c t (ix2 2 ⟨256 + x, h⟩)) (duCol _ _ _ _ ⟨256 + x, h⟩) s = _
  rw [du1_val V c hU, taps1, taps1, taps1, ecol_val]

/-! ## The arrays -/

omit hU in
/-- The gradient of the layer's input. -/
def dhA : FVec Ideal S2048x1024 .f32 := fun i => dH (HA V c) (WUA V c) (WCA V c) (BCA V c) (WDA V c) (CTA V c) (i 0) (i 1)

theorem arr1_10 : (dat1 V c).arrAt 10 cfg1.N = dhA V c := by
  refine (dat1 V c).arrAt_eq_of_after_last 10 t1_10 (by decide +kernel) _ fun j => ?_
  blk_simp
  rw [after1_10, Pipeline.eq_sum_fin_of_reset_step_apply_last (fun n h => (outsAt1 V c n h).1) 11 (fun _ => (0 : EReal))
    (fun t j => ∑ k : Fin 512, dupT V c t (ix2 (j 0) k) * wpT V c t (ix2 k (j 1)))
    (fun t h j => out10_A V c t h j) (fun t h j => out10_B V c t h j) (le_of_eq N_1) t1_10 rfl j, zero_add]
  have e : ∀ t : Fin cfg1.N, (∑ k : Fin 512, dupT V c t (ix2 (j 0) k) * wpT V c t (ix2 k (j 1)) : EReal)
      = ∑ x : Fin 256, (dupG (HA V c) (WUA V c) (WCA V c) (BCA V c) (WDA V c) (CTA V c) (chan (tile1 t) x) (j 0) * WUA V c (j 1) (gcol (chan (tile1 t) x))
          + dupV (HA V c) (WUA V c) (WCA V c) (BCA V c) (WDA V c) (CTA V c) (chan (tile1 t) x) (j 0) * WUA V c (j 1) (vcol (chan (tile1 t) x))) := fun t => by
    rw [Fin.sum_univ_two_halves 256 256 rfl, ← Finset.sum_add_distrib]
    refine Finset.sum_congr rfl fun x _ => ?_
    refine congrArg₂ (· + ·) (congrArg₂ (· * ·) (dup1_gate V c hU t x _ (j 0)) ((wp1 V c t _ (j 1)).trans ?_)) (congrArg₂ (· * ·) (dup1_val V c hU t x _ (j 0)) ((wp1 V c t _ (j 1)).trans ?_))
    · rw [ecol_gate]
    · rw [ecol_val]
  refine (Fin.sum_fin_congr e).trans ?_
  refine Fin.sum_mul_add_congr fun t x hl => ?_
  have e : (⟨t.val * 256 + x, hl⟩ : Fin 2816) = chan (tile1 t) x := Fin.ext (by simp only [chan, tile1]; omega)
  rw [e]

omit hU in
/-- The gradient of the up weight: its gate rows, then its value rows. -/
def gupA : FVec Ideal S2x2816x1024 .bf16 := fun i => if (i 0 : ℕ) = 0 then dWUg (HA V c) (WUA V c) (WCA V c) (BCA V c) (WDA V c) (CTA V c) (i 1) (i 2) else dWUv (HA V c) (WUA V c) (WCA V c) (BCA V c) (WDA V c) (CTA V c) (i 1) (i 2)

theorem arr1_11 : (dat1 V c).arrAt 11 cfg1.N = gupA V c := by
  refine (dat1 V c).arrAt_eq_of_covers 11 _ (by decide +kernel) fun t _ y => ?_
  blk_simp
  rw [after1_11]
  have hy : (outsAt1 V c t.val t.isLt).2.1 y = stackAlong0 (gupF (dupT V c t) (iblk1 V c 0 t)) y := by
    by_cases h : t.val % 11 = 0
    · exact out11_A V c t h _
    · exact out11_B V c t h _
  refine hy.trans ?_
  obtain ⟨g, x, d, rfl⟩ : ∃ (g : Fin 2) (x : Fin 256) (d : Fin 1024), y = ix3 g x d := ⟨y 0, y 1, y 2, eq_ix3 y⟩
  trans (∑ s : Fin 2048, dupT V c t (ix2 s ⟨256 * (g : ℕ) + x, by omega⟩) * iblk1 V c 0 t (ix2 s d) : EReal)
  · rfl
  have e0 : ((((cfg1.win 11).blk t).view.emb (ix3 g x d)) 0 : ℕ) = g := by blk_simp [idx1 t]
  have e1 : (((cfg1.win 11).blk t).view.emb (ix3 g x d)) 1 = chan (tile1 t) x := Fin.ext (Eq.trans (by blk_simp [idx1 t]; rfl) (chan_val (tile1 t) x).symm)
  have e2 : (((cfg1.win 11).blk t).view.emb (ix3 g x d)) 2 = d := Fin.ext (by blk_simp [idx1 t])
  unfold gupA
  match g with
  | 0 =>
    refine Eq.trans ?_ (if_pos e0).symm
    refine Eq.trans (Finset.sum_congr rfl fun s _ => ?_) (congrArg₂ (dWUg (HA V c) (WUA V c) (WCA V c) (BCA V c) (WDA V c) (CTA V c)) e1 e2).symm
    refine congrArg₂ (· * ·) (Eq.trans (congrArg (fun z : Fin 512 => dupT V c t (ix2 s z)) (Fin.ext ?_)) (dup1_gate V c hU t x (by omega) s)) (blk1_0 V c t s d)
    simp
  | 1 =>
    refine Eq.trans ?_ (if_neg (by rw [e0]; decide)).symm
    refine Eq.trans (Finset.sum_congr rfl fun s _ => ?_) (congrArg₂ (dWUv (HA V c) (WUA V c) (WCA V c) (BCA V c) (WDA V c) (CTA V c)) e1 e2).symm
    refine congrArg₂ (· * ·) (Eq.trans (congrArg (fun z : Fin 512 => dupT V c t (ix2 s z)) (Fin.ext ?_)) (dup1_val V c hU t x (by omega) s)) (blk1_0 V c t s d)
    simp

omit hU in
/-- The gradient of the down weight. -/
def gdA : FVec Ideal S2816x1024 .bf16 := fun i => dWD (HA V c) (WUA V c) (WCA V c) (BCA V c) (CTA V c) (i 0) (i 1)

theorem arr1_12 : (dat1 V c).arrAt 12 cfg1.N = gdA V c := by
  refine (dat1 V c).arrAt_eq_of_covers 12 _ (by decide +kernel) fun t _ y => ?_
  blk_simp
  rw [after1_12]
  obtain ⟨x, d, rfl⟩ := exists_ix2 (n := 256) (m := 1024) y
  trans dWD (HA V c) (WUA V c) (WCA V c) (BCA V c) (CTA V c) (chan (tile1 t) x) d
  · have hy : (outsAt1 V c t.val t.isLt).2.2.1 (ix2 x d) = gdF (acT V c t) (iblk1 V c 8 t) (ix2 x d) := by
      by_cases h : t.val % 11 = 0
      · exact out12_A V c t h _
      · exact out12_B V c t h _
    refine hy.trans (Finset.sum_congr rfl fun s _ => ?_)
    exact congrArg₂ (· * ·) (act1 V c hU t x s) (blk1_8 V c t s d)
  · refine (congrArg₂ (dWD (HA V c) (WUA V c) (WCA V c) (BCA V c) (CTA V c)) (Fin.ext (Eq.trans ?_ (chan_val (tile1 t) x).symm)) (Fin.ext ?_)).symm
    · blk_simp [idx1 t]
      rfl
    · blk_simp [idx1 t]

omit hU in
/-- The gradient of the taps' gate columns. -/
def dw13A : FVec Ideal S3x2816 .f32 := fun i => dWCg (HA V c) (WUA V c) (WCA V c) (BCA V c) (WDA V c) (CTA V c) (i 0) (i 1)

theorem arr1_13 : (dat1 V c).arrAt 13 cfg1.N = dw13A V c := by
  refine (dat1 V c).arrAt_eq_of_covers 13 _ (by decide +kernel) fun t _ y => ?_
  blk_simp
  rw [after1_13]
  obtain ⟨r, x, rfl⟩ := exists_ix2 (n := 3) (m := 256) y
  trans dWCg (HA V c) (WUA V c) (WCA V c) (BCA V c) (WDA V c) (CTA V c) r (chan (tile1 t) x)
  · have hy : (outsAt1 V c t.val t.isLt).2.2.2.1 (ix2 r x) = k1_pay3 (dwB (wT V c t) (bT V c t) (iblk1 V c 1 t) (daT V c t)) (ix2 r x) := by
      by_cases h : t.val % 11 = 0
      · exact out13_A V c t h _
      · exact out13_B V c t h _
    have hs : k1_pay3 (dwB (wT V c t) (bT V c t) (iblk1 V c 1 t) (daT V c t)) (ix2 r x)
        = dwB (wT V c t) (bT V c t) (iblk1 V c 1 t) (daT V c t) (ix2 r ⟨x, by omega⟩) := by
      generalize dwB (wT V c t) (bT V c t) (iblk1 V c 1 t) (daT V c t) = z
      pointwise [k1_pay3]
    refine (hy.trans hs).trans (Finset.sum_congr rfl fun s _ => ?_)
    refine congrArg₂ (· * ·) (congrFun (du1_gate V c hU t x _) s) ?_
    refine congrArg (fun z : Col => earlier (2 - (r : ℕ)) z s) (funext fun s => (proj1 V c hU t s ⟨x, by omega⟩).trans (by rw [ecol_gate]))
  · refine (congrArg₂ (dWCg (HA V c) (WUA V c) (WCA V c) (BCA V c) (WDA V c) (CTA V c)) (Fin.ext ?_) (Fin.ext (Eq.trans ?_ (chan_val (tile1 t) x).symm))).symm
    · blk_simp [idx1 t]
    · blk_simp [idx1 t]
      rfl

omit hU in
/-- The gradient of the taps' value columns. -/
def dw14A : FVec Ideal S3x2816 .f32 := fun i => dWCv (HA V c) (WUA V c) (WCA V c) (BCA V c) (WDA V c) (CTA V c) (i 0) (i 1)

theorem arr1_14 : (dat1 V c).arrAt 14 cfg1.N = dw14A V c := by
  refine (dat1 V c).arrAt_eq_of_covers 14 _ (by decide +kernel) fun t _ y => ?_
  blk_simp
  rw [after1_14]
  obtain ⟨r, x, rfl⟩ := exists_ix2 (n := 3) (m := 256) y
  trans dWCv (HA V c) (WUA V c) (WCA V c) (BCA V c) (WDA V c) (CTA V c) r (chan (tile1 t) x)
  · have hy : (outsAt1 V c t.val t.isLt).2.2.2.2.1 (ix2 r x) = k1_pay4 (dwB (wT V c t) (bT V c t) (iblk1 V c 1 t) (daT V c t)) (ix2 r x) := by
      by_cases h : t.val % 11 = 0
      · exact out14_A V c t h _
      · exact out14_B V c t h _
    have hs : k1_pay4 (dwB (wT V c t) (bT V c t) (iblk1 V c 1 t) (daT V c t)) (ix2 r x)
        = dwB (wT V c t) (bT V c t) (iblk1 V c 1 t) (daT V c t) (ix2 r ⟨256 + x, by omega⟩) := by
      generalize dwB (wT V c t) (bT V c t) (iblk1 V c 1 t) (daT V c t) = z
      pointwise [k1_pay4]
    refine (hy.trans hs).trans (Finset.sum_congr rfl fun s _ => ?_)
    refine congrArg₂ (· * ·) (congrFun (du1_val V c hU t x _) s) ?_
    refine congrArg (fun z : Col => earlier (2 - (r : ℕ)) z s) (funext fun s => (proj1 V c hU t s ⟨256 + x, by omega⟩).trans (by rw [ecol_val]))
  · refine (congrArg₂ (dWCv (HA V c) (WUA V c) (WCA V c) (BCA V c) (WDA V c) (CTA V c)) (Fin.ext ?_) (Fin.ext (Eq.trans ?_ (chan_val (tile1 t) x).symm))).symm
    · blk_simp [idx1 t]
    · blk_simp [idx1 t]
      rfl

omit hU in
/-- The gradient of the bias's gate columns. -/
def db15A : FVec Ideal S1x2816 .f32 := fun i => dBg (HA V c) (WUA V c) (WCA V c) (BCA V c) (WDA V c) (CTA V c) (i 1)

theorem arr1_15 : (dat1 V c).arrAt 15 cfg1.N = db15A V c := by
  refine (dat1 V c).arrAt_eq_of_covers 15 _ (by decide +kernel) fun t _ y => ?_
  blk_simp
  rw [after1_15]
  obtain ⟨r, x, rfl⟩ := exists_ix2 (n := 1) (m := 256) y
  obtain rfl : r = 0 := Subsingleton.elim _ _
  trans dBg (HA V c) (WUA V c) (WCA V c) (BCA V c) (WDA V c) (CTA V c) (chan (tile1 t) x)
  · have hy : (outsAt1 V c t.val t.isLt).2.2.2.2.2.1 (ix2 0 x) = k1_pay5 (dbB (wT V c t) (bT V c t) (iblk1 V c 1 t) (daT V c t)) (ix2 0 x) := by
      by_cases h : t.val % 11 = 0
      · exact out15_A V c t h _
      · exact out15_B V c t h _
    have hs : k1_pay5 (dbB (wT V c t) (bT V c t) (iblk1 V c 1 t) (daT V c t)) (ix2 0 x)
        = dbB (wT V c t) (bT V c t) (iblk1 V c 1 t) (daT V c t) (ix2 0 ⟨x, by omega⟩) := by
      generalize dbB (wT V c t) (bT V c t) (iblk1 V c 1 t) (daT V c t) = z
      pointwise [k1_pay5]
    exact (hy.trans hs).trans (Finset.sum_congr rfl fun s _ => congrFun (du1_gate V c hU t x _) s)
  · refine (congrArg (dBg (HA V c) (WUA V c) (WCA V c) (BCA V c) (WDA V c) (CTA V c)) (Fin.ext (Eq.trans ?_ (chan_val (tile1 t) x).symm))).symm
    blk_simp [idx1 t]
    rfl

omit hU in
/-- The gradient of the bias's value columns. -/
def db16A : FVec Ideal S1x2816 .f32 := fun i => dBv (HA V c) (WUA V c) (WCA V c) (BCA V c) (WDA V c) (CTA V c) (i 1)

theorem arr1_16 : (dat1 V c).arrAt 16 cfg1.N = db16A V c := by
  refine (dat1 V c).arrAt_eq_of_covers 16 _ (by decide +kernel) fun t _ y => ?_
  blk_simp
  rw [after1_16]
  obtain ⟨r, x, rfl⟩ := exists_ix2 (n := 1) (m := 256) y
  obtain rfl : r = 0 := Subsingleton.elim _ _
  trans dBv (HA V c) (WUA V c) (WCA V c) (BCA V c) (WDA V c) (CTA V c) (chan (tile1 t) x)
  · have hy : (outsAt1 V c t.val t.isLt).2.2.2.2.2.2 (ix2 0 x) = k1_pay6 (dbB (wT V c t) (bT V c t) (iblk1 V c 1 t) (daT V c t)) (ix2 0 x) := by
      by_cases h : t.val % 11 = 0
      · exact out16_A V c t h _
      · exact out16_B V c t h _
    have hs : k1_pay6 (dbB (wT V c t) (bT V c t) (iblk1 V c 1 t) (daT V c t)) (ix2 0 x)
        = dbB (wT V c t) (bT V c t) (iblk1 V c 1 t) (daT V c t) (ix2 0 ⟨256 + x, by omega⟩) := by
      generalize dbB (wT V c t) (bT V c t) (iblk1 V c 1 t) (daT V c t) = z
      pointwise [k1_pay6]
    exact (hy.trans hs).trans (Finset.sum_congr rfl fun s _ => congrFun (du1_val V c hU t x _) s)
  · refine (congrArg (dBv (HA V c) (WUA V c) (WCA V c) (BCA V c) (WDA V c) (CTA V c)) (Fin.ext (Eq.trans ?_ (chan_val (tile1 t) x).symm))).symm
    blk_simp [idx1 t]
    rfl

end Tiles

end Cert.KernelIdeal.Own

end
-- ==== Proof.KVal.lean ====
/- What the two pallas_calls leave in the result arrays, over the arguments: the layer's output and its gradients. -/
module

public import Idealize.ShloMosaic.Lib.StableHlo
public import Idealize.ShloMosaic.Lib.Pointwise
public import proofs.«01_k».proof.Proof.KArr1
public import proofs.«01_k».proof.Proof.Run

@[expose] public section

set_option maxRecDepth 16384

noncomputable section

namespace Cert.KernelIdeal.Own

open Cert.KernelIdeal Cert.KernelIdeal.Gen
open Idealize.ShloMosaic Idealize.ShloMosaic.TcCoe Idealize.ShloMosaic.Tactic Idealize.SL.Sem
open Idealize.ShloMosaic.StableHlo Cert.Ffn

variable (m : (ℓ : Loc nD τ sig) → Buf (Elt Ideal) ℓ) (ρ : Dev nD → PrngReg) (c : Dev nD)

/-! ## The arguments by their coordinates -/

abbrev MH : Fin 2048 → Fin 1024 → EReal := fun s k => (m ((c : Thread nD τ).loc main_arg0) : FVec Ideal S2048x1024 .f32) (ix2 s k)
abbrev MWU : Fin 1024 → Fin 5632 → EReal := fun k e => (m ((c : Thread nD τ).loc main_arg1) : FVec Ideal S1024x5632 .f32) (ix2 k e)
abbrev MWC : Fin 3 → Fin 5632 → EReal := fun r e => (m ((c : Thread nD τ).loc main_arg2) : FVec Ideal S3x5632 .f32) (ix2 r e)
abbrev MBC : Fin 5632 → EReal := fun e => (m ((c : Thread nD τ).loc main_arg3) : FVec Ideal S1x5632 .f32) (ix2 0 e)
abbrev MWD : Fin 2816 → Fin 1024 → EReal := fun x d => (m ((c : Thread nD τ).loc main_arg4) : FVec Ideal S2816x1024 .f32) (ix2 x d)
abbrev MCT : Fin 2048 → Fin 1024 → EReal := fun s d => (m ((c : Thread nD τ).loc main_arg5) : FVec Ideal S2048x1024 .f32) (ix2 s d)

/-! ## Before the forward call: the host's conversions and transpose -/

theorem V1_v0 : V1 m ρ c main_v0 = (m ((c : Thread nD τ).loc main_arg0) : FVec Ideal S2048x1024 .f32) := by
  show StableHlo.after hostOps0 (W0 m ρ c) (Proc.devRef .tc main_v0) = _
  simp only [hostOps0, TRef.binary, TRef.nullary, TRef.unary, TRef.toBuf, TRef.ofBuf, cast_eq]
  after_results_simp <;> rfl

theorem V1_v1 : V1 m ρ c main_v1 = (m ((c : Thread nD τ).loc main_arg5) : FVec Ideal S2048x1024 .f32) := by
  show StableHlo.after hostOps0 (W0 m ρ c) (Proc.devRef .tc main_v1) = _
  simp only [hostOps0, TRef.binary, TRef.nullary, TRef.unary, TRef.toBuf, TRef.ofBuf, cast_eq]
  after_results_simp <;> rfl

theorem V1_v3 (e : Fin 5632) (k : Fin 1024) : V1 m ρ c main_v3 (ix2 e k) = MWU m c k e := by
  have h : V1 m ρ c main_v3 = transpose S5632x1024 [1, 0] (m ((c : Thread nD τ).loc main_arg1) : FVec Ideal S1024x5632 .f32)
      transposes_S1024x5632_S5632x1024_1_0 := by
    show StableHlo.after hostOps0 (W0 m ρ c) (Proc.devRef .tc main_v3) = _
    simp only [hostOps0, TRef.binary, TRef.nullary, TRef.unary, TRef.toBuf, TRef.ofBuf, cast_eq]
    after_results_simp <;> rfl
  rw [h]
  pointwise []

theorem V1_v4 : V1 m ρ c main_v4 = (m ((c : Thread nD τ).loc main_arg4) : FVec Ideal S2816x1024 .f32) := by
  show StableHlo.after hostOps0 (W0 m ρ c) (Proc.devRef .tc main_v4) = _
  simp only [hostOps0, TRef.binary, TRef.nullary, TRef.unary, TRef.toBuf, TRef.ofBuf, cast_eq]
  after_results_simp <;> rfl

theorem HA1 : HA (V1 m ρ) c = MH m c := funext fun s => funext fun k => congrFun (V1_v0 m ρ c) (ix2 s k)
theorem CTA1 : CTA (V1 m ρ) c = MCT m c := funext fun s => funext fun k => congrFun (V1_v1 m ρ c) (ix2 s k)
theorem WDA1 : WDA (V1 m ρ) c = MWD m c := funext fun s => funext fun k => congrFun (V1_v4 m ρ c) (ix2 s k)
theorem WUA1 : WUA (V1 m ρ) c = MWU m c := funext fun k => funext fun e => V1_v3 m ρ c e k
theorem WCA1 : WCA (V1 m ρ) c = MWC m c := funext fun r => funext fun e => congrFun (W1_args m ρ c main_arg2 (by decide)) (ix2 r e)
theorem BCA1 : BCA (V1 m ρ) c = MBC m c := funext fun e => congrFun (W1_args m ρ c main_arg3 (by decide)) (ix2 0 e)

/-! ## Between the calls: the forward call writes its two results alone -/

theorem HA2 : HA (V2 m ρ) c = MH m c :=
  (funext fun s => funext fun k => congrFun (W2_of m ρ c main_v0 (by decide)) (ix2 s k) : HA (V2 m ρ) c = HA (V1 m ρ) c).trans (HA1 m ρ c)
theorem CTA2 : CTA (V2 m ρ) c = MCT m c :=
  (funext fun s => funext fun k => congrFun (W2_of m ρ c main_v1 (by decide)) (ix2 s k) : CTA (V2 m ρ) c = CTA (V1 m ρ) c).trans (CTA1 m ρ c)
theorem WDA2 : WDA (V2 m ρ) c = MWD m c :=
  (funext fun s => funext fun k => congrFun (W2_of m ρ c main_v4 (by decide)) (ix2 s k) : WDA (V2 m ρ) c = WDA (V1 m ρ) c).trans (WDA1 m ρ c)
theorem WUA2 : WUA (V2 m ρ) c = MWU m c :=
  (funext fun k => funext fun e => congrFun (W2_of m ρ c main_v3 (by decide)) (ix2 e k) : WUA (V2 m ρ) c = WUA (V1 m ρ) c).trans (WUA1 m ρ c)
theorem WCA2 : WCA (V2 m ρ) c = MWC m c := funext fun r => funext fun e => congrFun (W2_args m ρ c main_arg2 (by decide)) (ix2 r e)
theorem BCA2 : BCA (V2 m ρ) c = MBC m c := funext fun e => congrFun (W2_args m ρ c main_arg3 (by decide)) (ix2 0 e)

/-- The backward call reads the projection the forward call kept. -/
theorem saved : V2 m ρ c main_v5_1 = upT (V2 m ρ) c := by
  refine ((W2_arr m ρ c 9).trans (arr0_9 (V1 m ρ) c)).trans ?_
  unfold upT
  rw [HA1, WUA1, HA2, WUA2]

/-! ## The result arrays -/

theorem val5_0 : W3 m ρ c (Proc.devRef .tc main_v5_0) = (fun i => down (MH m c) (MWU m c) (MWC m c) (MBC m c) (MWD m c) (i 0) (i 1) : FVec Ideal S2048x1024 .f32) := by
  refine (W3_of m ρ c main_v5_0 (by decide)).trans (((W2_arr m ρ c 8).trans (arr0_8 (V1 m ρ) c)).trans ?_)
  unfold dnA
  rw [HA1, WUA1, WCA1, BCA1, WDA1]

theorem val6_0 : W3 m ρ c (Proc.devRef .tc main_v6_0)
    = (fun i => dH (MH m c) (MWU m c) (MWC m c) (MBC m c) (MWD m c) (MCT m c) (i 0) (i 1) : FVec Ideal S2048x1024 .f32) := by
  refine ((W3_arr m ρ c 10).trans (arr1_10 (V2 m ρ) c (saved m ρ c))).trans ?_
  unfold dhA
  rw [HA2, WUA2, WCA2, BCA2, WDA2, CTA2]

theorem val6_1 : W3 m ρ c (Proc.devRef .tc main_v6_1)
    = (fun i => if (i 0 : ℕ) = 0 then dWUg (MH m c) (MWU m c) (MWC m c) (MBC m c) (MWD m c) (MCT m c) (i 1) (i 2)
        else dWUv (MH m c) (MWU m c) (MWC m c) (MBC m c) (MWD m c) (MCT m c) (i 1) (i 2) : FVec Ideal S2x2816x1024 .bf16) := by
  refine ((W3_arr m ρ c 11).trans (arr1_11 (V2 m ρ) c (saved m ρ c))).trans ?_
  unfold gupA
  rw [HA2, WUA2, WCA2, BCA2, WDA2, CTA2]

theorem val6_2 : W3 m ρ c (Proc.devRef .tc main_v6_2)
    = (fun i => dWD (MH m c) (MWU m c) (MWC m c) (MBC m c) (MCT m c) (i 0) (i 1) : FVec Ideal S2816x1024 .bf16) := by
  refine ((W3_arr m ρ c 12).trans (arr1_12 (V2 m ρ) c (saved m ρ c))).trans ?_
  unfold gdA
  rw [HA2, WUA2, WCA2, BCA2, CTA2]

theorem val6_3 : W3 m ρ c (Proc.devRef .tc main_v6_3)
    = (fun i => dWCg (MH m c) (MWU m c) (MWC m c) (MBC m c) (MWD m c) (MCT m c) (i 0) (i 1) : FVec Ideal S3x2816 .f32) := by
  refine ((W3_arr m ρ c 13).trans (arr1_13 (V2 m ρ) c (saved m ρ c))).trans ?_
  unfold dw13A
  rw [HA2, WUA2, WCA2, BCA2, WDA2, CTA2]

theorem val6_4 : W3 m ρ c (Proc.devRef .tc main_v6_4)
    = (fun i => dWCv (MH m c) (MWU m c) (MWC m c) (MBC m c) (MWD m c) (MCT m c) (i 0) (i 1) : FVec Ideal S3x2816 .f32) := by
  refine ((W3_arr m ρ c 14).trans (arr1_14 (V2 m ρ) c (saved m ρ c))).trans ?_
  unfold dw14A
  rw [HA2, WUA2, WCA2, BCA2, WDA2, CTA2]

theorem val6_5 : W3 m ρ c (Proc.devRef .tc main_v6_5)
    = (fun i => dBg (MH m c) (MWU m c) (MWC m c) (MBC m c) (MWD m c) (MCT m c) (i 1) : FVec Ideal S1x2816 .f32) := by
  refine ((W3_arr m ρ c 15).trans (arr1_15 (V2 m ρ) c (saved m ρ c))).trans ?_
  unfold db15A
  rw [HA2, WUA2, WCA2, BCA2, WDA2, CTA2]

theorem val6_6 : W3 m ρ c (Proc.devRef .tc main_v6_6)
    = (fun i => dBv (MH m c) (MWU m c) (MWC m c) (MBC m c) (MWD m c) (MCT m c) (i 1) : FVec Ideal S1x2816 .f32) := by
  refine ((W3_arr m ρ c 16).trans (arr1_16 (V2 m ρ) c (saved m ρ c))).trans ?_
  unfold db16A
  rw [HA2, WUA2, WCA2, BCA2, WDA2, CTA2]

end Cert.KernelIdeal.Own

end
-- ==== Proof.RVal.lean ====
/- The reference's results in closed form: the layer, and its gradients column by column. -/
module

public import Idealize.ShloMosaic.Lib.Pointwise
public import proofs.«01_k».proof.Proof.Gen.ReferenceIdeal
public import proofs.«01_k».proof.Proof.Gen.ReferenceIdeal.Read
public import proofs.«01_k».proof.Proof.Spec

@[expose] public section

set_option maxRecDepth 16384

noncomputable section

namespace Cert.ReferenceIdeal.Own

open Cert.ReferenceIdeal Cert.ReferenceIdeal.Gen Cert.ReferenceIdeal.Read
open Idealize.ShloMosaic
open Cert.Ffn

variable (x0 : (⟨S2048x1024, .f32⟩ : BufTy).Contents (Elt Ideal)) (x1 : (⟨S1024x5632, .f32⟩ : BufTy).Contents (Elt Ideal))
  (x2 : (⟨S3x5632, .f32⟩ : BufTy).Contents (Elt Ideal)) (x3 : (⟨S1x5632, .f32⟩ : BufTy).Contents (Elt Ideal))
  (x4 : (⟨S2816x1024, .f32⟩ : BufTy).Contents (Elt Ideal)) (x5 : (⟨S2048x1024, .f32⟩ : BufTy).Contents (Elt Ideal))

/-! ## The arguments by their coordinates -/

abbrev RH : Fin 2048 → Fin 1024 → EReal := fun s k => x0 (ix2 s k)
abbrev RWU : Fin 1024 → Fin 5632 → EReal := fun k e => x1 (ix2 k e)
abbrev RWC : Fin 3 → Fin 5632 → EReal := fun r e => x2 (ix2 r e)
abbrev RBC : Fin 5632 → EReal := fun e => x3 (ix2 0 e)
abbrev RWD : Fin 2816 → Fin 1024 → EReal := fun c d => x4 (ix2 c d)
abbrev RCT : Fin 2048 → Fin 1024 → EReal := fun s d => x5 (ix2 s d)

/-! ## Forward -/

theorem up_at (s : Fin 2048) (e : Fin 5632) : val_main_v0 (F := Ideal) x0 x1 (ix2 s e) = up (RH x0) (RWU x1) e s := by
  pointwise [val_main_v0]
  rfl

theorem earlier_zero (x : Col) (s : Fin 2048) : earlier 0 x s = x s := by
  unfold earlier
  exact dif_pos (Nat.zero_le _)

/-- The projection two positions earlier. -/
theorem v4_at (s : Fin 2048) (e : Fin 5632) :
    val_main_v4 (F := Ideal) x0 x1 (ix2 s e) = earlier 2 (up (RH x0) (RWU x1) e) s := by
  unfold val_main_v4 val_main_v2 earlier
  have h : ∀ (a : Fin 2048) (b : Fin 5632), val_main_v0 (F := Ideal) x0 x1 (ix2 a b) = up (RH x0) (RWU x1) b a := up_at x0 x1
  generalize val_main_v0 (F := Ideal) x0 x1 = y at h
  pointwise [val_main_v1, val_main_cst]
  by_cases hs : (s : ℕ) < 2
  · rw [dif_pos hs, dif_neg (by omega)]
  · rw [dif_neg hs, dif_pos (by omega)]; exact h _ _

/-- The projection one position earlier. -/
theorem v12_at (s : Fin 2048) (e : Fin 5632) :
    val_main_v12 (F := Ideal) x0 x1 (ix2 s e) = earlier 1 (up (RH x0) (RWU x1) e) s := by
  unfold val_main_v12 val_main_v2 earlier
  have h : ∀ (a : Fin 2048) (b : Fin 5632), val_main_v0 (F := Ideal) x0 x1 (ix2 a b) = up (RH x0) (RWU x1) b a := up_at x0 x1
  generalize val_main_v0 (F := Ideal) x0 x1 = y at h
  pointwise [val_main_v1, val_main_cst]
  by_cases hs : 1 + (s : ℕ) < 2
  · rw [dif_pos hs, dif_neg (by omega)]
  · rw [dif_neg hs, dif_pos (by omega)]
    refine Eq.trans (congrArg y ?_) (h _ _)
    exact congrArg (ix2 · e) (Fin.ext (show 1 + (s : ℕ) - 2 = s - 1 by omega))

/-- The projection itself, past the leading zeros. -/
theorem v19_at (s : Fin 2048) (e : Fin 5632) :
    val_main_v19 (F := Ideal) x0 x1 (ix2 s e) = up (RH x0) (RWU x1) e s := by
  unfold val_main_v19 val_main_v2
  have h : ∀ (a : Fin 2048) (b : Fin 5632), val_main_v0 (F := Ideal) x0 x1 (ix2 a b) = up (RH x0) (RWU x1) b a := up_at x0 x1
  generalize val_main_v0 (F := Ideal) x0 x1 = y at h
  pointwise [val_main_v1, val_main_cst]
  exact h s e

/-- The columns after the convolution. -/
theorem v25_at (s : Fin 2048) (e : Fin 5632) :
    val_main_v25 (F := Ideal) x0 x1 x2 x3 (ix2 s e) = pre (RH x0) (RWU x1) (RWC x2) (RBC x3) e s := by
  unfold val_main_v25 val_main_v24 val_main_v23 val_main_v22 val_main_v21 val_main_v20 val_main_v18 val_main_v17 val_main_v16
    val_main_v15 val_main_v14 val_main_v13 val_main_v11 val_main_v10 val_main_v9 val_main_v8 val_main_v7 val_main_v6 val_main_v5
  have h4 := v4_at x0 x1 s e
  have h12 := v12_at x0 x1 s e
  have h19 := v19_at x0 x1 s e
  generalize val_main_v4 (F := Ideal) x0 x1 = y at h4
  generalize val_main_v12 (F := Ideal) x0 x1 = y' at h12
  generalize val_main_v19 (F := Ideal) x0 x1 = y'' at h19
  pointwise []
  unfold pre conv
  refine Eq.trans (congrArg₂ (· + ·) (congrArg₂ (· + ·) (congrArg (x3 (ix2 0 e) + ·) (congrArg (· * x2 (ix2 0 e)) h4))
    (congrArg (· * x2 (ix2 1 e)) h12)) (congrArg (· * x2 (ix2 2 e)) h19)) ?_
  generalize earlier 2 (up (RH x0) (RWU x1) e) s = p
  generalize earlier 1 (up (RH x0) (RWU x1) e) s = q
  generalize up (RH x0) (RWU x1) e s = r
  show x3 (ix2 0 e) + p * x2 (ix2 0 e) + q * x2 (ix2 1 e) + r * x2 (ix2 2 e)
    = x2 (ix2 2 e) * r + x2 (ix2 1 e) * q + x2 (ix2 0 e) * p + x3 (ix2 0 e)
  ac_rfl

/-- The gate columns. -/
theorem v26_at (s : Fin 2048) (c : Fin 2816) :
    val_main_v26 (F := Ideal) x0 x1 x2 x3 (ix2 s c) = pre (RH x0) (RWU x1) (RWC x2) (RBC x3) (gcol c) s := by
  refine Eq.trans ?_ (v25_at x0 x1 x2 x3 s (gcol c))
  unfold val_main_v26
  generalize val_main_v25 (F := Ideal) x0 x1 x2 x3 = y
  pointwise []

/-- The value columns. -/
theorem v27_at (s : Fin 2048) (c : Fin 2816) :
    val_main_v27 (F := Ideal) x0 x1 x2 x3 (ix2 s c) = pre (RH x0) (RWU x1) (RWC x2) (RBC x3) (vcol c) s := by
  refine Eq.trans ?_ (v25_at x0 x1 x2 x3 s (vcol c))
  unfold val_main_v27
  generalize val_main_v25 (F := Ideal) x0 x1 x2 x3 = y
  pointwise []

/-- The logistic of the gate columns. -/
theorem sig_at (s : Fin 2048) (c : Fin 2816) :
    val_main_v28_2 (F := Ideal) x0 x1 x2 x3 (ix2 s c) = Ffn.sig (val_main_v26 (F := Ideal) x0 x1 x2 x3 (ix2 s c)) := by
  unfold val_main_v28_2 val_main_call0_v3 val_main_call0_v1 val_main_call0_v0
  generalize val_main_v26 (F := Ideal) x0 x1 x2 x3 = y
  pointwise [val_main_call0_v4, val_main_call0_cst_0, val_main_call0_v2, val_main_call0_cst]
  rfl

/-- The gated activation. -/
theorem v29_at (s : Fin 2048) (c : Fin 2816) :
    val_main_v29 (F := Ideal) x0 x1 x2 x3 (ix2 s c) = actC (RH x0) (RWU x1) (RWC x2) (RBC x3) c s := by
  show val_main_v26 (F := Ideal) x0 x1 x2 x3 (ix2 s c) * val_main_v28_2 (F := Ideal) x0 x1 x2 x3 (ix2 s c)
    * val_main_v27 (F := Ideal) x0 x1 x2 x3 (ix2 s c) = _
  rw [sig_at, v26_at, v27_at]; rfl

/-- The layer's output. -/
theorem v30_at (s : Fin 2048) (d : Fin 1024) :
    val_main_v30 (F := Ideal) x0 x1 x2 x3 x4 (ix2 s d) = down (RH x0) (RWU x1) (RWC x2) (RBC x3) (RWD x4) s d := by
  unfold val_main_v30
  have h := v29_at x0 x1 x2 x3 s
  generalize val_main_v29 (F := Ideal) x0 x1 x2 x3 = y at h
  pointwise []
  exact Finset.sum_congr rfl fun c _ => congrArg (· * x4 (ix2 c d)) (h c)

/-! ## Backward: the cotangents before the convolution -/

/-- The cotangent of the gated activation. -/
theorem v33_at (s : Fin 2048) (c : Fin 2816) :
    val_main_v33 (F := Ideal) x4 x5 (ix2 s c) = dAct (RWD x4) (RCT x5) c s := by
  pointwise [val_main_v33]
  rfl

/-- The gate column's cotangent, where the operands are finite. -/
theorem v36_at (s : Fin 2048) (c : Fin 2816) (hda : Fin' (dAct (RWD x4) (RCT x5) c s))
    (hg : Fin' (pre (RH x0) (RWU x1) (RWC x2) (RBC x3) (gcol c) s)) (hv : Fin' (pre (RH x0) (RWU x1) (RWC x2) (RBC x3) (vcol c) s)) :
    val_main_v36 (F := Ideal) x0 x1 x2 x3 x4 x5 (ix2 s c) = duG (RH x0) (RWU x1) (RWC x2) (RBC x3) (RWD x4) (RCT x5) c s := by
  have e : val_main_v36 (F := Ideal) x0 x1 x2 x3 x4 x5 (ix2 s c)
      = val_main_v33 (F := Ideal) x4 x5 (ix2 s c) * val_main_v27 (F := Ideal) x0 x1 x2 x3 (ix2 s c)
          * val_main_v28_2 (F := Ideal) x0 x1 x2 x3 (ix2 s c)
        + val_main_v26 (F := Ideal) x0 x1 x2 x3 (ix2 s c)
            * (val_main_v33 (F := Ideal) x4 x5 (ix2 s c) * val_main_v27 (F := Ideal) x0 x1 x2 x3 (ix2 s c))
          * val_main_v28_1 (F := Ideal) x0 x1 x2 x3 (ix2 s c) := rfl
  have e1 : val_main_v28_1 (F := Ideal) x0 x1 x2 x3 (ix2 s c) = val_main_v28_2 (F := Ideal) x0 x1 x2 x3 (ix2 s c)
      * (1 - val_main_v28_2 (F := Ideal) x0 x1 x2 x3 (ix2 s c)) := by
    unfold val_main_v28_1 val_main_call0_v7
    generalize val_main_v28_2 (F := Ideal) x0 x1 x2 x3 = y
    pointwise [val_main_call0_v6, val_main_call0_cst_1]
  rw [e, e1, sig_at, v26_at, v27_at, v33_at]
  unfold duG
  rw [dGate_eq hda hg hv]
  exact congrArg₂ (· + ·) rfl (congrArg₂ (· * ·) (mul_comm _ _) rfl)

/-- The value column's cotangent. -/
theorem v34_at (s : Fin 2048) (c : Fin 2816) :
    val_main_v34 (F := Ideal) x0 x1 x2 x3 x4 x5 (ix2 s c) = duV (RH x0) (RWU x1) (RWC x2) (RBC x3) (RWD x4) (RCT x5) c s := by
  have e : val_main_v34 (F := Ideal) x0 x1 x2 x3 x4 x5 (ix2 s c)
      = val_main_v26 (F := Ideal) x0 x1 x2 x3 (ix2 s c) * val_main_v28_2 (F := Ideal) x0 x1 x2 x3 (ix2 s c)
        * val_main_v33 (F := Ideal) x4 x5 (ix2 s c) := rfl
  rw [e, sig_at, v26_at, v33_at, mul_comm]; rfl

/-- The cotangent of column `e` after the convolution, as the reference lays it out. -/
def rdu (e : Fin 5632) : Col := fun s => val_main_v37 (F := Ideal) x0 x1 x2 x3 x4 x5 (ix2 s e)

theorem rdu_gate (c : Fin 2816) (s : Fin 2048) :
    rdu x0 x1 x2 x3 x4 x5 (gcol c) s = val_main_v36 (F := Ideal) x0 x1 x2 x3 x4 x5 (ix2 s c) := by
  unfold rdu val_main_v37
  generalize val_main_v36 (F := Ideal) x0 x1 x2 x3 x4 x5 = y
  generalize val_main_v34 (F := Ideal) x0 x1 x2 x3 x4 x5 = y'
  pointwise []

theorem rdu_val (c : Fin 2816) (s : Fin 2048) :
    rdu x0 x1 x2 x3 x4 x5 (vcol c) s = val_main_v34 (F := Ideal) x0 x1 x2 x3 x4 x5 (ix2 s c) := by
  unfold rdu val_main_v37
  generalize val_main_v36 (F := Ideal) x0 x1 x2 x3 x4 x5 = y
  generalize val_main_v34 (F := Ideal) x0 x1 x2 x3 x4 x5 = y'
  pointwise []

/-! ## Backward: the convolution -/

/-- The projection's cotangent: the convolution run backward. -/
theorem v72_at (s : Fin 2048) (e : Fin 5632) :
    val_main_v72 (F := Ideal) x0 x1 x2 x3 x4 x5 (ix2 s e)
      = convBack (RWC x2 0 e) (RWC x2 1 e) (RWC x2 2 e) (rdu x0 x1 x2 x3 x4 x5 e) s := by
  unfold val_main_v72 val_main_v70 val_main_v69 val_main_v64 val_main_v63 val_main_v57 val_main_v56 val_main_v51 val_main_v50
    val_main_v46 val_main_v42 val_main_v41 val_main_v22 val_main_v21 val_main_v20 val_main_v15 val_main_v14 val_main_v13
    val_main_v7 val_main_v6 val_main_v5 convBack later rdu
  generalize val_main_v37 (F := Ideal) x0 x1 x2 x3 x4 x5 = y
  pointwise [val_main_cst_4, val_main_cst_8, val_main_cst_13]
  refine congrArg₂ (· + ·) (congrArg₂ (· + ·) (mul_comm _ _) ?_) ?_
  · by_cases h : (s : ℕ) + 1 < 2048
    · rw [dif_pos h, dif_pos (by omega), mul_comm]
      exact congrArg (fun a : Fin 2048 => x2 (ix2 1 e) * y (ix2 a e)) (Fin.ext (show 2 + (s : ℕ) - 1 = s + 1 by omega))
    · rw [dif_neg h, dif_neg (by omega), mul_zero]
  · by_cases h : (s : ℕ) + 2 < 2048
    · rw [dif_pos h, dif_pos (by omega), mul_comm]
      exact congrArg (fun a : Fin 2048 => x2 (ix2 0 e) * y (ix2 a e)) (Fin.ext (show 2 + (s : ℕ) = s + 2 by omega))
    · rw [dif_neg h, dif_neg (by omega), mul_zero]

/-- The gradient of the convolution's taps. -/
theorem v68_at (r : Fin 3) (e : Fin 5632) :
    val_main_v68 (F := Ideal) x0 x1 x2 x3 x4 x5 (ix2 r e)
      = ∑ s, rdu x0 x1 x2 x3 x4 x5 e s * earlier (2 - r) (up (RH x0) (RWU x1) e) s := by
  unfold val_main_v68 val_main_v67 val_main_v66 val_main_v65 val_main_v62 val_main_v61 val_main_v60 val_main_v55 val_main_v54
    val_main_v53 val_main_v52 val_main_v49 val_main_v48 val_main_v47 val_main_v45 val_main_v44 val_main_v43 val_main_v40
    val_main_v39 val_main_v38 rdu
  have h4 := fun s => v4_at x0 x1 s e
  have h12 := fun s => v12_at x0 x1 s e
  have h19 := fun s => v19_at x0 x1 s e
  generalize val_main_v4 (F := Ideal) x0 x1 = p at h4
  generalize val_main_v12 (F := Ideal) x0 x1 = p' at h12
  generalize val_main_v19 (F := Ideal) x0 x1 = p'' at h19
  generalize val_main_v37 (F := Ideal) x0 x1 x2 x3 x4 x5 = y
  pointwise [val_main_cst_1, val_main_cst_2, val_main_cst_3, val_main_cst_5, val_main_cst_6, val_main_cst_7, val_main_cst_10,
    val_main_cst_11, val_main_cst_12]
  have one : ∀ f : Fin 1 → EReal, ∑ x, f x = f 0 := fun f => Fin.sum_univ_one f
  have cut : ∀ (q : (⟨S2048x5632, .f32⟩ : BufTy).Contents (Elt Ideal)) (w : Col), (∀ s, q (ix2 s e) = w s) →
      (∑ _ : Fin 1, ∑ x, q (ix2 x e) * y (ix2 x e)) = ∑ s, y (ix2 s e) * w s := fun q w hq =>
    (one _).trans (Finset.sum_congr rfl fun s _ => (mul_comm _ _).trans (congrArg (y (ix2 s e) * ·) (hq s)))
  match r with
  | 0 =>
    refine Eq.trans (congrArg₂ (· + ·) (congrArg₂ (· + ·) (dif_neg (by decide)) (dif_neg (by decide))) (dif_pos (by decide))) ?_
    rw [zero_add, zero_add]
    exact cut p _ h4
  | 1 =>
    refine Eq.trans (congrArg₂ (· + ·) (congrArg₂ (· + ·) (dif_neg (by decide)) (dif_pos (by decide))) (dif_neg (by decide))) ?_
    rw [zero_add, add_zero]
    exact cut p' _ h12
  | 2 =>
    refine Eq.trans (congrArg₂ (· + ·) (congrArg₂ (· + ·) (dif_pos (by decide)) (dif_neg (by decide))) (dif_neg (by decide))) ?_
    rw [add_zero, add_zero]
    refine cut p'' _ fun s => (h19 s).trans ?_
    exact (earlier_zero (up (RH x0) (RWU x1) e) s).symm

/-- The gradient of the convolution's bias. -/
theorem v59_at (r : Fin 1) (e : Fin 5632) :
    val_main_v59 (F := Ideal) x0 x1 x2 x3 x4 x5 (ix2 r e) = ∑ s, rdu x0 x1 x2 x3 x4 x5 e s := by
  unfold val_main_v59 val_main_v58 rdu
  generalize val_main_v37 (F := Ideal) x0 x1 x2 x3 x4 x5 = y
  pointwise [val_main_cst_9]
  first | done | rfl

/-! ## Backward: the gradients -/

/-- The gradient of the layer's input, over all columns. -/
theorem v75_at (s : Fin 2048) (d : Fin 1024) :
    val_main_v75 (F := Ideal) x0 x1 x2 x3 x4 x5 (ix2 s d)
      = ∑ e, val_main_v72 (F := Ideal) x0 x1 x2 x3 x4 x5 (ix2 s e) * x1 (ix2 d e) := by
  unfold val_main_v75
  generalize val_main_v72 (F := Ideal) x0 x1 x2 x3 x4 x5 = y
  pointwise []

/-- The gradient of the up weight, transposed. -/
theorem v77_at (e : Fin 5632) (d : Fin 1024) :
    val_main_v77 (F := Ideal) x0 x1 x2 x3 x4 x5 (ix2 e d)
      = ∑ s, val_main_v72 (F := Ideal) x0 x1 x2 x3 x4 x5 (ix2 s e) * x0 (ix2 s d) := by
  unfold val_main_v77 val_main_v76 val_main_v74 val_main_v73
  generalize val_main_v72 (F := Ideal) x0 x1 x2 x3 x4 x5 = y
  pointwise []

/-- The gradient of the down weight. -/
theorem v79_at (c : Fin 2816) (d : Fin 1024) :
    val_main_v79 (F := Ideal) x0 x1 x2 x3 x5 (ix2 c d) = dWD (RH x0) (RWU x1) (RWC x2) (RBC x3) (RCT x5) c d := by
  unfold val_main_v79 val_main_v32 val_main_v31
  have h := fun s => v29_at x0 x1 x2 x3 s c
  generalize val_main_v29 (F := Ideal) x0 x1 x2 x3 = y at h
  pointwise []
  exact Finset.sum_congr rfl fun s _ => (mul_comm _ _).trans (congrArg (· * x5 (ix2 s d)) (h s))

theorem v78_at (i : Fin 2) (c : Fin 2816) (d : Fin 1024) :
    val_main_v78 (F := Ideal) x0 x1 x2 x3 x4 x5 (ix3 i c d)
      = val_main_v77 (F := Ideal) x0 x1 x2 x3 x4 x5 (ix2 ⟨2816 * i + c, by omega⟩ d) := by
  rw [val_main_v78_apply]
  refine congrArg _ (funext fun a => ?_)
  have h := d.isLt
  match a with
  | ⟨0, _⟩ => exact Fin.ext (show (((i : ℕ) * 2816 + c) * 1024 + d) / 1024 = 2816 * i + c by omega)
  | ⟨1, _⟩ => exact Fin.ext (show (((i : ℕ) * 2816 + c) * 1024 + d) % 1024 = d by omega)

theorem v80_at (r : Fin 3) (c : Fin 2816) :
    val_main_v80 (F := Ideal) x0 x1 x2 x3 x4 x5 (ix2 r c) = val_main_v68 (F := Ideal) x0 x1 x2 x3 x4 x5 (ix2 r (gcol c)) := by
  unfold val_main_v80
  generalize val_main_v68 (F := Ideal) x0 x1 x2 x3 x4 x5 = y
  pointwise []

theorem v81_at (r : Fin 3) (c : Fin 2816) :
    val_main_v81 (F := Ideal) x0 x1 x2 x3 x4 x5 (ix2 r c) = val_main_v68 (F := Ideal) x0 x1 x2 x3 x4 x5 (ix2 r (vcol c)) := by
  unfold val_main_v81
  generalize val_main_v68 (F := Ideal) x0 x1 x2 x3 x4 x5 = y
  pointwise []

theorem v82_at (r : Fin 1) (c : Fin 2816) :
    val_main_v82 (F := Ideal) x0 x1 x2 x3 x4 x5 (ix2 r c) = val_main_v59 (F := Ideal) x0 x1 x2 x3 x4 x5 (ix2 r (gcol c)) := by
  obtain rfl : r = 0 := Subsingleton.elim _ _
  unfold val_main_v82
  generalize val_main_v59 (F := Ideal) x0 x1 x2 x3 x4 x5 = y
  pointwise []

theorem v83_at (r : Fin 1) (c : Fin 2816) :
    val_main_v83 (F := Ideal) x0 x1 x2 x3 x4 x5 (ix2 r c) = val_main_v59 (F := Ideal) x0 x1 x2 x3 x4 x5 (ix2 r (vcol c)) := by
  obtain rfl : r = 0 := Subsingleton.elim _ _
  unfold val_main_v83
  generalize val_main_v59 (F := Ideal) x0 x1 x2 x3 x4 x5 = y
  pointwise []

/-! ## Finiteness, and the results under it -/

section Fin

variable (h0 : ∀ i, Fin' (x0 i)) (h1 : ∀ i, Fin' (x1 i)) (h2 : ∀ i, Fin' (x2 i)) (h3 : ∀ i, Fin' (x3 i)) (h4 : ∀ i, Fin' (x4 i))
  (h5 : ∀ i, Fin' (x5 i))

theorem pre_fin (h0 : ∀ i, Fin' (x0 i)) (h1 : ∀ i, Fin' (x1 i)) (h2 : ∀ i, Fin' (x2 i)) (h3 : ∀ i, Fin' (x3 i)) (e : Fin 5632)
    (s : Fin 2048) : Fin' (pre (RH x0) (RWU x1) (RWC x2) (RBC x3) e s) :=
  Fin'.conv (h2 _) (h2 _) (h2 _) (h3 _) (fun s => Fin'.sum _ fun k => (h0 _).mul (h1 _)) s

theorem dAct_fin (h4 : ∀ i, Fin' (x4 i)) (h5 : ∀ i, Fin' (x5 i)) (c : Fin 2816) (s : Fin 2048) :
    Fin' (dAct (RWD x4) (RCT x5) c s) :=
  Fin'.sum _ fun d => (h5 _).mul (h4 _)

include h0 h1 h2 h3 h4 h5

theorem rdu_g (c : Fin 2816) : rdu x0 x1 x2 x3 x4 x5 (gcol c) = duG (RH x0) (RWU x1) (RWC x2) (RBC x3) (RWD x4) (RCT x5) c :=
  funext fun s => (rdu_gate x0 x1 x2 x3 x4 x5 c s).trans (v36_at x0 x1 x2 x3 x4 x5 s c (dAct_fin x4 x5 h4 h5 c s)
    (pre_fin x0 x1 x2 x3 h0 h1 h2 h3 _ s) (pre_fin x0 x1 x2 x3 h0 h1 h2 h3 _ s))

omit h0 h1 h2 h3 h4 h5 in
theorem rdu_v (c : Fin 2816) : rdu x0 x1 x2 x3 x4 x5 (vcol c) = duV (RH x0) (RWU x1) (RWC x2) (RBC x3) (RWD x4) (RCT x5) c :=
  funext fun s => (rdu_val x0 x1 x2 x3 x4 x5 c s).trans (v34_at x0 x1 x2 x3 x4 x5 s c)

theorem v72_g (s : Fin 2048) (c : Fin 2816) : val_main_v72 (F := Ideal) x0 x1 x2 x3 x4 x5 (ix2 s (gcol c))
    = dupG (RH x0) (RWU x1) (RWC x2) (RBC x3) (RWD x4) (RCT x5) c s := by
  rw [v72_at, rdu_g x0 x1 x2 x3 x4 x5 h0 h1 h2 h3 h4 h5]; rfl

omit h0 h1 h2 h3 h4 h5 in
theorem v72_v (s : Fin 2048) (c : Fin 2816) : val_main_v72 (F := Ideal) x0 x1 x2 x3 x4 x5 (ix2 s (vcol c))
    = dupV (RH x0) (RWU x1) (RWC x2) (RBC x3) (RWD x4) (RCT x5) c s := by
  rw [v72_at, rdu_v]; rfl

omit h0 h1 h2 h3 h4 h5 in
/-- The layer's output. -/
theorem res_v30 : val_main_v30 (F := Ideal) x0 x1 x2 x3 x4
    = fun i => down (RH x0) (RWU x1) (RWC x2) (RBC x3) (RWD x4) (i 0) (i 1) := by
  funext i
  exact (congrArg _ (eq_ix2 i)).trans (v30_at x0 x1 x2 x3 x4 (i 0) (i 1))

/-- The gradient of the layer's input. -/
theorem res_v75 : val_main_v75 (F := Ideal) x0 x1 x2 x3 x4 x5
    = fun i => dH (RH x0) (RWU x1) (RWC x2) (RBC x3) (RWD x4) (RCT x5) (i 0) (i 1) := by
  funext i
  refine (congrArg _ (eq_ix2 i)).trans ((v75_at x0 x1 x2 x3 x4 x5 (i 0) (i 1)).trans ?_)
  rw [Fin.sum_univ_two_halves 2816 2816 rfl]
  unfold dH
  rw [Finset.sum_add_distrib]
  exact congrArg₂ (· + ·)
    (Finset.sum_congr rfl fun c _ => congrArg (· * x1 (ix2 (i 1) (gcol c))) (v72_g x0 x1 x2 x3 x4 x5 h0 h1 h2 h3 h4 h5 (i 0) c))
    (Finset.sum_congr rfl fun c _ => congrArg (· * x1 (ix2 (i 1) (vcol c))) (v72_v x0 x1 x2 x3 x4 x5 (i 0) c))

/-- The gradient of the up weight, its gate and value halves transposed. -/
theorem res_v78 : val_main_v78 (F := Ideal) x0 x1 x2 x3 x4 x5
    = fun i => if (i 0 : ℕ) = 0 then dWUg (RH x0) (RWU x1) (RWC x2) (RBC x3) (RWD x4) (RCT x5) (i 1) (i 2)
        else dWUv (RH x0) (RWU x1) (RWC x2) (RBC x3) (RWD x4) (RCT x5) (i 1) (i 2) := by
  funext i
  obtain ⟨a, c, d, rfl⟩ : ∃ (a : Fin 2) (c : Fin 2816) (d : Fin 1024), i = ix3 a c d := ⟨i 0, i 1, i 2, eq_ix3 i⟩
  refine (v78_at x0 x1 x2 x3 x4 x5 a c d).trans ((v77_at x0 x1 x2 x3 x4 x5 _ d).trans ?_)
  match a with
  | 0 =>
    refine Eq.trans (Finset.sum_congr rfl fun s _ => congrArg (· * x0 (ix2 s d))
      ((congrArg (fun e : Fin 5632 => val_main_v72 (F := Ideal) x0 x1 x2 x3 x4 x5 (ix2 s e))
        (Fin.ext (show 2816 * 0 + (c : ℕ) = c by omega) : (⟨2816 * 0 + (c : ℕ), by omega⟩ : Fin 5632) = gcol c)).trans
        (v72_g x0 x1 x2 x3 x4 x5 h0 h1 h2 h3 h4 h5 s c))) (if_pos rfl).symm
  | 1 =>
    refine Eq.trans (Finset.sum_congr rfl fun s _ => congrArg (· * x0 (ix2 s d))
      ((congrArg (fun e : Fin 5632 => val_main_v72 (F := Ideal) x0 x1 x2 x3 x4 x5 (ix2 s e))
        (Fin.ext (show 2816 * 1 + (c : ℕ) = 2816 + c by omega) : (⟨2816 * 1 + (c : ℕ), by omega⟩ : Fin 5632) = vcol c)).trans
        (v72_v x0 x1 x2 x3 x4 x5 s c))) (if_neg (show ¬ ((1 : Fin 2) : ℕ) = 0 by decide)).symm

omit h0 h1 h2 h3 h4 h5 in
/-- The gradient of the down weight. -/
theorem res_v79 : val_main_v79 (F := Ideal) x0 x1 x2 x3 x5
    = fun i => dWD (RH x0) (RWU x1) (RWC x2) (RBC x3) (RCT x5) (i 0) (i 1) := by
  funext i
  exact (congrArg _ (eq_ix2 i)).trans (v79_at x0 x1 x2 x3 x5 (i 0) (i 1))

/-- The gradient of the taps' gate half. -/
theorem res_v80 : val_main_v80 (F := Ideal) x0 x1 x2 x3 x4 x5
    = fun i => dWCg (RH x0) (RWU x1) (RWC x2) (RBC x3) (RWD x4) (RCT x5) (i 0) (i 1) := by
  funext i
  obtain ⟨r, c, rfl⟩ : ∃ (r : Fin 3) (c : Fin 2816), i = ix2 r c := ⟨i 0, i 1, eq_ix2 i⟩
  refine (v80_at x0 x1 x2 x3 x4 x5 r c).trans ((v68_at x0 x1 x2 x3 x4 x5 r (gcol c)).trans ?_)
  rw [rdu_g x0 x1 x2 x3 x4 x5 h0 h1 h2 h3 h4 h5]; rfl

omit h0 h1 h2 h3 h4 h5 in
/-- The gradient of the taps' value half. -/
theorem res_v81 : val_main_v81 (F := Ideal) x0 x1 x2 x3 x4 x5
    = fun i => dWCv (RH x0) (RWU x1) (RWC x2) (RBC x3) (RWD x4) (RCT x5) (i 0) (i 1) := by
  funext i
  obtain ⟨r, c, rfl⟩ : ∃ (r : Fin 3) (c : Fin 2816), i = ix2 r c := ⟨i 0, i 1, eq_ix2 i⟩
  refine (v81_at x0 x1 x2 x3 x4 x5 r c).trans ((v68_at x0 x1 x2 x3 x4 x5 r (vcol c)).trans ?_)
  rw [rdu_v]; rfl

/-- The gradient of the bias's gate half. -/
theorem res_v82 : val_main_v82 (F := Ideal) x0 x1 x2 x3 x4 x5
    = fun i => dBg (RH x0) (RWU x1) (RWC x2) (RBC x3) (RWD x4) (RCT x5) (i 1) := by
  funext i
  obtain ⟨r, c, rfl⟩ : ∃ (r : Fin 1) (c : Fin 2816), i = ix2 r c := ⟨i 0, i 1, eq_ix2 i⟩
  refine (v82_at x0 x1 x2 x3 x4 x5 r c).trans ((v59_at x0 x1 x2 x3 x4 x5 r (gcol c)).trans ?_)
  rw [rdu_g x0 x1 x2 x3 x4 x5 h0 h1 h2 h3 h4 h5]; rfl

omit h0 h1 h2 h3 h4 h5 in
/-- The gradient of the bias's value half. -/
theorem res_v83 : val_main_v83 (F := Ideal) x0 x1 x2 x3 x4 x5
    = fun i => dBv (RH x0) (RWU x1) (RWC x2) (RBC x3) (RWD x4) (RCT x5) (i 1) := by
  funext i
  obtain ⟨r, c, rfl⟩ : ∃ (r : Fin 1) (c : Fin 2816), i = ix2 r c := ⟨i 0, i 1, eq_ix2 i⟩
  refine (v83_at x0 x1 x2 x3 x4 x5 r c).trans ((v59_at x0 x1 x2 x3 x4 x5 r (vcol c)).trans ?_)
  rw [rdu_v]; rfl

end Fin

end Cert.ReferenceIdeal.Own

end
-- ==== Proof.Finite.lean ====
/- The precondition: where it holds, every element of every argument is a real. -/
module

public import Idealize.ShloMosaic.Lib.Pointwise
public import Idealize.ShloMosaic.Lib.ReduceAll
public import proofs.«01_k».proof.Pre_arguments_finite
public import proofs.«01_k».proof.Proof.Spec

@[expose] public section

noncomputable section

namespace Cert.Pre_arguments_finite

open Idealize.ShloMosaic Cert.Ffn

/-- The side conditions of the precondition's operations. -/
instance facts : Facts where
  bcast_S_S2048x1024 := by decide
  reducesTo_S2048x1024_S_d0_1 := by decide
  h_S_ := by decide
  bcast_S_S1024x5632 := by decide
  reducesTo_S1024x5632_S_d0_1 := by decide
  bcast_S_S3x5632 := by decide
  reducesTo_S3x5632_S_d0_1 := by decide
  bcast_S_S1x5632 := by decide
  reducesTo_S1x5632_S_d0_1 := by decide
  bcast_S_S2816x1024 := by decide
  reducesTo_S2816x1024_S_d0_1 := by decide

/-- A magnitude below infinity is a real's. -/
theorem fin_of_abs_lt (x : EReal) (h : max x (-x) < ⊤) : Fin' x := by
  induction x with
  | bot => exact absurd h (by simp)
  | top => exact absurd h (by simp)
  | coe r => exact ⟨r, rfl⟩

theorem inf_eq : Ideal.ofBits .f32 0x7F800000#32 = ⊤ := by
  simp [Ideal.ofBits, Ideal.ieee]

instance : Subsingleton S_.Idx := ⟨fun a b => funext fun i => i.elim0⟩

/-- One argument's conjunct: every magnitude is below infinity. -/
theorem fin_of_all {s : Shape} (x : FVec Ideal s .f32) (hb : S_.BroadcastsInDim s (![] : Fin 0 → Fin s.rank))
    {axes : List (Fin s.rank)} (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : Fin' (x i) := by
  have e := Host.reduce_andi_all _ _ hr hu j h i
  have e' : Ideal.cmp .olt (max (x i) (-(x i))) (Ideal.ofBits .f32 0x7F800000#32) = 1#1 := e
  rw [inf_eq] at e'
  refine fin_of_abs_lt _ (by_contra fun hn => ?_)
  have e2 : BitVec.ofBool (decide (max (x i) (-(x i)) < ⊤)) = 1#1 := e'
  rw [decide_eq_false hn] at e2
  exact absurd e2 (by decide)

theorem and_left {a b : IVec S_ 1} {j : S_.Idx} (h : andi a b j = 1#1) : a j = 1#1 := (IntOp.andi_eq_one.1 h).1
theorem and_right {a b : IVec S_ 1} {j : S_.Idx} (h : andi a b j = 1#1) : b j = 1#1 := (IntOp.andi_eq_one.1 h).2

/-- Where the precondition holds, all six arguments are finite throughout. -/
theorem finite (x0 : FVec Ideal S2048x1024 .f32) (x1 : FVec Ideal S1024x5632 .f32) (x2 : FVec Ideal S3x5632 .f32)
    (x3 : FVec Ideal S1x5632 .f32) (x4 : FVec Ideal S2816x1024 .f32) (x5 : FVec Ideal S2048x1024 .f32)
    (h : fn (F := Ideal) x0 x1 x2 x3 x4 x5 = fun _ => 1#1) :
    (∀ i, Fin' (x0 i)) ∧ (∀ i, Fin' (x1 i)) ∧ (∀ i, Fin' (x2 i)) ∧ (∀ i, Fin' (x3 i)) ∧ (∀ i, Fin' (x4 i)) ∧ ∀ i, Fin' (x5 i) := by
  have h0 := congrFun h (Shape.Idx.first facts.h_S_)
  unfold fn fn_part1 at h0
  have h1 := and_left h0
  have h2 := and_left h1
  have h3 := and_left h2
  have h4 := and_left h3
  exact ⟨fin_of_all x0 _ _ _ _ (and_left h4), fin_of_all x1 _ _ _ _ (and_right h4), fin_of_all x2 _ _ _ _ (and_right h3),
    fin_of_all x3 _ _ _ _ (and_right h2), fin_of_all x4 _ _ _ _ (and_right h1), fin_of_all x5 _ _ _ _ (and_right h0)⟩

end Cert.Pre_arguments_finite

end
-- ==== Proof.Norm.lean ====
/- The root-mean-square norm's backward pass, row by row on the extended reals: the kernel's form of the gradient
   (factored by the reciprocal root) and the product-rule form agree on real rows. -/
module

public import Idealize.ShloMosaic.Lib.Pointwise
public import proofs.«01_k».proof.Proof.Spec

@[expose] public section

set_option maxRecDepth 16384

noncomputable section

open Idealize.ShloMosaic

namespace Cert.Norm

open Cert.Ffn (Fin')

/-- An index of a matrix is its row and its column. -/
theorem rowcol {n m : ℕ} (y : (⟨2, ![n, m]⟩ : Shape).Idx) : ∃ (i : Fin n) (j : Fin m), y = ix2 i j := ⟨y 0, y 1, eq_ix2 y⟩

/-- A row over the model's width. -/
abbrev Row := Fin 1024 → EReal

/-- The width, as a float constant. -/
def width : EReal := Ideal.ofBits .f32 0x44800000#32
/-- The norm's epsilon. -/
def eps : EReal := Ideal.ofBits .f32 0x358637BD#32
/-- The exponent the product rule brings down. -/
def negHalf : EReal := Ideal.ofBits .f32 0xBF000000#32

/-- The row's mean square plus epsilon. -/
def ms (x : Row) : EReal := Ideal.div (∑ k, x k * x k) width + eps
/-- Its reciprocal root. -/
def rs (x : Row) : EReal := Ideal.rsqrt (ms x)
/-- The normalized row. -/
def nrm (x : Row) : Row := fun k => x k * rs x

/-- The gradient through the norm, as the kernel has it: `dn` is the normalized row's cotangent. -/
def dx (x dn : Row) : Row := fun k => rs x * (dn k - nrm x k * Ideal.div (∑ j, dn j * nrm x j) width)

/-- The cotangent of the row's entries through the mean square, by the product rule. -/
def viaMean (x dn : Row) : EReal := Ideal.div ((∑ j, x j * dn j) * (negHalf * Ideal.div (rs x) (ms x))) width

theorem width_eq : width = ((1024 : ℝ) : EReal) := by
  simp [width, Ideal.ofBits, Ideal.ieee]
  rw [← EReal.coe_mul]
  norm_num

theorem negHalf_eq : negHalf = ((-(1 / 2) : ℝ) : EReal) := by
  simp [negHalf, Ideal.ofBits, Ideal.ieee]
  rw [← EReal.coe_mul]
  norm_num

theorem eps_eq : ∃ e : ℝ, 0 < e ∧ eps = (e : EReal) := by
  refine ⟨_, ?_, by simp [eps, Ideal.ofBits, Ideal.ieee]; rfl⟩
  norm_num

theorem coe_sum {ι : Type} (t : Finset ι) (f : ι → ℝ) : ∑ i ∈ t, ((f i : ℝ) : EReal) = ((∑ i ∈ t, f i : ℝ) : EReal) := by
  classical
  induction t using Finset.induction_on with
  | empty => rw [Finset.sum_empty, Finset.sum_empty, EReal.coe_zero]
  | insert a s ha ih => rw [Finset.sum_insert ha, Finset.sum_insert ha, ih, EReal.coe_add]

theorem div_coe (a : ℝ) {b : ℝ} (hb : b ≠ 0) : Ideal.div (a : EReal) (b : EReal) = ((a / b : ℝ) : EReal) := by
  rw [Ideal.div, if_neg (by rw [← EReal.coe_zero]; exact fun h => hb (EReal.coe_injective h)), ← EReal.coe_inv, ← EReal.coe_mul, div_eq_mul_inv]

/-- A real row's mean square plus epsilon is a positive real, and its reciprocal root squares to the inverse. -/
theorem ms_coe (x : Fin 1024 → ℝ) :
    ∃ v r : ℝ, 0 < v ∧ r * r = 1 / v ∧ ms (fun k => (x k : EReal)) = (v : EReal) ∧ rs (fun k => (x k : EReal)) = (r : EReal) := by
  obtain ⟨e, he, hee⟩ := eps_eq
  have hs : 0 ≤ ∑ k, x k * x k := Finset.sum_nonneg fun k _ => mul_self_nonneg _
  have hv : 0 < (∑ k, x k * x k) / 1024 + e := by positivity
  have hm : ms (fun k => (x k : EReal)) = (((∑ k, x k * x k) / 1024 + e : ℝ) : EReal) := by
    unfold ms
    simp only [← EReal.coe_mul]
    rw [coe_sum, width_eq, div_coe _ (by norm_num), hee, ← EReal.coe_add]
  refine ⟨_, (Real.sqrt ((∑ k, x k * x k) / 1024 + e))⁻¹, hv, ?_, hm, ?_⟩
  · rw [← mul_inv, Real.mul_self_sqrt hv.le, one_div]
  · rw [rs, hm, Ideal.rsqrt_coe, if_neg (not_lt.2 hv.le), if_neg hv.ne']

/-- On real rows the kernel's gradient, added to the rest, is the product rule's. -/
theorem dx_eq (x dn : Row) (y : EReal) (hx : ∀ k, Fin' (x k)) (hdn : ∀ k, Fin' (dn k)) (hy : Fin' y) (k : Fin 1024) :
    y + dx x dn k = y + dn k * rs x + x k * viaMean x dn + viaMean x dn * x k := by
  choose a ha using hx
  choose b hb using hdn
  obtain ⟨c, rfl⟩ := hy
  obtain rfl : x = fun k => ((a k : ℝ) : EReal) := funext ha
  obtain rfl : dn = fun k => ((b k : ℝ) : EReal) := funext hb
  obtain ⟨v, r, hv, hr, hm, hrs⟩ := ms_coe a
  unfold viaMean dx nrm
  simp only [hm, hrs, width_eq, negHalf_eq, ← EReal.coe_mul, coe_sum, div_coe _ hv.ne', div_coe _ (show (1024 : ℝ) ≠ 0 by norm_num),
    ← EReal.coe_add, ← EReal.coe_sub]
  have e1 : ∑ j, b j * (a j * r) = (∑ j, a j * b j) * r := by
    rw [Finset.sum_mul]; exact Finset.sum_congr rfl fun j _ => by ring
  rw [e1, div_eq_mul_one_div r v, ← hr]
  congr 1; ring

/-! ## The norm with its gain, scale and shift: `n * g * (1 + sc) + sh`, over several rows -/

section Affine

variable {ι : Type} [Fintype ι] (X DH : ι → Row) (g sc : Row)

/-- The cotangent of the gained row. -/
def dyRow (s : ι) : Row := fun d => DH s d * (1 + sc d)
/-- The cotangent of the normalized row. -/
def dnRow (s : ι) : Row := fun d => dyRow DH sc s d * g d
/-- The gained row. -/
def yRow (s : ι) : Row := fun d => nrm (X s) d * g d

/-- The gradients of the gain, the scale and the shift. -/
def dGain (d : Fin 1024) : EReal := ∑ s, dyRow DH sc s d * nrm (X s) d
def dScale (d : Fin 1024) : EReal := ∑ s, DH s d * yRow X g s d
def dShift (d : Fin 1024) : EReal := ∑ s, DH s d

theorem dnRow_fin (hD : ∀ s d, Fin' (DH s d)) (hg : ∀ d, Fin' (g d)) (hs : ∀ d, Fin' (sc d)) (s : ι) (d : Fin 1024) :
    Fin' (dnRow DH g sc s d) :=
  ((hD s d).mul (Fin'.add ⟨1, EReal.coe_one.symm⟩ (hs d))).mul (hg d)

end Affine

end Cert.Norm

end
-- ==== Proof.PRVal.lean ====
/- The projection's backward reference in closed form, row by row. -/
module

public import Idealize.ShloMosaic.Lib.Pointwise
public import proofs.«01_k».proof.Proof.Gen.ProjReferenceIdeal
public import proofs.«01_k».proof.Proof.Gen.ProjReferenceIdeal.Read
public import proofs.«01_k».proof.Proof.Norm

@[expose] public section

set_option maxRecDepth 16384

noncomputable section

namespace Cert.ProjReferenceIdeal.Own

open Cert.ProjReferenceIdeal Cert.ProjReferenceIdeal.Gen Cert.ProjReferenceIdeal.Read
open Idealize.ShloMosaic
open Cert.Norm Cert.Ffn

variable (x0 : (⟨S2048x1024, .f32⟩ : BufTy).Contents (Elt Ideal)) (x1 x2 x3 : (⟨S1x1024, .f32⟩ : BufTy).Contents (Elt Ideal))
  (x4 : (⟨S1024x2432, .f32⟩ : BufTy).Contents (Elt Ideal)) (x5 : (⟨S2048x2432, .f32⟩ : BufTy).Contents (Elt Ideal))
  (x6 : (⟨S2048x1024, .f32⟩ : BufTy).Contents (Elt Ideal))

/-! ## The arguments by their coordinates -/

abbrev RX (s : Fin 2048) : Row := fun k => x0 (ix2 s k)
abbrev RG : Row := fun k => x1 (ix2 0 k)
abbrev RSC : Row := fun k => x2 (ix2 0 k)
/-- The cotangent of the norm's output: the projection's, through the weight. -/
def RDH (s : Fin 2048) : Row := fun d => ∑ k : Fin 2432, x5 (ix2 s k) * x4 (ix2 d k)

/-! ## The norm -/

theorem ms_at (s : Fin 2048) : val_main_v6 (F := Ideal) x0 (ix2 s 0) = ms (RX x0 s) := by
  pointwise [val_main_v6, val_main_v4, val_main_v2, val_main_v1, val_main_v0, val_main_cst, val_main_v3, val_main_cst_0, val_main_v5, val_main_cst_1]
  rfl

theorem rs_at (s : Fin 2048) : val_main_v7 (F := Ideal) x0 (ix2 s 0) = rs (RX x0 s) := by
  unfold val_main_v7
  have h := ms_at x0 s
  generalize val_main_v6 (F := Ideal) x0 = y at h
  pointwise
  rw [h]; rfl

theorem n_at (s : Fin 2048) (d : Fin 1024) : val_main_v12 (F := Ideal) x0 (ix2 s d) = nrm (RX x0 s) d := by
  unfold val_main_v12 val_main_v11
  have h := rs_at x0 s
  generalize val_main_v7 (F := Ideal) x0 = y at h
  pointwise
  rw [h]; rfl

theorem y_at (s : Fin 2048) (d : Fin 1024) : val_main_v14 (F := Ideal) x0 x1 (ix2 s d) = yRow (RX x0) (RG x1) s d := by
  unfold val_main_v14 val_main_v13
  have h := n_at x0 s d
  generalize val_main_v12 (F := Ideal) x0 = y at h
  pointwise
  rw [h]; rfl

/-! ## The cotangents -/

theorem dh_at (s : Fin 2048) (d : Fin 1024) : val_main_v22 (F := Ideal) x4 x5 (ix2 s d) = RDH x4 x5 s d := by
  pointwise [val_main_v22]
  rfl

theorem dy_at (s : Fin 2048) (d : Fin 1024) : val_main_v29 (F := Ideal) x2 x4 x5 (ix2 s d) = dyRow (RDH x4 x5) (RSC x2) s d := by
  unfold val_main_v29
  have h := dh_at x4 x5 s d
  generalize val_main_v22 (F := Ideal) x4 x5 = y at h
  pointwise [val_main_v28, val_main_v16, val_main_v15, val_main_cst_3]
  rw [h]; rfl

theorem dn_at (s : Fin 2048) (d : Fin 1024) :
    val_main_v34 (F := Ideal) x1 x2 x4 x5 (ix2 s d) = dnRow (RDH x4 x5) (RG x1) (RSC x2) s d := by
  unfold val_main_v34
  have h := dy_at x2 x4 x5 s d
  generalize val_main_v29 (F := Ideal) x2 x4 x5 = y at h
  pointwise [val_main_v33]
  rw [h]; rfl

/-! ## The results -/

theorem dsh_at (d : Fin 1024) : val_main_v24 (F := Ideal) x4 x5 (ix2 0 d) = dShift (RDH x4 x5) d := by
  unfold val_main_v24 val_main_v23
  have h : ∀ s d, val_main_v22 (F := Ideal) x4 x5 (ix2 s d) = RDH x4 x5 s d := dh_at x4 x5
  generalize val_main_v22 (F := Ideal) x4 x5 = y at h
  pointwise [val_main_cst_4]
  exact Finset.sum_congr rfl fun s _ => h s d

theorem dsc_at (d : Fin 1024) : val_main_v27 (F := Ideal) x0 x1 x4 x5 (ix2 0 d) = dScale (RX x0) (RDH x4 x5) (RG x1) d := by
  unfold val_main_v27 val_main_v26 val_main_v25
  have h : ∀ s d, val_main_v22 (F := Ideal) x4 x5 (ix2 s d) = RDH x4 x5 s d := dh_at x4 x5
  have h' : ∀ s d, val_main_v14 (F := Ideal) x0 x1 (ix2 s d) = yRow (RX x0) (RG x1) s d := y_at x0 x1
  generalize val_main_v22 (F := Ideal) x4 x5 = y at h
  generalize val_main_v14 (F := Ideal) x0 x1 = z at h'
  pointwise [val_main_cst_5]
  refine Finset.sum_congr rfl fun s _ => ?_
  rw [h, h', mul_comm]

theorem dg_at (d : Fin 1024) : val_main_v32 (F := Ideal) x0 x2 x4 x5 (ix2 0 d) = dGain (RX x0) (RDH x4 x5) (RSC x2) d := by
  unfold val_main_v32 val_main_v31 val_main_v30
  have h : ∀ s d, val_main_v29 (F := Ideal) x2 x4 x5 (ix2 s d) = dyRow (RDH x4 x5) (RSC x2) s d := dy_at x2 x4 x5
  have h' : ∀ s d, val_main_v12 (F := Ideal) x0 (ix2 s d) = nrm (RX x0 s) d := n_at x0
  generalize val_main_v29 (F := Ideal) x2 x4 x5 = y at h
  generalize val_main_v12 (F := Ideal) x0 = z at h'
  pointwise [val_main_cst_6]
  refine Finset.sum_congr rfl fun s _ => ?_
  rw [h, h', mul_comm]

/-- The mean square's share of the input's cotangent. -/
theorem via_at (s : Fin 2048) (d : Fin 1024) :
    val_main_v45 (F := Ideal) x0 x1 x2 x4 x5 (ix2 s d) = viaMean (RX x0 s) (dnRow (RDH x4 x5) (RG x1) (RSC x2) s) := by
  unfold val_main_v45 val_main_v44 val_main_v43 val_main_v41 val_main_v37 val_main_v36 val_main_v35 val_main_v10 val_main_v8
  have h : ∀ s d, val_main_v34 (F := Ideal) x1 x2 x4 x5 (ix2 s d) = dnRow (RDH x4 x5) (RG x1) (RSC x2) s d := dn_at x1 x2 x4 x5
  have h6 := ms_at x0 s
  have h7 := rs_at x0 s
  generalize val_main_v34 (F := Ideal) x1 x2 x4 x5 = y at h
  generalize val_main_v6 (F := Ideal) x0 = z6 at h6
  generalize val_main_v7 (F := Ideal) x0 = z7 at h7
  pointwise [val_main_cst_7, val_main_cst_9, val_main_v42, val_main_cst_8, val_main_v9, val_main_cst_2]
  simp only [h, Fin.sum_univ_one, h6, h7]
  rfl

theorem gx_at (s : Fin 2048) (d : Fin 1024) (h0 : ∀ i, Fin' (x0 i)) (h1 : ∀ i, Fin' (x1 i)) (h2 : ∀ i, Fin' (x2 i))
    (h4 : ∀ i, Fin' (x4 i)) (h5 : ∀ i, Fin' (x5 i)) (h6 : ∀ i, Fin' (x6 i)) :
    val_main_v49 (F := Ideal) x0 x1 x2 x4 x5 x6 (ix2 s d)
      = x6 (ix2 s d) + dx (RX x0 s) (dnRow (RDH x4 x5) (RG x1) (RSC x2) s) d := by
  rw [dx_eq (RX x0 s) (dnRow (RDH x4 x5) (RG x1) (RSC x2) s) (x6 (ix2 s d)) (fun k => h0 _) (dnRow_fin _ _ _ (fun s d => Fin'.sum _ fun k => (h5 _).mul (h4 _)) (fun _ => h1 _) (fun _ => h2 _) s) (h6 _)]
  unfold val_main_v49 val_main_v48 val_main_v47 val_main_v46 val_main_v40 val_main_v39 val_main_v38
  have h := dn_at x1 x2 x4 x5 s d
  have h7 := rs_at x0 s
  have h45 := via_at x0 x1 x2 x4 x5 s d
  generalize val_main_v34 (F := Ideal) x1 x2 x4 x5 = y at h
  generalize val_main_v7 (F := Ideal) x0 = z7 at h7
  generalize val_main_v45 (F := Ideal) x0 x1 x2 x4 x5 = z at h45
  pointwise
  rw [h, h7, h45]

end Cert.ProjReferenceIdeal.Own

end
-- ==== Proof.PKOut.lean ====
/- What the projection's backward kernel leaves after each grid point, on its block of 256 rows. -/
module

public import Idealize.ShloMosaic.Lib.Pointwise
public import Idealize.ShloMosaic.Lib.Pipeline.ValueKit
public import proofs.«01_k».proof.Proof.Gen.ProjIdeal.Frame
public import proofs.«01_k».proof.Proof.Norm

@[expose] public section

set_option maxRecDepth 16384

noncomputable section

namespace Cert.ProjIdeal.Own

open Cert.ProjIdeal Cert.ProjIdeal.Gen
open Idealize.ShloMosaic Idealize.ShloMosaic.TcCoe Idealize.SL.Sem
open Idealize.ShloMosaic.Pipeline (Dat)
open Cert.Norm

/-! ## A block's operands by their coordinates -/

abbrev BX (x : FVec Ideal S256x1024 .f32) (s : Fin 256) : Row := fun k => x (ix2 s k)
abbrev BV (g : FVec Ideal S1x1024 .f32) : Row := fun k => g (ix2 0 k)
/-- The cotangent of the norm's output, on the block. -/
def BDH (p : FVec Ideal S256x2432 .bf16) (w : FVec Ideal S2432x1024 .bf16) (s : Fin 256) : Row :=
  fun d => ∑ k : Fin 2432, p (ix2 s k) * w (ix2 k d)

variable (p : FVec Ideal S256x2432 .bf16) (r x : FVec Ideal S256x1024 .f32) (w : FVec Ideal S2432x1024 .bf16)
  (g sc acc : FVec Ideal S1x1024 .f32)

/-! ## The values stored -/

theorem pay7_at (s : Fin 256) (d : Fin 1024) : k0_pay7 (F := Ideal) p w (ix2 s d) = BDH p w s d := by
  pointwise [k0_pay7]
  rfl

theorem pay8_at (s : Fin 256) : k0_pay8 (F := Ideal) x (ix2 s 0) = rs (BX x s) := by
  pointwise [k0_pay8]
  rfl

theorem pay9_at (s : Fin 256) (d : Fin 1024) : k0_pay9 (F := Ideal) x (ix2 s d) = nrm (BX x s) d := by
  unfold k0_pay9
  have h := pay8_at x s
  generalize k0_pay8 (F := Ideal) x = y at h
  pointwise
  rw [h]; rfl

theorem pay10_at (s : Fin 256) (d : Fin 1024) : k0_pay10 (F := Ideal) x g (ix2 s d) = yRow (BX x) (BV g) s d := by
  unfold k0_pay10
  have h := pay9_at x s d
  generalize k0_pay9 (F := Ideal) x = y at h
  pointwise
  rw [h]; rfl

theorem pay11_at (s : Fin 256) (d : Fin 1024) : k0_pay11 (F := Ideal) p w sc (ix2 s d) = dyRow (BDH p w) (BV sc) s d := by
  unfold k0_pay11
  have h := pay7_at p w s d
  generalize k0_pay7 (F := Ideal) p w = y at h
  pointwise
  rw [h]; rfl

theorem pay12_at (d : Fin 1024) : k0_pay12 (F := Ideal) p x w sc (ix2 0 d) = dGain (BX x) (BDH p w) (BV sc) d := by
  unfold k0_pay12
  have h := fun s => pay11_at p w sc s d
  have h' := fun s => pay9_at x s d
  generalize k0_pay11 (F := Ideal) p w sc = y at h
  generalize k0_pay9 (F := Ideal) x = z at h'
  pointwise
  simp only [h, h']
  rfl

theorem pay13_at (s : Fin 256) (d : Fin 1024) :
    k0_pay13 (F := Ideal) p x w g sc (ix2 s d) = dnRow (BDH p w) (BV g) (BV sc) s d
      - nrm (BX x s) d * Ideal.div (∑ j, dnRow (BDH p w) (BV g) (BV sc) s j * nrm (BX x s) j) width := by
  unfold k0_pay13
  have h := fun d => pay11_at p w sc s d
  have h' := fun d => pay9_at x s d
  generalize k0_pay11 (F := Ideal) p w sc = y at h
  generalize k0_pay9 (F := Ideal) x = z at h'
  pointwise
  simp only [h, h']
  rfl

theorem pay1_at (s : Fin 256) (d : Fin 1024) :
    k0_pay1 (F := Ideal) r (k0_pay13 (F := Ideal) p x w g sc) (k0_pay14 (F := Ideal) x) (ix2 s d)
      = r (ix2 s d) + dx (BX x s) (dnRow (BDH p w) (BV g) (BV sc) s) d := by
  unfold k0_pay1 k0_pay14
  have h := pay13_at p x w g sc s d
  have h' := pay8_at x s
  generalize k0_pay13 (F := Ideal) p x w g sc = y at h
  generalize k0_pay8 (F := Ideal) x = z at h'
  pointwise
  rw [h, h']; rfl

theorem pay2_at (d : Fin 1024) : k0_pay2 (F := Ideal) (k0_pay7 (F := Ideal) p w) (k0_pay10 (F := Ideal) x g) (ix2 0 d) = dScale (BX x) (BDH p w) (BV g) d := by
  unfold k0_pay2
  have h := fun s => pay7_at p w s d
  have h' := fun s => pay10_at x g s d
  generalize k0_pay7 (F := Ideal) p w = y at h
  generalize k0_pay10 (F := Ideal) x g = z at h'
  pointwise
  simp only [h, h']
  rfl

theorem pay3_at (d : Fin 1024) : k0_pay3 (F := Ideal) (k0_pay7 (F := Ideal) p w) (ix2 0 d) = dShift (BDH p w) d := by
  unfold k0_pay3
  have h := fun s => pay7_at p w s d
  generalize k0_pay7 (F := Ideal) p w = y at h
  pointwise
  simp only [h]
  rfl

theorem pay4_at (d : Fin 1024) :
    k0_pay4 (F := Ideal) (k0_pay12 (F := Ideal) p x w sc) acc (ix2 0 d) = acc (ix2 0 d) + dGain (BX x) (BDH p w) (BV sc) d := by
  unfold k0_pay4
  have h := pay12_at p x w sc d
  generalize k0_pay12 (F := Ideal) p x w sc = y at h
  pointwise
  rw [h]

theorem pay5_at (d : Fin 1024) :
    k0_pay5 (F := Ideal) (k0_pay7 (F := Ideal) p w) (k0_pay10 (F := Ideal) x g) acc (ix2 0 d) = acc (ix2 0 d) + dScale (BX x) (BDH p w) (BV g) d := by
  unfold k0_pay5
  have h := pay2_at p x w g d
  generalize k0_pay2 (F := Ideal) (k0_pay7 (F := Ideal) p w) (k0_pay10 (F := Ideal) x g) = y at h
  pointwise
  rw [h]

theorem pay6_at (d : Fin 1024) :
    k0_pay6 (F := Ideal) (k0_pay7 (F := Ideal) p w) acc (ix2 0 d) = acc (ix2 0 d) + dShift (BDH p w) d := by
  unfold k0_pay6
  have h := pay3_at p w d
  generalize k0_pay3 (F := Ideal) (k0_pay7 (F := Ideal) p w) = y at h
  pointwise
  rw [h]

/-! ## The outputs after a point -/

variable (m : (ℓ : Loc nD τ sig) → Buf (Elt Ideal) ℓ)

theorem out6 (c : Dev nD) (t : Fin cfg0.N) (s : Fin 256) (d : Fin 1024) :
    (outsAt0 m c t.val t.isLt).1 (ix2 s d)
      = (show EReal from iblk m c 1 t (ix2 s d)) + dx (BX (iblk m c 2 t) s) (dnRow (BDH (iblk m c 0 t) (iblk m c 3 t)) (BV (iblk m c 4 t)) (BV (iblk m c 5 t)) s) d := by
  by_cases h0 : t.val % 8 = 0
  · rw [outsAt0_A m c t h0 (by have := t.isLt.trans_eq N_0; omega)]
    generalize iblk m c 0 t = x0
    generalize iblk m c 1 t = x1
    generalize iblk m c 2 t = x2
    generalize iblk m c 3 t = x3
    generalize iblk m c 4 t = x4
    generalize iblk m c 5 t = x5
    frame_open
    frame_out
    exact pay1_at x0 x1 x2 x3 x4 x5 s d
  · rw [outsAt0_B m c t h0 (by omega)]
    generalize iblk m c 0 t = x0
    generalize iblk m c 1 t = x1
    generalize iblk m c 2 t = x2
    generalize iblk m c 3 t = x3
    generalize iblk m c 4 t = x4
    generalize iblk m c 5 t = x5
    frame_open
    frame_out
    exact pay1_at x0 x1 x2 x3 x4 x5 s d

theorem out7_A (c : Dev nD) (t : Fin cfg0.N) (h0 : t.val % 8 = 0) (d : Fin 1024) :
    (outsAt0 m c t.val t.isLt).2.1 (ix2 0 d) = 0 + dGain (BX (iblk m c 2 t)) (BDH (iblk m c 0 t) (iblk m c 3 t)) (BV (iblk m c 5 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  frame_open
  frame_out
  exact pay12_at x0 x2 x3 x5 d

theorem out8_A (c : Dev nD) (t : Fin cfg0.N) (h0 : t.val % 8 = 0) (d : Fin 1024) :
    (outsAt0 m c t.val t.isLt).2.2.1 (ix2 0 d) = 0 + dScale (BX (iblk m c 2 t)) (BDH (iblk m c 0 t) (iblk m c 3 t)) (BV (iblk m c 4 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  frame_open
  frame_out
  exact pay2_at x0 x2 x3 x4 d

theorem out9_A (c : Dev nD) (t : Fin cfg0.N) (h0 : t.val % 8 = 0) (d : Fin 1024) :
    (outsAt0 m c t.val t.isLt).2.2.2 (ix2 0 d) = 0 + dShift (BDH (iblk m c 0 t) (iblk m c 3 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  frame_open
  frame_out
  exact pay3_at x0 x3 d

theorem out7_B (c : Dev nD) (t : Fin cfg0.N) (h0 : ¬ t.val % 8 = 0) (d : Fin 1024) :
    (outsAt0 m c t.val t.isLt).2.1 (ix2 0 d) = (outsAt0 m c (t.val - 1) (Nat.lt_of_le_of_lt (Nat.sub_le _ _) t.isLt)).2.1 (ix2 0 d)
      + dGain (BX (iblk m c 2 t)) (BDH (iblk m c 0 t) (iblk m c 3 t)) (BV (iblk m c 5 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize outsAt0 m c (t.val - 1) _ = xo
  frame_open
  frame_out
  exact pay4_at x0 x2 x3 x5 _ d

theorem out8_B (c : Dev nD) (t : Fin cfg0.N) (h0 : ¬ t.val % 8 = 0) (d : Fin 1024) :
    (outsAt0 m c t.val t.isLt).2.2.1 (ix2 0 d) = (outsAt0 m c (t.val - 1) (Nat.lt_of_le_of_lt (Nat.sub_le _ _) t.isLt)).2.2.1 (ix2 0 d)
      + dScale (BX (iblk m c 2 t)) (BDH (iblk m c 0 t) (iblk m c 3 t)) (BV (iblk m c 4 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize outsAt0 m c (t.val - 1) _ = xo
  frame_open
  frame_out
  exact pay5_at x0 x2 x3 x4 _ d

theorem out9_B (c : Dev nD) (t : Fin cfg0.N) (h0 : ¬ t.val % 8 = 0) (d : Fin 1024) :
    (outsAt0 m c t.val t.isLt).2.2.2 (ix2 0 d) = (outsAt0 m c (t.val - 1) (Nat.lt_of_le_of_lt (Nat.sub_le _ _) t.isLt)).2.2.2 (ix2 0 d)
      + dShift (BDH (iblk m c 0 t) (iblk m c 3 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize outsAt0 m c (t.val - 1) _ = xo
  frame_open
  frame_out
  exact pay6_at x0 x3 _ d

end Cert.ProjIdeal.Own

end
-- ==== Proof.PKArr.lean ====
/- The projection's backward kernel: its result arrays at its exit, over the arguments. -/
module

public import Idealize.ShloMosaic.Lib.StableHlo
public import Idealize.ShloMosaic.Lib.Pipeline.ReadBack
public import proofs.«01_k».proof.Proof.Gen.ProjIdeal.Value
public import proofs.«01_k».proof.Proof.PKOut

@[expose] public section

set_option maxRecDepth 16384

noncomputable section

namespace Cert.ProjIdeal.Own

open Cert.ProjIdeal Cert.ProjIdeal.Gen
open Idealize.ShloMosaic Idealize.ShloMosaic.TcCoe Idealize.ShloMosaic.Tactic Idealize.SL.Sem
open Idealize.ShloMosaic.Pipeline (Dat)
open Idealize.ShloMosaic.StableHlo Cert.Ffn Cert.Norm

variable (m : (ℓ : Loc nD τ sig) → Buf (Elt Ideal) ℓ) (c : Dev nD)

/-! ## The arguments by their coordinates -/

abbrev MX (s : Fin 2048) : Row := fun k => (m ((c : Thread nD τ).loc main_arg0) : FVec Ideal S2048x1024 .f32) (ix2 s k)
abbrev MG : Row := fun k => (m ((c : Thread nD τ).loc main_arg1) : FVec Ideal S1x1024 .f32) (ix2 0 k)
abbrev MSC : Row := fun k => (m ((c : Thread nD τ).loc main_arg2) : FVec Ideal S1x1024 .f32) (ix2 0 k)
abbrev MRES (s : Fin 2048) : Row := fun k => (m ((c : Thread nD τ).loc main_arg6) : FVec Ideal S2048x1024 .f32) (ix2 s k)
abbrev MP (s : Fin 2048) (k : Fin 2432) : EReal := (m ((c : Thread nD τ).loc main_arg5) : FVec Ideal S2048x2432 .f32) (ix2 s k)
abbrev MW (d : Fin 1024) (k : Fin 2432) : EReal := (m ((c : Thread nD τ).loc main_arg4) : FVec Ideal S1024x2432 .f32) (ix2 d k)
/-- The cotangent of the norm's output. -/
def MDH (s : Fin 2048) : Row := fun d => ∑ k : Fin 2432, MP m c s k * MW m c d k

/-! ## The operands, after the host's conversions and transpose -/

theorem V_v2 : V m c main_v2 = (m ((c : Thread nD τ).loc main_arg5) : FVec Ideal S2048x2432 .f32) := by
  show StableHlo.after hostOps0 _ (Proc.devRef .tc main_v2) = _
  simp only [hostOps0, TRef.binary, TRef.nullary, TRef.unary, TRef.toBuf, TRef.ofBuf, cast_eq]
  after_results_simp <;> rfl

theorem V_v1 (k : Fin 2432) (d : Fin 1024) :
    V m c main_v1 (ix2 k d) = (m ((c : Thread nD τ).loc main_arg4) : FVec Ideal S1024x2432 .f32) (ix2 d k) := by
  have h : V m c main_v1 = transpose S2432x1024 [1, 0] (m ((c : Thread nD τ).loc main_arg4) : FVec Ideal S1024x2432 .f32)
      transposes_S1024x2432_S2432x1024_1_0 := by
    show StableHlo.after hostOps0 _ (Proc.devRef .tc main_v1) = _
    simp only [hostOps0, TRef.binary, TRef.nullary, TRef.unary, TRef.toBuf, TRef.ofBuf, cast_eq]
    after_results_simp <;> rfl
  rw [h]
  pointwise []

/-! ## The blocks -/

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

theorem lt0 (t : Fin cfg0.N) : t.val < 8 := t.isLt.trans_eq N_0

/-- Row `s` of point `t`'s block. -/
def row (t : Fin cfg0.N) (s : Fin 256) : Fin 2048 := ⟨t.val * 256 + s, by have := lt0 t; omega⟩

theorem blk0 (t : Fin cfg0.N) (s : Fin 256) (k : Fin 2432) : iblk m c 0 t (ix2 s k) = V m c main_v2 (ix2 (row t s) k) := by
  blk_ext [iblk, idx0 t, row]
theorem blk1 (t : Fin cfg0.N) (s : Fin 256) (k : Fin 1024) : iblk m c 1 t (ix2 s k) = V m c main_arg6 (ix2 (row t s) k) := by
  blk_ext [iblk, idx0 t, row]
theorem blk2 (t : Fin cfg0.N) (s : Fin 256) (k : Fin 1024) : iblk m c 2 t (ix2 s k) = V m c main_arg0 (ix2 (row t s) k) := by
  blk_ext [iblk, idx0 t, row]
theorem blk3 (t : Fin cfg0.N) (k : Fin 2432) (d : Fin 1024) : iblk m c 3 t (ix2 k d) = V m c main_v1 (ix2 k d) := by
  blk_ext [iblk, idx0 t]
theorem blk4 (t : Fin cfg0.N) (k : Fin 1024) : iblk m c 4 t (ix2 0 k) = V m c main_arg1 (ix2 0 k) := by
  blk_ext [iblk, idx0 t]
theorem blk5 (t : Fin cfg0.N) (k : Fin 1024) : iblk m c 5 t (ix2 0 k) = V m c main_arg2 (ix2 0 k) := by
  blk_ext [iblk, idx0 t]

theorem bx (t : Fin cfg0.N) (s : Fin 256) : BX (iblk m c 2 t) s = MX m c (row t s) :=
  funext fun k => (blk2 m c t s k).trans (congrFun (V_main_arg0 m c) _)
theorem bres (t : Fin cfg0.N) (s : Fin 256) : BX (iblk m c 1 t) s = MRES m c (row t s) :=
  funext fun k => (blk1 m c t s k).trans (congrFun (V_main_arg6 m c) _)
theorem bg (t : Fin cfg0.N) : BV (iblk m c 4 t) = MG m c :=
  funext fun k => (blk4 m c t k).trans (congrFun (V_main_arg1 m c) _)
theorem bsc (t : Fin cfg0.N) : BV (iblk m c 5 t) = MSC m c :=
  funext fun k => (blk5 m c t k).trans (congrFun (V_main_arg2 m c) _)
theorem bdh (t : Fin cfg0.N) (s : Fin 256) : BDH (iblk m c 0 t) (iblk m c 3 t) s = MDH m c (row t s) :=
  funext fun d => Finset.sum_congr rfl fun k _ => congrArg₂ (fun a b : EReal => a * b) ((blk0 m c t s k).trans (congrFun (V_v2 m c) _))
    ((blk3 m c t k d).trans (V_v1 m c k d))

/-! ## The arrays -/

/-- The input's gradient. -/
def gx : FVec Ideal S2048x1024 .f32 := fun i =>
  MRES m c (i 0) (i 1) + dx (MX m c (i 0)) (dnRow (MDH m c) (MG m c) (MSC m c) (i 0)) (i 1)
/-- The gain's, the scale's and the shift's. -/
def gg : FVec Ideal S1x1024 .f32 := fun i => dGain (MX m c) (MDH m c) (MSC m c) (i 1)
def gsc : FVec Ideal S1x1024 .f32 := fun i => dScale (MX m c) (MDH m c) (MG m c) (i 1)
def gsh : FVec Ideal S1x1024 .f32 := fun i => dShift (MDH m c) (i 1)

theorem row_eq (t : Fin cfg0.N) (s : Fin 256) (h : t.val * 256 + s.val < 2048) : (⟨t.val * 256 + s.val, h⟩ : Fin 2048) = row t s := rfl

theorem gx_at (s : Fin 2048) (d : Fin 1024) (i : S2048x1024.Idx) (h0 : (i 0 : ℕ) = s) (h1 : (i 1 : ℕ) = d) :
    gx m c i = MRES m c s d + dx (MX m c s) (dnRow (MDH m c) (MG m c) (MSC m c) s) d := by
  obtain rfl : i 0 = s := Fin.ext h0
  obtain rfl : i 1 = d := Fin.ext h1
  rfl

theorem arr6 : (dats m 0 c).arrAt 6 cfg0.N = gx m c := by
  refine (dats m 0 c).arrAt_eq_of_covers 6 _ (by decide +kernel) fun t _ y => ?_
  blk_simp
  rw [after0_6]
  obtain ⟨s, d, rfl⟩ := rowcol (n := 256) (m := 1024) y
  trans MRES m c (row t s) d + dx (MX m c (row t s)) (dnRow (MDH m c) (MG m c) (MSC m c) (row t s)) d
  · refine (out6 m c t s d).trans (congrArg₂ (· + ·) (congrFun (bres m c t s) d) ?_)
    rw [bx, bg, bsc]
    refine congrFun (congrArg _ (funext fun k => ?_)) d
    unfold dnRow dyRow
    rw [bdh]
  · refine (gx_at m c (row t s) d _ ?_ ?_).symm
    · blk_simp [idx0 t, row]
    · blk_simp [idx0 t]

theorem arr7 : (dats m 0 c).arrAt 7 cfg0.N = gg m c := by
  refine (dats m 0 c).arrAt_eq_of_after_last 7 t0_7 (by decide +kernel) _ fun j => ?_
  blk_simp
  obtain ⟨z, d, rfl⟩ := rowcol (n := 1) (m := 1024) j
  obtain rfl : z = 0 := Subsingleton.elim _ _
  rw [after0_7, Pipeline.eq_sum_fin_of_reset_step_last (fun n h => (outsAt0 m c n h).2.1 (ix2 0 d)) 8 (0 : EReal)
    (fun t => dGain (BX (iblk m c 2 t)) (BDH (iblk m c 0 t) (iblk m c 3 t)) (BV (iblk m c 5 t)) d)
    (fun t h => out7_A m c t h d) (fun t h => out7_B m c t h d) (le_of_eq N_0) t0_7 rfl, zero_add]
  refine Fin.sum_mul_add_congr fun t s hl => ?_
  rw [row_eq, bx, bsc]
  unfold dyRow
  rw [bdh]
  rfl

theorem arr8 : (dats m 0 c).arrAt 8 cfg0.N = gsc m c := by
  refine (dats m 0 c).arrAt_eq_of_after_last 8 t0_7 (by decide +kernel) _ fun j => ?_
  blk_simp
  obtain ⟨z, d, rfl⟩ := rowcol (n := 1) (m := 1024) j
  obtain rfl : z = 0 := Subsingleton.elim _ _
  rw [after0_8, Pipeline.eq_sum_fin_of_reset_step_last (fun n h => (outsAt0 m c n h).2.2.1 (ix2 0 d)) 8 (0 : EReal)
    (fun t => dScale (BX (iblk m c 2 t)) (BDH (iblk m c 0 t) (iblk m c 3 t)) (BV (iblk m c 4 t)) d)
    (fun t h => out8_A m c t h d) (fun t h => out8_B m c t h d) (le_of_eq N_0) t0_7 rfl, zero_add]
  refine Fin.sum_mul_add_congr fun t s hl => ?_
  rw [row_eq, bdh]
  unfold yRow
  rw [bx, bg]
  rfl

theorem arr9 : (dats m 0 c).arrAt 9 cfg0.N = gsh m c := by
  refine (dats m 0 c).arrAt_eq_of_after_last 9 t0_7 (by decide +kernel) _ fun j => ?_
  blk_simp
  obtain ⟨z, d, rfl⟩ := rowcol (n := 1) (m := 1024) j
  obtain rfl : z = 0 := Subsingleton.elim _ _
  rw [after0_9, Pipeline.eq_sum_fin_of_reset_step_last (fun n h => (outsAt0 m c n h).2.2.2 (ix2 0 d)) 8 (0 : EReal)
    (fun t => dShift (BDH (iblk m c 0 t) (iblk m c 3 t)) d)
    (fun t h => out9_A m c t h d) (fun t h => out9_B m c t h d) (le_of_eq N_0) t0_7 rfl, zero_add]
  refine Fin.sum_mul_add_congr fun t s hl => ?_
  rw [row_eq, bdh]
  rfl

end Cert.ProjIdeal.Own

end
-- ==== Proof.CProj.lean ====
/- The projection's backward call: its frames, and its values against the reference's. -/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjReferenceIdeal
public import proofs.«01_k».proof.Proof.Gen.ProjReferenceIdeal.Run
public import proofs.«01_k».proof.Proof.PRVal
public import proofs.«01_k».proof.Proof.PKArr
public import proofs.«01_k».proof.Proof.Finite
public import Idealize.ShloMosaic.Lib.Claim

@[expose] public section

set_option maxRecDepth 16384

noncomputable section

namespace Cert.Pre_proj_finite

open Idealize.ShloMosaic Cert.Ffn
open Cert.Pre_arguments_finite (fin_of_all and_left and_right)

/-- The side conditions of the precondition's operations. -/
instance facts : Facts where
  bcast_S_S2048x1024 := by decide
  reducesTo_S2048x1024_S_d0_1 := by decide
  h_S_ := by decide
  bcast_S_S1x1024 := by decide
  reducesTo_S1x1024_S_d0_1 := by decide
  bcast_S_S1024x2432 := by decide
  reducesTo_S1024x2432_S_d0_1 := by decide
  bcast_S_S2048x2432 := by decide
  reducesTo_S2048x2432_S_d0_1 := by decide

/-- Where the precondition holds, all seven arguments are finite throughout. -/
theorem finite (x0 : FVec Ideal S2048x1024 .f32) (x1 x2 x3 : FVec Ideal S1x1024 .f32) (x4 : FVec Ideal S1024x2432 .f32)
    (x5 : FVec Ideal S2048x2432 .f32) (x6 : FVec Ideal S2048x1024 .f32)
    (h : fn (F := Ideal) x0 x1 x2 x3 x4 x5 x6 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i))
      ∧ ∀ i, Fin' (x6 i) := by
  have h0 := congrFun h (Shape.Idx.first facts.h_S_)
  unfold fn fn_part1 at h0
  have h1 := and_left h0
  have h2 := and_left h1
  have h3 := and_left h2
  have h4 := and_left h3
  have h5 := and_left h4
  exact ⟨fin_of_all x0 _ _ _ _ (and_left h5), fin_of_all x1 _ _ _ _ (and_right h5), fin_of_all x2 _ _ _ _ (and_right h4),
    fin_of_all x3 _ _ _ _ (and_right h3), fin_of_all x4 _ _ _ _ (and_right h2), fin_of_all x5 _ _ _ _ (and_right h1),
    fin_of_all x6 _ _ _ _ (and_right h0)⟩

end Cert.Pre_proj_finite

namespace Cert.Proof.Proj

open Idealize.ShloMosaic Idealize.SL.Sem
open Cert.ProjIdeal Cert.ProjIdeal.Gen Cert.ProjIdeal.Own
open Cert.ProjReferenceIdeal.Read Cert.ProjReferenceIdeal.Own
open Cert.Norm (rowcol)

theorem frame_bits : Cert.quiescent_Proj := fun m g _ => Cert.Proj.Gen.frame m g
theorem frame_ideal : Cert.quiescent_ProjIdeal := fun m g _ => Cert.ProjIdeal.Gen.frame m g
theorem frame_ideal_pre : Cert.quiescent_ProjIdeal_pre_proj_finite := fun m g _ => Cert.ProjIdeal.Gen.frame m g
theorem frame_reference : Cert.quiescent_ProjReferenceIdeal := fun m g _ =>
  (θ_run Cert.ProjReferenceIdeal.defs _ _).mono
    (fun r h => ⟨fun c => (h c).2.2.2.2, sem_eq_zero_of_no_sems (by decide) r.2⟩)
    (Cert.ProjReferenceIdeal.Value.run (F := Ideal) m g)
theorem frame_reference_pre : Cert.quiescent_ProjReferenceIdeal_pre_proj_finite := fun m g _ => frame_reference m g trivial

variable (m : (ℓ : Loc nD τ sig) → Buf (Elt Ideal) ℓ)
    (m' : (ℓ : Loc Cert.ProjReferenceIdeal.nD Cert.ProjReferenceIdeal.τ Cert.ProjReferenceIdeal.sig) → Buf (Elt Ideal) ℓ)
    (c : Dev nD)

theorem v49 (hpre : Cert.Pre_ProjIdeal_proj_finite m) :
    val_main_v49 (F := Ideal) (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) = gx m c := by
  obtain ⟨h0, h1, h2, h3, h4, h5, h6⟩ := Cert.Pre_proj_finite.finite _ _ _ _ _ _ _ (hpre c)
  funext i
  obtain ⟨s, d, rfl⟩ := rowcol (n := 2048) (m := 1024) i
  exact Cert.ProjReferenceIdeal.Own.gx_at _ _ _ _ _ _ s d h0 h1 h2 h4 h5 h6

theorem v32 : val_main_v32 (F := Ideal) (m ((c.tc : Thread nD τ).loc main_arg0)) (m ((c.tc : Thread nD τ).loc main_arg2))
      (m ((c.tc : Thread nD τ).loc main_arg4)) (m ((c.tc : Thread nD τ).loc main_arg5)) = gg m c := by
  funext i
  obtain ⟨z, d, rfl⟩ := rowcol (n := 1) (m := 1024) i
  obtain rfl : z = 0 := Subsingleton.elim _ _
  exact dg_at _ _ _ _ d

theorem v27 : val_main_v27 (F := Ideal) (m ((c.tc : Thread nD τ).loc main_arg0)) (m ((c.tc : Thread nD τ).loc main_arg1))
      (m ((c.tc : Thread nD τ).loc main_arg4)) (m ((c.tc : Thread nD τ).loc main_arg5)) = gsc m c := by
  funext i
  obtain ⟨z, d, rfl⟩ := rowcol (n := 1) (m := 1024) i
  obtain rfl : z = 0 := Subsingleton.elim _ _
  exact dsc_at _ _ _ _ d

theorem v24 : val_main_v24 (F := Ideal) (m ((c.tc : Thread nD τ).loc main_arg4)) (m ((c.tc : Thread nD τ).loc main_arg5)) = gsh m c := by
  funext i
  obtain ⟨z, d, rfl⟩ := rowcol (n := 1) (m := 1024) i
  obtain rfl : z = 0 := Subsingleton.elim _ _
  exact dsh_at _ _ d

/-- From finite arguments, kernel and reference leave the same four results. -/
theorem algebraic : Cert.algebraic_ProjIdeal_ProjReferenceIdeal_pre_proj_finite := fun m g m' g' hpre hagree =>
  ⟨fun c => gx m c, fun c => gg m c, fun c => gsc m c, fun c => gsh m c,
    (θ_run Cert.ProjIdeal.defs _ _).mono (fun _ h c => ⟨((h c).1).trans (arr6 m c), ((h c).2.1).trans (arr7 m c),
      ((h c).2.2.1).trans (arr8 m c), ((h c).2.2.2.1).trans (arr9 m c), (h c).2.2.2.2⟩) (Cert.ProjIdeal.Value.run_blocks m g),
    (θ_run Cert.ProjReferenceIdeal.defs _ _).mono (fun _ h c => by
      obtain ⟨e0, e1, e2, e3, e4, e5, e6⟩ := hagree c
      refine ⟨((h c).1).trans ?_, ((h c).2.1).trans ?_, ((h c).2.2.1).trans ?_, ((h c).2.2.2.1).trans ?_, (h c).2.2.2.2⟩
      · rw [val_main_v49_eq, e0, e1, e2, e4, e5, e6]; exact v49 m c hpre
      · refine (val_main_v32_eq _ _ _ _).trans ?_
        rw [e0, e2, e4, e5]; exact v32 m c
      · refine (val_main_v27_eq _ _ _ _).trans ?_
        rw [e0, e1, e4, e5]; exact v27 m c
      · refine (val_main_v24_eq _ _).trans ?_
        rw [e4, e5]; exact v24 m c) (Cert.ProjReferenceIdeal.Value.run m' g')⟩

end Cert.Proof.Proj

end
-- ==== Proof.MRVal.lean ====
/- The middle backward reference in closed form, row by row. -/
module

public import Idealize.ShloMosaic.Lib.Pointwise
public import proofs.«01_k».proof.Proof.Gen.MidReferenceIdeal
public import proofs.«01_k».proof.Proof.Gen.MidReferenceIdeal.Read
public import proofs.«01_k».proof.Proof.Norm

@[expose] public section

set_option maxRecDepth 16384

noncomputable section

namespace Cert.MidReferenceIdeal.Own

open Cert.MidReferenceIdeal Cert.MidReferenceIdeal.Gen Cert.MidReferenceIdeal.Read
open Idealize.ShloMosaic
open Cert.Norm Cert.Ffn

variable (x0 : (⟨S2048x1536, .f32⟩ : BufTy).Contents (Elt Ideal)) (x1 : (⟨S2048x1024, .f32⟩ : BufTy).Contents (Elt Ideal))
  (x2 : (⟨S1536x1024, .f32⟩ : BufTy).Contents (Elt Ideal)) (x3 x4 x5 x6 : (⟨S1x1024, .f32⟩ : BufTy).Contents (Elt Ideal))
  (x7 x8 : (⟨S2048x1024, .f32⟩ : BufTy).Contents (Elt Ideal))

/-! ## The operands by their coordinates -/

/-- The mix and the residual stream after it. -/
abbrev RMIX (s : Fin 2048) : Row := fun k => val_main_v0 (F := Ideal) x0 x2 (ix2 s k)
abbrev RX (s : Fin 2048) : Row := fun k => val_main_v3 (F := Ideal) x0 x1 x2 x3 (ix2 s k)
abbrev RV (v : (⟨S1x1024, .f32⟩ : BufTy).Contents (Elt Ideal)) : Row := fun k => v (ix2 0 k)
abbrev RM (v : (⟨S2048x1024, .f32⟩ : BufTy).Contents (Elt Ideal)) (s : Fin 2048) : Row := fun k => v (ix2 s k)

theorem x_fin (s : Fin 2048) (k : Fin 1024) (h0 : ∀ i, Fin' (x0 i)) (h1 : ∀ i, Fin' (x1 i)) (h2 : ∀ i, Fin' (x2 i)) (h3 : ∀ i, Fin' (x3 i)) :
    Fin' (RX x0 x1 x2 x3 s k) := by
  have e : RX x0 x1 x2 x3 s k = x1 (ix2 s k) + x3 (ix2 0 k) * ∑ j : Fin 1536, x0 (ix2 s j) * x2 (ix2 j k) := by
    show val_main_v3 (F := Ideal) x0 x1 x2 x3 (ix2 s k) = _
    pointwise [val_main_v3, val_main_v2, val_main_v1, val_main_v0]
  rw [e]
  exact (h1 _).add ((h3 _).mul (Fin'.sum _ fun j => (h0 _).mul (h2 _)))

/-! ## The norm -/

theorem ms_at (s : Fin 2048) : val_main_v10 (F := Ideal) x0 x1 x2 x3 (ix2 s 0) = ms (RX x0 x1 x2 x3 s) := by
  unfold val_main_v10 val_main_v8 val_main_v6 val_main_v5 val_main_v4 ms RX
  generalize val_main_v3 (F := Ideal) x0 x1 x2 x3 = y
  pointwise [val_main_cst, val_main_v7, val_main_cst_0, val_main_v9, val_main_cst_1]
  rfl

theorem rs_at (s : Fin 2048) : val_main_v11 (F := Ideal) x0 x1 x2 x3 (ix2 s 0) = rs (RX x0 x1 x2 x3 s) := by
  unfold val_main_v11
  have h := ms_at x0 x1 x2 x3 s
  generalize val_main_v10 (F := Ideal) x0 x1 x2 x3 = y at h
  pointwise
  rw [h]; rfl

theorem n_at (s : Fin 2048) (d : Fin 1024) : val_main_v16 (F := Ideal) x0 x1 x2 x3 (ix2 s d) = nrm (RX x0 x1 x2 x3 s) d := by
  unfold val_main_v16 val_main_v15
  have h := rs_at x0 x1 x2 x3 s
  generalize val_main_v11 (F := Ideal) x0 x1 x2 x3 = y at h
  have h' : val_main_v3 (F := Ideal) x0 x1 x2 x3 (ix2 s d) = RX x0 x1 x2 x3 s d := rfl
  generalize val_main_v3 (F := Ideal) x0 x1 x2 x3 = z at h'
  pointwise
  rw [h, h']; rfl

theorem y_at (s : Fin 2048) (d : Fin 1024) : val_main_v18 (F := Ideal) x0 x1 x2 x3 x4 (ix2 s d) = yRow (RX x0 x1 x2 x3) (RV x4) s d := by
  unfold val_main_v18 val_main_v17
  have h := n_at x0 x1 x2 x3 s d
  generalize val_main_v16 (F := Ideal) x0 x1 x2 x3 = y at h
  pointwise
  rw [h]; rfl

/-! ## The cotangents -/

theorem dh_at (s : Fin 2048) (d : Fin 1024) : val_main_v25 (F := Ideal) x8 (ix2 s d) = RM x8 s d := by
  pointwise [val_main_v25]

theorem dy_at (s : Fin 2048) (d : Fin 1024) : val_main_v32 (F := Ideal) x5 x8 (ix2 s d) = dyRow (RM x8) (RV x5) s d := by
  unfold val_main_v32
  have h := dh_at x8 s d
  generalize val_main_v25 (F := Ideal) x8 = y at h
  pointwise [val_main_v31, val_main_v20, val_main_v19, val_main_cst_3]
  rw [h]; rfl

theorem dn_at (s : Fin 2048) (d : Fin 1024) : val_main_v37 (F := Ideal) x4 x5 x8 (ix2 s d) = dnRow (RM x8) (RV x4) (RV x5) s d := by
  unfold val_main_v37
  have h := dy_at x5 x8 s d
  generalize val_main_v32 (F := Ideal) x5 x8 = y at h
  pointwise [val_main_v36]
  rw [h]; rfl

/-! ## The results -/

theorem dsh_at (d : Fin 1024) : val_main_v27 (F := Ideal) x8 (ix2 0 d) = dShift (RM x8) d := by
  pointwise [val_main_v27, val_main_v26, val_main_cst_4]
  rfl

theorem dsc_at (d : Fin 1024) : val_main_v30 (F := Ideal) x0 x1 x2 x3 x4 x8 (ix2 0 d) = dScale (RX x0 x1 x2 x3) (RM x8) (RV x4) d := by
  unfold val_main_v30 val_main_v29 val_main_v28
  have h : ∀ s d, val_main_v25 (F := Ideal) x8 (ix2 s d) = RM x8 s d := dh_at x8
  have h' : ∀ s d, val_main_v18 (F := Ideal) x0 x1 x2 x3 x4 (ix2 s d) = yRow (RX x0 x1 x2 x3) (RV x4) s d := y_at x0 x1 x2 x3 x4
  generalize val_main_v25 (F := Ideal) x8 = y at h
  generalize val_main_v18 (F := Ideal) x0 x1 x2 x3 x4 = z at h'
  pointwise [val_main_cst_5]
  refine Finset.sum_congr rfl fun s _ => ?_
  rw [h, h', mul_comm]

theorem dg_at (d : Fin 1024) : val_main_v35 (F := Ideal) x0 x1 x2 x3 x5 x8 (ix2 0 d) = dGain (RX x0 x1 x2 x3) (RM x8) (RV x5) d := by
  unfold val_main_v35 val_main_v34 val_main_v33
  have h : ∀ s d, val_main_v32 (F := Ideal) x5 x8 (ix2 s d) = dyRow (RM x8) (RV x5) s d := dy_at x5 x8
  have h' : ∀ s d, val_main_v16 (F := Ideal) x0 x1 x2 x3 (ix2 s d) = nrm (RX x0 x1 x2 x3 s) d := n_at x0 x1 x2 x3
  generalize val_main_v32 (F := Ideal) x5 x8 = y at h
  generalize val_main_v16 (F := Ideal) x0 x1 x2 x3 = z at h'
  pointwise [val_main_cst_6]
  refine Finset.sum_congr rfl fun s _ => ?_
  rw [h, h', mul_comm]

/-- The mean square's share of the stream's cotangent. -/
theorem via_at (s : Fin 2048) (d : Fin 1024) :
    val_main_v48 (F := Ideal) x0 x1 x2 x3 x4 x5 x8 (ix2 s d) = viaMean (RX x0 x1 x2 x3 s) (dnRow (RM x8) (RV x4) (RV x5) s) := by
  unfold val_main_v48 val_main_v47 val_main_v46 val_main_v44 val_main_v40 val_main_v39 val_main_v38 val_main_v14 val_main_v12
  have h : ∀ s d, val_main_v37 (F := Ideal) x4 x5 x8 (ix2 s d) = dnRow (RM x8) (RV x4) (RV x5) s d := dn_at x4 x5 x8
  have h3 : ∀ s d, val_main_v3 (F := Ideal) x0 x1 x2 x3 (ix2 s d) = RX x0 x1 x2 x3 s d := fun _ _ => rfl
  have h6 := ms_at x0 x1 x2 x3 s
  have h7 := rs_at x0 x1 x2 x3 s
  generalize val_main_v37 (F := Ideal) x4 x5 x8 = y at h
  generalize val_main_v10 (F := Ideal) x0 x1 x2 x3 = z6 at h6
  generalize val_main_v11 (F := Ideal) x0 x1 x2 x3 = z7 at h7
  generalize RX x0 x1 x2 x3 = X at *
  generalize val_main_v3 (F := Ideal) x0 x1 x2 x3 = z3 at h3
  pointwise [val_main_cst_7, val_main_cst_9, val_main_v45, val_main_cst_8, val_main_v13, val_main_cst_2]
  simp only [h, h3, Fin.sum_univ_one, h6, h7]
  rfl

/-- The stream's cotangent. -/
theorem dx_at (s : Fin 2048) (d : Fin 1024) (hx : ∀ s k, Fin' (RX x0 x1 x2 x3 s k)) (h4 : ∀ i, Fin' (x4 i)) (h5 : ∀ i, Fin' (x5 i))
    (h7 : ∀ i, Fin' (x7 i)) (h8 : ∀ i, Fin' (x8 i)) :
    val_main_v52 (F := Ideal) x0 x1 x2 x3 x4 x5 x7 x8 (ix2 s d)
      = x7 (ix2 s d) + dx (RX x0 x1 x2 x3 s) (dnRow (RM x8) (RV x4) (RV x5) s) d := by
  rw [dx_eq (RX x0 x1 x2 x3 s) (dnRow (RM x8) (RV x4) (RV x5) s) (x7 (ix2 s d)) (hx s) (dnRow_fin _ _ _ (fun s d => h8 _) (fun _ => h4 _) (fun _ => h5 _) s) (h7 _)]
  unfold val_main_v52 val_main_v51 val_main_v50 val_main_v49 val_main_v43 val_main_v42 val_main_v41
  have h := dn_at x4 x5 x8 s d
  have h11 := rs_at x0 x1 x2 x3 s
  have h48 := via_at x0 x1 x2 x3 x4 x5 x8 s d
  have h3 : val_main_v3 (F := Ideal) x0 x1 x2 x3 (ix2 s d) = RX x0 x1 x2 x3 s d := rfl
  generalize val_main_v37 (F := Ideal) x4 x5 x8 = y at h
  generalize val_main_v11 (F := Ideal) x0 x1 x2 x3 = z7 at h11
  generalize val_main_v48 (F := Ideal) x0 x1 x2 x3 x4 x5 x8 = z at h48
  generalize RX x0 x1 x2 x3 = X at *
  generalize val_main_v3 (F := Ideal) x0 x1 x2 x3 = z3 at h3
  pointwise
  rw [h, h11, h48, h3]

/-- The remaining results, over the stream's cotangent. -/
theorem v55_at (s : Fin 2048) (d : Fin 1024) :
    val_main_v55 (F := Ideal) x0 x1 x2 x3 x4 x5 x7 x8 (ix2 s d) = x3 (ix2 0 d) * val_main_v52 (F := Ideal) x0 x1 x2 x3 x4 x5 x7 x8 (ix2 s d) := by
  unfold val_main_v55 val_main_v53
  generalize val_main_v52 (F := Ideal) x0 x1 x2 x3 x4 x5 x7 x8 = y
  pointwise [val_main_v54]

theorem dmix_at (s : Fin 2048) (d : Fin 1024) :
    val_main_v60 (F := Ideal) x0 x1 x2 x3 x4 x5 x7 x8 (ix2 s d) = x3 (ix2 0 d) * val_main_v52 (F := Ideal) x0 x1 x2 x3 x4 x5 x7 x8 (ix2 s d) :=
  v55_at x0 x1 x2 x3 x4 x5 x7 x8 s d

theorem do_at (s : Fin 2048) (k : Fin 1536) :
    val_main_v59 (F := Ideal) x0 x1 x2 x3 x4 x5 x7 x8 (ix2 s k)
      = ∑ d : Fin 1024, (x3 (ix2 0 d) * val_main_v52 (F := Ideal) x0 x1 x2 x3 x4 x5 x7 x8 (ix2 s d)) * x2 (ix2 k d) := by
  unfold val_main_v59
  have h : ∀ s d, val_main_v55 (F := Ideal) x0 x1 x2 x3 x4 x5 x7 x8 (ix2 s d) = x3 (ix2 0 d) * val_main_v52 (F := Ideal) x0 x1 x2 x3 x4 x5 x7 x8 (ix2 s d) :=
    v55_at x0 x1 x2 x3 x4 x5 x7 x8
  generalize val_main_v55 (F := Ideal) x0 x1 x2 x3 x4 x5 x7 x8 = y at h
  generalize val_main_v52 (F := Ideal) x0 x1 x2 x3 x4 x5 x7 x8 = z at *
  pointwise
  simp only [h]

theorem dgate_at (d : Fin 1024) :
    val_main_v58 (F := Ideal) x0 x1 x2 x3 x4 x5 x7 x8 (ix2 0 d)
      = ∑ s : Fin 2048, val_main_v52 (F := Ideal) x0 x1 x2 x3 x4 x5 x7 x8 (ix2 s d) * RMIX x0 x2 s d := by
  unfold val_main_v58 val_main_v57 val_main_v56 val_main_v53 RMIX
  generalize val_main_v52 (F := Ideal) x0 x1 x2 x3 x4 x5 x7 x8 = z
  generalize val_main_v0 (F := Ideal) x0 x2 = y
  pointwise [val_main_cst_10]

end Cert.MidReferenceIdeal.Own

end
-- ==== Proof.MKOut.lean ====
/- What the middle backward kernel leaves after each grid point, on its block of 256 rows. -/
module

public import Idealize.ShloMosaic.Lib.Pointwise
public import Idealize.ShloMosaic.Lib.Pipeline.ValueKit
public import proofs.«01_k».proof.Proof.Gen.MidIdeal.Frame
public import proofs.«01_k».proof.Proof.Norm

@[expose] public section

set_option maxRecDepth 16384

noncomputable section

namespace Cert.MidIdeal.Own

open Cert.MidIdeal Cert.MidIdeal.Gen
open Idealize.ShloMosaic Idealize.ShloMosaic.TcCoe Idealize.SL.Sem
open Idealize.ShloMosaic.Pipeline (Dat)
open Cert.Norm

/-! ## A block's operands by their coordinates -/

abbrev BX (x : FVec Ideal S256x1024 .f32) (s : Fin 256) : Row := fun k => x (ix2 s k)
abbrev BV (g : FVec Ideal S1x1024 .f32) : Row := fun k => g (ix2 0 k)
/-- The stream's cotangent: what comes past the norm, and through it. -/
def DXB (h y x : FVec Ideal S256x1024 .f32) (g sc : FVec Ideal S1x1024 .f32) (s : Fin 256) : Row := fun d =>
  y (ix2 s d) + dx (BX x s) (dnRow (BX h) (BV g) (BV sc) s) d

variable (h y x u : FVec Ideal S256x1024 .f32) (gt g sc acc : FVec Ideal S1x1024 .f32) (w : FVec Ideal S1536x1024 .bf16)

/-! ## The values stored -/

theorem pay15_at (s : Fin 256) : k0_pay15 (F := Ideal) x (ix2 s 0) = rs (BX x s) := by
  pointwise [k0_pay15, k0_pay12]
  rfl

theorem pay16_at (s : Fin 256) (d : Fin 1024) : k0_pay16 (F := Ideal) x (ix2 s d) = nrm (BX x s) d := by
  unfold k0_pay16
  have e := pay15_at x s
  generalize k0_pay15 (F := Ideal) x = z at e
  pointwise [k0_pay12]
  rw [e]; rfl

theorem pay17_at (s : Fin 256) (d : Fin 1024) : k0_pay17 (F := Ideal) x g (ix2 s d) = yRow (BX x) (BV g) s d := by
  unfold k0_pay17
  have e := pay16_at x s d
  generalize k0_pay16 (F := Ideal) x = z at e
  pointwise
  rw [e]; rfl

theorem pay18_at (s : Fin 256) (d : Fin 1024) : k0_pay18 (F := Ideal) h sc (ix2 s d) = dyRow (BX h) (BV sc) s d := by
  pointwise [k0_pay18]
  rfl

theorem pay19_at (d : Fin 1024) : k0_pay19 (F := Ideal) h x sc (ix2 0 d) = dGain (BX x) (BX h) (BV sc) d := by
  unfold k0_pay19
  have e := fun s => pay18_at h sc s d
  have e' := fun s => pay16_at x s d
  generalize k0_pay18 (F := Ideal) h sc = z at e
  generalize k0_pay16 (F := Ideal) x = z' at e'
  pointwise
  simp only [e, e']
  rfl

theorem pay20_at (s : Fin 256) (d : Fin 1024) : k0_pay20 (F := Ideal) h g sc (ix2 s d) = dnRow (BX h) (BV g) (BV sc) s d := by
  unfold k0_pay20
  have e := pay18_at h sc s d
  generalize k0_pay18 (F := Ideal) h sc = z at e
  pointwise
  rw [e]; rfl

theorem pay21_at (s : Fin 256) :
    k0_pay21 (F := Ideal) h x g sc (ix2 s 0) = ∑ j, dnRow (BX h) (BV g) (BV sc) s j * nrm (BX x s) j := by
  unfold k0_pay21
  have e := fun d => pay20_at h g sc s d
  have e' := fun d => pay16_at x s d
  generalize k0_pay20 (F := Ideal) h g sc = z at e
  generalize k0_pay16 (F := Ideal) x = z' at e'
  pointwise
  simp only [e, e']

theorem pay1_at (s : Fin 256) (d : Fin 1024) :
    k0_pay1 (F := Ideal) y (k0_pay15 (F := Ideal) x) (k0_pay16 (F := Ideal) x) (k0_pay20 (F := Ideal) h g sc) (k0_pay21 (F := Ideal) h x g sc) (k0_pay22 (F := Ideal)) (ix2 s d) = DXB h y x g sc s d := by
  unfold k0_pay1
  have e15 := pay15_at x s
  have e16 := pay16_at x s d
  have e20 := pay20_at h g sc s d
  have e21 := pay21_at h x g sc s
  generalize k0_pay15 (F := Ideal) x = z15 at e15
  generalize k0_pay16 (F := Ideal) x = z16 at e16
  generalize k0_pay20 (F := Ideal) h g sc = z20 at e20
  generalize k0_pay21 (F := Ideal) h x g sc = z21 at e21
  pointwise [k0_pay22]
  rw [e15, e16, e20, e21]; rfl

theorem pay2_at (s : Fin 256) (d : Fin 1024) :
    k0_pay2 (F := Ideal) y gt (k0_pay15 (F := Ideal) x) (k0_pay16 (F := Ideal) x) (k0_pay20 (F := Ideal) h g sc) (k0_pay21 (F := Ideal) h x g sc) (k0_pay22 (F := Ideal)) (ix2 s d) = gt (ix2 0 d) * DXB h y x g sc s d := by
  unfold k0_pay2
  have e := pay1_at h y x g sc s d
  generalize k0_pay1 (F := Ideal) y (k0_pay15 (F := Ideal) x) (k0_pay16 (F := Ideal) x) (k0_pay20 (F := Ideal) h g sc) (k0_pay21 (F := Ideal) h x g sc) (k0_pay22 (F := Ideal)) = z at e
  pointwise
  rw [e]

theorem pay7_at (s : Fin 256) (d : Fin 1024) :
    k0_pay7 (F := Ideal) y gt (k0_pay15 (F := Ideal) x) (k0_pay16 (F := Ideal) x) (k0_pay20 (F := Ideal) h g sc) (k0_pay21 (F := Ideal) h x g sc) (k0_pay22 (F := Ideal)) (ix2 s d) = gt (ix2 0 d) * DXB h y x g sc s d :=
  pay2_at h y x gt g sc s d

theorem pay3_at (s : Fin 256) (k : Fin 1536) :
    k0_pay3 (F := Ideal) y gt (k0_pay14 (F := Ideal) w) (k0_pay15 (F := Ideal) x) (k0_pay16 (F := Ideal) x) (k0_pay20 (F := Ideal) h g sc) (k0_pay21 (F := Ideal) h x g sc) (k0_pay22 (F := Ideal)) (ix2 s k)
      = ∑ d : Fin 1024, (gt (ix2 0 d) * DXB h y x g sc s d) * w (ix2 k d) := by
  unfold k0_pay3
  have e := fun d => pay2_at h y x gt g sc s d
  generalize k0_pay2 (F := Ideal) y gt (k0_pay15 (F := Ideal) x) (k0_pay16 (F := Ideal) x) (k0_pay20 (F := Ideal) h g sc) (k0_pay21 (F := Ideal) h x g sc) (k0_pay22 (F := Ideal)) = z at e
  pointwise [k0_pay14]
  simp only [e]

theorem pay4_at (d : Fin 1024) : k0_pay4 (F := Ideal) h (k0_pay17 (F := Ideal) x g) (ix2 0 d) = dScale (BX x) (BX h) (BV g) d := by
  unfold k0_pay4
  have e := fun s => pay17_at x g s d
  generalize k0_pay17 (F := Ideal) x g = z at e
  pointwise
  simp only [e]
  rfl

theorem pay5_at (d : Fin 1024) : k0_pay5 (F := Ideal) h (ix2 0 d) = dShift (BX h) d := by
  pointwise [k0_pay5]
  rfl

theorem pay6_at (d : Fin 1024) :
    k0_pay6 (F := Ideal) y (k0_pay13 (F := Ideal) u) (k0_pay15 (F := Ideal) x) (k0_pay16 (F := Ideal) x) (k0_pay20 (F := Ideal) h g sc) (k0_pay21 (F := Ideal) h x g sc) (k0_pay22 (F := Ideal)) (ix2 0 d) = ∑ s, DXB h y x g sc s d * BX u s d := by
  unfold k0_pay6
  have e := fun s => pay1_at h y x g sc s d
  generalize k0_pay1 (F := Ideal) y (k0_pay15 (F := Ideal) x) (k0_pay16 (F := Ideal) x) (k0_pay20 (F := Ideal) h g sc) (k0_pay21 (F := Ideal) h x g sc) (k0_pay22 (F := Ideal)) = z at e
  pointwise [k0_pay13]
  simp only [e]

theorem pay8_at (d : Fin 1024) :
    k0_pay8 (F := Ideal) (k0_pay19 (F := Ideal) h x sc) acc (ix2 0 d) = acc (ix2 0 d) + dGain (BX x) (BX h) (BV sc) d := by
  unfold k0_pay8
  have e := pay19_at h x sc d
  generalize k0_pay19 (F := Ideal) h x sc = z at e
  pointwise
  rw [e]

theorem pay9_at (d : Fin 1024) :
    k0_pay9 (F := Ideal) h (k0_pay17 (F := Ideal) x g) acc (ix2 0 d) = acc (ix2 0 d) + dScale (BX x) (BX h) (BV g) d := by
  unfold k0_pay9
  have e := pay4_at h x g d
  generalize k0_pay4 (F := Ideal) h (k0_pay17 (F := Ideal) x g) = z at e
  pointwise
  rw [e]

theorem pay10_at (d : Fin 1024) : k0_pay10 (F := Ideal) h acc (ix2 0 d) = acc (ix2 0 d) + dShift (BX h) d := by
  unfold k0_pay10
  have e := pay5_at h d
  generalize k0_pay5 (F := Ideal) h = z at e
  pointwise
  rw [e]

theorem pay11_at (d : Fin 1024) :
    k0_pay11 (F := Ideal) y (k0_pay13 (F := Ideal) u) (k0_pay15 (F := Ideal) x) (k0_pay16 (F := Ideal) x) (k0_pay20 (F := Ideal) h g sc) (k0_pay21 (F := Ideal) h x g sc) (k0_pay22 (F := Ideal)) acc (ix2 0 d) = acc (ix2 0 d) + ∑ s, DXB h y x g sc s d * BX u s d := by
  unfold k0_pay11
  have e := pay6_at h y x u g sc d
  generalize k0_pay6 (F := Ideal) y (k0_pay13 (F := Ideal) u) (k0_pay15 (F := Ideal) x) (k0_pay16 (F := Ideal) x) (k0_pay20 (F := Ideal) h g sc) (k0_pay21 (F := Ideal) h x g sc) (k0_pay22 (F := Ideal)) = z at e
  pointwise
  rw [e]

/-! ## The outputs after a point -/

variable (m : (ℓ : Loc nD τ sig) → Buf (Elt Ideal) ℓ)

/-- The stream's cotangent on point `t`'s block. -/
abbrev DXT (c : Dev nD) (t : Fin cfg0.N) : Fin 256 → Row :=
  DXB (iblk m c 0 t) (iblk m c 1 t) (iblk m c 2 t) (iblk m c 5 t) (iblk m c 6 t)

theorem out8 (c : Dev nD) (t : Fin cfg0.N) (s : Fin 256) (d : Fin 1024) :
    (outsAt0 m c t.val t.isLt).1 (ix2 s d) = DXT m c t s d := by
  unfold DXT
  by_cases h0 : t.val % 8 = 0
  · rw [outsAt0_A m c t h0 (by have := t.isLt.trans_eq N_0; omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay1_at x0 x1 x2 x5 x6 s d
  · rw [outsAt0_B m c t h0 (by omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay1_at x0 x1 x2 x5 x6 s d

theorem out9 (c : Dev nD) (t : Fin cfg0.N) (s : Fin 256) (d : Fin 1024) :
    (outsAt0 m c t.val t.isLt).2.1 (ix2 s d) = (show EReal from iblk m c 4 t (ix2 0 d)) * DXT m c t s d := by
  unfold DXT
  by_cases h0 : t.val % 8 = 0
  · rw [outsAt0_A m c t h0 (by have := t.isLt.trans_eq N_0; omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay7_at x0 x1 x2 x4 x5 x6 s d
  · rw [outsAt0_B m c t h0 (by omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay7_at x0 x1 x2 x4 x5 x6 s d

theorem out10 (c : Dev nD) (t : Fin cfg0.N) (s : Fin 256) (k : Fin 1536) :
    (outsAt0 m c t.val t.isLt).2.2.1 (ix2 s k) = ∑ d : Fin 1024, ((show EReal from iblk m c 4 t (ix2 0 d)) * DXT m c t s d) * (show EReal from iblk m c 7 t (ix2 k d)) := by
  unfold DXT
  by_cases h0 : t.val % 8 = 0
  · rw [outsAt0_A m c t h0 (by have := t.isLt.trans_eq N_0; omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay3_at x0 x1 x2 x4 x5 x6 x7 s k
  · rw [outsAt0_B m c t h0 (by omega)]
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    frame_open
    frame_out
    exact pay3_at x0 x1 x2 x4 x5 x6 x7 s k

theorem out11_A (c : Dev nD) (t : Fin cfg0.N) (h0 : t.val % 8 = 0) (d : Fin 1024) :
    (outsAt0 m c t.val t.isLt).2.2.2.1 (ix2 0 d) = 0 + dGain (BX (iblk m c 2 t)) (BX (iblk m c 0 t)) (BV (iblk m c 6 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_open
  frame_out
  exact pay19_at x0 x2 x6 d

theorem out11_B (c : Dev nD) (t : Fin cfg0.N) (h0 : ¬ t.val % 8 = 0) (d : Fin 1024) :
    (outsAt0 m c t.val t.isLt).2.2.2.1 (ix2 0 d) = (outsAt0 m c (t.val - 1) (Nat.lt_of_le_of_lt (Nat.sub_le _ _) t.isLt)).2.2.2.1 (ix2 0 d)
      + dGain (BX (iblk m c 2 t)) (BX (iblk m c 0 t)) (BV (iblk m c 6 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize outsAt0 m c (t.val - 1) _ = xo
  frame_open
  frame_out
  exact pay8_at x0 x2 x6 _ d

theorem out12_A (c : Dev nD) (t : Fin cfg0.N) (h0 : t.val % 8 = 0) (d : Fin 1024) :
    (outsAt0 m c t.val t.isLt).2.2.2.2.1 (ix2 0 d) = 0 + dScale (BX (iblk m c 2 t)) (BX (iblk m c 0 t)) (BV (iblk m c 5 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_open
  frame_out
  exact pay4_at x0 x2 x5 d

theorem out12_B (c : Dev nD) (t : Fin cfg0.N) (h0 : ¬ t.val % 8 = 0) (d : Fin 1024) :
    (outsAt0 m c t.val t.isLt).2.2.2.2.1 (ix2 0 d) = (outsAt0 m c (t.val - 1) (Nat.lt_of_le_of_lt (Nat.sub_le _ _) t.isLt)).2.2.2.2.1 (ix2 0 d)
      + dScale (BX (iblk m c 2 t)) (BX (iblk m c 0 t)) (BV (iblk m c 5 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize outsAt0 m c (t.val - 1) _ = xo
  frame_open
  frame_out
  exact pay9_at x0 x2 x5 _ d

theorem out13_A (c : Dev nD) (t : Fin cfg0.N) (h0 : t.val % 8 = 0) (d : Fin 1024) :
    (outsAt0 m c t.val t.isLt).2.2.2.2.2.1 (ix2 0 d) = 0 + dShift (BX (iblk m c 0 t)) d := by
  rw [outsAt0_A m c t h0 (by have := t.isLt.trans_eq N_0; omega), zero_add]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_open
  frame_out
  exact pay5_at x0 d

theorem out13_B (c : Dev nD) (t : Fin cfg0.N) (h0 : ¬ t.val % 8 = 0) (d : Fin 1024) :
    (outsAt0 m c t.val t.isLt).2.2.2.2.2.1 (ix2 0 d) = (outsAt0 m c (t.val - 1) (Nat.lt_of_le_of_lt (Nat.sub_le _ _) t.isLt)).2.2.2.2.2.1 (ix2 0 d)
      + dShift (BX (iblk m c 0 t)) d := by
  rw [outsAt0_B m c t h0 (by omega)]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize outsAt0 m c (t.val - 1) _ = xo
  frame_open
  frame_out
  exact pay10_at x0 _ d

theorem out14_A (c : Dev nD) (t : Fin cfg0.N) (h0 : t.val % 8 = 0) (d : Fin 1024) :
    (outsAt0 m c t.val t.isLt).2.2.2.2.2.2 (ix2 0 d) = 0 + (∑ s : Fin 256, DXT m c t s d * BX (iblk m c 3 t) s d) := by
  rw [outsAt0_A m c t h0 (by have := t.isLt.trans_eq N_0; omega), zero_add]
  unfold DXT
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_open
  frame_out
  exact pay6_at x0 x1 x2 x3 x5 x6 d

theorem out14_B (c : Dev nD) (t : Fin cfg0.N) (h0 : ¬ t.val % 8 = 0) (d : Fin 1024) :
    (outsAt0 m c t.val t.isLt).2.2.2.2.2.2 (ix2 0 d) = (outsAt0 m c (t.val - 1) (Nat.lt_of_le_of_lt (Nat.sub_le _ _) t.isLt)).2.2.2.2.2.2 (ix2 0 d)
      + (∑ s : Fin 256, DXT m c t s d * BX (iblk m c 3 t) s d) := by
  rw [outsAt0_B m c t h0 (by omega)]
  unfold DXT
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize outsAt0 m c (t.val - 1) _ = xo
  frame_open
  frame_out
  exact pay11_at x0 x1 x2 x3 x5 x6 _ d

end Cert.MidIdeal.Own

end
-- ==== Proof.MKArr.lean ====
/- The middle backward kernel: its result arrays at its exit, over the arguments. -/
module

public import Idealize.ShloMosaic.Lib.StableHlo
public import Idealize.ShloMosaic.Lib.Pipeline.ReadBack
public import proofs.«01_k».proof.Proof.Gen.MidIdeal.Value
public import proofs.«01_k».proof.Proof.Gen.MidReferenceIdeal.Read
public import proofs.«01_k».proof.Proof.MKOut

@[expose] public section

set_option maxRecDepth 16384

noncomputable section

namespace Cert.MidIdeal.Own

open Cert.MidIdeal Cert.MidIdeal.Gen
open Idealize.ShloMosaic Idealize.ShloMosaic.TcCoe Idealize.ShloMosaic.Tactic Idealize.SL.Sem
open Idealize.ShloMosaic.Pipeline (Dat)
open Idealize.ShloMosaic.StableHlo Cert.Ffn Cert.Norm

variable (m : (ℓ : Loc nD τ sig) → Buf (Elt Ideal) ℓ) (c : Dev nD)

/-! ## The operands by their coordinates -/

/-- The mix and the residual stream after it, as the host computes them for both programs. -/
abbrev MMIX (s : Fin 2048) : Row := fun k => Cert.MidReferenceIdeal.Read.val_main_v0 (F := Ideal) (m ((c : Thread nD τ).loc main_arg0)) (m ((c : Thread nD τ).loc main_arg2)) (ix2 s k)
abbrev MX (s : Fin 2048) : Row := fun k => Cert.MidReferenceIdeal.Read.val_main_v3 (F := Ideal) (m ((c : Thread nD τ).loc main_arg0)) (m ((c : Thread nD τ).loc main_arg1)) (m ((c : Thread nD τ).loc main_arg2)) (m ((c : Thread nD τ).loc main_arg3)) (ix2 s k)
abbrev MGT : Row := fun k => ((m ((c : Thread nD τ).loc main_arg3)) : FVec Ideal S1x1024 .f32) (ix2 0 k)
abbrev MG : Row := fun k => ((m ((c : Thread nD τ).loc main_arg4)) : FVec Ideal S1x1024 .f32) (ix2 0 k)
abbrev MSC : Row := fun k => ((m ((c : Thread nD τ).loc main_arg5)) : FVec Ideal S1x1024 .f32) (ix2 0 k)
abbrev MY (s : Fin 2048) : Row := fun k => ((m ((c : Thread nD τ).loc main_arg7)) : FVec Ideal S2048x1024 .f32) (ix2 s k)
abbrev MH (s : Fin 2048) : Row := fun k => ((m ((c : Thread nD τ).loc main_arg8)) : FVec Ideal S2048x1024 .f32) (ix2 s k)
abbrev MW (k : Fin 1536) : Row := fun d => ((m ((c : Thread nD τ).loc main_arg2)) : FVec Ideal S1536x1024 .f32) (ix2 k d)
/-- The stream's cotangent. -/
def MDX (s : Fin 2048) : Row := fun d => MY m c s d + dx (MX m c s) (dnRow (MH m c) (MG m c) (MSC m c) s) d

theorem V_v0 : V m c main_v0 = Cert.MidReferenceIdeal.Read.val_main_v0 (F := Ideal) (m ((c : Thread nD τ).loc main_arg0)) (m ((c : Thread nD τ).loc main_arg2)) := by
  show StableHlo.after hostOps0 _ (Proc.devRef .tc main_v0) = _
  simp only [hostOps0, TRef.binary, TRef.nullary, TRef.unary, TRef.toBuf, TRef.ofBuf, cast_eq]
  after_results_simp <;> rfl

theorem V_v3 : V m c main_v3 = Cert.MidReferenceIdeal.Read.val_main_v3 (F := Ideal) (m ((c : Thread nD τ).loc main_arg0)) (m ((c : Thread nD τ).loc main_arg1)) (m ((c : Thread nD τ).loc main_arg2)) (m ((c : Thread nD τ).loc main_arg3)) := by
  show StableHlo.after hostOps0 _ (Proc.devRef .tc main_v3) = _
  simp only [hostOps0, TRef.binary, TRef.nullary, TRef.unary, TRef.toBuf, TRef.ofBuf, cast_eq]
  after_results_simp <;> rfl

theorem V_v4 : V m c main_v4 = ((m ((c : Thread nD τ).loc main_arg2)) : FVec Ideal S1536x1024 .f32) := by
  show StableHlo.after hostOps0 _ (Proc.devRef .tc main_v4) = _
  simp only [hostOps0, TRef.binary, TRef.nullary, TRef.unary, TRef.toBuf, TRef.ofBuf, cast_eq]
  after_results_simp <;> rfl

/-! ## The blocks -/

theorem idx0 : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] ∧ win0_14.index t = ![0, 0] :=
  (by decide +kernel : ∀ t : Fin grid0.N, _)

theorem lt0 (t : Fin cfg0.N) : t.val < 8 := t.isLt.trans_eq N_0

/-- Row `s` of point `t`'s block. -/
def row (t : Fin cfg0.N) (s : Fin 256) : Fin 2048 := ⟨t.val * 256 + s, by have := lt0 t; omega⟩

theorem blk0 (t : Fin cfg0.N) (s : Fin 256) (k : Fin 1024) : iblk m c 0 t (ix2 s k) = V m c main_arg8 (ix2 (row t s) k) := by
  blk_ext [iblk, idx0 t, row]
theorem blk1 (t : Fin cfg0.N) (s : Fin 256) (k : Fin 1024) : iblk m c 1 t (ix2 s k) = V m c main_arg7 (ix2 (row t s) k) := by
  blk_ext [iblk, idx0 t, row]
theorem blk2 (t : Fin cfg0.N) (s : Fin 256) (k : Fin 1024) : iblk m c 2 t (ix2 s k) = V m c main_v3 (ix2 (row t s) k) := by
  blk_ext [iblk, idx0 t, row]
theorem blk3 (t : Fin cfg0.N) (s : Fin 256) (k : Fin 1024) : iblk m c 3 t (ix2 s k) = V m c main_v0 (ix2 (row t s) k) := by
  blk_ext [iblk, idx0 t, row]
theorem blk4 (t : Fin cfg0.N) (k : Fin 1024) : iblk m c 4 t (ix2 0 k) = V m c main_arg3 (ix2 0 k) := by
  blk_ext [iblk, idx0 t]
theorem blk5 (t : Fin cfg0.N) (k : Fin 1024) : iblk m c 5 t (ix2 0 k) = V m c main_arg4 (ix2 0 k) := by
  blk_ext [iblk, idx0 t]
theorem blk6 (t : Fin cfg0.N) (k : Fin 1024) : iblk m c 6 t (ix2 0 k) = V m c main_arg5 (ix2 0 k) := by
  blk_ext [iblk, idx0 t]
theorem blk7 (t : Fin cfg0.N) (k : Fin 1536) (d : Fin 1024) : iblk m c 7 t (ix2 k d) = V m c main_v4 (ix2 k d) := by
  blk_ext [iblk, idx0 t]

theorem bh (t : Fin cfg0.N) (s : Fin 256) : BX (iblk m c 0 t) s = MH m c (row t s) :=
  funext fun k => (blk0 m c t s k).trans (congrFun (V_main_arg8 m c) _)
theorem by_ (t : Fin cfg0.N) (s : Fin 256) : BX (iblk m c 1 t) s = MY m c (row t s) :=
  funext fun k => (blk1 m c t s k).trans (congrFun (V_main_arg7 m c) _)
theorem bx (t : Fin cfg0.N) (s : Fin 256) : BX (iblk m c 2 t) s = MX m c (row t s) :=
  funext fun k => (blk2 m c t s k).trans (congrFun (V_v3 m c) _)
theorem bmix (t : Fin cfg0.N) (s : Fin 256) : BX (iblk m c 3 t) s = MMIX m c (row t s) :=
  funext fun k => (blk3 m c t s k).trans (congrFun (V_v0 m c) _)
theorem bgt (t : Fin cfg0.N) : BV (iblk m c 4 t) = MGT m c :=
  funext fun k => (blk4 m c t k).trans (congrFun (V_main_arg3 m c) _)
theorem bg (t : Fin cfg0.N) : BV (iblk m c 5 t) = MG m c :=
  funext fun k => (blk5 m c t k).trans (congrFun (V_main_arg4 m c) _)
theorem bsc (t : Fin cfg0.N) : BV (iblk m c 6 t) = MSC m c :=
  funext fun k => (blk6 m c t k).trans (congrFun (V_main_arg5 m c) _)
theorem bw (t : Fin cfg0.N) (k : Fin 1536) (d : Fin 1024) : iblk m c 7 t (ix2 k d) = MW m c k d :=
  (blk7 m c t k d).trans (congrFun (V_v4 m c) _)

theorem dn_row (t : Fin cfg0.N) (s : Fin 256) :
    dnRow (BX (iblk m c 0 t)) (BV (iblk m c 5 t)) (BV (iblk m c 6 t)) s = dnRow (MH m c) (MG m c) (MSC m c) (row t s) := by
  funext d
  unfold dnRow dyRow
  rw [bh, bg, bsc]

theorem dxt (t : Fin cfg0.N) (s : Fin 256) (d : Fin 1024) : DXT m c t s d = MDX m c (row t s) d := by
  unfold DXT DXB MDX
  refine congrArg₂ (fun a b : EReal => a + b) (congrFun (by_ m c t s) d) ?_
  rw [bx, dn_row]

/-! ## The arrays -/

/-- The stream's cotangent, the mix's, the mix's operand's. -/
def gx : FVec Ideal S2048x1024 .f32 := fun i => MDX m c (i 0) (i 1)
def gmix : FVec Ideal S2048x1024 .bf16 := fun i => MGT m c (i 1) * MDX m c (i 0) (i 1)
def go : FVec Ideal S2048x1536 .f32 := fun i => ∑ d : Fin 1024, (MGT m c d * MDX m c (i 0) d) * MW m c (i 1) d
/-- The gain's gradient, the scale's, the shift's and the gate's. -/
def gg : FVec Ideal S1x1024 .f32 := fun i => dGain (MX m c) (MH m c) (MSC m c) (i 1)
def gsc : FVec Ideal S1x1024 .f32 := fun i => dScale (MX m c) (MH m c) (MG m c) (i 1)
def gsh : FVec Ideal S1x1024 .f32 := fun i => dShift (MH m c) (i 1)
def ggt : FVec Ideal S1x1024 .f32 := fun i => ∑ s : Fin 2048, MDX m c s (i 1) * MMIX m c s (i 1)

theorem row_eq (t : Fin cfg0.N) (s : Fin 256) (h : t.val * 256 + s.val < 2048) : (⟨t.val * 256 + s.val, h⟩ : Fin 2048) = row t s := rfl

/-- An array's entry at an index of known coordinates. -/
theorem at_ix {A B : ℕ} (f : (⟨2, ![A, B]⟩ : Shape).Idx → EReal) (a : Fin A) (b : Fin B) (i : (⟨2, ![A, B]⟩ : Shape).Idx)
    (h0 : (i 0 : ℕ) = a) (h1 : (i 1 : ℕ) = b) : f i = f (ix2 a b) :=
  congrArg f (by rw [eq_ix2 i]; exact congrArg₂ ix2 (Fin.ext h0) (Fin.ext h1))

theorem arr8 : (dats m 0 c).arrAt 8 cfg0.N = gx m c := by
  refine (dats m 0 c).arrAt_eq_of_covers 8 _ (by decide +kernel) fun t _ y => ?_
  blk_simp
  rw [after0_8]
  obtain ⟨s, d, rfl⟩ := rowcol (n := 256) (m := 1024) y
  trans gx m c (ix2 (row t s) d)
  · exact (out8 m c t s d).trans (dxt m c t s d)
  · refine (at_ix (gx m c) (row t s) d _ ?_ ?_).symm
    · blk_simp [idx0 t, row]
    · blk_simp [idx0 t]

theorem arr9 : (dats m 0 c).arrAt 9 cfg0.N = gmix m c := by
  refine (dats m 0 c).arrAt_eq_of_covers 9 _ (by decide +kernel) fun t _ y => ?_
  blk_simp
  rw [after0_9]
  obtain ⟨s, d, rfl⟩ := rowcol (n := 256) (m := 1024) y
  trans gmix m c (ix2 (row t s) d)
  · exact (out9 m c t s d).trans (congrArg₂ (fun a b : EReal => a * b) (congrFun (bgt m c t) d) (dxt m c t s d))
  · refine (at_ix (gmix m c) (row t s) d _ ?_ ?_).symm
    · blk_simp [idx0 t, row]
    · blk_simp [idx0 t]

theorem arr10 : (dats m 0 c).arrAt 10 cfg0.N = go m c := by
  refine (dats m 0 c).arrAt_eq_of_covers 10 _ (by decide +kernel) fun t _ y => ?_
  blk_simp
  rw [after0_10]
  obtain ⟨s, d, rfl⟩ := rowcol (n := 256) (m := 1536) y
  trans go m c (ix2 (row t s) d)
  · exact (out10 m c t s d).trans (Finset.sum_congr rfl fun k _ => congrArg₂ (fun a b : EReal => a * b)
      (congrArg₂ (fun a b : EReal => a * b) (congrFun (bgt m c t) k) (dxt m c t s k)) (bw m c t d k))
  · refine (at_ix (go m c) (row t s) d _ ?_ ?_).symm
    · blk_simp [idx0 t, row]
    · blk_simp [idx0 t]

theorem arr11 : (dats m 0 c).arrAt 11 cfg0.N = gg m c := by
  refine (dats m 0 c).arrAt_eq_of_after_last 11 t0_7 (by decide +kernel) _ fun j => ?_
  blk_simp
  obtain ⟨z, d, rfl⟩ := rowcol (n := 1) (m := 1024) j
  obtain rfl : z = 0 := Subsingleton.elim _ _
  rw [after0_11, Pipeline.eq_sum_fin_of_reset_step_last (fun n h => (outsAt0 m c n h).2.2.2.1 (ix2 0 d)) 8 (0 : EReal)
    (fun t => dGain (BX (iblk m c 2 t)) (BX (iblk m c 0 t)) (BV (iblk m c 6 t)) d)
    (fun t h => out11_A m c t h d) (fun t h => out11_B m c t h d) (le_of_eq N_0) t0_7 rfl, zero_add]
  refine Fin.sum_mul_add_congr fun t s hl => ?_
  rw [row_eq, bx, bsc]
  unfold dyRow
  rw [bh]
  rfl

theorem arr12 : (dats m 0 c).arrAt 12 cfg0.N = gsc m c := by
  refine (dats m 0 c).arrAt_eq_of_after_last 12 t0_7 (by decide +kernel) _ fun j => ?_
  blk_simp
  obtain ⟨z, d, rfl⟩ := rowcol (n := 1) (m := 1024) j
  obtain rfl : z = 0 := Subsingleton.elim _ _
  rw [after0_12, Pipeline.eq_sum_fin_of_reset_step_last (fun n h => (outsAt0 m c n h).2.2.2.2.1 (ix2 0 d)) 8 (0 : EReal)
    (fun t => dScale (BX (iblk m c 2 t)) (BX (iblk m c 0 t)) (BV (iblk m c 5 t)) d)
    (fun t h => out12_A m c t h d) (fun t h => out12_B m c t h d) (le_of_eq N_0) t0_7 rfl, zero_add]
  refine Fin.sum_mul_add_congr fun t s hl => ?_
  rw [row_eq, bh]
  unfold yRow
  rw [bx, bg]
  rfl

theorem arr13 : (dats m 0 c).arrAt 13 cfg0.N = gsh m c := by
  refine (dats m 0 c).arrAt_eq_of_after_last 13 t0_7 (by decide +kernel) _ fun j => ?_
  blk_simp
  obtain ⟨z, d, rfl⟩ := rowcol (n := 1) (m := 1024) j
  obtain rfl : z = 0 := Subsingleton.elim _ _
  rw [after0_13, Pipeline.eq_sum_fin_of_reset_step_last (fun n h => (outsAt0 m c n h).2.2.2.2.2.1 (ix2 0 d)) 8 (0 : EReal)
    (fun t => dShift (BX (iblk m c 0 t)) d)
    (fun t h => out13_A m c t h d) (fun t h => out13_B m c t h d) (le_of_eq N_0) t0_7 rfl, zero_add]
  refine Fin.sum_mul_add_congr fun t s hl => ?_
  rw [row_eq, bh]
  rfl

theorem arr14 : (dats m 0 c).arrAt 14 cfg0.N = ggt m c := by
  refine (dats m 0 c).arrAt_eq_of_after_last 14 t0_7 (by decide +kernel) _ fun j => ?_
  blk_simp
  obtain ⟨z, d, rfl⟩ := rowcol (n := 1) (m := 1024) j
  obtain rfl : z = 0 := Subsingleton.elim _ _
  rw [after0_14, Pipeline.eq_sum_fin_of_reset_step_last (fun n h => (outsAt0 m c n h).2.2.2.2.2.2 (ix2 0 d)) 8 (0 : EReal)
    (fun t => ∑ s : Fin 256, DXT m c t s d * BX (iblk m c 3 t) s d)
    (fun t h => out14_A m c t h d) (fun t h => out14_B m c t h d) (le_of_eq N_0) t0_7 rfl, zero_add]
  refine Fin.sum_mul_add_congr fun t s hl => ?_
  rw [row_eq, dxt, bmix]
  rfl

end Cert.MidIdeal.Own

end
-- ==== Proof.CMid.lean ====
/- The middle backward call: its frames, and its values against the reference's. -/
module

public import proofs.«01_k».proof.Defs
public import proofs.«01_k».proof.Proof.Gen.Mid
public import proofs.«01_k».proof.Proof.Gen.Mid.Frame
public import proofs.«01_k».proof.Proof.Gen.MidIdeal
public import proofs.«01_k».proof.Proof.Gen.MidReferenceIdeal
public import proofs.«01_k».proof.Proof.Gen.MidReferenceIdeal.Run
public import proofs.«01_k».proof.Proof.MRVal
public import proofs.«01_k».proof.Proof.MKArr
public import proofs.«01_k».proof.Proof.Finite
public import Idealize.ShloMosaic.Lib.Claim

@[expose] public section

set_option maxRecDepth 16384

noncomputable section

namespace Cert.Pre_mid_finite

open Idealize.ShloMosaic Cert.Ffn
open Cert.Pre_arguments_finite (fin_of_all and_left and_right)

/-- The side conditions of the precondition's operations. -/
instance facts : Facts where
  bcast_S_S2048x1536 := by decide
  reducesTo_S2048x1536_S_d0_1 := by decide
  h_S_ := by decide
  bcast_S_S2048x1024 := by decide
  reducesTo_S2048x1024_S_d0_1 := by decide
  bcast_S_S1536x1024 := by decide
  reducesTo_S1536x1024_S_d0_1 := by decide
  bcast_S_S1x1024 := by decide
  reducesTo_S1x1024_S_d0_1 := by decide

/-- Where the precondition holds, all nine arguments are finite throughout. -/
theorem finite (x0 : FVec Ideal S2048x1536 .f32) (x1 : FVec Ideal S2048x1024 .f32) (x2 : FVec Ideal S1536x1024 .f32)
    (x3 x4 x5 x6 : FVec Ideal S1x1024 .f32) (x7 x8 : FVec Ideal S2048x1024 .f32)
    (h : fn (F := Ideal) x0 x1 x2 x3 x4 x5 x6 x7 x8 = fun _ => 1#1) :
    (∀ i, Fin' (x0 i)) ∧ (∀ i, Fin' (x1 i)) ∧ (∀ i, Fin' (x2 i)) ∧ (∀ i, Fin' (x3 i)) ∧ (∀ i, Fin' (x4 i)) ∧ (∀ i, Fin' (x5 i))
      ∧ (∀ i, Fin' (x6 i)) ∧ (∀ i, Fin' (x7 i)) ∧ ∀ i, Fin' (x8 i) := by
  have h0 := congrFun h (Shape.Idx.first facts.h_S_)
  unfold fn fn_part1 fn_part2 at h0
  have h1 := and_left h0
  have h2 := and_left h1
  have h3 := and_left h2
  have h4 := and_left h3
  have h5 := and_left h4
  have h6 := and_left h5
  have h7 := and_left h6
  exact ⟨fin_of_all x0 _ _ _ _ (and_left h7), fin_of_all x1 _ _ _ _ (and_right h7), fin_of_all x2 _ _ _ _ (and_right h6),
    fin_of_all x3 _ _ _ _ (and_right h5), fin_of_all x4 _ _ _ _ (and_right h4), fin_of_all x5 _ _ _ _ (and_right h3),
    fin_of_all x6 _ _ _ _ (and_right h2), fin_of_all x7 _ _ _ _ (and_right h1), fin_of_all x8 _ _ _ _ (and_right h0)⟩

end Cert.Pre_mid_finite

namespace Cert.Proof.Mid

open Idealize.ShloMosaic Idealize.SL.Sem
open Cert.MidIdeal Cert.MidIdeal.Gen Cert.MidIdeal.Own
open Cert.MidReferenceIdeal.Read Cert.MidReferenceIdeal.Own
open Cert.Norm (rowcol Row)

theorem frame_bits : Cert.quiescent_Mid := fun m g _ => Cert.Mid.Gen.frame m g
theorem frame_ideal : Cert.quiescent_MidIdeal := fun m g _ => Cert.MidIdeal.Gen.frame m g
theorem frame_ideal_pre : Cert.quiescent_MidIdeal_pre_mid_finite := fun m g _ => Cert.MidIdeal.Gen.frame m g
theorem frame_reference : Cert.quiescent_MidReferenceIdeal := fun m g _ =>
  (θ_run Cert.MidReferenceIdeal.defs _ _).mono
    (fun r h => ⟨fun c => (h c).2.2.2.2.2.2.2, sem_eq_zero_of_no_sems (by decide) r.2⟩)
    (Cert.MidReferenceIdeal.Value.run (F := Ideal) m g)
theorem frame_reference_pre : Cert.quiescent_MidReferenceIdeal_pre_mid_finite := fun m g _ => frame_reference m g trivial

variable (m : (ℓ : Loc nD τ sig) → Buf (Elt Ideal) ℓ) (c : Dev nD)

/-- The stream's cotangent, entry by entry; the three results over it and the gate's gradient follow from it. -/
theorem v52_at (hpre : Cert.Pre_MidIdeal_mid_finite m) (s : Fin 2048) (d : Fin 1024) :
    val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (ix2 s d) = MDX m c s d := by
  obtain ⟨h0, h1, h2, h3, h4, h5, h6, h7, h8⟩ := Cert.Pre_mid_finite.finite _ _ _ _ _ _ _ _ _ (hpre c)
  exact dx_at _ _ _ _ _ _ _ _ s d (fun s k => x_fin _ _ _ _ s k h0 h1 h2 h3) h4 h5 h7 h8

theorem v52 (hpre : Cert.Pre_MidIdeal_mid_finite m) :
    val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) = gx m c := by
  funext i
  obtain ⟨s, d, rfl⟩ := rowcol (n := 2048) (m := 1024) i
  exact v52_at m c hpre s d

theorem v60 (hpre : Cert.Pre_MidIdeal_mid_finite m) :
    val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) = gmix m c := by
  funext i
  obtain ⟨s, d, rfl⟩ := rowcol (n := 2048) (m := 1024) i
  refine (dmix_at _ _ _ _ _ _ _ _ s d).trans ?_
  rw [v52_at m c hpre]
  rfl

theorem v59 (hpre : Cert.Pre_MidIdeal_mid_finite m) :
    val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) = go m c := by
  funext i
  obtain ⟨s, d, rfl⟩ := rowcol (n := 2048) (m := 1536) i
  refine (do_at _ _ _ _ _ _ _ _ s d).trans ?_
  simp only [v52_at m c hpre]
  rfl

theorem v35 :
    val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg8)) = gg m c := by
  funext i
  obtain ⟨z, d, rfl⟩ := rowcol (n := 1) (m := 1024) i
  obtain rfl : z = 0 := Subsingleton.elim _ _
  exact dg_at _ _ _ _ _ _ d

theorem v30 :
    val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) = gsc m c := by
  funext i
  obtain ⟨z, d, rfl⟩ := rowcol (n := 1) (m := 1024) i
  obtain rfl : z = 0 := Subsingleton.elim _ _
  exact dsc_at _ _ _ _ _ _ d

theorem v27 :
    val_main_v27 (F := Ideal) (m ((c.tc : Thread nD τ).loc main_arg8)) = gsh m c := by
  funext i
  obtain ⟨z, d, rfl⟩ := rowcol (n := 1) (m := 1024) i
  obtain rfl : z = 0 := Subsingleton.elim _ _
  exact dsh_at _ d

theorem v58 (hpre : Cert.Pre_MidIdeal_mid_finite m) :
    val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) = ggt m c := by
  funext i
  obtain ⟨z, d, rfl⟩ := rowcol (n := 1) (m := 1024) i
  obtain rfl : z = 0 := Subsingleton.elim _ _
  refine (dgate_at _ _ _ _ _ _ _ _ d).trans ?_
  simp only [v52_at m c hpre]
  rfl

/-- From finite arguments, kernel and reference leave the same seven results. -/
theorem algebraic : Cert.algebraic_MidIdeal_MidReferenceIdeal_pre_mid_finite := fun m g m' g' hpre hagree =>
  ⟨fun c => gx m c, fun c => gmix m c, fun c => go m c, fun c => gg m c, fun c => gsc m c, fun c => gsh m c, fun c => ggt m c,
    (θ_run Cert.MidIdeal.defs _ _).mono (fun _ h c => ⟨((h c).1).trans (arr8 m c), ((h c).2.1).trans (arr9 m c),
      ((h c).2.2.1).trans (arr10 m c), ((h c).2.2.2.1).trans (arr11 m c), ((h c).2.2.2.2.1).trans (arr12 m c),
      ((h c).2.2.2.2.2.1).trans (arr13 m c), ((h c).2.2.2.2.2.2.1).trans (arr14 m c),
      (h c).2.2.2.2.2.2.2⟩) (Cert.MidIdeal.Value.run_blocks m g),
    (θ_run Cert.MidReferenceIdeal.defs _ _).mono (fun _ h c => by
      obtain ⟨e0, e1, e2, e3, e4, e5, e6, e7, e8⟩ := hagree c
      refine ⟨((h c).1).trans ?_, ((h c).2.1).trans ?_, ((h c).2.2.1).trans ?_, ((h c).2.2.2.1).trans ?_,
        ((h c).2.2.2.2.1).trans ?_, ((h c).2.2.2.2.2.1).trans ?_, ((h c).2.2.2.2.2.2.1).trans ?_, (h c).2.2.2.2.2.2.2⟩
      · rw [val_main_v52_eq, e0, e1, e2, e3, e4, e5, e7, e8]; exact v52 m c hpre
      · rw [val_main_v60_eq, e0, e1, e2, e3, e4, e5, e7, e8]; exact v60 m c hpre
      · rw [val_main_v59_eq, e0, e1, e2, e3, e4, e5, e7, e8]; exact v59 m c hpre
      · refine (val_main_v35_eq _ _ _ _ _ _).trans ?_
        rw [e0, e1, e2, e3, e5, e8]; exact v35 m c
      · refine (val_main_v30_eq _ _ _ _ _ _).trans ?_
        rw [e0, e1, e2, e3, e4, e8]; exact v30 m c
      · refine (val_main_v27_eq _).trans ?_
        rw [e8]; exact v27 m c
      · rw [val_main_v58_eq, e0, e1, e2, e3, e4, e5, e7, e8]; exact v58 m c hpre) (Cert.MidReferenceIdeal.Value.run m' g')⟩

end Cert.Proof.Mid

end
-- ==== Proof.WProj.lean ====
/- The projection weight's gradient: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.ProjWgrad.Frame
public import proofs.«01_k».proof.Proof.Gen.ProjWgradIdeal.Value
public import proofs.«01_k».proof.Proof.Gen.ProjWgradReferenceIdeal.Read
public import proofs.«01_k».proof.Proof.Norm

@[expose] public section

set_option maxRecDepth 16384

noncomputable section

namespace Cert.ProjWgradIdeal.Own

open Cert.ProjWgradIdeal Cert.ProjWgradIdeal.Gen
open Idealize.ShloMosaic Idealize.ShloMosaic.TcCoe Idealize.ShloMosaic.Tactic Idealize.SL.Sem
open Idealize.ShloMosaic.StableHlo Cert.Norm

theorem pay1_at (p : FVec Ideal S2048x2432 .bf16) (h : FVec Ideal S2048x512 .bf16) (r : Fin 2432) (d : Fin 512) :
    k0_pay1 (F := Ideal) p h (ix2 r d) = ∑ s : Fin 2048, p (ix2 s r) * h (ix2 s d) := by
  pointwise [k0_pay1]

variable (m : (ℓ : Loc nD τ sig) → Buf (Elt Ideal) ℓ) (c : Dev nD)

abbrev MP : FVec Ideal S2048x2432 .f32 := m ((c : Thread nD τ).loc main_arg4)
/-- The modulated norm, as the host computes it for both programs. -/
abbrev MH : FVec Ideal S2048x1024 .f32 :=
  Cert.ProjWgradReferenceIdeal.Read.val_main_v17 (F := Ideal) (m ((c : Thread nD τ).loc main_arg0)) (m ((c : Thread nD τ).loc main_arg1))
    (m ((c : Thread nD τ).loc main_arg2)) (m ((c : Thread nD τ).loc main_arg3))

theorem V_v19 : V m c main_v19 = MP m c := by
  show StableHlo.after hostOps0 _ (Proc.devRef .tc main_v19) = _
  simp only [hostOps0, TRef.binary, TRef.nullary, TRef.unary, TRef.toBuf, TRef.ofBuf, cast_eq]
  after_results_simp <;> rfl

theorem V_v18 : V m c main_v18 = MH m c := by
  show StableHlo.after hostOps0 _ (Proc.devRef .tc main_v18) = _
  simp only [hostOps0, TRef.binary, TRef.nullary, TRef.unary, TRef.toBuf, TRef.ofBuf, cast_eq]
  after_results_simp <;> rfl

theorem idx0 : ∀ t : Fin cfg0.N, win0_0.index t = ![0, 0] ∧ win0_1.index t = ![0, t.val] ∧ win0_2.index t = ![0, t.val] :=
  (by decide +kernel : ∀ t : Fin grid0.N, _)

theorem lt0 (t : Fin cfg0.N) : t.val < 2 := t.isLt.trans_eq (by decide : cfg0.N = 2)

/-- Column `d` of point `t`'s block. -/
def col (t : Fin cfg0.N) (d : Fin 512) : Fin 1024 := ⟨t.val * 512 + d, by have := lt0 t; omega⟩

theorem blk0 (t : Fin cfg0.N) (s : Fin 2048) (r : Fin 2432) : iblk m c 0 t (ix2 s r) = V m c main_v19 (ix2 s r) := by
  blk_ext [iblk, idx0 t]
theorem blk1 (t : Fin cfg0.N) (s : Fin 2048) (d : Fin 512) : iblk m c 1 t (ix2 s d) = V m c main_v18 (ix2 s (col t d)) := by
  blk_ext [iblk, idx0 t, col]

/-- The weight's gradient. -/
def gw : FVec Ideal S2432x1024 .bf16 := fun i => ∑ s : Fin 2048, MP m c (ix2 s (i 0)) * MH m c (ix2 s (i 1))

theorem gw_at (r : Fin 2432) (d : Fin 1024) (i : S2432x1024.Idx) (h0 : (i 0 : ℕ) = r) (h1 : (i 1 : ℕ) = d) :
    gw m c i = ∑ s : Fin 2048, MP m c (ix2 s r) * MH m c (ix2 s d) := by
  obtain rfl : i 0 = r := Fin.ext h0
  obtain rfl : i 1 = d := Fin.ext h1
  rfl

theorem out2 (t : Fin cfg0.N) (r : Fin 2432) (d : Fin 512) :
    out0_2 (iblk m c 0 t) (iblk m c 1 t) (ix2 r d) = ∑ s : Fin 2048, MP m c (ix2 s r) * MH m c (ix2 s (col t d)) := by
  trans ∑ s : Fin 2048, (show EReal from iblk m c 0 t (ix2 s r)) * (show EReal from iblk m c 1 t (ix2 s d))
  · generalize iblk m c 0 t = x0
    generalize iblk m c 1 t = x1
    unfold out0_2
    frame_out
    exact pay1_at x0 x1 r d
  · refine Finset.sum_congr rfl fun s _ => congrArg₂ (fun a b : EReal => a * b) ?_ ?_
    · exact (blk0 m c t s r).trans (congrFun (V_v19 m c) _)
    · exact (blk1 m c t s d).trans (congrFun (V_v18 m c) _)

theorem arr2 : (dats m 0 c).arrAt 2 cfg0.N = gw m c := by
  refine (dats m 0 c).arrAt_eq_of_covers 2 _ (by decide +kernel) fun t _ y => ?_
  blk_simp
  rw [after0_2]
  obtain ⟨r, d, rfl⟩ := rowcol (n := 2432) (m := 512) y
  refine (out2 m c t r d).trans (gw_at m c r (col t d) _ ?_ ?_).symm
  · blk_simp [idx0 t]
  · blk_simp [idx0 t, col]

end Cert.ProjWgradIdeal.Own

namespace Cert.Proof.ProjWgrad

open Idealize.ShloMosaic Idealize.SL.Sem
open Cert.ProjWgradIdeal Cert.ProjWgradIdeal.Gen Cert.ProjWgradIdeal.Own
open Cert.ProjWgradReferenceIdeal.Read
open Cert.Norm (rowcol)

theorem frame_bits : Cert.quiescent_ProjWgrad := fun m g _ => Cert.ProjWgrad.Gen.frame m g
theorem frame_ideal : Cert.quiescent_ProjWgradIdeal := fun m g _ => Cert.ProjWgradIdeal.Gen.frame m g
theorem frame_reference : Cert.quiescent_ProjWgradReferenceIdeal := fun m g _ =>
  (θ_run Cert.ProjWgradReferenceIdeal.defs _ _).mono
    (fun r h => ⟨fun c => (h c).2, sem_eq_zero_of_no_sems (by decide) r.2⟩)
    (Cert.ProjWgradReferenceIdeal.Value.run (F := Ideal) m g)

theorem v23_at (a : (⟨S2048x1024, .f32⟩ : BufTy).Contents (Elt Ideal)) (g sc sh : (⟨S1x1024, .f32⟩ : BufTy).Contents (Elt Ideal))
    (p : (⟨S2048x2432, .f32⟩ : BufTy).Contents (Elt Ideal)) (r : Fin 2432) (d : Fin 1024) :
    val_main_v23 (F := Ideal) a g sc sh p (ix2 r d) = ∑ s : Fin 2048, p (ix2 s r) * val_main_v17 (F := Ideal) a g sc sh (ix2 s d) := by
  unfold val_main_v23 val_main_v22 val_main_v21 val_main_v20
  generalize val_main_v17 (F := Ideal) a g sc sh = h
  pointwise

theorem v23 (m : (ℓ : Loc nD τ sig) → Buf (Elt Ideal) ℓ) (c : Dev nD) :
    val_main_v23 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = gw m c := by
  funext i
  obtain ⟨r, d, rfl⟩ := rowcol (n := 2432) (m := 1024) i
  exact v23_at _ _ _ _ _ r d

/-- Kernel and reference leave the same gradient. -/
theorem algebraic : Cert.algebraic_ProjWgradIdeal_ProjWgradReferenceIdeal := fun m g m' g' _ hagree =>
  ⟨fun c => gw m c,
    (θ_run Cert.ProjWgradIdeal.defs _ _).mono (fun _ h c => ⟨((h c).1).trans (arr2 m c), (h c).2⟩) (Cert.ProjWgradIdeal.Value.run_blocks m g),
    (θ_run Cert.ProjWgradReferenceIdeal.defs _ _).mono (fun _ h c => by
      obtain ⟨e0, e1, e2, e3, e4⟩ := hagree c
      refine ⟨((h c).1).trans ((val_main_v23_eq _ _ _ _ _).trans ?_), (h c).2⟩
      rw [e0, e1, e2, e3, e4]; exact v23 m c) (Cert.ProjWgradReferenceIdeal.Value.run m' g')⟩

end Cert.Proof.ProjWgrad

end
-- ==== Proof.WMix.lean ====
/- The mix weight's gradient: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.MixWgrad.Frame
public import proofs.«01_k».proof.Proof.Gen.MixWgradIdeal.Value
public import proofs.«01_k».proof.Proof.Gen.MixWgradReferenceIdeal.Read
public import proofs.«01_k».proof.Proof.Norm

@[expose] public section

set_option maxRecDepth 16384

noncomputable section

namespace Cert.MixWgradIdeal.Own

open Cert.MixWgradIdeal Cert.MixWgradIdeal.Gen
open Idealize.ShloMosaic Idealize.ShloMosaic.TcCoe Idealize.ShloMosaic.Tactic Idealize.SL.Sem
open Idealize.ShloMosaic.StableHlo Cert.Norm

theorem pay1_at (o : FVec Ideal S2048x512 .f32) (g : FVec Ideal S2048x1024 .bf16) (r : Fin 512) (d : Fin 1024) :
    k0_pay1 (F := Ideal) o g (ix2 r d) = ∑ s : Fin 2048, o (ix2 s r) * g (ix2 s d) := by
  pointwise [k0_pay1]

variable (m : (ℓ : Loc nD τ sig) → Buf (Elt Ideal) ℓ) (c : Dev nD)

abbrev MO : FVec Ideal S2048x1536 .f32 := m ((c : Thread nD τ).loc main_arg0)
abbrev MD : FVec Ideal S2048x1024 .f32 := m ((c : Thread nD τ).loc main_arg1)

theorem V_v0 : V m c main_v0 = MD m c := by
  show StableHlo.after hostOps0 _ (Proc.devRef .tc main_v0) = _
  simp only [hostOps0, TRef.binary, TRef.nullary, TRef.unary, TRef.toBuf, TRef.ofBuf, cast_eq]
  after_results_simp <;> rfl

theorem idx0 : ∀ t : Fin cfg0.N, win0_0.index t = ![0, t.val] ∧ win0_1.index t = ![0, 0] ∧ win0_2.index t = ![t.val, 0] :=
  (by decide +kernel : ∀ t : Fin grid0.N, _)

theorem lt0 (t : Fin cfg0.N) : t.val < 3 := t.isLt.trans_eq (by decide : cfg0.N = 3)

/-- Column `r` of point `t`'s block: a row of the result. -/
def row (t : Fin cfg0.N) (r : Fin 512) : Fin 1536 := ⟨t.val * 512 + r, by have := lt0 t; omega⟩

theorem blk0 (t : Fin cfg0.N) (s : Fin 2048) (r : Fin 512) : iblk m c 0 t (ix2 s r) = V m c main_arg0 (ix2 s (row t r)) := by
  blk_ext [iblk, idx0 t, row]
theorem blk1 (t : Fin cfg0.N) (s : Fin 2048) (d : Fin 1024) : iblk m c 1 t (ix2 s d) = V m c main_v0 (ix2 s d) := by
  blk_ext [iblk, idx0 t]

/-- The weight's gradient. -/
def gw : FVec Ideal S1536x1024 .bf16 := fun i => ∑ s : Fin 2048, MO m c (ix2 s (i 0)) * MD m c (ix2 s (i 1))

theorem gw_at (r : Fin 1536) (d : Fin 1024) (i : S1536x1024.Idx) (h0 : (i 0 : ℕ) = r) (h1 : (i 1 : ℕ) = d) :
    gw m c i = ∑ s : Fin 2048, MO m c (ix2 s r) * MD m c (ix2 s d) := by
  obtain rfl : i 0 = r := Fin.ext h0
  obtain rfl : i 1 = d := Fin.ext h1
  rfl

theorem out2 (t : Fin cfg0.N) (r : Fin 512) (d : Fin 1024) :
    out0_2 (iblk m c 0 t) (iblk m c 1 t) (ix2 r d) = ∑ s : Fin 2048, MO m c (ix2 s (row t r)) * MD m c (ix2 s d) := by
  trans ∑ s : Fin 2048, (show EReal from iblk m c 0 t (ix2 s r)) * (show EReal from iblk m c 1 t (ix2 s d))
  · generalize iblk m c 0 t = x0
    generalize iblk m c 1 t = x1
    unfold out0_2
    frame_out
    exact pay1_at x0 x1 r d
  · refine Finset.sum_congr rfl fun s _ => congrArg₂ (fun a b : EReal => a * b) ?_ ?_
    · exact (blk0 m c t s r).trans (congrFun (V_main_arg0 m c) _)
    · exact (blk1 m c t s d).trans (congrFun (V_v0 m c) _)

theorem arr2 : (dats m 0 c).arrAt 2 cfg0.N = gw m c := by
  refine (dats m 0 c).arrAt_eq_of_covers 2 _ (by decide +kernel) fun t _ y => ?_
  blk_simp
  rw [after0_2]
  obtain ⟨r, d, rfl⟩ := rowcol (n := 512) (m := 1024) y
  refine (out2 m c t r d).trans (gw_at m c (row t r) d _ ?_ ?_).symm
  · blk_simp [idx0 t, row]
  · blk_simp [idx0 t]

end Cert.MixWgradIdeal.Own

namespace Cert.Proof.MixWgrad

open Idealize.ShloMosaic Idealize.SL.Sem
open Cert.MixWgradIdeal Cert.MixWgradIdeal.Gen Cert.MixWgradIdeal.Own
open Cert.MixWgradReferenceIdeal.Read
open Cert.Norm (rowcol)

theorem frame_bits : Cert.quiescent_MixWgrad := fun m g _ => Cert.MixWgrad.Gen.frame m g
theorem frame_ideal : Cert.quiescent_MixWgradIdeal := fun m g _ => Cert.MixWgradIdeal.Gen.frame m g
theorem frame_reference : Cert.quiescent_MixWgradReferenceIdeal := fun m g _ =>
  (θ_run Cert.MixWgradReferenceIdeal.defs _ _).mono
    (fun r h => ⟨fun c => (h c).2, sem_eq_zero_of_no_sems (by decide) r.2⟩)
    (Cert.MixWgradReferenceIdeal.Value.run (F := Ideal) m g)

theorem v4_at (a : (⟨S2048x1536, .f32⟩ : BufTy).Contents (Elt Ideal)) (b : (⟨S2048x1024, .f32⟩ : BufTy).Contents (Elt Ideal)) (r : Fin 1536) (d : Fin 1024) :
    val_main_v4 (F := Ideal) a b (ix2 r d) = ∑ s : Fin 2048, a (ix2 s r) * b (ix2 s d) := by
  pointwise [val_main_v4, val_main_v3, val_main_v2]
  exact Finset.sum_congr rfl fun s _ => mul_comm _ _

theorem v4 (m : (ℓ : Loc nD τ sig) → Buf (Elt Ideal) ℓ) (c : Dev nD) :
    val_main_v4 (F := Ideal) (m ((c.tc : Thread nD τ).loc main_arg0)) (m ((c.tc : Thread nD τ).loc main_arg1)) = gw m c := by
  funext i
  obtain ⟨r, d, rfl⟩ := rowcol (n := 1536) (m := 1024) i
  exact v4_at _ _ r d

/-- Kernel and reference leave the same gradient. -/
theorem algebraic : Cert.algebraic_MixWgradIdeal_MixWgradReferenceIdeal := fun m g m' g' _ hagree =>
  ⟨fun c => gw m c,
    (θ_run Cert.MixWgradIdeal.defs _ _).mono (fun _ h c => ⟨((h c).1).trans (arr2 m c), (h c).2⟩) (Cert.MixWgradIdeal.Value.run_blocks m g),
    (θ_run Cert.MixWgradReferenceIdeal.defs _ _).mono (fun _ h c => by
      obtain ⟨e0, e1⟩ := hagree c
      refine ⟨((h c).1).trans ((val_main_v4_eq _ _).trans ?_), (h c).2⟩
      rw [e0, e1]; exact v4 m c) (Cert.MixWgradReferenceIdeal.Value.run m' g')⟩

end Cert.Proof.MixWgrad

end
-- ==== Proof.WQ.lean ====
/- The query weight's gradient: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.QWgrad.Frame
public import proofs.«01_k».proof.Proof.Gen.QWgradIdeal.Value
public import proofs.«01_k».proof.Proof.Gen.QWgradReferenceIdeal.Read
public import proofs.«01_k».proof.Proof.Norm

@[expose] public section

set_option maxRecDepth 16384

noncomputable section

namespace Cert.QWgradIdeal.Own

open Cert.QWgradIdeal Cert.QWgradIdeal.Gen
open Idealize.ShloMosaic Idealize.ShloMosaic.TcCoe Idealize.ShloMosaic.Tactic Idealize.SL.Sem
open Idealize.ShloMosaic.StableHlo Cert.Norm

theorem pay1_at (q : FVec Ideal S2048x1024 .bf16) (l : FVec Ideal S2048x512 .bf16) (r : Fin 1024) (d : Fin 512) :
    k0_pay1 (F := Ideal) q l (ix2 r d) = ∑ s : Fin 2048, q (ix2 s r) * l (ix2 s d) := by
  pointwise [k0_pay1]

variable (m : (ℓ : Loc nD τ sig) → Buf (Elt Ideal) ℓ) (c : Dev nD)

abbrev MQ : FVec Ideal S2048x1024 .f32 := m ((c : Thread nD τ).loc main_arg2)
/-- The normalized latent rows, as the host computes them for both programs. -/
abbrev ML : FVec Ideal S2048x512 .f32 :=
  Cert.QWgradReferenceIdeal.Read.val_main_v12 (F := Ideal) (m ((c : Thread nD τ).loc main_arg0)) (m ((c : Thread nD τ).loc main_arg1))

theorem V_v13 : V m c main_v13 = MQ m c := by
  show StableHlo.after hostOps0 _ (Proc.devRef .tc main_v13) = _
  simp only [hostOps0, TRef.binary, TRef.nullary, TRef.unary, TRef.toBuf, TRef.ofBuf, cast_eq]
  after_results_simp <;> rfl

theorem V_v12 : V m c main_v12 = ML m c := by
  show StableHlo.after hostOps0 _ (Proc.devRef .tc main_v12) = _
  simp only [hostOps0, TRef.binary, TRef.nullary, TRef.unary, TRef.toBuf, TRef.ofBuf, cast_eq]
  after_results_simp <;> rfl

theorem idx0 : ∀ t : Fin cfg0.N, win0_0.index t = ![0, 0] ∧ win0_1.index t = ![0, 0] ∧ win0_2.index t = ![0, 0] :=
  (by decide +kernel : ∀ t : Fin grid0.N, _)

theorem blk0 (t : Fin cfg0.N) (s : Fin 2048) (r : Fin 1024) : iblk m c 0 t (ix2 s r) = V m c main_v13 (ix2 s r) := by
  blk_ext [iblk, idx0 t]
theorem blk1 (t : Fin cfg0.N) (s : Fin 2048) (d : Fin 512) : iblk m c 1 t (ix2 s d) = V m c main_v12 (ix2 s d) := by
  blk_ext [iblk, idx0 t]

/-- The weight's gradient. -/
def gw : FVec Ideal S1024x512 .bf16 := fun i => ∑ s : Fin 2048, MQ m c (ix2 s (i 0)) * ML m c (ix2 s (i 1))

theorem gw_at (r : Fin 1024) (d : Fin 512) (i : S1024x512.Idx) (h0 : (i 0 : ℕ) = r) (h1 : (i 1 : ℕ) = d) :
    gw m c i = ∑ s : Fin 2048, MQ m c (ix2 s r) * ML m c (ix2 s d) := by
  obtain rfl : i 0 = r := Fin.ext h0
  obtain rfl : i 1 = d := Fin.ext h1
  rfl

theorem out2 (t : Fin cfg0.N) (r : Fin 1024) (d : Fin 512) :
    out0_2 (iblk m c 0 t) (iblk m c 1 t) (ix2 r d) = ∑ s : Fin 2048, MQ m c (ix2 s r) * ML m c (ix2 s d) := by
  trans ∑ s : Fin 2048, (show EReal from iblk m c 0 t (ix2 s r)) * (show EReal from iblk m c 1 t (ix2 s d))
  · generalize iblk m c 0 t = x0
    generalize iblk m c 1 t = x1
    unfold out0_2
    frame_out
    exact pay1_at x0 x1 r d
  · refine Finset.sum_congr rfl fun s _ => congrArg₂ (fun a b : EReal => a * b) ?_ ?_
    · exact (blk0 m c t s r).trans (congrFun (V_v13 m c) _)
    · exact (blk1 m c t s d).trans (congrFun (V_v12 m c) _)

theorem arr2 : (dats m 0 c).arrAt 2 cfg0.N = gw m c := by
  refine (dats m 0 c).arrAt_eq_of_covers 2 _ (by decide +kernel) fun t _ y => ?_
  blk_simp
  rw [after0_2]
  obtain ⟨r, d, rfl⟩ := rowcol (n := 1024) (m := 512) y
  refine (out2 m c t r d).trans (gw_at m c r d _ ?_ ?_).symm
  · blk_simp [idx0 t]
  · blk_simp [idx0 t]

end Cert.QWgradIdeal.Own

namespace Cert.Proof.QWgrad

open Idealize.ShloMosaic Idealize.SL.Sem
open Cert.QWgradIdeal Cert.QWgradIdeal.Gen Cert.QWgradIdeal.Own
open Cert.QWgradReferenceIdeal.Read
open Cert.Norm (rowcol)

theorem frame_bits : Cert.quiescent_QWgrad := fun m g _ => Cert.QWgrad.Gen.frame m g
theorem frame_ideal : Cert.quiescent_QWgradIdeal := fun m g _ => Cert.QWgradIdeal.Gen.frame m g
theorem frame_reference : Cert.quiescent_QWgradReferenceIdeal := fun m g _ =>
  (θ_run Cert.QWgradReferenceIdeal.defs _ _).mono
    (fun r h => ⟨fun c => (h c).2, sem_eq_zero_of_no_sems (by decide) r.2⟩)
    (Cert.QWgradReferenceIdeal.Value.run (F := Ideal) m g)

theorem v17_at (a : (⟨S2048x512, .f32⟩ : BufTy).Contents (Elt Ideal)) (g : (⟨S1x512, .f32⟩ : BufTy).Contents (Elt Ideal))
    (q : (⟨S2048x1024, .f32⟩ : BufTy).Contents (Elt Ideal)) (r : Fin 1024) (d : Fin 512) :
    val_main_v17 (F := Ideal) a g q (ix2 r d) = ∑ s : Fin 2048, q (ix2 s r) * val_main_v12 (F := Ideal) a g (ix2 s d) := by
  unfold val_main_v17 val_main_v16 val_main_v15 val_main_v14
  generalize val_main_v12 (F := Ideal) a g = l
  pointwise

theorem v17 (m : (ℓ : Loc nD τ sig) → Buf (Elt Ideal) ℓ) (c : Dev nD) :
    val_main_v17 (F := Ideal) (m ((c.tc : Thread nD τ).loc main_arg0)) (m ((c.tc : Thread nD τ).loc main_arg1)) (m ((c.tc : Thread nD τ).loc main_arg2)) = gw m c := by
  funext i
  obtain ⟨r, d, rfl⟩ := rowcol (n := 1024) (m := 512) i
  exact v17_at _ _ _ r d

/-- Kernel and reference leave the same gradient. -/
theorem algebraic : Cert.algebraic_QWgradIdeal_QWgradReferenceIdeal := fun m g m' g' _ hagree =>
  ⟨fun c => gw m c,
    (θ_run Cert.QWgradIdeal.defs _ _).mono (fun _ h c => ⟨((h c).1).trans (arr2 m c), (h c).2⟩) (Cert.QWgradIdeal.Value.run_blocks m g),
    (θ_run Cert.QWgradReferenceIdeal.defs _ _).mono (fun _ h c => by
      obtain ⟨e0, e1, e2⟩ := hagree c
      refine ⟨((h c).1).trans ((val_main_v17_eq _ _ _).trans ?_), (h c).2⟩
      rw [e0, e1, e2]; exact v17 m c) (Cert.QWgradReferenceIdeal.Value.run m' g')⟩

end Cert.Proof.QWgrad

end
-- ==== Proof.WKv.lean ====
/- The key-value weight's gradient: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.KvWgrad.Frame
public import proofs.«01_k».proof.Proof.Gen.KvWgradIdeal.Value
public import proofs.«01_k».proof.Proof.Gen.KvWgradReferenceIdeal.Read
public import proofs.«01_k».proof.Proof.Norm

@[expose] public section

set_option maxRecDepth 16384

noncomputable section

namespace Cert.KvWgradIdeal.Own

open Cert.KvWgradIdeal Cert.KvWgradIdeal.Gen
open Idealize.ShloMosaic Idealize.ShloMosaic.TcCoe Idealize.ShloMosaic.Tactic Idealize.SL.Sem
open Idealize.ShloMosaic.StableHlo Cert.Norm

theorem pay1_at (l : FVec Ideal S2048x256 .bf16) (q : FVec Ideal S2048x1024 .bf16) (r : Fin 256) (d : Fin 1024) :
    k0_pay1 (F := Ideal) l q (ix2 r d) = ∑ s : Fin 2048, l (ix2 s r) * q (ix2 s d) := by
  pointwise [k0_pay1]

variable (m : (ℓ : Loc nD τ sig) → Buf (Elt Ideal) ℓ) (c : Dev nD)

abbrev MQ : FVec Ideal S2048x1024 .f32 := m ((c : Thread nD τ).loc main_arg2)
/-- The normalized latent rows, as the host computes them for both programs. -/
abbrev ML : FVec Ideal S2048x256 .f32 :=
  Cert.KvWgradReferenceIdeal.Read.val_main_v12 (F := Ideal) (m ((c : Thread nD τ).loc main_arg0)) (m ((c : Thread nD τ).loc main_arg1))

theorem V_v13 : V m c main_v13 = MQ m c := by
  show StableHlo.after hostOps0 _ (Proc.devRef .tc main_v13) = _
  simp only [hostOps0, TRef.binary, TRef.nullary, TRef.unary, TRef.toBuf, TRef.ofBuf, cast_eq]
  after_results_simp <;> rfl

theorem V_v12 : V m c main_v12 = ML m c := by
  show StableHlo.after hostOps0 _ (Proc.devRef .tc main_v12) = _
  simp only [hostOps0, TRef.binary, TRef.nullary, TRef.unary, TRef.toBuf, TRef.ofBuf, cast_eq]
  after_results_simp <;> rfl

theorem idx0 : ∀ t : Fin cfg0.N, win0_0.index t = ![0, 0] ∧ win0_1.index t = ![0, 0] ∧ win0_2.index t = ![0, 0] :=
  (by decide +kernel : ∀ t : Fin grid0.N, _)

theorem blk0 (t : Fin cfg0.N) (s : Fin 2048) (r : Fin 256) : iblk m c 0 t (ix2 s r) = V m c main_v12 (ix2 s r) := by
  blk_ext [iblk, idx0 t]
theorem blk1 (t : Fin cfg0.N) (s : Fin 2048) (d : Fin 1024) : iblk m c 1 t (ix2 s d) = V m c main_v13 (ix2 s d) := by
  blk_ext [iblk, idx0 t]

/-- The weight's gradient. -/
def gw : FVec Ideal S256x1024 .bf16 := fun i => ∑ s : Fin 2048, ML m c (ix2 s (i 0)) * MQ m c (ix2 s (i 1))

theorem gw_at (r : Fin 256) (d : Fin 1024) (i : S256x1024.Idx) (h0 : (i 0 : ℕ) = r) (h1 : (i 1 : ℕ) = d) :
    gw m c i = ∑ s : Fin 2048, ML m c (ix2 s r) * MQ m c (ix2 s d) := by
  obtain rfl : i 0 = r := Fin.ext h0
  obtain rfl : i 1 = d := Fin.ext h1
  rfl

theorem out2 (t : Fin cfg0.N) (r : Fin 256) (d : Fin 1024) :
    out0_2 (iblk m c 0 t) (iblk m c 1 t) (ix2 r d) = ∑ s : Fin 2048, ML m c (ix2 s r) * MQ m c (ix2 s d) := by
  trans ∑ s : Fin 2048, (show EReal from iblk m c 0 t (ix2 s r)) * (show EReal from iblk m c 1 t (ix2 s d))
  · generalize iblk m c 0 t = x0
    generalize iblk m c 1 t = x1
    unfold out0_2
    frame_out
    exact pay1_at x0 x1 r d
  · refine Finset.sum_congr rfl fun s _ => congrArg₂ (fun a b : EReal => a * b) ?_ ?_
    · exact (blk0 m c t s r).trans (congrFun (V_v12 m c) _)
    · exact (blk1 m c t s d).trans (congrFun (V_v13 m c) _)

theorem arr2 : (dats m 0 c).arrAt 2 cfg0.N = gw m c := by
  refine (dats m 0 c).arrAt_eq_of_covers 2 _ (by decide +kernel) fun t _ y => ?_
  blk_simp
  rw [after0_2]
  obtain ⟨r, d, rfl⟩ := rowcol (n := 256) (m := 1024) y
  refine (out2 m c t r d).trans (gw_at m c r d _ ?_ ?_).symm
  · blk_simp [idx0 t]
  · blk_simp [idx0 t]

end Cert.KvWgradIdeal.Own

namespace Cert.Proof.KvWgrad

open Idealize.ShloMosaic Idealize.SL.Sem
open Cert.KvWgradIdeal Cert.KvWgradIdeal.Gen Cert.KvWgradIdeal.Own
open Cert.KvWgradReferenceIdeal.Read
open Cert.Norm (rowcol)

theorem frame_bits : Cert.quiescent_KvWgrad := fun m g _ => Cert.KvWgrad.Gen.frame m g
theorem frame_ideal : Cert.quiescent_KvWgradIdeal := fun m g _ => Cert.KvWgradIdeal.Gen.frame m g
theorem frame_reference : Cert.quiescent_KvWgradReferenceIdeal := fun m g _ =>
  (θ_run Cert.KvWgradReferenceIdeal.defs _ _).mono
    (fun r h => ⟨fun c => (h c).2, sem_eq_zero_of_no_sems (by decide) r.2⟩)
    (Cert.KvWgradReferenceIdeal.Value.run (F := Ideal) m g)

theorem v16_at (a : (⟨S2048x256, .f32⟩ : BufTy).Contents (Elt Ideal)) (g : (⟨S1x256, .f32⟩ : BufTy).Contents (Elt Ideal))
    (q : (⟨S2048x1024, .f32⟩ : BufTy).Contents (Elt Ideal)) (r : Fin 256) (d : Fin 1024) :
    val_main_v16 (F := Ideal) a g q (ix2 r d) = ∑ s : Fin 2048, val_main_v12 (F := Ideal) a g (ix2 s r) * q (ix2 s d) := by
  unfold val_main_v16 val_main_v15 val_main_v14
  generalize val_main_v12 (F := Ideal) a g = l
  pointwise
  exact Finset.sum_congr rfl fun s _ => mul_comm _ _

theorem v16 (m : (ℓ : Loc nD τ sig) → Buf (Elt Ideal) ℓ) (c : Dev nD) :
    val_main_v16 (F := Ideal) (m ((c.tc : Thread nD τ).loc main_arg0)) (m ((c.tc : Thread nD τ).loc main_arg1)) (m ((c.tc : Thread nD τ).loc main_arg2)) = gw m c := by
  funext i
  obtain ⟨r, d, rfl⟩ := rowcol (n := 256) (m := 1024) i
  exact v16_at _ _ _ r d

/-- Kernel and reference leave the same gradient. -/
theorem algebraic : Cert.algebraic_KvWgradIdeal_KvWgradReferenceIdeal := fun m g m' g' _ hagree =>
  ⟨fun c => gw m c,
    (θ_run Cert.KvWgradIdeal.defs _ _).mono (fun _ h c => ⟨((h c).1).trans (arr2 m c), (h c).2⟩) (Cert.KvWgradIdeal.Value.run_blocks m g),
    (θ_run Cert.KvWgradReferenceIdeal.defs _ _).mono (fun _ h c => by
      obtain ⟨e0, e1, e2⟩ := hagree c
      refine ⟨((h c).1).trans ((val_main_v16_eq _ _ _).trans ?_), (h c).2⟩
      rw [e0, e1, e2]; exact v16 m c) (Cert.KvWgradReferenceIdeal.Value.run m' g')⟩

end Cert.Proof.KvWgrad

end
-- ==== Proof.At.lean ====
/- An array's entry at known coordinates. -/
module

public import Idealize.ShloMosaic.Lib.Pointwise

@[expose] public section

open Idealize.ShloMosaic

namespace Cert.At

theorem at_ix {A B : ℕ} (f : (⟨2, ![A, B]⟩ : Shape).Idx → EReal) (a : Fin A) (b : Fin B) (i : (⟨2, ![A, B]⟩ : Shape).Idx)
    (h0 : (i 0 : ℕ) = a) (h1 : (i 1 : ℕ) = b) : f i = f (ix2 a b) :=
  congrArg f (by rw [eq_ix2 i]; exact congrArg₂ ix2 (Fin.ext h0) (Fin.ext h1))

/-- Two arrays that agree at every pair of coordinates are one. -/
theorem ext2 {A B : ℕ} (f g : (⟨2, ![A, B]⟩ : Shape).Idx → EReal) (h : ∀ a b, f (ix2 a b) = g (ix2 a b)) : f = g :=
  funext fun i => by rw [eq_ix2 i]; exact h _ _

end Cert.At
-- ==== Proof.FMix.lean ====
/- The mix's forward call: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.MixFwd.Frame
public import proofs.«01_k».proof.Proof.Gen.MixFwdIdeal.Value
public import proofs.«01_k».proof.Proof.Gen.MixFwdReferenceIdeal.Read
public import proofs.«01_k».proof.Proof.Norm
public import proofs.«01_k».proof.Proof.At

@[expose] public section

set_option maxRecDepth 16384

noncomputable section

/-! ## The rows -/

namespace Cert.MixFwd.Rows

open Cert.Norm

variable {ι : Type} (O : ι → Fin 1536 → EReal) (X : ι → Row) (W : Fin 1536 → Row) (gt g sc sh : Row)

/-- The mix, the stream after it, and the stream's modulated norm. -/
def mix (s : ι) : Row := fun d => ∑ k, O s k * W k d
def str (s : ι) : Row := fun d => X s d + gt d * mix O W s d
def mod (s : ι) : Row := fun d => nrm (str O X W gt s) d * g d * (1 + sc d) + sh d

end Cert.MixFwd.Rows

namespace Cert.MixFwdIdeal.Own

open Cert.MixFwdIdeal Cert.MixFwdIdeal.Gen
open Idealize.ShloMosaic Idealize.ShloMosaic.TcCoe Idealize.ShloMosaic.Tactic Idealize.SL.Sem
open Idealize.ShloMosaic.StableHlo Cert.Norm Cert.At Cert.MixFwd.Rows

abbrev BO (o : FVec Ideal S256x1536 .f32) (s : Fin 256) (k : Fin 1536) : EReal := o (ix2 s k)
abbrev BX (x : FVec Ideal S256x1024 .f32) (s : Fin 256) : Row := fun d => x (ix2 s d)
abbrev BW (w : FVec Ideal S1536x1024 .bf16) (k : Fin 1536) : Row := fun d => w (ix2 k d)
abbrev BV (v : FVec Ideal S1x1024 .f32) : Row := fun d => v (ix2 0 d)

theorem pay1_at (o : FVec Ideal S256x1536 .f32) (w : FVec Ideal S1536x1024 .bf16) (s : Fin 256) (d : Fin 1024) :
    k0_pay1 (F := Ideal) o w (ix2 s d) = mix (BO o) (BW w) s d := by
  pointwise [k0_pay1]
  rfl

theorem pay2_at (o : FVec Ideal S256x1536 .f32) (x : FVec Ideal S256x1024 .f32) (w : FVec Ideal S1536x1024 .bf16)
    (gt : FVec Ideal S1x1024 .f32) (s : Fin 256) (d : Fin 1024) :
    k0_pay2 (F := Ideal) o x w gt (ix2 s d) = str (BO o) (BX x) (BW w) (BV gt) s d := by
  unfold k0_pay2
  have e := pay1_at o w s d
  generalize k0_pay1 (F := Ideal) o w = z at e
  pointwise
  rw [e]; rfl

theorem pay3_at (o : FVec Ideal S256x1536 .f32) (x : FVec Ideal S256x1024 .f32) (w : FVec Ideal S1536x1024 .bf16)
    (gt g sc sh : FVec Ideal S1x1024 .f32) (s : Fin 256) (d : Fin 1024) :
    k0_pay3 (F := Ideal) o x w gt g sc sh (ix2 s d) = mod (BO o) (BX x) (BW w) (BV gt) (BV g) (BV sc) (BV sh) s d := by
  unfold k0_pay3
  have e := fun d => pay2_at o x w gt s d
  generalize k0_pay2 (F := Ideal) o x w gt = z at e
  pointwise
  simp only [e]; rfl

variable (m : (ℓ : Loc nD τ sig) → Buf (Elt Ideal) ℓ) (c : Dev nD)

abbrev MO (s : Fin 2048) (k : Fin 1536) : EReal := ((m ((c : Thread nD τ).loc main_arg0)) : FVec Ideal S2048x1536 .f32) (ix2 s k)
abbrev MX (s : Fin 2048) : Row := fun d => ((m ((c : Thread nD τ).loc main_arg1)) : FVec Ideal S2048x1024 .f32) (ix2 s d)
abbrev MW (k : Fin 1536) : Row := fun d => ((m ((c : Thread nD τ).loc main_arg2)) : FVec Ideal S1536x1024 .f32) (ix2 k d)
abbrev MGT : Row := fun d => ((m ((c : Thread nD τ).loc main_arg3)) : FVec Ideal S1x1024 .f32) (ix2 0 d)
abbrev MG : Row := fun d => ((m ((c : Thread nD τ).loc main_arg4)) : FVec Ideal S1x1024 .f32) (ix2 0 d)
abbrev MSC : Row := fun d => ((m ((c : Thread nD τ).loc main_arg5)) : FVec Ideal S1x1024 .f32) (ix2 0 d)
abbrev MSH : Row := fun d => ((m ((c : Thread nD τ).loc main_arg6)) : FVec Ideal S1x1024 .f32) (ix2 0 d)

theorem V_v0 : V m c main_v0 = ((m ((c : Thread nD τ).loc main_arg2)) : FVec Ideal S1536x1024 .f32) := by
  show StableHlo.after hostOps0 _ (Proc.devRef .tc main_v0) = _
  simp only [hostOps0, TRef.binary, TRef.nullary, TRef.unary, TRef.toBuf, TRef.ofBuf, cast_eq]
  after_results_simp <;> rfl

/-! ## The blocks -/

theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem lt0 (t : Fin cfg0.N) : t.val < 8 := t.isLt.trans_eq (by decide : cfg0.N = 8)

/-- Row `s` of point `t`'s block. -/
def row (t : Fin cfg0.N) (s : Fin 256) : Fin 2048 := ⟨t.val * 256 + s, by have := lt0 t; omega⟩

theorem blk0 (t : Fin cfg0.N) (s : Fin 256) (k : Fin 1536) : iblk m c 0 t (ix2 s k) = V m c main_arg0 (ix2 (row t s) k) := by
  blk_ext [iblk, idx0 t, row]
theorem blk1 (t : Fin cfg0.N) (s : Fin 256) (k : Fin 1024) : iblk m c 1 t (ix2 s k) = V m c main_arg1 (ix2 (row t s) k) := by
  blk_ext [iblk, idx0 t, row]
theorem blk2 (t : Fin cfg0.N) (k : Fin 1536) (d : Fin 1024) : iblk m c 2 t (ix2 k d) = V m c main_v0 (ix2 k d) := by
  blk_ext [iblk, idx0 t]
theorem blk3 (t : Fin cfg0.N) (k : Fin 1024) : iblk m c 3 t (ix2 0 k) = V m c main_arg3 (ix2 0 k) := by
  blk_ext [iblk, idx0 t]
theorem blk4 (t : Fin cfg0.N) (k : Fin 1024) : iblk m c 4 t (ix2 0 k) = V m c main_arg4 (ix2 0 k) := by
  blk_ext [iblk, idx0 t]
theorem blk5 (t : Fin cfg0.N) (k : Fin 1024) : iblk m c 5 t (ix2 0 k) = V m c main_arg5 (ix2 0 k) := by
  blk_ext [iblk, idx0 t]
theorem blk6 (t : Fin cfg0.N) (k : Fin 1024) : iblk m c 6 t (ix2 0 k) = V m c main_arg6 (ix2 0 k) := by
  blk_ext [iblk, idx0 t]

theorem bo (t : Fin cfg0.N) (s : Fin 256) : BO (iblk m c 0 t) s = MO m c (row t s) :=
  funext fun k => (blk0 m c t s k).trans (congrFun (V_main_arg0 m c) _)
theorem bx (t : Fin cfg0.N) (s : Fin 256) : BX (iblk m c 1 t) s = MX m c (row t s) :=
  funext fun k => (blk1 m c t s k).trans (congrFun (V_main_arg1 m c) _)
theorem bw (t : Fin cfg0.N) : BW (iblk m c 2 t) = MW m c :=
  funext fun k => funext fun d => (blk2 m c t k d).trans (congrFun (V_v0 m c) _)
theorem bgt (t : Fin cfg0.N) : BV (iblk m c 3 t) = MGT m c :=
  funext fun k => (blk3 m c t k).trans (congrFun (V_main_arg3 m c) _)
theorem bg (t : Fin cfg0.N) : BV (iblk m c 4 t) = MG m c :=
  funext fun k => (blk4 m c t k).trans (congrFun (V_main_arg4 m c) _)
theorem bsc (t : Fin cfg0.N) : BV (iblk m c 5 t) = MSC m c :=
  funext fun k => (blk5 m c t k).trans (congrFun (V_main_arg5 m c) _)
theorem bsh (t : Fin cfg0.N) : BV (iblk m c 6 t) = MSH m c :=
  funext fun k => (blk6 m c t k).trans (congrFun (V_main_arg6 m c) _)

theorem mix_row (t : Fin cfg0.N) (s : Fin 256) : mix (BO (iblk m c 0 t)) (BW (iblk m c 2 t)) s = mix (MO m c) (MW m c) (row t s) := by
  funext d
  unfold mix
  rw [bo, bw]

theorem str_row (t : Fin cfg0.N) (s : Fin 256) : str (BO (iblk m c 0 t)) (BX (iblk m c 1 t)) (BW (iblk m c 2 t)) (BV (iblk m c 3 t)) s
    = str (MO m c) (MX m c) (MW m c) (MGT m c) (row t s) := by
  funext d
  unfold str
  rw [mix_row, bgt]
  exact congrArg (fun a : EReal => a + _) (congrFun (bx m c t s) d)

theorem mod_row (t : Fin cfg0.N) (s : Fin 256) : mod (BO (iblk m c 0 t)) (BX (iblk m c 1 t)) (BW (iblk m c 2 t)) (BV (iblk m c 3 t)) (BV (iblk m c 4 t))
    (BV (iblk m c 5 t)) (BV (iblk m c 6 t)) s = mod (MO m c) (MX m c) (MW m c) (MGT m c) (MG m c) (MSC m c) (MSH m c) (row t s) := by
  funext d
  unfold mod
  rw [str_row, bg, bsc, bsh]

/-! ## The arrays -/

def gmix : FVec Ideal S2048x1024 .f32 := fun i => mix (MO m c) (MW m c) (i 0) (i 1)
def gstr : FVec Ideal S2048x1024 .f32 := fun i => str (MO m c) (MX m c) (MW m c) (MGT m c) (i 0) (i 1)
def gmod : FVec Ideal S2048x1024 .bf16 := fun i => mod (MO m c) (MX m c) (MW m c) (MGT m c) (MG m c) (MSC m c) (MSH m c) (i 0) (i 1)

section Outs

variable (x0 : FVec Ideal S256x1536 .f32) (x1 : FVec Ideal S256x1024 .f32) (x2 : FVec Ideal S1536x1024 .bf16) (x3 x4 x5 x6 : FVec Ideal S1x1024 .f32)
  (s : Fin 256) (d : Fin 1024)

theorem out7 : out0_7 (F := Ideal) x0 x1 x2 x3 x4 x5 x6 (ix2 s d) = mix (BO x0) (BW x2) s d := by
  unfold out0_7
  frame_out
  exact pay1_at x0 x2 s d

theorem out8 : out0_8 (F := Ideal) x0 x1 x2 x3 x4 x5 x6 (ix2 s d) = str (BO x0) (BX x1) (BW x2) (BV x3) s d := by
  unfold out0_8
  frame_out
  exact pay2_at x0 x1 x2 x3 s d

theorem out9 : out0_9 (F := Ideal) x0 x1 x2 x3 x4 x5 x6 (ix2 s d) = mod (BO x0) (BX x1) (BW x2) (BV x3) (BV x4) (BV x5) (BV x6) s d := by
  unfold out0_9
  frame_out
  exact pay3_at x0 x1 x2 x3 x4 x5 x6 s d

end Outs

theorem arr7 : (dats m 0 c).arrAt 7 cfg0.N = gmix m c := by
  refine (dats m 0 c).arrAt_eq_of_covers 7 _ (by decide +kernel) fun t _ y => ?_
  blk_simp
  rw [after0_7]
  obtain ⟨s, d, rfl⟩ := rowcol (n := 256) (m := 1024) y
  trans gmix m c (ix2 (row t s) d)
  · exact (out7 _ _ _ _ _ _ _ s d).trans (congrFun (mix_row m c t s) d)
  · refine (at_ix (gmix m c) (row t s) d _ ?_ ?_).symm
    · blk_simp [idx0 t, row]
    · blk_simp [idx0 t]

theorem arr8 : (dats m 0 c).arrAt 8 cfg0.N = gstr m c := by
  refine (dats m 0 c).arrAt_eq_of_covers 8 _ (by decide +kernel) fun t _ y => ?_
  blk_simp
  rw [after0_8]
  obtain ⟨s, d, rfl⟩ := rowcol (n := 256) (m := 1024) y
  trans gstr m c (ix2 (row t s) d)
  · exact (out8 _ _ _ _ _ _ _ s d).trans (congrFun (str_row m c t s) d)
  · refine (at_ix (gstr m c) (row t s) d _ ?_ ?_).symm
    · blk_simp [idx0 t, row]
    · blk_simp [idx0 t]

theorem arr9 : (dats m 0 c).arrAt 9 cfg0.N = gmod m c := by
  refine (dats m 0 c).arrAt_eq_of_covers 9 _ (by decide +kernel) fun t _ y => ?_
  blk_simp
  rw [after0_9]
  obtain ⟨s, d, rfl⟩ := rowcol (n := 256) (m := 1024) y
  trans gmod m c (ix2 (row t s) d)
  · exact (out9 _ _ _ _ _ _ _ s d).trans (congrFun (mod_row m c t s) d)
  · refine (at_ix (gmod m c) (row t s) d _ ?_ ?_).symm
    · blk_simp [idx0 t, row]
    · blk_simp [idx0 t]

end Cert.MixFwdIdeal.Own

namespace Cert.Proof.MixFwd

open Idealize.ShloMosaic Idealize.SL.Sem
open Cert.MixFwdIdeal Cert.MixFwdIdeal.Gen Cert.MixFwdIdeal.Own
open Cert.MixFwdReferenceIdeal.Read
open Cert.Norm Cert.At Cert.MixFwd.Rows

theorem frame_bits : Cert.quiescent_MixFwd := fun m g _ => Cert.MixFwd.Gen.frame m g
theorem frame_ideal : Cert.quiescent_MixFwdIdeal := fun m g _ => Cert.MixFwdIdeal.Gen.frame m g
theorem frame_reference : Cert.quiescent_MixFwdReferenceIdeal := fun m g _ =>
  (θ_run Cert.MixFwdReferenceIdeal.defs _ _).mono
    (fun r h => ⟨fun c => (h c).2.2.2, sem_eq_zero_of_no_sems (by decide) r.2⟩)
    (Cert.MixFwdReferenceIdeal.Value.run (F := Ideal) m g)

section Reference

variable (o : (⟨S2048x1536, .f32⟩ : BufTy).Contents (Elt Ideal)) (x : (⟨S2048x1024, .f32⟩ : BufTy).Contents (Elt Ideal))
  (w : (⟨S1536x1024, .f32⟩ : BufTy).Contents (Elt Ideal)) (gt g sc sh : (⟨S1x1024, .f32⟩ : BufTy).Contents (Elt Ideal))
  (s : Fin 2048) (d : Fin 1024)

abbrev RO (s : Fin 2048) (k : Fin 1536) : EReal := o (ix2 s k)
abbrev RX (s : Fin 2048) : Row := fun d => x (ix2 s d)
abbrev RW (k : Fin 1536) : Row := fun d => w (ix2 k d)
abbrev RV (v : (⟨S1x1024, .f32⟩ : BufTy).Contents (Elt Ideal)) : Row := fun d => v (ix2 0 d)

theorem v0_at : val_main_v0 (F := Ideal) o w (ix2 s d) = mix (RO o) (RW w) s d := by
  pointwise [val_main_v0]
  rfl

theorem v3_at : val_main_v3 (F := Ideal) o x w gt (ix2 s d) = str (RO o) (RX x) (RW w) (RV gt) s d := by
  unfold val_main_v3 val_main_v2
  have h := v0_at o w s d
  generalize val_main_v0 (F := Ideal) o w = z at h
  pointwise [val_main_v1]
  rw [h]; rfl

theorem v11_at : val_main_v11 (F := Ideal) o x w gt (ix2 s 0) = rs (str (RO o) (RX x) (RW w) (RV gt) s) := by
  unfold val_main_v11 val_main_v10 val_main_v8 val_main_v6 val_main_v5 val_main_v4
  have h := fun d => v3_at o x w gt s d
  generalize val_main_v3 (F := Ideal) o x w gt = z at h
  pointwise [val_main_cst, val_main_v7, val_main_cst_0, val_main_v9, val_main_cst_1]
  simp only [h]; rfl

theorem v22_at : val_main_v22 (F := Ideal) o x w gt g sc sh (ix2 s d) = mod (RO o) (RX x) (RW w) (RV gt) (RV g) (RV sc) (RV sh) s d := by
  unfold val_main_v22 val_main_v21 val_main_v19 val_main_v15 val_main_v13 val_main_v12
  have h := v3_at o x w gt s d
  have h' := v11_at o x w gt s
  generalize val_main_v3 (F := Ideal) o x w gt = z at h
  generalize val_main_v11 (F := Ideal) o x w gt = z' at h'
  pointwise [val_main_v20, val_main_v18, val_main_v17, val_main_v16, val_main_cst_2, val_main_v14]
  rw [h, h']; rfl

end Reference

/-- Kernel and reference leave the same mix, stream and modulated norm. -/
theorem algebraic : Cert.algebraic_MixFwdIdeal_MixFwdReferenceIdeal := fun m g m' g' _ hagree =>
  ⟨fun c => gmix m c, fun c => gstr m c, fun c => gmod m c,
    (θ_run Cert.MixFwdIdeal.defs _ _).mono (fun _ h c => ⟨((h c).1).trans (arr7 m c), ((h c).2.1).trans (arr8 m c), ((h c).2.2.1).trans (arr9 m c), (h c).2.2.2⟩)
      (Cert.MixFwdIdeal.Value.run_blocks m g),
    (θ_run Cert.MixFwdReferenceIdeal.defs _ _).mono (fun _ h c => by
      obtain ⟨e0, e1, e2, e3, e4, e5, e6⟩ := hagree c
      refine ⟨((h c).1).trans ((val_main_v0_eq _ _).trans ?_), ((h c).2.1).trans ((val_main_v3_eq _ _ _ _).trans ?_),
        ((h c).2.2.1).trans ((val_main_v22_eq _ _ _ _ _ _ _).trans ?_), (h c).2.2.2⟩
      · rw [e0, e2]; exact ext2 _ (gmix m c) (v0_at _ _)
      · rw [e0, e1, e2, e3]; exact ext2 _ (gstr m c) (v3_at _ _ _ _)
      · rw [e0, e1, e2, e3, e4, e5, e6]; exact ext2 _ (gmod m c) (v22_at _ _ _ _ _ _ _)) (Cert.MixFwdReferenceIdeal.Value.run m' g')⟩

end Cert.Proof.MixFwd

end
-- ==== Proof.FProj.lean ====
/- The first projection and the latents' norms: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.ProjFwd.Frame
public import proofs.«01_k».proof.Proof.Gen.ProjFwdIdeal.Value
public import proofs.«01_k».proof.Proof.Gen.ProjFwdReferenceIdeal.Read
public import proofs.«01_k».proof.Proof.Norm
public import proofs.«01_k».proof.Proof.At

@[expose] public section

set_option maxRecDepth 16384

noncomputable section

namespace Cert.Lat

open Idealize.ShloMosaic

/-- A row divided by its root mean square, whose mean is over `w` entries, and scaled. -/
def nrmBy {n : ℕ} (w : EReal) (x g : Fin n → EReal) (k : Fin n) : EReal :=
  x k * Ideal.rsqrt (Ideal.div (∑ j, x j * x j) w + Cert.Norm.eps) * g k

def w512 : EReal := Scalar.ofBits (F := Ideal) .f32 0x44000000#32
def w256 : EReal := Scalar.ofBits (F := Ideal) .f32 0x43800000#32

/-- Where the two latents lie in the projection. -/
def at0 (k : Fin 512) : Fin 2432 := ⟨k, by omega⟩
def at1 (k : Fin 256) : Fin 2432 := ⟨512 + k, by omega⟩

end Cert.Lat

namespace Cert.ProjFwdIdeal.Own

open Cert.ProjFwdIdeal Cert.ProjFwdIdeal.Gen
open Idealize.ShloMosaic Idealize.ShloMosaic.TcCoe Idealize.ShloMosaic.Tactic Idealize.SL.Sem
open Idealize.ShloMosaic.StableHlo Cert.At Cert.Lat
open Cert.Norm (rowcol)

/-! ## A block's entries -/

abbrev dotRow {n k : ℕ} (x : Fin k → EReal) (w : Fin n → Fin k → EReal) (d : Fin n) : EReal := ∑ j, x j * w d j

theorem pay1_at (h : FVec Ideal S256x1024 .bf16) (w : FVec Ideal S2432x1024 .bf16) (s : Fin 256) (d : Fin 2432) :
    k0_pay1 (F := Ideal) h w (ix2 s d) = dotRow (fun k => h (ix2 s k)) (fun d k => w (ix2 d k)) d := by
  pointwise [k0_pay1]

theorem pay98_at (g : FVec Ideal S1x512 .f32) (p : FVec Ideal S256x2432 .f32) (s : Fin 256) (d : Fin 512) :
    k0_pay98 (F := Ideal) g p (ix2 s d) = nrmBy w512 (fun k => p (ix2 s (at0 k))) (fun k => g (ix2 0 k)) d := by
  pointwise [k0_pay98]
  rfl

theorem pay99_at (g : FVec Ideal S1x256 .f32) (p : FVec Ideal S256x2432 .f32) (s : Fin 256) (d : Fin 256) :
    k0_pay99 (F := Ideal) g p (ix2 s d) = nrmBy w256 (fun k => p (ix2 s (at1 k))) (fun k => g (ix2 0 k)) d := by
  pointwise [k0_pay99]
  rfl

section Outs

variable (x0 : FVec Ideal S256x1024 .bf16) (x1 x2 x3 x4 : FVec Ideal S256x128 .f32) (x5 : FVec Ideal S2432x1024 .bf16)
  (x6 : FVec Ideal S1x512 .f32) (x7 : FVec Ideal S1x256 .f32) (x8 x9 x10 : FVec Ideal S1x128 .f32) (s : Fin 256)

abbrev prow (d : Fin 2432) : EReal := dotRow (fun k => x0 (ix2 s k)) (fun d k => x5 (ix2 d k)) d

theorem pay101_at (d : Fin 2432) : k0_pay101 (F := Ideal) x0 x1 x2 x3 x4 x5 x6 x7 x8 x9 x10 (ix2 s d) = prow x0 x5 s d := by
  unfold k0_pay101
  frame_out
  exact pay1_at x0 x5 s d

theorem out11 (d : Fin 2432) : out0_11 (F := Ideal) x0 x1 x2 x3 x4 x5 x6 x7 x8 x9 x10 (ix2 s d) = prow x0 x5 s d := by
  unfold out0_11
  have e := pay101_at x0 x1 x2 x3 x4 x5 x6 x7 x8 x9 x10 s d
  generalize k0_pay101 (F := Ideal) x0 x1 x2 x3 x4 x5 x6 x7 x8 x9 x10 = z at e
  frame_out
  exact e

theorem out12 (d : Fin 512) : out0_12 (F := Ideal) x0 x1 x2 x3 x4 x5 x6 x7 x8 x9 x10 (ix2 s d)
    = nrmBy w512 (fun k => prow x0 x5 s (at0 k)) (fun k => x6 (ix2 0 k)) d := by
  unfold out0_12
  have e := fun d => pay101_at x0 x1 x2 x3 x4 x5 x6 x7 x8 x9 x10 s d
  generalize k0_pay101 (F := Ideal) x0 x1 x2 x3 x4 x5 x6 x7 x8 x9 x10 = z at e
  frame_out
  refine (pay98_at x6 z s d).trans ?_
  simp only [e]

theorem out13 (d : Fin 256) : out0_13 (F := Ideal) x0 x1 x2 x3 x4 x5 x6 x7 x8 x9 x10 (ix2 s d)
    = nrmBy w256 (fun k => prow x0 x5 s (at1 k)) (fun k => x7 (ix2 0 k)) d := by
  unfold out0_13
  have e := fun d => pay101_at x0 x1 x2 x3 x4 x5 x6 x7 x8 x9 x10 s d
  generalize k0_pay101 (F := Ideal) x0 x1 x2 x3 x4 x5 x6 x7 x8 x9 x10 = z at e
  frame_out
  refine (pay99_at x7 z s d).trans ?_
  simp only [e]

end Outs

/-! ## The operands, after the host's conversions and transpose -/

variable (m : (ℓ : Loc nD τ sig) → Buf (Elt Ideal) ℓ) (c : Dev nD)

abbrev MH : FVec Ideal S2048x1024 .f32 := m ((c : Thread nD τ).loc main_arg0)
abbrev MW : FVec Ideal S1024x2432 .f32 := m ((c : Thread nD τ).loc main_arg5)
abbrev MGQ : FVec Ideal S1x512 .f32 := m ((c : Thread nD τ).loc main_arg6)
abbrev MGK : FVec Ideal S1x256 .f32 := m ((c : Thread nD τ).loc main_arg7)
/-- The projection's row. -/
abbrev prj (s : Fin 2048) (d : Fin 2432) : EReal := ∑ k : Fin 1024, MH m c (ix2 s k) * MW m c (ix2 k d)

theorem V_v0 : V m c main_v0 = MH m c := by
  show StableHlo.after hostOps0 _ (Proc.devRef .tc main_v0) = _
  simp only [hostOps0, TRef.binary, TRef.nullary, TRef.unary, TRef.toBuf, TRef.ofBuf, cast_eq]
  after_results_simp <;> rfl

theorem V_v2 (d : Fin 2432) (k : Fin 1024) : V m c main_v2 (ix2 d k) = MW m c (ix2 k d) := by
  have h : V m c main_v2 = transpose S2432x1024 [1, 0] (MW m c) transposes_S1024x2432_S2432x1024_1_0 := by
    show StableHlo.after hostOps0 _ (Proc.devRef .tc main_v2) = _
    simp only [hostOps0, TRef.binary, TRef.nullary, TRef.unary, TRef.toBuf, TRef.ofBuf, cast_eq]
    after_results_simp <;> rfl
  rw [h]
  pointwise []

/-! ## The blocks -/

theorem idx0 : ∀ t : Fin cfg0.N, win0_0.index t = ![t.val, 0] ∧ win0_5.index t = ![0, 0] ∧ win0_6.index t = ![0, 0]
    ∧ win0_7.index t = ![0, 0] ∧ win0_11.index t = ![t.val, 0] ∧ win0_12.index t = ![t.val, 0] ∧ win0_13.index t = ![t.val, 0] :=
  (by decide +kernel : ∀ t : Fin grid0.N, _)

theorem lt0 (t : Fin cfg0.N) : t.val < 8 := t.isLt.trans_eq (by decide : cfg0.N = 8)

/-- Row `s` of point `t`'s block. -/
def row (t : Fin cfg0.N) (s : Fin 256) : Fin 2048 := ⟨t.val * 256 + s, by have := lt0 t; omega⟩

theorem blk0 (t : Fin cfg0.N) (s : Fin 256) (k : Fin 1024) : iblk m c 0 t (ix2 s k) = V m c main_v0 (ix2 (row t s) k) := by
  blk_ext [iblk, idx0 t, row]
theorem blk5 (t : Fin cfg0.N) (d : Fin 2432) (k : Fin 1024) : iblk m c 5 t (ix2 d k) = V m c main_v2 (ix2 d k) := by
  blk_ext [iblk, idx0 t]
theorem blk6 (t : Fin cfg0.N) (k : Fin 512) : iblk m c 6 t (ix2 0 k) = V m c main_arg6 (ix2 0 k) := by
  blk_ext [iblk, idx0 t]
theorem blk7 (t : Fin cfg0.N) (k : Fin 256) : iblk m c 7 t (ix2 0 k) = V m c main_arg7 (ix2 0 k) := by
  blk_ext [iblk, idx0 t]

theorem prow_eq (t : Fin cfg0.N) (s : Fin 256) : prow (iblk m c 0 t) (iblk m c 5 t) s = prj m c (row t s) :=
  funext fun d => Finset.sum_congr rfl fun k _ => congrArg₂ (fun a b : EReal => a * b)
    ((blk0 m c t s k).trans (congrFun (V_v0 m c) _)) ((blk5 m c t d k).trans (V_v2 m c d k))

theorem bgq (t : Fin cfg0.N) : (fun k : Fin 512 => (iblk m c 6 t (ix2 0 k) : EReal)) = fun k => MGQ m c (ix2 0 k) :=
  funext fun k => (blk6 m c t k).trans (congrFun (V_main_arg6 m c) _)
theorem bgk (t : Fin cfg0.N) : (fun k : Fin 256 => (iblk m c 7 t (ix2 0 k) : EReal)) = fun k => MGK m c (ix2 0 k) :=
  funext fun k => (blk7 m c t k).trans (congrFun (V_main_arg7 m c) _)

/-! ## The arrays -/

def gpv : FVec Ideal S2048x2432 .f32 := fun i => prj m c (i 0) (i 1)
def gql : FVec Ideal S2048x512 .bf16 := fun i => nrmBy w512 (fun k => prj m c (i 0) (at0 k)) (fun k => MGQ m c (ix2 0 k)) (i 1)
def gkl : FVec Ideal S2048x256 .bf16 := fun i => nrmBy w256 (fun k => prj m c (i 0) (at1 k)) (fun k => MGK m c (ix2 0 k)) (i 1)

theorem arr11 : (dats m 0 c).arrAt 11 cfg0.N = gpv m c := by
  refine (dats m 0 c).arrAt_eq_of_covers 11 _ (by decide +kernel) fun t _ y => ?_
  blk_simp
  rw [after0_11]
  obtain ⟨s, d, rfl⟩ := rowcol (n := 256) (m := 2432) y
  trans gpv m c (ix2 (row t s) d)
  · exact (out11 _ _ _ _ _ _ _ _ _ _ _ s d).trans (congrFun (prow_eq m c t s) d)
  · refine (at_ix (gpv m c) (row t s) d _ ?_ ?_).symm
    · blk_simp [idx0 t, row]
    · blk_simp [idx0 t]

theorem arr12 : (dats m 0 c).arrAt 12 cfg0.N = gql m c := by
  refine (dats m 0 c).arrAt_eq_of_covers 12 _ (by decide +kernel) fun t _ y => ?_
  blk_simp
  rw [after0_12]
  obtain ⟨s, d, rfl⟩ := rowcol (n := 256) (m := 512) y
  trans gql m c (ix2 (row t s) d)
  · refine (out12 _ _ _ _ _ _ _ _ _ _ _ s d).trans ?_
    exact congrArg₂ (fun p g => nrmBy w512 p g d) (funext fun k => congrFun (prow_eq m c t s) (at0 k)) (bgq m c t)
  · refine (at_ix (gql m c) (row t s) d _ ?_ ?_).symm
    · blk_simp [idx0 t, row]
    · blk_simp [idx0 t]

theorem arr13 : (dats m 0 c).arrAt 13 cfg0.N = gkl m c := by
  refine (dats m 0 c).arrAt_eq_of_covers 13 _ (by decide +kernel) fun t _ y => ?_
  blk_simp
  rw [after0_13]
  obtain ⟨s, d, rfl⟩ := rowcol (n := 256) (m := 256) y
  trans gkl m c (ix2 (row t s) d)
  · refine (out13 _ _ _ _ _ _ _ _ _ _ _ s d).trans ?_
    exact congrArg₂ (fun p g => nrmBy w256 p g d) (funext fun k => congrFun (prow_eq m c t s) (at1 k)) (bgk m c t)
  · refine (at_ix (gkl m c) (row t s) d _ ?_ ?_).symm
    · blk_simp [idx0 t, row]
    · blk_simp [idx0 t]

end Cert.ProjFwdIdeal.Own

namespace Cert.Proof.ProjFwd

open Idealize.ShloMosaic Idealize.SL.Sem
open Cert.ProjFwdIdeal Cert.ProjFwdIdeal.Gen Cert.ProjFwdIdeal.Own
open Cert.ProjFwdReferenceIdeal.Read
open Cert.At Cert.Lat

theorem frame_bits : Cert.quiescent_ProjFwd := fun m g _ => Cert.ProjFwd.Gen.frame m g
theorem frame_ideal : Cert.quiescent_ProjFwdIdeal := fun m g _ => Cert.ProjFwdIdeal.Gen.frame m g
theorem frame_reference : Cert.quiescent_ProjFwdReferenceIdeal := fun m g _ =>
  (θ_run Cert.ProjFwdReferenceIdeal.defs _ _).mono
    (fun r h => ⟨fun c => (h c).2.2.2, sem_eq_zero_of_no_sems (by decide) r.2⟩)
    (Cert.ProjFwdReferenceIdeal.Value.run (F := Ideal) m g)

section Reference

variable (h : (⟨S2048x1024, .f32⟩ : BufTy).Contents (Elt Ideal)) (w : (⟨S1024x2432, .f32⟩ : BufTy).Contents (Elt Ideal)) (s : Fin 2048)

abbrev RP (d : Fin 2432) : EReal := ∑ k : Fin 1024, h (ix2 s k) * w (ix2 k d)

theorem v0_at (d : Fin 2432) : val_main_v0 (F := Ideal) h w (ix2 s d) = RP h w s d := by
  pointwise [val_main_v0]

theorem v15_at (g : (⟨S1x512, .f32⟩ : BufTy).Contents (Elt Ideal)) (d : Fin 512) :
    val_main_v15 (F := Ideal) h w g (ix2 s d) = nrmBy w512 (fun k => RP h w s (at0 k)) (fun k => g (ix2 0 k)) d := by
  unfold val_main_v15 val_main_v14 val_main_v12 val_main_v11 val_main_v10 val_main_v9 val_main_v7 val_main_v5 val_main_v4 val_main_v3 val_main_v1
  have e := v0_at h w s
  generalize val_main_v0 (F := Ideal) h w = z at e
  pointwise [val_main_v13, val_main_v8, val_main_cst_1, val_main_v6, val_main_cst_0, val_main_cst]
  unfold nrmBy
  simp only [← e]
  rfl

theorem v28_at (g : (⟨S1x256, .f32⟩ : BufTy).Contents (Elt Ideal)) (d : Fin 256) :
    val_main_v28 (F := Ideal) h w g (ix2 s d) = nrmBy w256 (fun k => RP h w s (at1 k)) (fun k => g (ix2 0 k)) d := by
  unfold val_main_v28 val_main_v27 val_main_v25 val_main_v24 val_main_v23 val_main_v22 val_main_v20 val_main_v18 val_main_v17 val_main_v16 val_main_v2
  have e := v0_at h w s
  generalize val_main_v0 (F := Ideal) h w = z at e
  pointwise [val_main_v26, val_main_v21, val_main_cst_4, val_main_v19, val_main_cst_3, val_main_cst_2]
  unfold nrmBy
  simp only [← e]
  rfl

end Reference

/-- Kernel and reference leave the same projection and the same two normalized latents. -/
theorem algebraic : Cert.algebraic_ProjFwdIdeal_ProjFwdReferenceIdeal := fun m g m' g' _ hagree =>
  ⟨fun c => gpv m c, fun c => gql m c, fun c => gkl m c,
    (θ_run Cert.ProjFwdIdeal.defs _ _).mono (fun _ h c => ⟨((h c).1).trans (arr11 m c), ((h c).2.1).trans (arr12 m c), ((h c).2.2.1).trans (arr13 m c),
      (h c).2.2.2.2.2.2⟩) (Cert.ProjFwdIdeal.Value.run_blocks m g),
    (θ_run Cert.ProjFwdReferenceIdeal.defs _ _).mono (fun _ h c => by
      obtain ⟨e0, _, _, _, _, e5, e6, e7, _⟩ := hagree c
      refine ⟨((h c).1).trans ((val_main_v0_eq _ _).trans ?_), ((h c).2.1).trans ((val_main_v15_eq _ _ _).trans ?_),
        ((h c).2.2.1).trans ((val_main_v28_eq _ _ _).trans ?_), (h c).2.2.2⟩
      · rw [e0, e5]; exact ext2 _ (gpv m c) (v0_at _ _)
      · rw [e0, e5, e6]; exact ext2 _ (gql m c) fun s d => v15_at _ _ s _ d
      · rw [e0, e5, e7]; exact ext2 _ (gkl m c) fun s d => v28_at _ _ s _ d) (Cert.ProjFwdReferenceIdeal.Value.run m' g')⟩

end Cert.Proof.ProjFwd

end
-- ==== Proof.FLat.lean ====
/- The latents' projections: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.Latent.Frame
public import proofs.«01_k».proof.Proof.Gen.LatentIdeal.Value
public import proofs.«01_k».proof.Proof.Gen.LatentReferenceIdeal.Read
public import proofs.«01_k».proof.Proof.Norm
public import proofs.«01_k».proof.Proof.At

@[expose] public section

set_option maxRecDepth 16384

noncomputable section

namespace Cert.LatentIdeal.Own

open Cert.LatentIdeal Cert.LatentIdeal.Gen
open Idealize.ShloMosaic Idealize.ShloMosaic.TcCoe Idealize.ShloMosaic.Tactic Idealize.SL.Sem
open Idealize.ShloMosaic.StableHlo Cert.At
open Cert.Norm (rowcol)

/-! ## A block's entries -/

theorem pay3_at (q : FVec Ideal S256x512 .bf16) (w : FVec Ideal S1024x512 .bf16) (s : Fin 256) (d : Fin 1024) :
    k0_pay3 (F := Ideal) q w (ix2 s d) = ∑ k : Fin 512, q (ix2 s k) * w (ix2 d k) := by
  pointwise [k0_pay3]

theorem pay4_at (v : FVec Ideal S256x256 .bf16) (w : FVec Ideal S256x1024 .bf16) (s : Fin 256) (d : Fin 1024) :
    k0_pay4 (F := Ideal) v w (ix2 s d) = ∑ k : Fin 256, v (ix2 s k) * w (ix2 k d) := by
  pointwise [k0_pay4]

section Outs

variable (x0 : FVec Ideal S256x512 .bf16) (x1 : FVec Ideal S256x256 .bf16) (x2 : FVec Ideal S256x128 .bf16) (x3 x4 : FVec Ideal S256x128 .f32)
  (x5 : FVec Ideal S1024x512 .bf16) (x6 : FVec Ideal S256x1024 .bf16) (x7 x8 : FVec Ideal S1x128 .f32) (s : Fin 256) (d : Fin 1024)

theorem out9 : out0_9 (F := Ideal) x0 x1 x2 x3 x4 x5 x6 x7 x8 (ix2 s d) = ∑ k : Fin 512, x0 (ix2 s k) * x5 (ix2 d k) := by
  unfold out0_9
  frame_out
  exact pay3_at x0 x5 s d

theorem out10 : out0_10 (F := Ideal) x0 x1 x2 x3 x4 x5 x6 x7 x8 (ix2 s d) = ∑ k : Fin 256, x1 (ix2 s k) * x6 (ix2 k d) := by
  unfold out0_10
  frame_out
  exact pay4_at x1 x6 s d

end Outs

/-! ## The operands, after the host's conversions and transpose -/

variable (m : (ℓ : Loc nD τ sig) → Buf (Elt Ideal) ℓ) (c : Dev nD)

abbrev MQ : FVec Ideal S2048x512 .f32 := m ((c : Thread nD τ).loc main_arg0)
abbrev MK : FVec Ideal S2048x256 .f32 := m ((c : Thread nD τ).loc main_arg1)
abbrev MWQ : FVec Ideal S512x1024 .f32 := m ((c : Thread nD τ).loc main_arg5)
abbrev MWK : FVec Ideal S256x1024 .f32 := m ((c : Thread nD τ).loc main_arg6)

theorem V_v0 : V m c main_v0 = MQ m c := by
  show StableHlo.after hostOps0 _ (Proc.devRef .tc main_v0) = _
  simp only [hostOps0, TRef.binary, TRef.nullary, TRef.unary, TRef.toBuf, TRef.ofBuf, cast_eq]
  after_results_simp <;> rfl

theorem V_v1 : V m c main_v1 = MK m c := by
  show StableHlo.after hostOps0 _ (Proc.devRef .tc main_v1) = _
  simp only [hostOps0, TRef.binary, TRef.nullary, TRef.unary, TRef.toBuf, TRef.ofBuf, cast_eq]
  after_results_simp <;> rfl

theorem V_v5 : V m c main_v5 = MWK m c := by
  show StableHlo.after hostOps0 _ (Proc.devRef .tc main_v5) = _
  simp only [hostOps0, TRef.binary, TRef.nullary, TRef.unary, TRef.toBuf, TRef.ofBuf, cast_eq]
  after_results_simp <;> rfl

theorem V_v4 (d : Fin 1024) (k : Fin 512) : V m c main_v4 (ix2 d k) = MWQ m c (ix2 k d) := by
  have h : V m c main_v4 = transpose S1024x512 [1, 0] (MWQ m c) transposes_S512x1024_S1024x512_1_0 := by
    show StableHlo.after hostOps0 _ (Proc.devRef .tc main_v4) = _
    simp only [hostOps0, TRef.binary, TRef.nullary, TRef.unary, TRef.toBuf, TRef.ofBuf, cast_eq]
    after_results_simp <;> rfl
  rw [h]
  pointwise []

/-! ## The blocks -/

theorem idx0 : ∀ t : Fin cfg0.N, win0_0.index t = ![t.val, 0] ∧ win0_1.index t = ![t.val, 0] ∧ win0_5.index t = ![0, 0]
    ∧ win0_6.index t = ![0, 0] ∧ win0_9.index t = ![t.val, 0] ∧ win0_10.index t = ![t.val, 0] :=
  (by decide +kernel : ∀ t : Fin grid0.N, _)

theorem lt0 (t : Fin cfg0.N) : t.val < 8 := t.isLt.trans_eq (by decide : cfg0.N = 8)

/-- Row `s` of point `t`'s block. -/
def row (t : Fin cfg0.N) (s : Fin 256) : Fin 2048 := ⟨t.val * 256 + s, by have := lt0 t; omega⟩

theorem blk0 (t : Fin cfg0.N) (s : Fin 256) (k : Fin 512) : iblk m c 0 t (ix2 s k) = V m c main_v0 (ix2 (row t s) k) := by
  blk_ext [iblk, idx0 t, row]
theorem blk1 (t : Fin cfg0.N) (s : Fin 256) (k : Fin 256) : iblk m c 1 t (ix2 s k) = V m c main_v1 (ix2 (row t s) k) := by
  blk_ext [iblk, idx0 t, row]
theorem blk5 (t : Fin cfg0.N) (d : Fin 1024) (k : Fin 512) : iblk m c 5 t (ix2 d k) = V m c main_v4 (ix2 d k) := by
  blk_ext [iblk, idx0 t]
theorem blk6 (t : Fin cfg0.N) (k : Fin 256) (d : Fin 1024) : iblk m c 6 t (ix2 k d) = V m c main_v5 (ix2 k d) := by
  blk_ext [iblk, idx0 t]

/-! ## The arrays -/

def gq : FVec Ideal S2048x1024 .f32 := fun i => ∑ k : Fin 512, MQ m c (ix2 (i 0) k) * MWQ m c (ix2 k (i 1))
def gkv : FVec Ideal S2048x1024 .f32 := fun i => ∑ k : Fin 256, MK m c (ix2 (i 0) k) * MWK m c (ix2 k (i 1))

theorem arr9 : (dats m 0 c).arrAt 9 cfg0.N = gq m c := by
  refine (dats m 0 c).arrAt_eq_of_covers 9 _ (by decide +kernel) fun t _ y => ?_
  blk_simp
  rw [after0_9]
  obtain ⟨s, d, rfl⟩ := rowcol (n := 256) (m := 1024) y
  trans gq m c (ix2 (row t s) d)
  · refine (out9 _ _ _ _ _ _ _ _ _ s d).trans ?_
    refine Finset.sum_congr rfl fun k _ => congrArg₂ (fun a b : EReal => a * b) ?_ ?_
    · exact (blk0 m c t s k).trans (congrFun (V_v0 m c) _)
    · exact (blk5 m c t d k).trans (V_v4 m c d k)
  · refine (at_ix (gq m c) (row t s) d _ ?_ ?_).symm
    · blk_simp [idx0 t, row]
    · blk_simp [idx0 t]

theorem arr10 : (dats m 0 c).arrAt 10 cfg0.N = gkv m c := by
  refine (dats m 0 c).arrAt_eq_of_covers 10 _ (by decide +kernel) fun t _ y => ?_
  blk_simp
  rw [after0_10]
  obtain ⟨s, d, rfl⟩ := rowcol (n := 256) (m := 1024) y
  trans gkv m c (ix2 (row t s) d)
  · refine (out10 _ _ _ _ _ _ _ _ _ s d).trans ?_
    refine Finset.sum_congr rfl fun k _ => congrArg₂ (fun a b : EReal => a * b) ?_ ?_
    · exact (blk1 m c t s k).trans (congrFun (V_v1 m c) _)
    · exact (blk6 m c t k d).trans (congrFun (V_v5 m c) _)
  · refine (at_ix (gkv m c) (row t s) d _ ?_ ?_).symm
    · blk_simp [idx0 t, row]
    · blk_simp [idx0 t]

end Cert.LatentIdeal.Own

namespace Cert.Proof.Latent

open Idealize.ShloMosaic Idealize.SL.Sem
open Cert.LatentIdeal Cert.LatentIdeal.Gen Cert.LatentIdeal.Own
open Cert.LatentReferenceIdeal.Read
open Cert.At

theorem frame_bits : Cert.quiescent_Latent := fun m g _ => Cert.Latent.Gen.frame m g
theorem frame_ideal : Cert.quiescent_LatentIdeal := fun m g _ => Cert.LatentIdeal.Gen.frame m g
theorem frame_reference : Cert.quiescent_LatentReferenceIdeal := fun m g _ =>
  (θ_run Cert.LatentReferenceIdeal.defs _ _).mono
    (fun r h => ⟨fun c => (h c).2.2, sem_eq_zero_of_no_sems (by decide) r.2⟩)
    (Cert.LatentReferenceIdeal.Value.run (F := Ideal) m g)

theorem v0_at (x : (⟨S2048x512, .f32⟩ : BufTy).Contents (Elt Ideal)) (w : (⟨S512x1024, .f32⟩ : BufTy).Contents (Elt Ideal))
    (s : Fin 2048) (d : Fin 1024) : val_main_v0 (F := Ideal) x w (ix2 s d) = ∑ k : Fin 512, x (ix2 s k) * w (ix2 k d) := by
  pointwise [val_main_v0]

theorem v1_at (x : (⟨S2048x256, .f32⟩ : BufTy).Contents (Elt Ideal)) (w : (⟨S256x1024, .f32⟩ : BufTy).Contents (Elt Ideal))
    (s : Fin 2048) (d : Fin 1024) : val_main_v1 (F := Ideal) x w (ix2 s d) = ∑ k : Fin 256, x (ix2 s k) * w (ix2 k d) := by
  pointwise [val_main_v1]

/-- Kernel and reference leave the same queries, and the same keys and values, before the heads' norms. -/
theorem algebraic : Cert.algebraic_LatentIdeal_LatentReferenceIdeal := fun m g m' g' _ hagree =>
  ⟨fun c => gq m c, fun c => gkv m c,
    (θ_run Cert.LatentIdeal.defs _ _).mono (fun _ h c => ⟨((h c).1).trans (arr9 m c), ((h c).2.1).trans (arr10 m c), (h c).2.2.2.2.2⟩)
      (Cert.LatentIdeal.Value.run_blocks m g),
    (θ_run Cert.LatentReferenceIdeal.defs _ _).mono (fun _ h c => by
      obtain ⟨e0, e1, _, _, _, e5, e6, _, _⟩ := hagree c
      refine ⟨((h c).1).trans ((val_main_v0_eq _ _).trans ?_), ((h c).2.1).trans ((val_main_v1_eq _ _).trans ?_), (h c).2.2⟩
      · rw [e0, e5]; exact ext2 _ (gq m c) (v0_at _ _)
      · rw [e1, e6]; exact ext2 _ (gkv m c) (v1_at _ _)) (Cert.LatentReferenceIdeal.Value.run m' g')⟩

end Cert.Proof.Latent

end
-- ==== Proof.Loss.lean ====
/- The loss and its gradients on the extended reals: squares are not negative, so sums of them may be scaled term by term. -/
module

public import Idealize.ShloMosaic.Lib.Pointwise
public import proofs.«01_k».proof.Proof.Norm

@[expose] public section

noncomputable section

open Idealize.ShloMosaic

namespace Cert.Loss

open Cert.Norm (Row width width_eq)

/-- One over the width, half of that, one half, one and two, as float constants. -/
def inv : EReal := Ideal.ofBits .f32 0x3A800000#32
def halfInv : EReal := Ideal.ofBits .f32 0x3A000000#32
def half : EReal := Ideal.ofBits .f32 0x3F000000#32
def one : EReal := Ideal.ofBits .f32 0x3F800000#32
def two : EReal := Ideal.ofBits .f32 0x40000000#32

theorem inv_eq : inv = ((1 / 1024 : ℝ) : EReal) := by
  simp [inv, Ideal.ofBits, Ideal.ieee]
  rw [← EReal.coe_mul]
  norm_num

theorem halfInv_eq : halfInv = ((1 / 2048 : ℝ) : EReal) := by
  simp [halfInv, Ideal.ofBits, Ideal.ieee]
  rw [← EReal.coe_mul]
  norm_num

theorem half_eq : half = ((1 / 2 : ℝ) : EReal) := by
  simp [half, Ideal.ofBits, Ideal.ieee]
  rw [← EReal.coe_mul]
  norm_num

theorem one_eq : one = ((1 : ℝ) : EReal) := by
  simp [one, Ideal.ofBits, Ideal.ieee]
  rw [← EReal.coe_mul]
  norm_num

theorem two_eq : two = ((2 : ℝ) : EReal) := by
  simp [two, Ideal.ofBits, Ideal.ieee]
  rw [← EReal.coe_mul]
  norm_num

/-- Division by the width is a product. -/
theorem div_width (a : EReal) : Ideal.div a width = a * inv := by
  rw [inv_eq, width_eq, Ideal.div, if_neg (by rw [← EReal.coe_zero]; exact fun h => by simpa using EReal.coe_injective h), ← EReal.coe_inv]
  norm_num

/-- The gradient's factor as differentiation writes it, and as one constant. -/
theorem factor (r : EReal) : Ideal.div (half * one) width * (two * r) = r * inv := by
  rw [div_width, ← mul_assoc, mul_comm _ r, half_eq, one_eq, two_eq, inv_eq, ← EReal.coe_mul, ← EReal.coe_mul, ← EReal.coe_mul]
  norm_num

theorem factor' (r : EReal) : Ideal.div half width * (two * r) = r * inv := by
  rw [← factor r, one_eq, EReal.coe_one, mul_one]

theorem sq_nonneg (x : EReal) : 0 ≤ x * x := by
  rcases le_total 0 x with h | h
  · exact mul_nonneg h h
  · exact EReal.mul_nonneg_iff.mpr (Or.inr ⟨h, h⟩)

/-- A sum of terms that are not negative, scaled. -/
theorem sum_mul {ι : Type} (t : Finset ι) (f : ι → EReal) (c : EReal) (h : ∀ i, 0 ≤ f i) : ∑ i ∈ t, f i * c = (∑ i ∈ t, f i) * c := by
  classical
  induction t using Finset.induction_on with
  | empty => simp
  | insert a s ha ih => rw [Finset.sum_insert ha, Finset.sum_insert ha, ih, EReal.right_distrib_of_nonneg (h a) (Finset.sum_nonneg fun i _ => h i)]

variable {ι : Type} (X D T : ι → Row) (g : Row)

/-- The error, its gradient, the branch's gradient. -/
def res (s : ι) : Row := fun d => X s d + g d * D s d - T s d
def dy (s : ι) : Row := fun d => res X D T g s d * inv
def dn (s : ι) : Row := fun d => g d * dy X D T g s d

variable [Fintype ι]

/-- The gate's gradient; the squared errors' sum; the loss. -/
def dg : Row := fun d => ∑ s, dy X D T g s d * D s d
def sq : EReal := ∑ s, ∑ d, res X D T g s d * res X D T g s d
def loss : EReal := sq X D T g * halfInv

theorem sq_nonneg' : 0 ≤ sq X D T g := Finset.sum_nonneg fun s _ => Finset.sum_nonneg fun d _ => sq_nonneg _

/-- Half the sum of the rows' means. -/
theorem loss_eq : half * ∑ s, Ideal.div (∑ d, res X D T g s d * res X D T g s d) width = loss X D T g := by
  simp only [div_width]
  rw [sum_mul _ _ _ fun s => Finset.sum_nonneg fun d _ => sq_nonneg _, mul_comm half, mul_assoc, loss, inv_eq, half_eq, halfInv_eq, ← EReal.coe_mul]
  norm_num [sq]

end Cert.Loss

end
-- ==== Proof.FLoss.lean ====
/- The loss's call: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.LossHead.Frame
public import proofs.«01_k».proof.Proof.Gen.LossHeadIdeal.Value
public import proofs.«01_k».proof.Proof.Gen.LossHeadReferenceIdeal.Read
public import proofs.«01_k».proof.Proof.Loss
public import proofs.«01_k».proof.Proof.At

@[expose] public section

set_option maxRecDepth 16384

noncomputable section

namespace Cert.LossHeadIdeal.Own

open Cert.LossHeadIdeal Cert.LossHeadIdeal.Gen
open Idealize.ShloMosaic Idealize.ShloMosaic.TcCoe Idealize.ShloMosaic.Tactic Idealize.SL.Sem
open Idealize.ShloMosaic.Pipeline (Dat)
open Idealize.ShloMosaic.StableHlo Cert.At Cert.Loss
open Cert.Norm (rowcol Row)

/-! ## A block's entries -/

section Block

abbrev BX (x : FVec Ideal S512x1024 .f32) (s : Fin 512) : Row := fun d => x (ix2 s d)
abbrev BV (g : FVec Ideal S1x1024 .f32) : Row := fun d => g (ix2 0 d)

variable (x y z : FVec Ideal S512x1024 .f32) (g : FVec Ideal S1x1024 .f32)

theorem pay1_at (s : Fin 512) (d : Fin 1024) : k0_pay1 (F := Ideal) x y z g (ix2 s d) = res (BX x) (BX y) (BX z) (BV g) s d := by
  pointwise [k0_pay1]
  rfl

theorem pay2_at (s : Fin 512) (d : Fin 1024) : k0_pay2 (F := Ideal) x y z g (ix2 s d) = dy (BX x) (BX y) (BX z) (BV g) s d := by
  unfold k0_pay2
  have e := pay1_at x y z g s d
  generalize k0_pay1 (F := Ideal) x y z g = w at e
  pointwise
  rw [e]; rfl

theorem pay3_at : k0_pay3 (F := Ideal) x y z g (ix2 0 0) = loss (BX x) (BX y) (BX z) (BV g) := by
  unfold k0_pay3
  have e := pay1_at x y z g
  generalize k0_pay1 (F := Ideal) x y z g = w at e
  pointwise
  simp only [e]
  rw [Finset.sum_comm]; rfl

theorem pay4_at (d : Fin 1024) : k0_pay4 (F := Ideal) x y z g (ix2 0 d) = dg (BX x) (BX y) (BX z) (BV g) d := by
  unfold k0_pay4
  have e := fun s => pay2_at x y z g s d
  generalize k0_pay2 (F := Ideal) x y z g = w at e
  pointwise
  simp only [e]; rfl

theorem pay5_at (s : Fin 512) (d : Fin 1024) : k0_pay5 (F := Ideal) x y z g (ix2 s d) = dn (BX x) (BX y) (BX z) (BV g) s d := by
  unfold k0_pay5
  have e := pay2_at x y z g s d
  generalize k0_pay2 (F := Ideal) x y z g = w at e
  pointwise
  rw [e]; rfl

theorem pay6_at (a : FVec Ideal S1x1 .f32) : k0_pay6 (F := Ideal) x y z g a (ix2 0 0) = a (ix2 0 0) + loss (BX x) (BX y) (BX z) (BV g) := by
  unfold k0_pay6
  have e := pay3_at x y z g
  generalize k0_pay3 (F := Ideal) x y z g = w at e
  pointwise
  rw [e]

theorem pay7_at (a : FVec Ideal S1x1024 .f32) (d : Fin 1024) :
    k0_pay7 (F := Ideal) x y z g a (ix2 0 d) = a (ix2 0 d) + dg (BX x) (BX y) (BX z) (BV g) d := by
  unfold k0_pay7
  have e := pay4_at x y z g d
  generalize k0_pay4 (F := Ideal) x y z g = w at e
  pointwise
  rw [e]

end Block

/-! ## After each grid point -/

variable (m : (ℓ : Loc nD τ sig) → Buf (Elt Ideal) ℓ) (c : Dev nD)

theorem out4 (t : Fin cfg0.N) (s : Fin 512) (d : Fin 1024) :
    (outsAt0 m c t.val t.isLt).1 (ix2 s d) = dy (BX (iblk m c 0 t)) (BX (iblk m c 1 t)) (BX (iblk m c 2 t)) (BV (iblk m c 3 t)) s d := by
  by_cases h0 : t.val % 4 = 0
  · rw [outsAt0_A m c t h0 (by have := t.isLt.trans_eq N_0; omega)]
    generalize iblk m c 0 t = x0
    generalize iblk m c 1 t = x1
    generalize iblk m c 2 t = x2
    generalize iblk m c 3 t = x3
    frame_open
    frame_out
    exact pay2_at x0 x1 x2 x3 s d
  · rw [outsAt0_B m c t h0 (by omega)]
    generalize iblk m c 0 t = x0
    generalize iblk m c 1 t = x1
    generalize iblk m c 2 t = x2
    generalize iblk m c 3 t = x3
    generalize outsAt0 m c (t.val - 1) _ = xo
    frame_open
    frame_out
    exact pay2_at x0 x1 x2 x3 s d

theorem out5 (t : Fin cfg0.N) (s : Fin 512) (d : Fin 1024) :
    (outsAt0 m c t.val t.isLt).2.1 (ix2 s d) = dn (BX (iblk m c 0 t)) (BX (iblk m c 1 t)) (BX (iblk m c 2 t)) (BV (iblk m c 3 t)) s d := by
  by_cases h0 : t.val % 4 = 0
  · rw [outsAt0_A m c t h0 (by have := t.isLt.trans_eq N_0; omega)]
    generalize iblk m c 0 t = x0
    generalize iblk m c 1 t = x1
    generalize iblk m c 2 t = x2
    generalize iblk m c 3 t = x3
    frame_open
    frame_out
    exact pay5_at x0 x1 x2 x3 s d
  · rw [outsAt0_B m c t h0 (by omega)]
    generalize iblk m c 0 t = x0
    generalize iblk m c 1 t = x1
    generalize iblk m c 2 t = x2
    generalize iblk m c 3 t = x3
    generalize outsAt0 m c (t.val - 1) _ = xo
    frame_open
    frame_out
    exact pay5_at x0 x1 x2 x3 s d

theorem out6_A (t : Fin cfg0.N) (h0 : t.val % 4 = 0) :
    (outsAt0 m c t.val t.isLt).2.2.1 (ix2 0 0)
      = 0 + loss (BX (iblk m c 0 t)) (BX (iblk m c 1 t)) (BX (iblk m c 2 t)) (BV (iblk m c 3 t)) := by
  rw [outsAt0_A m c t h0 (by have := t.isLt.trans_eq N_0; omega), zero_add]
  generalize iblk m c 0 t = x0
  generalize iblk m c 1 t = x1
  generalize iblk m c 2 t = x2
  generalize iblk m c 3 t = x3
  frame_open
  frame_out
  exact pay3_at x0 x1 x2 x3

theorem out6_B (t : Fin cfg0.N) (h0 : ¬ t.val % 4 = 0) :
    (outsAt0 m c t.val t.isLt).2.2.1 (ix2 0 0) = (outsAt0 m c (t.val - 1) (Nat.lt_of_le_of_lt (Nat.sub_le _ _) t.isLt)).2.2.1 (ix2 0 0)
      + loss (BX (iblk m c 0 t)) (BX (iblk m c 1 t)) (BX (iblk m c 2 t)) (BV (iblk m c 3 t)) := by
  rw [outsAt0_B m c t h0 (by omega)]
  generalize iblk m c 0 t = x0
  generalize iblk m c 1 t = x1
  generalize iblk m c 2 t = x2
  generalize iblk m c 3 t = x3
  generalize outsAt0 m c (t.val - 1) _ = xo
  frame_open
  frame_out
  exact pay6_at x0 x1 x2 x3 _

theorem out7_A (t : Fin cfg0.N) (h0 : t.val % 4 = 0) (d : Fin 1024) :
    (outsAt0 m c t.val t.isLt).2.2.2 (ix2 0 d)
      = 0 + dg (BX (iblk m c 0 t)) (BX (iblk m c 1 t)) (BX (iblk m c 2 t)) (BV (iblk m c 3 t)) d := by
  rw [outsAt0_A m c t h0 (by have := t.isLt.trans_eq N_0; omega), zero_add]
  generalize iblk m c 0 t = x0
  generalize iblk m c 1 t = x1
  generalize iblk m c 2 t = x2
  generalize iblk m c 3 t = x3
  frame_open
  frame_out
  exact pay4_at x0 x1 x2 x3 d

theorem out7_B (t : Fin cfg0.N) (h0 : ¬ t.val % 4 = 0) (d : Fin 1024) :
    (outsAt0 m c t.val t.isLt).2.2.2 (ix2 0 d) = (outsAt0 m c (t.val - 1) (Nat.lt_of_le_of_lt (Nat.sub_le _ _) t.isLt)).2.2.2 (ix2 0 d)
      + dg (BX (iblk m c 0 t)) (BX (iblk m c 1 t)) (BX (iblk m c 2 t)) (BV (iblk m c 3 t)) d := by
  rw [outsAt0_B m c t h0 (by omega)]
  generalize iblk m c 0 t = x0
  generalize iblk m c 1 t = x1
  generalize iblk m c 2 t = x2
  generalize iblk m c 3 t = x3
  generalize outsAt0 m c (t.val - 1) _ = xo
  frame_open
  frame_out
  exact pay7_at x0 x1 x2 x3 _ d

/-! ## The arguments and the blocks -/

abbrev MX (s : Fin 2048) : Row := fun d => (m ((c : Thread nD τ).loc main_arg0) : FVec Ideal S2048x1024 .f32) (ix2 s d)
abbrev MD (s : Fin 2048) : Row := fun d => (m ((c : Thread nD τ).loc main_arg1) : FVec Ideal S2048x1024 .f32) (ix2 s d)
abbrev MT (s : Fin 2048) : Row := fun d => (m ((c : Thread nD τ).loc main_arg2) : FVec Ideal S2048x1024 .f32) (ix2 s d)
abbrev MG : Row := fun d => (m ((c : Thread nD τ).loc main_arg3) : FVec Ideal S1x1024 .f32) (ix2 0 d)

theorem idx0 : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

theorem lt0 (t : Fin cfg0.N) : t.val < 4 := t.isLt.trans_eq N_0

/-- Row `s` of point `t`'s block. -/
def row (t : Fin cfg0.N) (s : Fin 512) : Fin 2048 := ⟨t.val * 512 + s, by have := lt0 t; omega⟩

theorem blk0 (t : Fin cfg0.N) (s : Fin 512) (k : Fin 1024) : iblk m c 0 t (ix2 s k) = V m c main_arg0 (ix2 (row t s) k) := by
  blk_ext [iblk, idx0 t, row]
theorem blk1 (t : Fin cfg0.N) (s : Fin 512) (k : Fin 1024) : iblk m c 1 t (ix2 s k) = V m c main_arg1 (ix2 (row t s) k) := by
  blk_ext [iblk, idx0 t, row]
theorem blk2 (t : Fin cfg0.N) (s : Fin 512) (k : Fin 1024) : iblk m c 2 t (ix2 s k) = V m c main_arg2 (ix2 (row t s) k) := by
  blk_ext [iblk, idx0 t, row]
theorem blk3 (t : Fin cfg0.N) (k : Fin 1024) : iblk m c 3 t (ix2 0 k) = V m c main_arg3 (ix2 0 k) := by
  blk_ext [iblk, idx0 t]

theorem bx (t : Fin cfg0.N) : BX (iblk m c 0 t) = fun s => MX m c (row t s) :=
  funext fun s => funext fun k => (blk0 m c t s k).trans (congrFun (V_main_arg0 m c) _)
theorem bd (t : Fin cfg0.N) : BX (iblk m c 1 t) = fun s => MD m c (row t s) :=
  funext fun s => funext fun k => (blk1 m c t s k).trans (congrFun (V_main_arg1 m c) _)
theorem bt (t : Fin cfg0.N) : BX (iblk m c 2 t) = fun s => MT m c (row t s) :=
  funext fun s => funext fun k => (blk2 m c t s k).trans (congrFun (V_main_arg2 m c) _)
theorem bg (t : Fin cfg0.N) : BV (iblk m c 3 t) = MG m c :=
  funext fun k => (blk3 m c t k).trans (congrFun (V_main_arg3 m c) _)

/-! ## The arrays -/

def gdy : FVec Ideal S2048x1024 .f32 := fun i => dy (MX m c) (MD m c) (MT m c) (MG m c) (i 0) (i 1)
def gdn : FVec Ideal S2048x1024 .bf16 := fun i => dn (MX m c) (MD m c) (MT m c) (MG m c) (i 0) (i 1)
def gls : FVec Ideal S1x1 .f32 := fun _ => loss (MX m c) (MD m c) (MT m c) (MG m c)
def gdg : FVec Ideal S1x1024 .f32 := fun i => dg (MX m c) (MD m c) (MT m c) (MG m c) (i 1)

theorem arr4 : (dats m 0 c).arrAt 4 cfg0.N = gdy m c := by
  refine (dats m 0 c).arrAt_eq_of_covers 4 _ (by decide +kernel) fun t _ y => ?_
  blk_simp
  rw [after0_4]
  obtain ⟨s, d, rfl⟩ := rowcol (n := 512) (m := 1024) y
  trans gdy m c (ix2 (row t s) d)
  · refine (out4 m c t s d).trans ?_
    rw [bx, bd, bt, bg]; rfl
  · refine (at_ix (gdy m c) (row t s) d _ ?_ ?_).symm
    · blk_simp [idx0 t, row]
    · blk_simp [idx0 t]

theorem arr5 : (dats m 0 c).arrAt 5 cfg0.N = gdn m c := by
  refine (dats m 0 c).arrAt_eq_of_covers 5 _ (by decide +kernel) fun t _ y => ?_
  blk_simp
  rw [after0_5]
  obtain ⟨s, d, rfl⟩ := rowcol (n := 512) (m := 1024) y
  trans gdn m c (ix2 (row t s) d)
  · refine (out5 m c t s d).trans ?_
    rw [bx, bd, bt, bg]; rfl
  · refine (at_ix (gdn m c) (row t s) d _ ?_ ?_).symm
    · blk_simp [idx0 t, row]
    · blk_simp [idx0 t]

theorem arr6 : (dats m 0 c).arrAt 6 cfg0.N = gls m c := by
  refine (dats m 0 c).arrAt_eq_of_after_last 6 t0_3 (by decide +kernel) _ fun j => ?_
  blk_simp
  obtain ⟨z, d, rfl⟩ := rowcol (n := 1) (m := 1) j
  obtain rfl : z = 0 := Subsingleton.elim _ _
  obtain rfl : d = 0 := Subsingleton.elim _ _
  rw [after0_6, Pipeline.eq_sum_fin_of_reset_step_last (fun n h => (outsAt0 m c n h).2.2.1 (ix2 0 0)) 4 (0 : EReal)
    (fun t => loss (BX (iblk m c 0 t)) (BX (iblk m c 1 t)) (BX (iblk m c 2 t)) (BV (iblk m c 3 t)))
    (fun t h => out6_A m c t h) (fun t h => out6_B m c t h) (le_of_eq N_0) t0_3 rfl, zero_add]
  refine (sum_mul _ _ _ fun t => sq_nonneg' _ _ _ _).trans (congrArg (· * halfInv) ?_)
  refine Fin.sum_mul_add_congr fun t s hl => ?_
  rw [bx, bd, bt, bg]
  rfl

theorem arr7 : (dats m 0 c).arrAt 7 cfg0.N = gdg m c := by
  refine (dats m 0 c).arrAt_eq_of_after_last 7 t0_3 (by decide +kernel) _ fun j => ?_
  blk_simp
  obtain ⟨z, d, rfl⟩ := rowcol (n := 1) (m := 1024) j
  obtain rfl : z = 0 := Subsingleton.elim _ _
  rw [after0_7, Pipeline.eq_sum_fin_of_reset_step_last (fun n h => (outsAt0 m c n h).2.2.2 (ix2 0 d)) 4 (0 : EReal)
    (fun t => dg (BX (iblk m c 0 t)) (BX (iblk m c 1 t)) (BX (iblk m c 2 t)) (BV (iblk m c 3 t)) d)
    (fun t h => out7_A m c t h d) (fun t h => out7_B m c t h d) (le_of_eq N_0) t0_3 rfl, zero_add]
  refine Fin.sum_mul_add_congr fun t s hl => ?_
  rw [bx, bd, bt, bg]
  rfl

end Cert.LossHeadIdeal.Own

namespace Cert.Proof.LossHead

open Idealize.ShloMosaic Idealize.SL.Sem
open Cert.LossHeadIdeal Cert.LossHeadIdeal.Gen Cert.LossHeadIdeal.Own
open Cert.LossHeadReferenceIdeal.Read
open Cert.At Cert.Loss
open Cert.Norm (Row)

theorem frame_bits : Cert.quiescent_LossHead := fun m g _ => Cert.LossHead.Gen.frame m g
theorem frame_ideal : Cert.quiescent_LossHeadIdeal := fun m g _ => Cert.LossHeadIdeal.Gen.frame m g
theorem frame_reference : Cert.quiescent_LossHeadReferenceIdeal := fun m g _ =>
  (θ_run Cert.LossHeadReferenceIdeal.defs _ _).mono
    (fun r h => ⟨fun c => (h c).2.2.2.2, sem_eq_zero_of_no_sems (by decide) r.2⟩)
    (Cert.LossHeadReferenceIdeal.Value.run (F := Ideal) m g)

section Reference

variable (x y z : (⟨S2048x1024, .f32⟩ : BufTy).Contents (Elt Ideal)) (g : (⟨S1x1024, .f32⟩ : BufTy).Contents (Elt Ideal))

abbrev RX (x : (⟨S2048x1024, .f32⟩ : BufTy).Contents (Elt Ideal)) (s : Fin 2048) : Row := fun d => x (ix2 s d)
abbrev RV (g : (⟨S1x1024, .f32⟩ : BufTy).Contents (Elt Ideal)) : Row := fun d => g (ix2 0 d)

theorem v3_at (s : Fin 2048) (d : Fin 1024) : val_main_v3 (F := Ideal) x y z g (ix2 s d) = res (RX x) (RX y) (RX z) (RV g) s d := by
  pointwise [val_main_v3, val_main_v2, val_main_v1, val_main_v0]
  rfl

theorem v17_at (s : Fin 2048) (d : Fin 1024) : val_main_v17 (F := Ideal) x y z g (ix2 s d) = dy (RX x) (RX y) (RX z) (RV g) s d := by
  unfold val_main_v17 val_main_v6
  have e := v3_at x y z g s d
  generalize val_main_v3 (F := Ideal) x y z g = w at e
  pointwise [val_main_v16, val_main_v15, val_main_v14, val_main_cst_6, val_main_v13, val_main_v12, val_main_cst_4, val_main_cst_5, val_main_v5, val_main_cst]
  rw [e]
  exact factor' _

theorem v23_at (s : Fin 2048) (d : Fin 1024) : val_main_v23 (F := Ideal) x y z g (ix2 s d) = dn (RX x) (RX y) (RX z) (RV g) s d := by
  unfold val_main_v23 val_main_v19
  have e := v17_at x y z g s d
  generalize val_main_v17 (F := Ideal) x y z g = w at e
  pointwise [val_main_v18]
  rw [e]; rfl

theorem v22_at (d : Fin 1024) : val_main_v22 (F := Ideal) x y z g (ix2 0 d) = dg (RX x) (RX y) (RX z) (RV g) d := by
  unfold val_main_v22 val_main_v21 val_main_v20
  have e := fun s => v17_at x y z g s d
  generalize val_main_v17 (F := Ideal) x y z g = w at e
  pointwise [val_main_cst_7]
  simp only [e]; rfl

theorem v24_at : val_main_v24 (F := Ideal) x y z g (ix2 0 0) = loss (RX x) (RX y) (RX z) (RV g) := by
  unfold val_main_v24 val_main_v11 val_main_v10 val_main_v9 val_main_v7 val_main_v4
  have e := v3_at x y z g
  generalize val_main_v3 (F := Ideal) x y z g = w at e
  pointwise [val_main_cst_3, val_main_cst_2, val_main_v8, val_main_cst_1, val_main_cst_0]
  simp only [e]
  exact loss_eq _ _ _ _

end Reference

/-- Kernel and reference leave the same gradients and the same loss. -/
theorem algebraic : Cert.algebraic_LossHeadIdeal_LossHeadReferenceIdeal := fun m g m' g' _ hagree =>
  ⟨fun c => gdy m c, fun c => gdn m c, fun c => gls m c, fun c => gdg m c,
    (θ_run Cert.LossHeadIdeal.defs _ _).mono (fun _ h c => ⟨((h c).1).trans (arr4 m c), ((h c).2.1).trans (arr5 m c), ((h c).2.2.1).trans (arr6 m c),
      ((h c).2.2.2.1).trans (arr7 m c), (h c).2.2.2.2⟩) (Cert.LossHeadIdeal.Value.run_blocks m g),
    (θ_run Cert.LossHeadReferenceIdeal.defs _ _).mono (fun _ h c => by
      obtain ⟨e0, e1, e2, e3⟩ := hagree c
      refine ⟨((h c).1).trans ((val_main_v17_eq _ _ _ _).trans ?_), ((h c).2.1).trans ((val_main_v23_eq _ _ _ _).trans ?_),
        ((h c).2.2.1).trans ((val_main_v24_eq _ _ _ _).trans ?_), ((h c).2.2.2.1).trans ((val_main_v22_eq _ _ _ _).trans ?_), (h c).2.2.2.2⟩
      · rw [e0, e1, e2, e3]; exact ext2 _ (gdy m c) (v17_at _ _ _ _)
      · rw [e0, e1, e2, e3]; exact ext2 _ (gdn m c) (v23_at _ _ _ _)
      · rw [e0, e1, e2, e3]
        refine ext2 _ (gls m c) fun a b => ?_
        obtain rfl : a = 0 := Subsingleton.elim _ _
        obtain rfl : b = 0 := Subsingleton.elim _ _
        exact v24_at _ _ _ _
      · rw [e0, e1, e2, e3]
        refine ext2 _ (gdg m c) fun a b => ?_
        obtain rfl : a = 0 := Subsingleton.elim _ _
        exact v22_at _ _ _ _ b) (Cert.LossHeadReferenceIdeal.Value.run m' g')⟩

end Cert.Proof.LossHead

end
-- ==== Proof.Adam.lean ====
/- One entry's AdamW step, on the extended reals: the devices' gradients summed, the moments, the change of the weight. -/
module

public import Idealize.ShloMosaic.Lib.Pointwise

@[expose] public section

noncomputable section

open Idealize.ShloMosaic

namespace Cert.Adam

/-- The moments' decays and what each leaves for the new gradient, the bias corrections, the root's epsilon, the weight
    decay and the step's size with its sign, as float constants. -/
def b1 : EReal := Ideal.ofBits .f32 0x3F666666#32
def c1 : EReal := Ideal.ofBits .f32 0x3DCCCCCD#32
def b2 : EReal := Ideal.ofBits .f32 0x3F7FBE77#32
def c2 : EReal := Ideal.ofBits .f32 0x3A83126F#32
def d1 : EReal := Ideal.ofBits .f32 0x3F26BD02#32
def d2 : EReal := Ideal.ofBits .f32 0x3C231ACC#32
def tiny : EReal := Ideal.ofBits .f32 0x322BCC77#32
def decay : EReal := Ideal.ofBits .f32 0x3C23D70A#32
def rate : EReal := Ideal.ofBits .f32 0xBA83126F#32

variable (p : Fin 8 → EReal) (w m v : EReal)

/-- The gradient of all devices. -/
def grad : EReal := ∑ j, p j
/-- The first and the second moment. -/
def mom1 : EReal := b1 * m + c1 * grad p
def mom2 : EReal := b2 * v + c2 * (grad p * grad p)
/-- The weight's change. -/
def delta : EReal :=
  rate * (Ideal.div (Ideal.div (mom1 p m) d1) (Ideal.sqrt (Ideal.div (mom2 p v) d2) + tiny) + decay * w)

theorem grad_eq : p 0 + p 1 + p 2 + p 3 + p 4 + p 5 + p 6 + p 7 = grad p := (Fin.sum_univ_eight p).symm

end Cert.Adam

end
-- ==== Proof.ADown.lean ====
/- The down projection's AdamW call: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.AdamDown.Frame
public import proofs.«01_k».proof.Proof.Gen.AdamDownIdeal.Value
public import proofs.«01_k».proof.Proof.Gen.AdamDownReferenceIdeal.Read
public import proofs.«01_k».proof.Proof.Adam
public import proofs.«01_k».proof.Proof.Norm
public import proofs.«01_k».proof.Proof.At

@[expose] public section

set_option maxRecDepth 16384

noncomputable section

namespace Cert.AdamDownIdeal.Own

open Cert.AdamDownIdeal Cert.AdamDownIdeal.Gen
open Idealize.ShloMosaic Idealize.ShloMosaic.TcCoe Idealize.ShloMosaic.Tactic Idealize.SL.Sem
open Idealize.ShloMosaic.StableHlo Cert.Adam Cert.At
open Cert.Norm (rowcol)

/-! ## A block's entries -/

section Block

variable (w m v gr : FVec Ideal S176x1024 .f32) (p : FVec Ideal S8x176x1024 .bf16) (r : Fin 176) (d : Fin 1024)

abbrev BP (j : Fin 8) : EReal := p (ix3 j r d)

/-- One device's slab of the block, at an entry. -/
theorem slab_at (j : Fin 8) (inb : ∀ a, (![j.val, 0, 0] : Fin 3 → ℕ) a + S1x176x1024.size a ≤ S8x176x1024.size a) :
    (View.ld (Val := Elt Ideal) (e' := .bf16) p (Rect.unit (s := S8x176x1024) ![j.val, 0, 0] S1x176x1024.size inb) : FVec Ideal S1x176x1024 .bf16)
      (ix3 0 r d) = p (ix3 j r d) := by
  refine View.ld_unit_apply_of (Val := Elt Ideal) (e := .bf16) p _ _ inb _ _ fun (a : Fin 3) => ?_
  fin_cases a <;> simp [ix3]

theorem pay4_at (p0 p1 p2 p3 p4 p5 p6 p7 : FVec Ideal S1x176x1024 .bf16) :
    k0_pay4 (F := Ideal) p0 p1 p2 p3 p4 p5 p6 p7 (ix2 r d)
      = p0 (ix3 0 r d) + p1 (ix3 0 r d) + p2 (ix3 0 r d) + p3 (ix3 0 r d) + p4 (ix3 0 r d) + p5 (ix3 0 r d) + p6 (ix3 0 r d) + p7 (ix3 0 r d) := by
  pointwise [k0_pay4]

theorem pay5_at : k0_pay5 (F := Ideal) w p m v (ix2 r d) = grad (BP p r d) := by
  unfold k0_pay5
  rw [pay4_at]
  refine Eq.trans ?_ (grad_eq (BP p r d))
  have e : ∀ j : Fin 8, _ := slab_at p r d
  refine congrArg₂ _ (congrArg₂ _ (congrArg₂ _ (congrArg₂ _ (congrArg₂ _ (congrArg₂ _ (congrArg₂ _ (e 0 _) (e 1 _)) (e 2 _)) (e 3 _)) (e 4 _)) (e 5 _)) (e 6 _)) (e 7 _)

theorem pay1_at (q : Fin 8 → EReal) (h : gr (ix2 r d) = grad q) : k0_pay1 (F := Ideal) gr m (Scalar.ofBits .f32 0x3F666666#32) (ix2 r d) = mom1 q (m (ix2 r d)) := by
  pointwise [k0_pay1]
  rw [h]; rfl

theorem pay2_at (q : Fin 8 → EReal) (h : gr (ix2 r d) = grad q) : k0_pay2 (F := Ideal) gr v (ix2 r d) = mom2 q (v (ix2 r d)) := by
  pointwise [k0_pay2]
  rw [h]; rfl

theorem pay3_at (q : Fin 8 → EReal) (h : gr (ix2 r d) = grad q) :
    k0_pay3 (F := Ideal) gr m (Scalar.ofBits .f32 0x3F666666#32) v w (ix2 r d) = delta q (w (ix2 r d)) (m (ix2 r d)) (v (ix2 r d)) := by
  unfold k0_pay3
  have e1 := pay1_at m gr r d q h
  have e2 := pay2_at v gr r d q h
  generalize k0_pay1 (F := Ideal) gr m (Scalar.ofBits .f32 0x3F666666#32) = y at e1
  generalize k0_pay2 (F := Ideal) gr v = z at e2
  pointwise
  rw [e1, e2]; rfl

theorem out4 : out0_4 (F := Ideal) w p m v (ix2 r d) = grad (BP p r d) := by
  unfold out0_4
  frame_out
  exact pay5_at w m v p r d

theorem out5 : out0_5 (F := Ideal) w p m v (ix2 r d) = delta (BP p r d) (w (ix2 r d)) (m (ix2 r d)) (v (ix2 r d)) := by
  unfold out0_5
  have e := pay5_at w m v p r d
  generalize k0_pay5 (F := Ideal) w p m v = z at e
  frame_out
  exact pay3_at w m v z r d _ e

theorem out6 : out0_6 (F := Ideal) w p m v (ix2 r d) = mom1 (BP p r d) (m (ix2 r d)) := by
  unfold out0_6
  have e := pay5_at w m v p r d
  generalize k0_pay5 (F := Ideal) w p m v = z at e
  frame_out
  exact pay1_at m z r d _ e

theorem out7 : out0_7 (F := Ideal) w p m v (ix2 r d) = mom2 (BP p r d) (v (ix2 r d)) := by
  unfold out0_7
  have e := pay5_at w m v p r d
  generalize k0_pay5 (F := Ideal) w p m v = z at e
  frame_out
  exact pay2_at v z r d _ e

end Block

/-! ## The arrays -/

variable (m : (ℓ : Loc nD τ sig) → Buf (Elt Ideal) ℓ) (c : Dev nD)

abbrev MW : FVec Ideal S352x1024 .f32 := m ((c : Thread nD τ).loc main_arg0)
abbrev MP : FVec Ideal S8x352x1024 .f32 := m ((c : Thread nD τ).loc main_arg1)
abbrev MM : FVec Ideal S352x1024 .f32 := m ((c : Thread nD τ).loc main_arg2)
abbrev MV : FVec Ideal S352x1024 .f32 := m ((c : Thread nD τ).loc main_arg3)
/-- The devices' gradients of one entry. -/
abbrev PP (r : Fin 352) (d : Fin 1024) (j : Fin 8) : EReal := MP m c (ix3 j r d)

theorem V_v0 : V m c main_v0 = MP m c := by
  show StableHlo.after hostOps0 _ (Proc.devRef .tc main_v0) = _
  simp only [hostOps0, TRef.binary, TRef.nullary, TRef.unary, TRef.toBuf, TRef.ofBuf, cast_eq]
  after_results_simp <;> rfl

theorem idx0 : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt0 (t : Fin cfg0.N) : t.val < 2 := t.isLt.trans_eq (by decide : cfg0.N = 2)

/-- Row `r` of point `t`'s block. -/
def row (t : Fin cfg0.N) (r : Fin 176) : Fin 352 := ⟨t.val * 176 + r, by have := lt0 t; omega⟩

theorem blk0 (t : Fin cfg0.N) (r : Fin 176) (d : Fin 1024) : iblk m c 0 t (ix2 r d) = V m c main_arg0 (ix2 (row t r) d) := by
  blk_ext [iblk, idx0 t, row]
theorem blk1 (t : Fin cfg0.N) (j : Fin 8) (r : Fin 176) (d : Fin 1024) : iblk m c 1 t (ix3 j r d) = V m c main_v0 (ix3 j (row t r) d) := by
  blk_ext [iblk, idx0 t, row]
theorem blk2 (t : Fin cfg0.N) (r : Fin 176) (d : Fin 1024) : iblk m c 2 t (ix2 r d) = V m c main_arg2 (ix2 (row t r) d) := by
  blk_ext [iblk, idx0 t, row]
theorem blk3 (t : Fin cfg0.N) (r : Fin 176) (d : Fin 1024) : iblk m c 3 t (ix2 r d) = V m c main_arg3 (ix2 (row t r) d) := by
  blk_ext [iblk, idx0 t, row]

theorem bw (t : Fin cfg0.N) (r : Fin 176) (d : Fin 1024) : iblk m c 0 t (ix2 r d) = MW m c (ix2 (row t r) d) :=
  (blk0 m c t r d).trans (congrFun (V_main_arg0 m c) _)
theorem bp (t : Fin cfg0.N) (r : Fin 176) (d : Fin 1024) : BP (iblk m c 1 t) r d = PP m c (row t r) d :=
  funext fun j => (blk1 m c t j r d).trans (congrFun (V_v0 m c) _)
theorem bm (t : Fin cfg0.N) (r : Fin 176) (d : Fin 1024) : iblk m c 2 t (ix2 r d) = MM m c (ix2 (row t r) d) :=
  (blk2 m c t r d).trans (congrFun (V_main_arg2 m c) _)
theorem bv (t : Fin cfg0.N) (r : Fin 176) (d : Fin 1024) : iblk m c 3 t (ix2 r d) = MV m c (ix2 (row t r) d) :=
  (blk3 m c t r d).trans (congrFun (V_main_arg3 m c) _)

def ggr : FVec Ideal S352x1024 .f32 := fun i => grad (PP m c (i 0) (i 1))
def gdl : FVec Ideal S352x1024 .f32 := fun i => delta (PP m c (i 0) (i 1)) (MW m c (ix2 (i 0) (i 1))) (MM m c (ix2 (i 0) (i 1))) (MV m c (ix2 (i 0) (i 1)))
def gm1 : FVec Ideal S352x1024 .f32 := fun i => mom1 (PP m c (i 0) (i 1)) (MM m c (ix2 (i 0) (i 1)))
def gm2 : FVec Ideal S352x1024 .f32 := fun i => mom2 (PP m c (i 0) (i 1)) (MV m c (ix2 (i 0) (i 1)))

theorem arr4 : (dats m 0 c).arrAt 4 cfg0.N = ggr m c := by
  refine (dats m 0 c).arrAt_eq_of_covers 4 _ (by decide +kernel) fun t _ y => ?_
  blk_simp
  rw [after0_4]
  obtain ⟨r, d, rfl⟩ := rowcol (n := 176) (m := 1024) y
  trans ggr m c (ix2 (row t r) d)
  · exact (out4 _ _ _ _ r d).trans (congrArg grad (bp m c t r d))
  · refine (at_ix (ggr m c) (row t r) d _ ?_ ?_).symm
    · blk_simp [idx0 t, row]
    · blk_simp [idx0 t]

theorem arr5 : (dats m 0 c).arrAt 5 cfg0.N = gdl m c := by
  refine (dats m 0 c).arrAt_eq_of_covers 5 _ (by decide +kernel) fun t _ y => ?_
  blk_simp
  rw [after0_5]
  obtain ⟨r, d, rfl⟩ := rowcol (n := 176) (m := 1024) y
  trans gdl m c (ix2 (row t r) d)
  · refine (out5 _ _ _ _ r d).trans ?_
    rw [bp, bw, bm, bv]; rfl
  · refine (at_ix (gdl m c) (row t r) d _ ?_ ?_).symm
    · blk_simp [idx0 t, row]
    · blk_simp [idx0 t]

theorem arr6 : (dats m 0 c).arrAt 6 cfg0.N = gm1 m c := by
  refine (dats m 0 c).arrAt_eq_of_covers 6 _ (by decide +kernel) fun t _ y => ?_
  blk_simp
  rw [after0_6]
  obtain ⟨r, d, rfl⟩ := rowcol (n := 176) (m := 1024) y
  trans gm1 m c (ix2 (row t r) d)
  · refine (out6 _ _ _ _ r d).trans ?_
    rw [bp, bm]; rfl
  · refine (at_ix (gm1 m c) (row t r) d _ ?_ ?_).symm
    · blk_simp [idx0 t, row]
    · blk_simp [idx0 t]

theorem arr7 : (dats m 0 c).arrAt 7 cfg0.N = gm2 m c := by
  refine (dats m 0 c).arrAt_eq_of_covers 7 _ (by decide +kernel) fun t _ y => ?_
  blk_simp
  rw [after0_7]
  obtain ⟨r, d, rfl⟩ := rowcol (n := 176) (m := 1024) y
  trans gm2 m c (ix2 (row t r) d)
  · refine (out7 _ _ _ _ r d).trans ?_
    rw [bp, bv]; rfl
  · refine (at_ix (gm2 m c) (row t r) d _ ?_ ?_).symm
    · blk_simp [idx0 t, row]
    · blk_simp [idx0 t]

end Cert.AdamDownIdeal.Own

namespace Cert.Proof.AdamDown

open Idealize.ShloMosaic Idealize.SL.Sem
open Cert.AdamDownIdeal Cert.AdamDownIdeal.Gen Cert.AdamDownIdeal.Own
open Cert.AdamDownReferenceIdeal.Read
open Cert.Adam Cert.At

theorem frame_bits : Cert.quiescent_AdamDown := fun m g _ => Cert.AdamDown.Gen.frame m g
theorem frame_ideal : Cert.quiescent_AdamDownIdeal := fun m g _ => Cert.AdamDownIdeal.Gen.frame m g
theorem frame_reference : Cert.quiescent_AdamDownReferenceIdeal := fun m g _ =>
  (θ_run Cert.AdamDownReferenceIdeal.defs _ _).mono
    (fun r h => ⟨fun c => (h c).2.2.2.2, sem_eq_zero_of_no_sems (by decide) r.2⟩)
    (Cert.AdamDownReferenceIdeal.Value.run (F := Ideal) m g)

section Reference

variable (w m v : (⟨S352x1024, .f32⟩ : BufTy).Contents (Elt Ideal)) (p : (⟨S8x352x1024, .f32⟩ : BufTy).Contents (Elt Ideal))
  (r : Fin 352) (d : Fin 1024)

abbrev RP (j : Fin 8) : EReal := p (ix3 j r d)

theorem v0_at : val_main_v0 (F := Ideal) p (ix2 r d) = grad (RP p r d) := by
  pointwise [val_main_v0, val_main_cst]
  rfl

theorem v5_at : val_main_v5 (F := Ideal) p m (ix2 r d) = mom1 (RP p r d) (m (ix2 r d)) := by
  unfold val_main_v5 val_main_v4
  have h := v0_at p r d
  generalize val_main_v0 (F := Ideal) p = z at h
  pointwise [val_main_v2, val_main_v1, val_main_cst_0, val_main_v3, val_main_cst_1]
  rw [h]; rfl

theorem v11_at : val_main_v11 (F := Ideal) p v (ix2 r d) = mom2 (RP p r d) (v (ix2 r d)) := by
  unfold val_main_v11 val_main_v10 val_main_v8
  have h := v0_at p r d
  generalize val_main_v0 (F := Ideal) p = z at h
  pointwise [val_main_v7, val_main_v6, val_main_cst_2, val_main_v9, val_main_cst_3]
  rw [h]; rfl

theorem v24_at : val_main_v24 (F := Ideal) w p m v (ix2 r d) = delta (RP p r d) (w (ix2 r d)) (m (ix2 r d)) (v (ix2 r d)) := by
  unfold val_main_v24 val_main_v22 val_main_v19 val_main_v18 val_main_v16 val_main_v15 val_main_v13
  have h1 := v5_at m p r d
  have h2 := v11_at v p r d
  generalize val_main_v5 (F := Ideal) p m = y at h1
  generalize val_main_v11 (F := Ideal) p v = z at h2
  pointwise [val_main_v23, val_main_cst_8, val_main_v21, val_main_v20, val_main_cst_7, val_main_v17, val_main_cst_6, val_main_v14, val_main_cst_5, val_main_v12, val_main_cst_4]
  rw [h1, h2]; rfl

end Reference

/-- Kernel and reference leave the same gradient, change and moments. -/
theorem algebraic : Cert.algebraic_AdamDownIdeal_AdamDownReferenceIdeal := fun m g m' g' _ hagree =>
  ⟨fun c => ggr m c, fun c => gdl m c, fun c => gm1 m c, fun c => gm2 m c,
    (θ_run Cert.AdamDownIdeal.defs _ _).mono (fun _ h c => ⟨((h c).1).trans (arr4 m c), ((h c).2.1).trans (arr5 m c), ((h c).2.2.1).trans (arr6 m c),
      ((h c).2.2.2.1).trans (arr7 m c), (h c).2.2.2.2⟩) (Cert.AdamDownIdeal.Value.run_blocks m g),
    (θ_run Cert.AdamDownReferenceIdeal.defs _ _).mono (fun _ h c => by
      obtain ⟨e0, e1, e2, e3⟩ := hagree c
      refine ⟨((h c).1).trans ((val_main_v0_eq _).trans ?_), ((h c).2.1).trans ((val_main_v24_eq _ _ _ _).trans ?_),
        ((h c).2.2.1).trans ((val_main_v5_eq _ _).trans ?_), ((h c).2.2.2.1).trans ((val_main_v11_eq _ _).trans ?_), (h c).2.2.2.2⟩
      · rw [e1]; exact ext2 _ (ggr m c) (v0_at _)
      · rw [e0, e1, e2, e3]; exact ext2 _ (gdl m c) (v24_at _ _ _ _)
      · rw [e1, e2]; exact ext2 _ (gm1 m c) (v5_at _ _)
      · rw [e1, e3]; exact ext2 _ (gm2 m c) (v11_at _ _)) (Cert.AdamDownReferenceIdeal.Value.run m' g')⟩

end Cert.Proof.AdamDown

end
-- ==== Proof.AUp.lean ====
/- The up projection's AdamW call: the kernel's arrays over the arguments, its frames, and its values against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.AdamUp.Frame
public import proofs.«01_k».proof.Proof.Gen.AdamUpIdeal.Value
public import proofs.«01_k».proof.Proof.Gen.AdamUpReferenceIdeal.Read
public import proofs.«01_k».proof.Proof.Adam
public import proofs.«01_k».proof.Proof.ADown
public import proofs.«01_k».proof.Proof.Norm
public import proofs.«01_k».proof.Proof.At

@[expose] public section

set_option maxRecDepth 16384

noncomputable section

namespace Cert.AdamUpIdeal.Own

open Cert.AdamUpIdeal Cert.AdamUpIdeal.Gen
open Idealize.ShloMosaic Idealize.ShloMosaic.TcCoe Idealize.ShloMosaic.Tactic Idealize.SL.Sem
open Idealize.ShloMosaic.StableHlo Cert.Adam Cert.At
open Cert.Norm (rowcol)
open Cert.AdamDownIdeal.Own (BP out4 out5 out6 out7)

/-! ## The arrays: the body is the down projection's, over twice as many blocks -/

variable (m : (ℓ : Loc nD τ sig) → Buf (Elt Ideal) ℓ) (c : Dev nD)

abbrev MW : FVec Ideal S704x1024 .f32 := m ((c : Thread nD τ).loc main_arg0)
abbrev MP : FVec Ideal S8x704x1024 .f32 := m ((c : Thread nD τ).loc main_arg1)
abbrev MM : FVec Ideal S704x1024 .f32 := m ((c : Thread nD τ).loc main_arg2)
abbrev MV : FVec Ideal S704x1024 .f32 := m ((c : Thread nD τ).loc main_arg3)
/-- The devices' gradients of one entry. -/
abbrev PP (r : Fin 704) (d : Fin 1024) (j : Fin 8) : EReal := MP m c (ix3 j r d)

theorem V_v0 : V m c main_v0 = MP m c := by
  show StableHlo.after hostOps0 _ (Proc.devRef .tc main_v0) = _
  simp only [hostOps0, TRef.binary, TRef.nullary, TRef.unary, TRef.toBuf, TRef.ofBuf, cast_eq]
  after_results_simp <;> rfl

theorem idx0 : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem lt0 (t : Fin cfg0.N) : t.val < 4 := t.isLt.trans_eq (by decide : cfg0.N = 4)

/-- Row `r` of point `t`'s block. -/
def row (t : Fin cfg0.N) (r : Fin 176) : Fin 704 := ⟨t.val * 176 + r, by have := lt0 t; omega⟩

theorem blk0 (t : Fin cfg0.N) (r : Fin 176) (d : Fin 1024) : iblk m c 0 t (ix2 r d) = V m c main_arg0 (ix2 (row t r) d) := by
  blk_ext [iblk, idx0 t, row]
theorem blk1 (t : Fin cfg0.N) (j : Fin 8) (r : Fin 176) (d : Fin 1024) : iblk m c 1 t (ix3 j r d) = V m c main_v0 (ix3 j (row t r) d) := by
  blk_ext [iblk, idx0 t, row]
theorem blk2 (t : Fin cfg0.N) (r : Fin 176) (d : Fin 1024) : iblk m c 2 t (ix2 r d) = V m c main_arg2 (ix2 (row t r) d) := by
  blk_ext [iblk, idx0 t, row]
theorem blk3 (t : Fin cfg0.N) (r : Fin 176) (d : Fin 1024) : iblk m c 3 t (ix2 r d) = V m c main_arg3 (ix2 (row t r) d) := by
  blk_ext [iblk, idx0 t, row]

theorem bw (t : Fin cfg0.N) (r : Fin 176) (d : Fin 1024) : iblk m c 0 t (ix2 r d) = MW m c (ix2 (row t r) d) :=
  (blk0 m c t r d).trans (congrFun (V_main_arg0 m c) _)
theorem bp (t : Fin cfg0.N) (r : Fin 176) (d : Fin 1024) : BP (iblk m c 1 t) r d = PP m c (row t r) d :=
  funext fun j => (blk1 m c t j r d).trans (congrFun (V_v0 m c) _)
theorem bm (t : Fin cfg0.N) (r : Fin 176) (d : Fin 1024) : iblk m c 2 t (ix2 r d) = MM m c (ix2 (row t r) d) :=
  (blk2 m c t r d).trans (congrFun (V_main_arg2 m c) _)
theorem bv (t : Fin cfg0.N) (r : Fin 176) (d : Fin 1024) : iblk m c 3 t (ix2 r d) = MV m c (ix2 (row t r) d) :=
  (blk3 m c t r d).trans (congrFun (V_main_arg3 m c) _)

def ggr : FVec Ideal S704x1024 .f32 := fun i => grad (PP m c (i 0) (i 1))
def gdl : FVec Ideal S704x1024 .f32 := fun i => delta (PP m c (i 0) (i 1)) (MW m c (ix2 (i 0) (i 1))) (MM m c (ix2 (i 0) (i 1))) (MV m c (ix2 (i 0) (i 1)))
def gm1 : FVec Ideal S704x1024 .f32 := fun i => mom1 (PP m c (i 0) (i 1)) (MM m c (ix2 (i 0) (i 1)))
def gm2 : FVec Ideal S704x1024 .f32 := fun i => mom2 (PP m c (i 0) (i 1)) (MV m c (ix2 (i 0) (i 1)))

theorem arr4 : (dats m 0 c).arrAt 4 cfg0.N = ggr m c := by
  refine (dats m 0 c).arrAt_eq_of_covers 4 _ (by decide +kernel) fun t _ y => ?_
  blk_simp
  rw [after0_4]
  obtain ⟨r, d, rfl⟩ := rowcol (n := 176) (m := 1024) y
  trans ggr m c (ix2 (row t r) d)
  · exact (out4 (iblk m c 0 t) (iblk m c 2 t) (iblk m c 3 t) (iblk m c 1 t) r d).trans (congrArg grad (bp m c t r d))
  · refine (at_ix (ggr m c) (row t r) d _ ?_ ?_).symm
    · blk_simp [idx0 t, row]
    · blk_simp [idx0 t]

theorem arr5 : (dats m 0 c).arrAt 5 cfg0.N = gdl m c := by
  refine (dats m 0 c).arrAt_eq_of_covers 5 _ (by decide +kernel) fun t _ y => ?_
  blk_simp
  rw [after0_5]
  obtain ⟨r, d, rfl⟩ := rowcol (n := 176) (m := 1024) y
  trans gdl m c (ix2 (row t r) d)
  · refine (out5 (iblk m c 0 t) (iblk m c 2 t) (iblk m c 3 t) (iblk m c 1 t) r d).trans ?_
    rw [bp, bw, bm, bv]; rfl
  · refine (at_ix (gdl m c) (row t r) d _ ?_ ?_).symm
    · blk_simp [idx0 t, row]
    · blk_simp [idx0 t]

theorem arr6 : (dats m 0 c).arrAt 6 cfg0.N = gm1 m c := by
  refine (dats m 0 c).arrAt_eq_of_covers 6 _ (by decide +kernel) fun t _ y => ?_
  blk_simp
  rw [after0_6]
  obtain ⟨r, d, rfl⟩ := rowcol (n := 176) (m := 1024) y
  trans gm1 m c (ix2 (row t r) d)
  · refine (out6 (iblk m c 0 t) (iblk m c 2 t) (iblk m c 3 t) (iblk m c 1 t) r d).trans ?_
    rw [bp, bm]; rfl
  · refine (at_ix (gm1 m c) (row t r) d _ ?_ ?_).symm
    · blk_simp [idx0 t, row]
    · blk_simp [idx0 t]

theorem arr7 : (dats m 0 c).arrAt 7 cfg0.N = gm2 m c := by
  refine (dats m 0 c).arrAt_eq_of_covers 7 _ (by decide +kernel) fun t _ y => ?_
  blk_simp
  rw [after0_7]
  obtain ⟨r, d, rfl⟩ := rowcol (n := 176) (m := 1024) y
  trans gm2 m c (ix2 (row t r) d)
  · refine (out7 (iblk m c 0 t) (iblk m c 2 t) (iblk m c 3 t) (iblk m c 1 t) r d).trans ?_
    rw [bp, bv]; rfl
  · refine (at_ix (gm2 m c) (row t r) d _ ?_ ?_).symm
    · blk_simp [idx0 t, row]
    · blk_simp [idx0 t]

end Cert.AdamUpIdeal.Own

namespace Cert.Proof.AdamUp

open Idealize.ShloMosaic Idealize.SL.Sem
open Cert.AdamUpIdeal Cert.AdamUpIdeal.Gen Cert.AdamUpIdeal.Own
open Cert.AdamUpReferenceIdeal.Read
open Cert.Adam Cert.At

theorem frame_bits : Cert.quiescent_AdamUp := fun m g _ => Cert.AdamUp.Gen.frame m g
theorem frame_ideal : Cert.quiescent_AdamUpIdeal := fun m g _ => Cert.AdamUpIdeal.Gen.frame m g
theorem frame_reference : Cert.quiescent_AdamUpReferenceIdeal := fun m g _ =>
  (θ_run Cert.AdamUpReferenceIdeal.defs _ _).mono
    (fun r h => ⟨fun c => (h c).2.2.2.2, sem_eq_zero_of_no_sems (by decide) r.2⟩)
    (Cert.AdamUpReferenceIdeal.Value.run (F := Ideal) m g)

section Reference

variable (w m v : (⟨S704x1024, .f32⟩ : BufTy).Contents (Elt Ideal)) (p : (⟨S8x704x1024, .f32⟩ : BufTy).Contents (Elt Ideal))
  (r : Fin 704) (d : Fin 1024)

abbrev RP (j : Fin 8) : EReal := p (ix3 j r d)

theorem v0_at : val_main_v0 (F := Ideal) p (ix2 r d) = grad (RP p r d) := by
  pointwise [val_main_v0, val_main_cst]
  rfl

theorem v5_at : val_main_v5 (F := Ideal) p m (ix2 r d) = mom1 (RP p r d) (m (ix2 r d)) := by
  unfold val_main_v5 val_main_v4
  have h := v0_at p r d
  generalize val_main_v0 (F := Ideal) p = z at h
  pointwise [val_main_v2, val_main_v1, val_main_cst_0, val_main_v3, val_main_cst_1]
  rw [h]; rfl

theorem v11_at : val_main_v11 (F := Ideal) p v (ix2 r d) = mom2 (RP p r d) (v (ix2 r d)) := by
  unfold val_main_v11 val_main_v10 val_main_v8
  have h := v0_at p r d
  generalize val_main_v0 (F := Ideal) p = z at h
  pointwise [val_main_v7, val_main_v6, val_main_cst_2, val_main_v9, val_main_cst_3]
  rw [h]; rfl

theorem v24_at : val_main_v24 (F := Ideal) w p m v (ix2 r d) = delta (RP p r d) (w (ix2 r d)) (m (ix2 r d)) (v (ix2 r d)) := by
  unfold val_main_v24 val_main_v22 val_main_v19 val_main_v18 val_main_v16 val_main_v15 val_main_v13
  have h1 := v5_at m p r d
  have h2 := v11_at v p r d
  generalize val_main_v5 (F := Ideal) p m = y at h1
  generalize val_main_v11 (F := Ideal) p v = z at h2
  pointwise [val_main_v23, val_main_cst_8, val_main_v21, val_main_v20, val_main_cst_7, val_main_v17, val_main_cst_6, val_main_v14, val_main_cst_5, val_main_v12, val_main_cst_4]
  rw [h1, h2]; rfl

end Reference

/-- Kernel and reference leave the same gradient, change and moments. -/
theorem algebraic : Cert.algebraic_AdamUpIdeal_AdamUpReferenceIdeal := fun m g m' g' _ hagree =>
  ⟨fun c => ggr m c, fun c => gdl m c, fun c => gm1 m c, fun c => gm2 m c,
    (θ_run Cert.AdamUpIdeal.defs _ _).mono (fun _ h c => ⟨((h c).1).trans (arr4 m c), ((h c).2.1).trans (arr5 m c), ((h c).2.2.1).trans (arr6 m c),
      ((h c).2.2.2.1).trans (arr7 m c), (h c).2.2.2.2⟩) (Cert.AdamUpIdeal.Value.run_blocks m g),
    (θ_run Cert.AdamUpReferenceIdeal.defs _ _).mono (fun _ h c => by
      obtain ⟨e0, e1, e2, e3⟩ := hagree c
      refine ⟨((h c).1).trans ((val_main_v0_eq _).trans ?_), ((h c).2.1).trans ((val_main_v24_eq _ _ _ _).trans ?_),
        ((h c).2.2.1).trans ((val_main_v5_eq _ _).trans ?_), ((h c).2.2.2.1).trans ((val_main_v11_eq _ _).trans ?_), (h c).2.2.2.2⟩
      · rw [e1]; exact ext2 _ (ggr m c) (v0_at _)
      · rw [e0, e1, e2, e3]; exact ext2 _ (gdl m c) (v24_at _ _ _ _)
      · rw [e1, e2]; exact ext2 _ (gm1 m c) (v5_at _ _)
      · rw [e1, e3]; exact ext2 _ (gm2 m c) (v11_at _ _)) (Cert.AdamUpReferenceIdeal.Value.run m' g')⟩

end Cert.Proof.AdamUp

end
-- ==== Proof.FNorm.lean ====
/- The first norm's forward call: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.FirstNorm.Frame
public import proofs.«01_k».proof.Proof.Gen.FirstNormIdeal.Value
public import proofs.«01_k».proof.Proof.Gen.FirstNormReferenceIdeal.Read
public import proofs.«01_k».proof.Proof.Norm
public import proofs.«01_k».proof.Proof.At

@[expose] public section

set_option maxRecDepth 16384

noncomputable section

namespace Cert.FirstNorm.Rows

open Cert.Norm

variable {ι : Type} (X : ι → Row) (g sc sh : Row)

/-- The rows' modulated norm. -/
def mod (s : ι) : Row := fun d => nrm (X s) d * g d * (1 + sc d) + sh d

end Cert.FirstNorm.Rows

namespace Cert.FirstNormIdeal.Own

open Cert.FirstNormIdeal Cert.FirstNormIdeal.Gen
open Idealize.ShloMosaic Idealize.ShloMosaic.TcCoe Idealize.ShloMosaic.Tactic Idealize.SL.Sem
open Idealize.ShloMosaic.StableHlo Cert.Norm Cert.At Cert.FirstNorm.Rows

abbrev BX (x : FVec Ideal S512x1024 .f32) (s : Fin 512) : Row := fun d => x (ix2 s d)
abbrev BV (v : FVec Ideal S1x1024 .f32) : Row := fun d => v (ix2 0 d)

theorem pay1_at (x : FVec Ideal S512x1024 .f32) (g sc sh : FVec Ideal S1x1024 .f32) (s : Fin 512) (d : Fin 1024) :
    k0_pay1 (F := Ideal) x g sc sh (ix2 s d) = mod (BX x) (BV g) (BV sc) (BV sh) s d := by
  pointwise [k0_pay1]
  rfl

variable (m : (ℓ : Loc nD τ sig) → Buf (Elt Ideal) ℓ) (c : Dev nD)

abbrev MX (s : Fin 2048) : Row := fun d => ((m ((c : Thread nD τ).loc main_arg0)) : FVec Ideal S2048x1024 .f32) (ix2 s d)
abbrev MG : Row := fun d => ((m ((c : Thread nD τ).loc main_arg1)) : FVec Ideal S1x1024 .f32) (ix2 0 d)
abbrev MSC : Row := fun d => ((m ((c : Thread nD τ).loc main_arg2)) : FVec Ideal S1x1024 .f32) (ix2 0 d)
abbrev MSH : Row := fun d => ((m ((c : Thread nD τ).loc main_arg3)) : FVec Ideal S1x1024 .f32) (ix2 0 d)

/-! ## The blocks -/

theorem idx0 : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem lt0 (t : Fin cfg0.N) : t.val < 4 := t.isLt.trans_eq (by decide : cfg0.N = 4)

/-- Row `s` of point `t`'s block. -/
def row (t : Fin cfg0.N) (s : Fin 512) : Fin 2048 := ⟨t.val * 512 + s, by have := lt0 t; omega⟩

theorem blk0 (t : Fin cfg0.N) (s : Fin 512) (k : Fin 1024) : iblk m c 0 t (ix2 s k) = V m c main_arg0 (ix2 (row t s) k) := by
  blk_ext [iblk, idx0 t, row]
theorem blk1 (t : Fin cfg0.N) (k : Fin 1024) : iblk m c 1 t (ix2 0 k) = V m c main_arg1 (ix2 0 k) := by
  blk_ext [iblk, idx0 t]
theorem blk2 (t : Fin cfg0.N) (k : Fin 1024) : iblk m c 2 t (ix2 0 k) = V m c main_arg2 (ix2 0 k) := by
  blk_ext [iblk, idx0 t]
theorem blk3 (t : Fin cfg0.N) (k : Fin 1024) : iblk m c 3 t (ix2 0 k) = V m c main_arg3 (ix2 0 k) := by
  blk_ext [iblk, idx0 t]

theorem bx (t : Fin cfg0.N) : BX (iblk m c 0 t) = fun s => MX m c (row t s) :=
  funext fun s => funext fun k => (blk0 m c t s k).trans (congrFun (V_main_arg0 m c) _)
theorem bg (t : Fin cfg0.N) : BV (iblk m c 1 t) = MG m c :=
  funext fun k => (blk1 m c t k).trans (congrFun (V_main_arg1 m c) _)
theorem bsc (t : Fin cfg0.N) : BV (iblk m c 2 t) = MSC m c :=
  funext fun k => (blk2 m c t k).trans (congrFun (V_main_arg2 m c) _)
theorem bsh (t : Fin cfg0.N) : BV (iblk m c 3 t) = MSH m c :=
  funext fun k => (blk3 m c t k).trans (congrFun (V_main_arg3 m c) _)

/-! ## The array -/

def gmod : FVec Ideal S2048x1024 .bf16 := fun i => mod (MX m c) (MG m c) (MSC m c) (MSH m c) (i 0) (i 1)

theorem out4 (x0 : FVec Ideal S512x1024 .f32) (x1 x2 x3 : FVec Ideal S1x1024 .f32) (s : Fin 512) (d : Fin 1024) :
    out0_4 (F := Ideal) x0 x1 x2 x3 (ix2 s d) = mod (BX x0) (BV x1) (BV x2) (BV x3) s d := by
  unfold out0_4
  frame_out
  exact pay1_at x0 x1 x2 x3 s d

theorem arr4 : (dats m 0 c).arrAt 4 cfg0.N = gmod m c := by
  refine (dats m 0 c).arrAt_eq_of_covers 4 _ (by decide +kernel) fun t _ y => ?_
  blk_simp
  rw [after0_4]
  obtain ⟨s, d, rfl⟩ := rowcol (n := 512) (m := 1024) y
  trans gmod m c (ix2 (row t s) d)
  · refine (out4 _ _ _ _ s d).trans ?_
    rw [bx, bg, bsc, bsh]; rfl
  · refine (at_ix (gmod m c) (row t s) d _ ?_ ?_).symm
    · blk_simp [idx0 t, row]
    · blk_simp [idx0 t]

end Cert.FirstNormIdeal.Own

namespace Cert.Proof.FirstNorm

open Idealize.ShloMosaic Idealize.SL.Sem
open Cert.FirstNormIdeal Cert.FirstNormIdeal.Gen Cert.FirstNormIdeal.Own
open Cert.FirstNormReferenceIdeal.Read
open Cert.Norm Cert.At Cert.FirstNorm.Rows

theorem frame_bits : Cert.quiescent_FirstNorm := fun m g _ => Cert.FirstNorm.Gen.frame m g
theorem frame_ideal : Cert.quiescent_FirstNormIdeal := fun m g _ => Cert.FirstNormIdeal.Gen.frame m g
theorem frame_reference : Cert.quiescent_FirstNormReferenceIdeal := fun m g _ =>
  (θ_run Cert.FirstNormReferenceIdeal.defs _ _).mono
    (fun r h => ⟨fun c => (h c).2, sem_eq_zero_of_no_sems (by decide) r.2⟩)
    (Cert.FirstNormReferenceIdeal.Value.run (F := Ideal) m g)

section Reference

variable (x : (⟨S2048x1024, .f32⟩ : BufTy).Contents (Elt Ideal)) (g sc sh : (⟨S1x1024, .f32⟩ : BufTy).Contents (Elt Ideal))
  (s : Fin 2048) (d : Fin 1024)

abbrev RX (s : Fin 2048) : Row := fun d => x (ix2 s d)
abbrev RV (v : (⟨S1x1024, .f32⟩ : BufTy).Contents (Elt Ideal)) : Row := fun d => v (ix2 0 d)

theorem v7_at : val_main_v7 (F := Ideal) x (ix2 s 0) = rs (RX x s) := by
  pointwise [val_main_v7, val_main_v6, val_main_v4, val_main_v2, val_main_v1, val_main_v0, val_main_cst, val_main_v3, val_main_cst_0,
    val_main_v5, val_main_cst_1]
  rfl

theorem v18_at : val_main_v18 (F := Ideal) x g sc sh (ix2 s d) = mod (RX x) (RV g) (RV sc) (RV sh) s d := by
  unfold val_main_v18 val_main_v17 val_main_v15 val_main_v11 val_main_v9 val_main_v8
  have h := v7_at x s
  generalize val_main_v7 (F := Ideal) x = z at h
  pointwise [val_main_v16, val_main_v14, val_main_v13, val_main_v12, val_main_cst_2, val_main_v10]
  rw [h]; rfl

end Reference

/-- Kernel and reference leave the same modulated norm. -/
theorem algebraic : Cert.algebraic_FirstNormIdeal_FirstNormReferenceIdeal := fun m g m' g' _ hagree =>
  ⟨fun c => gmod m c,
    (θ_run Cert.FirstNormIdeal.defs _ _).mono (fun _ h c => ⟨((h c).1).trans (arr4 m c), (h c).2⟩) (Cert.FirstNormIdeal.Value.run_blocks m g),
    (θ_run Cert.FirstNormReferenceIdeal.defs _ _).mono (fun _ h c => by
      obtain ⟨e0, e1, e2, e3⟩ := hagree c
      refine ⟨((h c).1).trans ((val_main_v18_eq _ _ _ _).trans ?_), (h c).2⟩
      rw [e0, e1, e2, e3]; exact ext2 _ (gmod m c) (v18_at _ _ _ _)) (Cert.FirstNormReferenceIdeal.Value.run m' g')⟩

end Cert.Proof.FirstNorm

end
-- ==== Proof.WAda.lean ====
/- The modulation weight's gradient: the kernel's array over the arguments, its frames, and its value against the reference's. -/
module

public import proofs.«01_k».proof.Defs
public import Idealize.ShloMosaic.Lib.Claim
public import Idealize.ShloMosaic.Lib.Pointwise
public import Idealize.ShloMosaic.Lib.StableHlo
public import Idealize.ShloMosaic.Lib.Pipeline.ReadBack
public import Idealize.ShloMosaic.Lib.Pipeline.ValueKit
public import proofs.«01_k».proof.Proof.Gen.AdaWgrad.Frame
public import proofs.«01_k».proof.Proof.Gen.AdaWgradIdeal.Value
public import proofs.«01_k».proof.Proof.Gen.AdaWgradReferenceIdeal.Read
public import proofs.«01_k».proof.Proof.Norm
public import proofs.«01_k».proof.Proof.At

@[expose] public section

set_option maxRecDepth 16384

noncomputable section

namespace Cert.AdaWgradIdeal.Own

open Cert.AdaWgradIdeal Cert.AdaWgradIdeal.Gen
open Idealize.ShloMosaic Idealize.ShloMosaic.TcCoe Idealize.ShloMosaic.Tactic Idealize.SL.Sem
open Idealize.ShloMosaic.StableHlo Cert.Norm Cert.At

theorem pay1_at (l : FVec Ideal S8x1024 .bf16) (q : FVec Ideal S8x768 .f32) (r : Fin 1024) (d : Fin 768) :
    k0_pay1 (F := Ideal) l q (ix2 r d) = ∑ s : Fin 8, l (ix2 s r) * q (ix2 s d) := by
  pointwise [k0_pay1]

variable (m : (ℓ : Loc nD τ sig) → Buf (Elt Ideal) ℓ) (c : Dev nD)

abbrev MQ : FVec Ideal S8x768 .f32 := m ((c : Thread nD τ).loc main_arg1)
/-- The activated conditioning, as the host computes it for both programs. -/
abbrev ML : FVec Ideal S8x1024 .f32 :=
  Cert.AdaWgradReferenceIdeal.Read.val_main_v1 (F := Ideal) (m ((c : Thread nD τ).loc main_arg0))

theorem V_v1 : V m c main_v1 = ML m c := by
  show StableHlo.after (List.flatten [hostOps0, hostOps0_1]) _ (Proc.devRef .tc main_v1) = _
  simp only [hostOps0, hostOps0_1, List.flatten_cons, List.flatten_nil, List.append_nil, List.cons_append, List.nil_append, TRef.binary, TRef.nullary, TRef.unary, TRef.toBuf, TRef.ofBuf, cast_eq]
  after_results_simp <;> rfl

theorem idx0 : ∀ t : Fin cfg0.N, win0_0.index t = ![0, 0] ∧ win0_1.index t = ![0, 0] ∧ win0_2.index t = ![0, 0] :=
  (by decide +kernel : ∀ t : Fin grid0.N, _)

theorem blk0 (t : Fin cfg0.N) (s : Fin 8) (r : Fin 1024) : iblk m c 0 t (ix2 s r) = V m c main_v1 (ix2 s r) := by
  blk_ext [iblk, idx0 t]
theorem blk1 (t : Fin cfg0.N) (s : Fin 8) (d : Fin 768) : iblk m c 1 t (ix2 s d) = V m c main_arg1 (ix2 s d) := by
  blk_ext [iblk, idx0 t]

/-- The weight's gradient. -/
def gw : FVec Ideal S1024x768 .f32 := fun i => ∑ s : Fin 8, ML m c (ix2 s (i 0)) * MQ m c (ix2 s (i 1))

theorem out2 (t : Fin cfg0.N) (r : Fin 1024) (d : Fin 768) : out0_2 (iblk m c 0 t) (iblk m c 1 t) (ix2 r d) = gw m c (ix2 r d) := by
  trans ∑ s : Fin 8, (show EReal from iblk m c 0 t (ix2 s r)) * (show EReal from iblk m c 1 t (ix2 s d))
  · generalize iblk m c 0 t = x0
    generalize iblk m c 1 t = x1
    unfold out0_2
    frame_out
    exact pay1_at x0 x1 r d
  · refine Finset.sum_congr rfl fun s _ => congrArg₂ (fun a b : EReal => a * b) ?_ ?_
    · exact (blk0 m c t s r).trans (congrFun (V_v1 m c) _)
    · exact (blk1 m c t s d).trans (congrFun (V_main_arg1 m c) _)

theorem arr2 : (dats m 0 c).arrAt 2 cfg0.N = gw m c := by
  refine (dats m 0 c).arrAt_eq_of_covers 2 _ (by decide +kernel) fun t _ y => ?_
  blk_simp
  rw [after0_2]
  obtain ⟨r, d, rfl⟩ := rowcol (n := 1024) (m := 768) y
  refine (out2 m c t r d).trans (at_ix (gw m c) r d _ ?_ ?_).symm
  · blk_simp [idx0 t]
  · blk_simp [idx0 t]

end Cert.AdaWgradIdeal.Own

namespace Cert.Proof.AdaWgrad

open Idealize.ShloMosaic Idealize.SL.Sem
open Cert.AdaWgradIdeal Cert.AdaWgradIdeal.Gen Cert.AdaWgradIdeal.Own
open Cert.AdaWgradReferenceIdeal.Read
open Cert.At

theorem frame_bits : Cert.quiescent_AdaWgrad := fun m g _ => Cert.AdaWgrad.Gen.frame m g
theorem frame_ideal : Cert.quiescent_AdaWgradIdeal := fun m g _ => Cert.AdaWgradIdeal.Gen.frame m g
theorem frame_reference : Cert.quiescent_AdaWgradReferenceIdeal := fun m g _ =>
  (θ_run Cert.AdaWgradReferenceIdeal.defs _ _).mono
    (fun r h => ⟨fun c => (h c).2, sem_eq_zero_of_no_sems (by decide) r.2⟩)
    (Cert.AdaWgradReferenceIdeal.Value.run (F := Ideal) m g)

theorem v4_at (a : (⟨S8x1024, .f32⟩ : BufTy).Contents (Elt Ideal)) (q : (⟨S8x768, .f32⟩ : BufTy).Contents (Elt Ideal)) (r : Fin 1024) (d : Fin 768) :
    val_main_v4 (F := Ideal) a q (ix2 r d) = ∑ s : Fin 8, val_main_v1 (F := Ideal) a (ix2 s r) * q (ix2 s d) := by
  unfold val_main_v4 val_main_v3
  generalize val_main_v1 (F := Ideal) a = l
  pointwise
  exact Finset.sum_congr rfl fun s _ => mul_comm _ _

/-- Kernel and reference leave the same gradient. -/
theorem algebraic : Cert.algebraic_AdaWgradIdeal_AdaWgradReferenceIdeal := fun m g m' g' _ hagree =>
  ⟨fun c => gw m c,
    (θ_run Cert.AdaWgradIdeal.defs _ _).mono (fun _ h c => ⟨((h c).1).trans (arr2 m c), (h c).2⟩) (Cert.AdaWgradIdeal.Value.run_blocks m g),
    (θ_run Cert.AdaWgradReferenceIdeal.defs _ _).mono (fun _ h c => by
      obtain ⟨e0, e1⟩ := hagree c
      refine ⟨((h c).1).trans ((val_main_v4_eq _ _).trans ?_), (h c).2⟩
      rw [e0, e1]; exact ext2 _ (gw m c) (v4_at _ _)) (Cert.AdaWgradReferenceIdeal.Value.run m' g')⟩

end Cert.Proof.AdaWgrad

end
-- ==== Proof.lean ====
/- The certificate. The run of the two pallas_calls (Proof/Run.lean) gives the kernel's frame and its results; the closed
   forms of the kernel's result arrays (Proof/KVal.lean) and of the reference's (Proof/RVal.lean) are the same functions of
   the arguments, which gives the value claim. The further calls have modules of their own: CProj, CMid, WProj, WMix,
   WQ, WKv, FMix, FProj, FLat, FLoss, ADown, AUp, FNorm, WAda. -/
module

public import Idealize.ShloMosaic.Lib.Claim
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.KVal
public import proofs.«01_k».proof.Proof.RVal
public import proofs.«01_k».proof.Proof.Finite
public import proofs.«01_k».proof.Proof.CProj
public import proofs.«01_k».proof.Proof.CMid
public import proofs.«01_k».proof.Proof.WProj
public import proofs.«01_k».proof.Proof.WMix
public import proofs.«01_k».proof.Proof.WQ
public import proofs.«01_k».proof.Proof.WKv
public import proofs.«01_k».proof.Proof.FMix
public import proofs.«01_k».proof.Proof.FProj
public import proofs.«01_k».proof.Proof.FLat
public import proofs.«01_k».proof.Proof.FLoss
public import proofs.«01_k».proof.Proof.ADown
public import proofs.«01_k».proof.Proof.AUp
public import proofs.«01_k».proof.Proof.FNorm
public import proofs.«01_k».proof.Proof.WAda

@[expose] public section

set_option maxRecDepth 16384

noncomputable section

namespace Cert.Proof

open Idealize.ShloMosaic Idealize.SL.Sem

/-! ## The frames -/

/-- The kernel over the extended reals runs, leaves its six arguments as they were and every counter at zero. -/
theorem frame_ideal : Cert.quiescent_KernelIdeal := fun m g _ =>
  (θ_run Cert.KernelIdeal.defs _ _).mono (fun _ h => ⟨fun c => (h.1 c).2.2.2.2.2.2.2.2, h.2⟩)
    (Cert.KernelIdeal.Own.run_sem m g)

theorem frame_ideal_pre : Cert.quiescent_KernelIdeal_pre_arguments_finite := fun m g _ => frame_ideal m g trivial

/-- The kernel over float words, by the frame that is generated with it. -/
theorem frame_kernel : Cert.quiescent_Kernel := fun m g _ => Cert.Kernel.Gen.frame m g

/-- The reference runs and leaves its arguments as they were; it has no counters. -/
theorem frame_reference : Cert.quiescent_ReferenceIdeal := fun m g _ =>
  (θ_run Cert.ReferenceIdeal.defs _ _).mono
    (fun r h => ⟨fun c => (h c).2.2.2.2.2.2.2.2, sem_eq_zero_of_no_sems (by decide) r.2⟩)
    (Cert.ReferenceIdeal.Value.run (F := Ideal) m g)

theorem frame_reference_pre : Cert.quiescent_ReferenceIdeal_pre_arguments_finite := fun m g _ =>
  frame_reference m g trivial

/-! ## The values -/

/-- The arguments of kernel and reference, on every device, are the same arrays. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_arguments_finite m) (hagree : Agree m m' c)

include hpre hagree

theorem same_5_0 : Cert.ReferenceIdeal.Value.res_main_v30 m' c = Cert.KernelIdeal.Gen.W3 m g c (Proc.devRef .tc Cert.KernelIdeal.main_v5_0) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v30_eq, e0, e1, e2, e3, e4]
  exact (Cert.ReferenceIdeal.Own.res_v30 _ _ _ _ _).trans (Cert.KernelIdeal.Own.val5_0 m g c).symm

theorem same_6_0 : Cert.ReferenceIdeal.Value.res_main_v75 m' c = Cert.KernelIdeal.Gen.W3 m g c (Proc.devRef .tc Cert.KernelIdeal.main_v6_0) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v75_eq, e0, e1, e2, e3, e4, e5]
  exact (Cert.ReferenceIdeal.Own.res_v75 _ _ _ _ _ _ h0 h1 h2 h3 h4 h5).trans (Cert.KernelIdeal.Own.val6_0 m g c).symm

theorem same_6_1 : Cert.ReferenceIdeal.Value.res_main_v78 m' c = Cert.KernelIdeal.Gen.W3 m g c (Proc.devRef .tc Cert.KernelIdeal.main_v6_1) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v78_eq, e0, e1, e2, e3, e4, e5]
  exact (Cert.ReferenceIdeal.Own.res_v78 _ _ _ _ _ _ h0 h1 h2 h3 h4 h5).trans (Cert.KernelIdeal.Own.val6_1 m g c).symm

theorem same_6_2 : Cert.ReferenceIdeal.Value.res_main_v79 m' c = Cert.KernelIdeal.Gen.W3 m g c (Proc.devRef .tc Cert.KernelIdeal.main_v6_2) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v79_eq, e0, e1, e2, e3, e5]
  exact (Cert.ReferenceIdeal.Own.res_v79 _ _ _ _ _).trans (Cert.KernelIdeal.Own.val6_2 m g c).symm

theorem same_6_3 : Cert.ReferenceIdeal.Value.res_main_v80 m' c = Cert.KernelIdeal.Gen.W3 m g c (Proc.devRef .tc Cert.KernelIdeal.main_v6_3) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v80_eq, e0, e1, e2, e3, e4, e5]
  exact (Cert.ReferenceIdeal.Own.res_v80 _ _ _ _ _ _ h0 h1 h2 h3 h4 h5).trans (Cert.KernelIdeal.Own.val6_3 m g c).symm

theorem same_6_4 : Cert.ReferenceIdeal.Value.res_main_v81 m' c = Cert.KernelIdeal.Gen.W3 m g c (Proc.devRef .tc Cert.KernelIdeal.main_v6_4) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v81_eq, e0, e1, e2, e3, e4, e5]
  exact (Cert.ReferenceIdeal.Own.res_v81 _ _ _ _ _ _).trans (Cert.KernelIdeal.Own.val6_4 m g c).symm

theorem same_6_5 : Cert.ReferenceIdeal.Value.res_main_v82 m' c = Cert.KernelIdeal.Gen.W3 m g c (Proc.devRef .tc Cert.KernelIdeal.main_v6_5) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v82_eq, e0, e1, e2, e3, e4, e5]
  exact (Cert.ReferenceIdeal.Own.res_v82 _ _ _ _ _ _ h0 h1 h2 h3 h4 h5).trans (Cert.KernelIdeal.Own.val6_5 m g c).symm

theorem same_6_6 : Cert.ReferenceIdeal.Value.res_main_v83 m' c = Cert.KernelIdeal.Gen.W3 m g c (Proc.devRef .tc Cert.KernelIdeal.main_v6_6) := by
  obtain ⟨e0, e1, e2, e3, e4, e5⟩ := hagree
  obtain ⟨h0, h1, h2, h3, h4, h5⟩ := Cert.Pre_arguments_finite.finite _ _ _ _ _ _ (hpre c)
  rw [Cert.ReferenceIdeal.Read.val_main_v83_eq, e0, e1, e2, e3, e4, e5]
  exact (Cert.ReferenceIdeal.Own.res_v83 _ _ _ _ _ _).trans (Cert.KernelIdeal.Own.val6_6 m g c).symm

omit hpre hagree

/-- From finite arguments, kernel and reference leave the same eight results. -/
theorem algebraic : Cert.algebraic_KernelIdeal_ReferenceIdeal_pre_arguments_finite := fun m g m' g' hpre hagree =>
  ⟨fun c => Cert.KernelIdeal.Gen.W3 m g c (Proc.devRef .tc Cert.KernelIdeal.main_v5_0),
    fun c => Cert.KernelIdeal.Gen.W3 m g c (Proc.devRef .tc Cert.KernelIdeal.main_v6_0),
    fun c => Cert.KernelIdeal.Gen.W3 m g c (Proc.devRef .tc Cert.KernelIdeal.main_v6_1),
    fun c => Cert.KernelIdeal.Gen.W3 m g c (Proc.devRef .tc Cert.KernelIdeal.main_v6_2),
    fun c => Cert.KernelIdeal.Gen.W3 m g c (Proc.devRef .tc Cert.KernelIdeal.main_v6_3),
    fun c => Cert.KernelIdeal.Gen.W3 m g c (Proc.devRef .tc Cert.KernelIdeal.main_v6_4),
    fun c => Cert.KernelIdeal.Gen.W3 m g c (Proc.devRef .tc Cert.KernelIdeal.main_v6_5),
    fun c => Cert.KernelIdeal.Gen.W3 m g c (Proc.devRef .tc Cert.KernelIdeal.main_v6_6),
    (θ_run Cert.KernelIdeal.defs _ _).mono (fun _ h => h) (Cert.KernelIdeal.Own.run m g),
    (θ_run Cert.ReferenceIdeal.defs _ _).mono (fun _ h c => ⟨((h c).1).trans (same_5_0 m g m' c hpre (hagree c)),
      ((h c).2.1).trans (same_6_0 m g m' c hpre (hagree c)),
      ((h c).2.2.1).trans (same_6_1 m g m' c hpre (hagree c)),
      ((h c).2.2.2.1).trans (same_6_2 m g m' c hpre (hagree c)),
      ((h c).2.2.2.2.1).trans (same_6_3 m g m' c hpre (hagree c)),
      ((h c).2.2.2.2.2.1).trans (same_6_4 m g m' c hpre (hagree c)),
      ((h c).2.2.2.2.2.2.1).trans (same_6_5 m g m' c hpre (hagree c)),
      ((h c).2.2.2.2.2.2.2.1).trans (same_6_6 m g m' c hpre (hagree c)),
      (h c).2.2.2.2.2.2.2.2⟩) (Cert.ReferenceIdeal.Value.run m' g')⟩

/-- All claims. -/
theorem claim : Cert.Claim :=
  ⟨Cert.Kernel.Gen.facts, Cert.KernelIdeal.Gen.facts, Cert.ReferenceIdeal.Gen.facts, Cert.Proj.Gen.facts, Cert.ProjIdeal.Gen.facts,
    Cert.ProjReferenceIdeal.Gen.facts, Cert.Mid.Gen.facts, Cert.MidIdeal.Gen.facts, Cert.MidReferenceIdeal.Gen.facts,
    Cert.ProjWgrad.Gen.facts, Cert.ProjWgradIdeal.Gen.facts, Cert.ProjWgradReferenceIdeal.Gen.facts, Cert.MixWgrad.Gen.facts,
    Cert.MixWgradIdeal.Gen.facts, Cert.MixWgradReferenceIdeal.Gen.facts,
    Cert.QWgrad.Gen.facts, Cert.QWgradIdeal.Gen.facts, Cert.QWgradReferenceIdeal.Gen.facts,
    Cert.KvWgrad.Gen.facts, Cert.KvWgradIdeal.Gen.facts, Cert.KvWgradReferenceIdeal.Gen.facts,
    Cert.MixFwd.Gen.facts, Cert.MixFwdIdeal.Gen.facts, Cert.MixFwdReferenceIdeal.Gen.facts,
    Cert.ProjFwd.Gen.facts, Cert.ProjFwdIdeal.Gen.facts, Cert.ProjFwdReferenceIdeal.Gen.facts,
    Cert.Latent.Gen.facts, Cert.LatentIdeal.Gen.facts, Cert.LatentReferenceIdeal.Gen.facts,
    Cert.LossHead.Gen.facts, Cert.LossHeadIdeal.Gen.facts, Cert.LossHeadReferenceIdeal.Gen.facts,
    Cert.AdamDown.Gen.facts, Cert.AdamDownIdeal.Gen.facts, Cert.AdamDownReferenceIdeal.Gen.facts,
    Cert.AdamUp.Gen.facts, Cert.AdamUpIdeal.Gen.facts, Cert.AdamUpReferenceIdeal.Gen.facts,
    Cert.FirstNorm.Gen.facts, Cert.FirstNormIdeal.Gen.facts, Cert.FirstNormReferenceIdeal.Gen.facts,
    Cert.AdaWgrad.Gen.facts, Cert.AdaWgradIdeal.Gen.facts, Cert.AdaWgradReferenceIdeal.Gen.facts,
    Cert.Pre_arguments_finite.facts,
    Cert.Pre_proj_finite.facts, Cert.Pre_mid_finite.facts,
    frame_kernel, frame_ideal, frame_ideal_pre, frame_reference, frame_reference_pre,
    Proj.frame_bits, Proj.frame_ideal, Proj.frame_ideal_pre, Proj.frame_reference, Proj.frame_reference_pre,
    Mid.frame_bits, Mid.frame_ideal, Mid.frame_ideal_pre, Mid.frame_reference, Mid.frame_reference_pre,
    ProjWgrad.frame_bits, ProjWgrad.frame_ideal, ProjWgrad.frame_reference,
    MixWgrad.frame_bits, MixWgrad.frame_ideal, MixWgrad.frame_reference,
    QWgrad.frame_bits, QWgrad.frame_ideal, QWgrad.frame_reference,
    KvWgrad.frame_bits, KvWgrad.frame_ideal, KvWgrad.frame_reference,
    MixFwd.frame_bits, MixFwd.frame_ideal, MixFwd.frame_reference,
    ProjFwd.frame_bits, ProjFwd.frame_ideal, ProjFwd.frame_reference,
    Latent.frame_bits, Latent.frame_ideal, Latent.frame_reference,
    LossHead.frame_bits, LossHead.frame_ideal, LossHead.frame_reference,
    AdamDown.frame_bits, AdamDown.frame_ideal, AdamDown.frame_reference,
    AdamUp.frame_bits, AdamUp.frame_ideal, AdamUp.frame_reference,
    FirstNorm.frame_bits, FirstNorm.frame_ideal, FirstNorm.frame_reference,
    AdaWgrad.frame_bits, AdaWgrad.frame_ideal, AdaWgrad.frame_reference,
    trivial, algebraic, trivial, Proj.algebraic, trivial, Mid.algebraic, trivial, ProjWgrad.algebraic, trivial, MixWgrad.algebraic,
    trivial, QWgrad.algebraic, trivial, KvWgrad.algebraic, trivial, MixFwd.algebraic, trivial, ProjFwd.algebraic,
    trivial, Latent.algebraic, trivial, LossHead.algebraic, trivial, AdamDown.algebraic, trivial, AdamUp.algebraic,
    trivial, FirstNorm.algebraic, trivial, AdaWgrad.algebraic⟩

end Cert.Proof

end
